-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)) (v3 : (c : Dev Cert.Kernel5Ideal.nD) → Buf (Elt Ideal) ((c.tc : Thread Cert.Kernel5Ideal.nD Cert.Kernel5Ideal.τ).loc Cert.Kernel5Ideal.main_v25_3)) (v4 : (c : Dev Cert.Kernel5Ideal.nD) → Buf (Elt Ideal) ((c.tc : Thread Cert.Kernel5Ideal.nD Cert.Kernel5Ideal.τ).loc Cert.Kernel5Ideal.main_v25_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_v25_3) = v3 c
          ∧ r.2.mem ((c.tc : Thread Cert.Kernel5Ideal.nD Cert.Kernel5Ideal.τ).loc Cert.Kernel5Ideal.main_v25_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v51) = v2 c
          ∧ r.2.mem ((c.tc : Thread Cert.Reference5Ideal.nD Cert.Reference5Ideal.τ).loc Cert.Reference5Ideal.main_v55) = v3 c
          ∧ r.2.mem ((c.tc : Thread Cert.Reference5Ideal.nD Cert.Reference5Ideal.τ).loc Cert.Reference5Ideal.main_v59) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v25) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S2048x512 : Shape := ⟨2, ![2048, 512]⟩
abbrev S2048x128 : Shape := ⟨2, ![2048, 128]⟩
abbrev S_ : Shape := ⟨0, ![]⟩

class Facts : Prop where
  bcast_S_S2048x512 : S_.BroadcastsInDim S2048x512 (![] : Fin 0 → Fin S2048x512.rank)
  bcast_S_S2048x128 : S_.BroadcastsInDim S2048x128 (![] : Fin 0 → Fin S2048x128.rank)

variable [Facts]

def fn {F : FTy → Type} [FloatOps F] (main_arg0 : FVec F S2048x512 .f32) (main_arg1 : FVec F S2048x512 .f32) (main_arg2 : FVec F S2048x512 .f32) (main_arg3 : FVec F S2048x128 .f32) (main_arg4 : FVec F S2048x512 .f32) : IVec S2048x512 1 × IVec S2048x512 1 × IVec S2048x512 1 × IVec S2048x128 1 × IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x128 .f32 := Host.absf main_arg3
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_v12 : FVec F S2048x512 .f32 := Host.absf main_arg4
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  (main_v2, main_v5, main_v8, main_v11, main_v14)
-- ==== Pre_finite5.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1x1024 .f32) (main_arg2 : FVec F S2048x1024 .f32) (main_arg3 : FVec F S1024x5632 .f32) (main_arg4 : FVec F S2816x1024 .f32) : IVec S2048x1024 1 × IVec S1x1024 1 × IVec S2048x1024 1 × IVec S1024x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S2048x512 : Shape := ⟨2, ![2048, 512]⟩
abbrev S2048x128 : Shape := ⟨2, ![2048, 128]⟩
abbrev S2048x8x64 : Shape := ⟨3, ![2048, 8, 64]⟩
abbrev S8x2048x2048 : Shape := ⟨3, ![8, 2048, 2048]⟩
abbrev S_ : Shape := ⟨0, ![]⟩
abbrev S2048x8 : Shape := ⟨2, ![2048, 8]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S512x2048 : Shape := ⟨2, ![512, 2048]⟩
abbrev S128x2048 : Shape := ⟨2, ![128, 2048]⟩
abbrev S512x256 : Shape := ⟨2, ![512, 256]⟩
abbrev S8x256 : Shape := ⟨2, ![8, 256]⟩
abbrev S1x256 : Shape := ⟨2, ![1, 256]⟩
abbrev S256x1 : Shape := ⟨2, ![256, 1]⟩
abbrev S256x256 : Shape := ⟨2, ![256, 256]⟩
abbrev S256x64 : Shape := ⟨2, ![256, 64]⟩
abbrev S64x256 : Shape := ⟨2, ![64, 256]⟩
abbrev S256 : Shape := ⟨1, ![256]⟩

abbrev nBuf : Space → Nat
  | .hbm => 79
  | .vmem => 20
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x128, .f32⟩
  | .hbm, ⟨4, _⟩ => ⟨S2048x512, .f32⟩
  | .hbm, ⟨5, _⟩ => ⟨S2048x8x64, .f32⟩
  | .hbm, ⟨6, _⟩ => ⟨S2048x8x64, .f32⟩
  | .hbm, ⟨7, _⟩ => ⟨S2048x8x64, .f32⟩
  | .hbm, ⟨8, _⟩ => ⟨S2048x8x64, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S2048x8, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x2048x2048, .i1⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x64x2048, .f32⟩
  | .hbm, ⟨57, _⟩ => ⟨S2048x8x64, .f32⟩
  | .hbm, ⟨58, _⟩ => ⟨S2048x8x64, .f32⟩
  | .hbm, ⟨59, _⟩ => ⟨S_, .f32⟩
  | .hbm, ⟨60, _⟩ => ⟨S2048x8, .f32⟩
  | .hbm, ⟨61, _⟩ => ⟨S8x2048, .f32⟩
  | .hbm, ⟨62, _⟩ => ⟨S_, .f32⟩
  | .hbm, ⟨63, _⟩ => ⟨S2048x512, .f32⟩
  | .hbm, ⟨64, _⟩ => ⟨S2048x512, .f32⟩
  | .hbm, ⟨65, _⟩ => ⟨S512x2048, .f32⟩
  | .hbm, ⟨66, _⟩ => ⟨S512x2048, .bf16⟩
  | .hbm, ⟨67, _⟩ => ⟨S2048x512, .bf16⟩
  | .hbm, ⟨68, _⟩ => ⟨S512x2048, .f32⟩
  | .hbm, ⟨69, _⟩ => ⟨S512x2048, .bf16⟩
  | .hbm, ⟨70, _⟩ => ⟨S2048x512, .bf16⟩
  | .hbm, ⟨71, _⟩ => ⟨S512x2048, .f32⟩
  | .hbm, ⟨72, _⟩ => ⟨S512x2048, .bf16⟩
  | .hbm, ⟨73, _⟩ => ⟨S128x2048, .f32⟩
  | .hbm, ⟨74, _⟩ => ⟨S8x2048, .f32⟩
  | .hbm, ⟨75, _⟩ => ⟨S512x2048, .bf16⟩
  | .hbm, ⟨76, _⟩ => ⟨S512x2048, .f32⟩
  | .hbm, ⟨77, _⟩ => ⟨S512x2048, .f32⟩
  | .hbm, ⟨78, _⟩ => ⟨S2048x128, .f32⟩
  | .local _ .vmem, ⟨0, _⟩ => ⟨S512x256, .bf16⟩
  | .local _ .vmem, ⟨1, _⟩ => ⟨S512x256, .bf16⟩
  | .local _ .vmem, ⟨2, _⟩ => ⟨S2048x512, .bf16⟩
  | .local _ .vmem, ⟨3, _⟩ => ⟨S512x2048, .bf16⟩
  | .local _ .vmem, ⟨4, _⟩ => ⟨S2048x512, .bf16⟩
  | .local _ .vmem, ⟨5, _⟩ => ⟨S512x256, .bf16⟩
  | .local _ .vmem, ⟨6, _⟩ => ⟨S512x256, .bf16⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S2048x128, .f32⟩
  | .local _ .vmem, ⟨12, _⟩ => ⟨S8x256, .f32⟩
  | .local _ .vmem, ⟨13, _⟩ => ⟨S8x256, .f32⟩
  | .local _ .vmem, ⟨14, _⟩ => ⟨S512x256, .bf16⟩
  | .local _ .vmem, ⟨15, _⟩ => ⟨S512x256, .bf16⟩
  | .local _ .vmem, ⟨16, _⟩ => ⟨S512x2048, .f32⟩
  | .local _ .vmem, ⟨17, _⟩ => ⟨S512x2048, .f32⟩
  | .local _ .vmem, ⟨18, _⟩ => ⟨S2048x128, .f32⟩
  | .local _ .vmem, ⟨19, _⟩ => ⟨S512x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58_0 : Ref sig .tc := ⟨.hbm, 75, rfl⟩
abbrev main_v58_1 : Ref sig .tc := ⟨.hbm, 76, rfl⟩
abbrev main_v58_2 : Ref sig .tc := ⟨.hbm, 77, rfl⟩
abbrev main_v58_3 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

@[reducible] def k0_t1_loop (i : grid0.Coords) : Scf.Loop 32 :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_5 : BitVec 32 := 1#32
  ⟨c0_i32_3, v12, c1_i32_5⟩
def k0_mult1 (i : grid0.Coords) (k0_t1 : Fin (k0_t1_loop i).trips) : BitVec 32 :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  v625
def k0_off1 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v629 : Index := Scalar.indexCast v626
  let c0_293 : Index := 0#32
  ![v629.toNat, 0]
def k0_off2 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v636 : Index := Scalar.indexCast v626
  let c1_296 : Index := 1#32
  ![v636.toNat, 1]
def k0_off3 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v643 : Index := Scalar.indexCast v626
  let c2_299 : Index := 2#32
  ![v643.toNat, 2]
def k0_off4 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v650 : Index := Scalar.indexCast v626
  let c3_302 : Index := 3#32
  ![v650.toNat, 3]
def k0_off5 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v657 : Index := Scalar.indexCast v626
  let c4_305 : Index := 4#32
  ![v657.toNat, 4]
def k0_off6 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v664 : Index := Scalar.indexCast v626
  let c5_308 : Index := 5#32
  ![v664.toNat, 5]
def k0_off7 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v671 : Index := Scalar.indexCast v626
  let c6_311 : Index := 6#32
  ![v671.toNat, 6]
def k0_off8 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v678 : Index := Scalar.indexCast v626
  let c7_314 : Index := 7#32
  ![v678.toNat, 7]
def k0_off9 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v683 : Index := Scalar.indexCast v626
  let c0_315 : Index := 0#32
  ![v683.toNat, 0]
def k0_off10 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v690 : Index := Scalar.indexCast v626
  let c64_319 : Index := 64#32
  ![v690.toNat, 64]
def k0_off11 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v697 : Index := Scalar.indexCast v626
  let c128_323 : Index := 128#32
  ![v697.toNat, 128]
def k0_off12 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v704 : Index := Scalar.indexCast v626
  let c192_327 : Index := 192#32
  ![v704.toNat, 192]
def k0_off13 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v711 : Index := Scalar.indexCast v626
  let c256_331 : Index := 256#32
  ![v711.toNat, 256]
def k0_off14 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v718 : Index := Scalar.indexCast v626
  let c320_335 : Index := 320#32
  ![v718.toNat, 320]
def k0_off15 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v725 : Index := Scalar.indexCast v626
  let c384_339 : Index := 384#32
  ![v725.toNat, 384]
def k0_off16 (i : grid0.Coords) (k0_t1 : Fin (k0_t1_loop i).trips) : Fin 2 → Nat :=
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v732 : Index := Scalar.indexCast v626
  let c448_343 : Index := 448#32
  ![v732.toNat, 448]
def k0_off17 (i : grid0.Coords) (k0_t1 : Fin (k0_t1_loop i).trips) : Fin 2 → Nat :=
  let c0_387 : Index := 0#32
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v809 : Index := Scalar.indexCast v626
  ![0, v809.toNat]
def k0_off18 (i : grid0.Coords) (k0_t1 : Fin (k0_t1_loop i).trips) : Fin 2 → Nat :=
  let c64_411 : Index := 64#32
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v861 : Index := Scalar.indexCast v626
  ![64, v861.toNat]
def k0_off19 (i : grid0.Coords) (k0_t1 : Fin (k0_t1_loop i).trips) : Fin 2 → Nat :=
  let c128_435 : Index := 128#32
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v913 : Index := Scalar.indexCast v626
  ![128, v913.toNat]
def k0_off20 (i : grid0.Coords) (k0_t1 : Fin (k0_t1_loop i).trips) : Fin 2 → Nat :=
  let c192_459 : Index := 192#32
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v965 : Index := Scalar.indexCast v626
  ![192, v965.toNat]
def k0_off21 (i : grid0.Coords) (k0_t1 : Fin (k0_t1_loop i).trips) : Fin 2 → Nat :=
  let c256_483 : Index := 256#32
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v1017 : Index := Scalar.indexCast v626
  ![256, v1017.toNat]
def k0_off22 (i : grid0.Coords) (k0_t1 : Fin (k0_t1_loop i).trips) : Fin 2 → Nat :=
  let c320_507 : Index := 320#32
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v1069 : Index := Scalar.indexCast v626
  ![320, v1069.toNat]
def k0_off23 (i : grid0.Coords) (k0_t1 : Fin (k0_t1_loop i).trips) : Fin 2 → Nat :=
  let c384_531 : Index := 384#32
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v1121 : Index := Scalar.indexCast v626
  ![384, v1121.toNat]
def k0_off24 (i : grid0.Coords) (k0_t1 : Fin (k0_t1_loop i).trips) : Fin 2 → Nat :=
  let c448_555 : Index := 448#32
  let c0_i32_3 : BitVec 32 := 0#32
  let c1_i32_5 : BitVec 32 := 1#32
  let arg15 : BitVec 32 := Scf.iv c0_i32_3 c1_i32_5 k0_t1
  let c256_i32_290 : BitVec 32 := 256#32
  let v625 : BitVec 32 := Scalar.muli arg15 c256_i32_290
  let v626 : BitVec 32 := v625
  let v1173 : Index := Scalar.indexCast v626
  ![448, v1173.toNat]
@[reducible] def k0_t2_loop (i : grid0.Coords) : Scf.Loop 32 :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let v9 : BitVec 32 := Scalar.addi c0_i32_3 v8
  let c1_i32_6 : BitVec 32 := 1#32
  ⟨v12, v9, c1_i32_6⟩
def k0_mult2 (i : grid0.Coords) (k0_t2 : Fin (k0_t2_loop i).trips) : BitVec 32 :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  v625
def k0_off25 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v629 : Index := Scalar.indexCast v626
  let c0_293 : Index := 0#32
  ![v629.toNat, 0]
def k0_off26 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v636 : Index := Scalar.indexCast v626
  let c1_296 : Index := 1#32
  ![v636.toNat, 1]
def k0_off27 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v643 : Index := Scalar.indexCast v626
  let c2_299 : Index := 2#32
  ![v643.toNat, 2]
def k0_off28 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v650 : Index := Scalar.indexCast v626
  let c3_302 : Index := 3#32
  ![v650.toNat, 3]
def k0_off29 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v657 : Index := Scalar.indexCast v626
  let c4_305 : Index := 4#32
  ![v657.toNat, 4]
def k0_off30 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v664 : Index := Scalar.indexCast v626
  let c5_308 : Index := 5#32
  ![v664.toNat, 5]
def k0_off31 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v671 : Index := Scalar.indexCast v626
  let c6_311 : Index := 6#32
  ![v671.toNat, 6]
def k0_off32 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v678 : Index := Scalar.indexCast v626
  let c7_314 : Index := 7#32
  ![v678.toNat, 7]
def k0_off33 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v683 : Index := Scalar.indexCast v626
  let c0_315 : Index := 0#32
  ![v683.toNat, 0]
def k0_off34 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v690 : Index := Scalar.indexCast v626
  let c64_319 : Index := 64#32
  ![v690.toNat, 64]
def k0_off35 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v697 : Index := Scalar.indexCast v626
  let c128_323 : Index := 128#32
  ![v697.toNat, 128]
def k0_off36 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v704 : Index := Scalar.indexCast v626
  let c192_327 : Index := 192#32
  ![v704.toNat, 192]
def k0_off37 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v711 : Index := Scalar.indexCast v626
  let c256_331 : Index := 256#32
  ![v711.toNat, 256]
def k0_off38 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v718 : Index := Scalar.indexCast v626
  let c320_335 : Index := 320#32
  ![v718.toNat, 320]
def k0_off39 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v725 : Index := Scalar.indexCast v626
  let c384_339 : Index := 384#32
  ![v725.toNat, 384]
def k0_off40 (i : grid0.Coords) (k0_t2 : Fin (k0_t2_loop i).trips) : Fin 2 → Nat :=
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v732 : Index := Scalar.indexCast v626
  let c448_343 : Index := 448#32
  ![v732.toNat, 448]
def k0_off41 (i : grid0.Coords) (k0_t2 : Fin (k0_t2_loop i).trips) : Fin 2 → Nat :=
  let c0_387 : Index := 0#32
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v809 : Index := Scalar.indexCast v626
  ![0, v809.toNat]
def k0_off42 (i : grid0.Coords) (k0_t2 : Fin (k0_t2_loop i).trips) : Fin 2 → Nat :=
  let c64_411 : Index := 64#32
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v861 : Index := Scalar.indexCast v626
  ![64, v861.toNat]
def k0_off43 (i : grid0.Coords) (k0_t2 : Fin (k0_t2_loop i).trips) : Fin 2 → Nat :=
  let c128_435 : Index := 128#32
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v913 : Index := Scalar.indexCast v626
  ![128, v913.toNat]
def k0_off44 (i : grid0.Coords) (k0_t2 : Fin (k0_t2_loop i).trips) : Fin 2 → Nat :=
  let c192_459 : Index := 192#32
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v965 : Index := Scalar.indexCast v626
  ![192, v965.toNat]
def k0_off45 (i : grid0.Coords) (k0_t2 : Fin (k0_t2_loop i).trips) : Fin 2 → Nat :=
  let c256_483 : Index := 256#32
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v1017 : Index := Scalar.indexCast v626
  ![256, v1017.toNat]
def k0_off46 (i : grid0.Coords) (k0_t2 : Fin (k0_t2_loop i).trips) : Fin 2 → Nat :=
  let c320_507 : Index := 320#32
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v1069 : Index := Scalar.indexCast v626
  ![320, v1069.toNat]
def k0_off47 (i : grid0.Coords) (k0_t2 : Fin (k0_t2_loop i).trips) : Fin 2 → Nat :=
  let c384_531 : Index := 384#32
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v1121 : Index := Scalar.indexCast v626
  ![384, v1121.toNat]
def k0_off48 (i : grid0.Coords) (k0_t2 : Fin (k0_t2_loop i).trips) : Fin 2 → Nat :=
  let c448_555 : Index := 448#32
  let c0_i32_3 : BitVec 32 := 0#32
  let c1_i32 : BitVec 32 := 1#32
  let arg0 : BitVec 32 := BitVec.ofNat 32 (i 0).val
  let v7 : BitVec 32 := Scalar.muli c1_i32 arg0
  let v8 : BitVec 32 := Scalar.subi v7 c0_i32_3
  let c1_i32_4 : BitVec 32 := 1#32
  let v10 : BitVec 32 := Scalar.divsi v8 c1_i32_4
  let v11 : BitVec 32 := Scalar.muli v10 c1_i32_4
  let v12 : BitVec 32 := Scalar.addi c0_i32_3 v11
  let c1_i32_6 : BitVec 32 := 1#32
  let arg15 : BitVec 32 := Scf.iv v12 c1_i32_6 k0_t2
  let c256_i32_290 : BitVec 32 := 256#32
  let v625 : BitVec 32 := Scalar.muli arg15 c256_i32_290
  let v626 : BitVec 32 := v625
  let v1173 : Index := Scalar.indexCast v626
  ![448, v1173.toNat]
def k0_mult3 (i : grid0.Coords) : BitVec 32 :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  v15
def k0_off49 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v28 : Index := Scalar.indexCast v16
  let c0_13 : Index := 0#32
  ![v28.toNat, 0]
def k0_off50 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v35 : Index := Scalar.indexCast v16
  let c1_15 : Index := 1#32
  ![v35.toNat, 1]
def k0_off51 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v42 : Index := Scalar.indexCast v16
  let c2_17 : Index := 2#32
  ![v42.toNat, 2]
def k0_off52 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v49 : Index := Scalar.indexCast v16
  let c3_19 : Index := 3#32
  ![v49.toNat, 3]
def k0_off53 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v56 : Index := Scalar.indexCast v16
  let c4_21 : Index := 4#32
  ![v56.toNat, 4]
def k0_off54 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v63 : Index := Scalar.indexCast v16
  let c5_23 : Index := 5#32
  ![v63.toNat, 5]
def k0_off55 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v70 : Index := Scalar.indexCast v16
  let c6_25 : Index := 6#32
  ![v70.toNat, 6]
def k0_off56 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v77 : Index := Scalar.indexCast v16
  let c7_27 : Index := 7#32
  ![v77.toNat, 7]
def k0_off57 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v82 : Index := Scalar.indexCast v16
  let c0_28 : Index := 0#32
  ![v82.toNat, 0]
def k0_off58 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v89 : Index := Scalar.indexCast v16
  let c64 : Index := 64#32
  ![v89.toNat, 64]
def k0_off59 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v96 : Index := Scalar.indexCast v16
  let c128 : Index := 128#32
  ![v96.toNat, 128]
def k0_off60 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v103 : Index := Scalar.indexCast v16
  let c192 : Index := 192#32
  ![v103.toNat, 192]
def k0_off61 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v110 : Index := Scalar.indexCast v16
  let c256 : Index := 256#32
  ![v110.toNat, 256]
def k0_off62 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v117 : Index := Scalar.indexCast v16
  let c320 : Index := 320#32
  ![v117.toNat, 320]
def k0_off63 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v124 : Index := Scalar.indexCast v16
  let c384 : Index := 384#32
  ![v124.toNat, 384]
def k0_off64 (i : grid0.Coords) : Fin 2 → Nat :=
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v131 : Index := Scalar.indexCast v16
  let c448 : Index := 448#32
  ![v131.toNat, 448]
def k0_off65 (i : grid0.Coords) : Fin 2 → Nat :=
  let c0_94 : Index := 0#32
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v210 : Index := Scalar.indexCast v16
  ![0, v210.toNat]
def k0_off66 (i : grid0.Coords) : Fin 2 → Nat :=
  let c64_119 : Index := 64#32
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v264 : Index := Scalar.indexCast v16
  ![64, v264.toNat]
def k0_off67 (i : grid0.Coords) : Fin 2 → Nat :=
  let c128_144 : Index := 128#32
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v318 : Index := Scalar.indexCast v16
  ![128, v318.toNat]
def k0_off68 (i : grid0.Coords) : Fin 2 → Nat :=
  let c192_169 : Index := 192#32
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v372 : Index := Scalar.indexCast v16
  ![192, v372.toNat]
def k0_off69 (i : grid0.Coords) : Fin 2 → Nat :=
  let c256_194 : Index := 256#32
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v426 : Index := Scalar.indexCast v16
  ![256, v426.toNat]
def k0_off70 (i : grid0.Coords) : Fin 2 → Nat :=
  let c320_219 : Index := 320#32
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v480 : Index := Scalar.indexCast v16
  ![320, v480.toNat]
def k0_off71 (i : grid0.Coords) : Fin 2 → Nat :=
  let c384_244 : Index := 384#32
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v534 : Index := Scalar.indexCast v16
  ![384, v534.toNat]
def k0_off72 (i : grid0.Coords) : Fin 2 → Nat :=
  let c448_269 : Index := 448#32
  let c1_i32_7 : BitVec 32 := 1#32
  let arg0 : BitVec 32 := BitVec.ofNat 32 (i 0).val
  let v13 : BitVec 32 := Scalar.muli c1_i32_7 arg0
  let c0_i32_8 : BitVec 32 := 0#32
  let v14 : BitVec 32 := Scalar.addi v13 c0_i32_8
  let c256_i32 : BitVec 32 := 256#32
  let v15 : BitVec 32 := Scalar.muli v14 c256_i32
  let v16 : BitVec 32 := v15
  let v588 : Index := Scalar.indexCast v16
  ![448, v588.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S2048x128 : Shape := ⟨2, ![2048, 128]⟩
abbrev S2048x8x64 : Shape := ⟨3, ![2048, 8, 64]⟩
abbrev S8x2048x2048 : Shape := ⟨3, ![8, 2048, 2048]⟩
abbrev S_ : Shape := ⟨0, ![]⟩
abbrev S2048x8 : Shape := ⟨2, ![2048, 8]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩
abbrev S512x2048 : Shape := ⟨2, ![512, 2048]⟩

abbrev nBuf : Space → Nat
  | .hbm => 125
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x128, .f32⟩
  | .hbm, ⟨4, _⟩ => ⟨S2048x512, .f32⟩
  | .hbm, ⟨5, _⟩ => ⟨S2048x8x64, .f32⟩
  | .hbm, ⟨6, _⟩ => ⟨S2048x8x64, .f32⟩
  | .hbm, ⟨7, _⟩ => ⟨S2048x8x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S2048x8, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .i1⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .i1⟩
  | .hbm, ⟨47, _⟩ => ⟨S_, .f32⟩
  | .hbm, ⟨48, _⟩ => ⟨S8x2048, .f32⟩
  | .hbm, ⟨49, _⟩ => ⟨S8x2048, .i1⟩
  | .hbm, ⟨50, _⟩ => ⟨S_, .f32⟩
  | .hbm, ⟨51, _⟩ => ⟨S8x2048, .f32⟩
  | .hbm, ⟨52, _⟩ => ⟨S_, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S8x2048, .f32⟩
  | .hbm, ⟨57, _⟩ => ⟨S8x2048, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x64x2048, .f32⟩
  | .hbm, ⟨72, _⟩ => ⟨S2048x8x64, .f32⟩
  | .hbm, ⟨73, _⟩ => ⟨S2048x512, .f32⟩
  | .hbm, ⟨74, _⟩ => ⟨S2048x8x64, .f32⟩
  | .hbm, ⟨75, _⟩ => ⟨S8x64x2048, .f32⟩
  | .hbm, ⟨76, _⟩ => ⟨S8x2048x2048, .f32⟩
  | .hbm, ⟨77, _⟩ => ⟨S8x64x2048, .f32⟩
  | .hbm, ⟨78, _⟩ => ⟨S2048x8x64, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048x1, .f32⟩
  | .hbm, ⟨85, _⟩ => ⟨S8x2048x1, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S_, .f32⟩
  | .hbm, ⟨98, _⟩ => ⟨S8x2048, .f32⟩
  | .hbm, ⟨99, _⟩ => ⟨S8x1x2048, .f32⟩
  | .hbm, ⟨100, _⟩ => ⟨S_, .f32⟩
  | .hbm, ⟨101, _⟩ => ⟨S8x2048, .f32⟩
  | .hbm, ⟨102, _⟩ => ⟨S_, .f32⟩
  | .hbm, ⟨103, _⟩ => ⟨S8x2048, .f32⟩
  | .hbm, ⟨104, _⟩ => ⟨S8x2048x1, .f32⟩
  | .hbm, ⟨105, _⟩ => ⟨S_, .f32⟩
  | .hbm, ⟨106, _⟩ => ⟨S8x2048, .f32⟩
  | .hbm, ⟨107, _⟩ => ⟨S8x2048, .f32⟩
  | .hbm, ⟨108, _⟩ => ⟨S2048x8, .f32⟩
  | .hbm, ⟨109, _⟩ => ⟨S_, .f32⟩
  | .hbm, ⟨110, _⟩ => ⟨S2048x128, .f32⟩
  | .hbm, ⟨111, _⟩ => ⟨S_, .f32⟩
  | .hbm, ⟨112, _⟩ => ⟨S8x2048x2048, .f32⟩
  | .hbm, ⟨113, _⟩ => ⟨S8x2048x2048, .f32⟩
  | .hbm, ⟨114, _⟩ => ⟨S8x2048x64, .f32⟩
  | .hbm, ⟨115, _⟩ => ⟨S2048x8x64, .f32⟩
  | .hbm, ⟨116, _⟩ => ⟨S8x2048x64, .f32⟩
  | .hbm, ⟨117, _⟩ => ⟨S2048x8x64, .f32⟩
  | .hbm, ⟨118, _⟩ => ⟨S2048x512, .f32⟩
  | .hbm, ⟨119, _⟩ => ⟨S2048x512, .f32⟩
  | .hbm, ⟨120, _⟩ => ⟨S2048x512, .f32⟩
  | .hbm, ⟨121, _⟩ => ⟨S512x2048, .f32⟩
  | .hbm, ⟨122, _⟩ => ⟨S512x2048, .bf16⟩
  | .hbm, ⟨123, _⟩ => ⟨S512x2048, .f32⟩
  | .hbm, ⟨124, _⟩ => ⟨S512x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_cst_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]
-- ==== Kernel2.lean ====
abbrev S2048x1024 : Shape := ⟨2, ![2048, 1024]⟩
abbrev S2048x5632 : Shape := ⟨2, ![2048, 5632]⟩
abbrev S2048x2816 : Shape := ⟨2, ![2048, 2816]⟩
abbrev S2048x4x704 : Shape := ⟨3, ![2048, 4, 704]⟩
abbrev S4x2048x704 : Shape := ⟨3, ![4, 2048, 704]⟩
abbrev S2x4x704x1024 : Shape := ⟨4, ![2, 4, 704, 1024]⟩
abbrev S1x2048x704 : Shape := ⟨3, ![1, 2048, 704]⟩
abbrev S2x1x704x1024 : Shape := ⟨4, ![2, 1, 704, 1024]⟩
abbrev S2048x704 : Shape := ⟨2, ![2048, 704]⟩
abbrev S704x1024 : Shape := ⟨2, ![704, 1024]⟩
abbrev S1x1x704x1024 : Shape := ⟨4, ![1, 1, 704, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x2816, .f32⟩
  | .hbm, ⟨3, _⟩ => ⟨S2048x4x704, .f32⟩
  | .hbm, ⟨4, _⟩ => ⟨S4x2048x704, .f32⟩
  | .hbm, ⟨5, _⟩ => ⟨S4x2048x704, .bf16⟩
  | .hbm, ⟨6, _⟩ => ⟨S2048x2816, .f32⟩
  | .hbm, ⟨7, _⟩ => ⟨S2048x4x704, .f32⟩
  | .hbm, ⟨8, _⟩ => ⟨S4x2048x704, .f32⟩
  | .hbm, ⟨9, _⟩ => ⟨S4x2048x704, .bf16⟩
  | .hbm, ⟨10, _⟩ => ⟨S2048x1024, .bf16⟩
  | .hbm, ⟨11, _⟩ => ⟨S2x4x704x1024, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S2x1x704x1024, .bf16⟩
  | .local _ .vmem, ⟨6, _⟩ => ⟨S2x1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S2x4x704x1024 : Shape := ⟨4, ![2, 4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S2x4x704x1024, .f32⟩
  | .hbm, ⟨9, _⟩ => ⟨S2x4x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S2816x1024 : Shape := ⟨2, ![2816, 1024]⟩
abbrev S1x2048x704 : Shape := ⟨3, ![1, 2048, 704]⟩
abbrev S704x1024 : Shape := ⟨2, ![704, 1024]⟩
abbrev S4 : Shape := ⟨1, ![4]⟩
abbrev S1 : Shape := ⟨1, ![1]⟩
abbrev S_ : Shape := ⟨0, ![]⟩
abbrev S512x1024 : Shape := ⟨2, ![512, 1024]⟩
abbrev S2048x704 : Shape := ⟨2, ![2048, 704]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S2816x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S704x1024, .bf16⟩
  | .local _ .vmem, ⟨3, _⟩ => ⟨S704x1024, .bf16⟩
  | .local _ .vmem, ⟨4, _⟩ => ⟨S2048x1024, .bf16⟩
  | .local _ .vmem, ⟨5, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S2048x1024 : Shape := ⟨2, ![2048, 1024]⟩
abbrev S2048x2816 : Shape := ⟨2, ![2048, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S2048x1024 : Shape := ⟨2, ![2048, 1024]⟩
abbrev S2048x2816 : Shape := ⟨2, ![2048, 2816]⟩
abbrev S2816x1024 : Shape := ⟨2, ![2816, 1024]⟩
abbrev S2048x4x704 : Shape := ⟨3, ![2048, 4, 704]⟩
abbrev S4x2048x704 : Shape := ⟨3, ![4, 2048, 704]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S704x1024 : Shape := ⟨2, ![704, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S2048x4x704, .f32⟩
  | .hbm, ⟨4, _⟩ => ⟨S4x2048x704, .f32⟩
  | .hbm, ⟨5, _⟩ => ⟨S4x2048x704, .bf16⟩
  | .hbm, ⟨6, _⟩ => ⟨S2816x1024, .bf16⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2048x1024 : Shape := ⟨2, ![2048, 1024]⟩
abbrev S2048x2816 : Shape := ⟨2, ![2048, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S5632x1024 : Shape := ⟨2, ![5632, 1024]⟩
abbrev S2x4x704x1024 : Shape := ⟨4, ![2, 4, 704, 1024]⟩
abbrev S2048x4x704 : Shape := ⟨3, ![2048, 4, 704]⟩
abbrev S4x2048x704 : Shape := ⟨3, ![4, 2048, 704]⟩
abbrev S512x1024 : Shape := ⟨2, ![512, 1024]⟩
abbrev S1x512x704 : Shape := ⟨3, ![1, 512, 704]⟩
abbrev S2x1x704x1024 : Shape := ⟨4, ![2, 1, 704, 1024]⟩
abbrev S704x1024 : Shape := ⟨2, ![704, 1024]⟩
abbrev S512 : Shape := ⟨1, ![512]⟩
abbrev S512x1 : Shape := ⟨2, ![512, 1]⟩
abbrev S256x1024 : Shape := ⟨2, ![256, 1024]⟩
abbrev S256x704 : Shape := ⟨2, ![256, 704]⟩
abbrev S1x256x704 : Shape := ⟨3, ![1, 256, 704]⟩
abbrev S1x1x704x1024 : Shape := ⟨4, ![1, 1, 704, 1024]⟩
abbrev S1024 : Shape := ⟨1, ![1024]⟩

abbrev nBuf : Space → Nat
  | .hbm => 38
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1024x5632, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x5632, .f32⟩
  | .hbm, ⟨21, _⟩ => ⟨S2048x2816, .f32⟩
  | .hbm, ⟨22, _⟩ => ⟨S2048x2816, .f32⟩
  | .hbm, ⟨23, _⟩ => ⟨S5632x1024, .f32⟩
  | .hbm, ⟨24, _⟩ => ⟨S2x4x704x1024, .f32⟩
  | .hbm, ⟨25, _⟩ => ⟨S2x4x704x1024, .bf16⟩
  | .hbm, ⟨26, _⟩ => ⟨S2048x4x704, .f32⟩
  | .hbm, ⟨27, _⟩ => ⟨S4x2048x704, .f32⟩
  | .hbm, ⟨28, _⟩ => ⟨S4x2048x704, .bf16⟩
  | .hbm, ⟨29, _⟩ => ⟨S2048x4x704, .f32⟩
  | .hbm, ⟨30, _⟩ => ⟨S4x2048x704, .f32⟩
  | .hbm, ⟨31, _⟩ => ⟨S4x2048x704, .bf16⟩
  | .hbm, ⟨32, _⟩ => ⟨S2816x1024, .bf16⟩
  | .hbm, ⟨33, _⟩ => ⟨S2048x1024, .f32⟩
  | .hbm, ⟨34, _⟩ => ⟨S1x1024, .f32⟩
  | .hbm, ⟨35, _⟩ => ⟨S2048x1024, .bf16⟩
  | .hbm, ⟨36, _⟩ => ⟨S4x2048x704, .bf16⟩
  | .hbm, ⟨37, _⟩ => ⟨S4x2048x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S2x1x704x1024, .bf16⟩
  | .local _ .vmem, ⟨10, _⟩ => ⟨S2x1x704x1024, .bf16⟩
  | .local _ .vmem, ⟨11, _⟩ => ⟨S704x1024, .bf16⟩
  | .local _ .vmem, ⟨12, _⟩ => ⟨S704x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S2048x1024, .f32⟩
  | .local _ .vmem, ⟨23, _⟩ => ⟨S2048x1024, .bf16⟩
  | .local _ .vmem, ⟨24, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v117 : Index := Scalar.indexCast v1
  let c0_68 : Index := 0#32
  ![v117.toNat, 0]
def k0_mult2 (i : grid0.Coords) : BitVec 32 :=
  let arg1 : BitVec 32 := BitVec.ofNat 32 (i 1).val
  let c512_i32_1 : BitVec 32 := 512#32
  let v5 : BitVec 32 := Scalar.muli arg1 c512_i32_1
  let c0_i32_2 : BitVec 32 := 0#32
  let v6 : BitVec 32 := Scalar.addi v5 c0_i32_2
  v6
def k0_mult3 (i : grid0.Coords) : BitVec 32 :=
  let arg1 : BitVec 32 := BitVec.ofNat 32 (i 1).val
  let c512_i32_3 : BitVec 32 := 512#32
  let v8 : BitVec 32 := Scalar.muli arg1 c512_i32_3
  let c256_i32 : BitVec 32 := 256#32
  let v9 : BitVec 32 := Scalar.addi v8 c256_i32
  v9
def k0_off2 (i : grid0.Coords) (c0_i32_2 : BitVec 32) : Fin 2 → Nat :=
  let arg1 : BitVec 32 := BitVec.ofNat 32 (i 1).val
  let c512_i32_1 : BitVec 32 := 512#32
  let v5 : BitVec 32 := Scalar.muli arg1 c512_i32_1
  let v6 : BitVec 32 := Scalar.addi v5 c0_i32_2
  let v7 : BitVec 32 := v6
  let v11 : Index := Scalar.indexCast v7
  let c0 : Index := 0#32
  ![v11.toNat, 0]
def k0_cond2 (i : grid0.Coords) : BitVec 1 :=
  let arg0 : BitVec 32 := BitVec.ofNat 32 (i 0).val
  let c3_i32 : BitVec 32 := 3#32
  let v99 : BitVec 1 := Scalar.cmpi .eq arg0 c3_i32
  let v100 : BitVec 32 := Scalar.extui v99
  let c0_i32_60 : BitVec 32 := 0#32
  let v101 : BitVec 1 := Scalar.cmpi .ne v100 c0_i32_60
  v101

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v112 : Index := Scalar.indexCast v1
  let c0_68 : Index := 0#32
  ![v112.toNat, 0]
def k0_cond3 (i : grid0.Coords) : BitVec 1 :=
  let arg1 : BitVec 32 := BitVec.ofNat 32 (i 1).val
  let c0_i32_76 : BitVec 32 := 0#32
  let v140 : BitVec 1 := Scalar.cmpi .eq arg1 c0_i32_76
  let v141 : BitVec 32 := Scalar.extui v140
  let c0_i32_77 : BitVec 32 := 0#32
  let v142 : BitVec 1 := Scalar.cmpi .ne v141 c0_i32_77
  v142

def k0_cond4 (i : grid0.Coords) : BitVec 1 :=
  let arg1 : BitVec 32 := BitVec.ofNat 32 (i 1).val
  let c0_i32_78 : BitVec 32 := 0#32
  let v143 : BitVec 1 := Scalar.cmpi .sgt arg1 c0_i32_78
  let v144 : BitVec 32 := Scalar.extui v143
  let c0_i32_79 : BitVec 32 := 0#32
  let v145 : BitVec 1 := Scalar.cmpi .ne v144 c0_i32_79
  v145

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 1 := Scalar.cmpi .eq arg0 c3_i32
  let v2 : BitVec 1 := Scalar.ori v0 v1
  let c3_i32_0 : BitVec 32 := 3#32
  let v3 : BitVec 32 := Scalar.select v2 arg1 c3_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 1 := Scalar.cmpi .eq arg0 c3_i32
  let v2 : BitVec 1 := Scalar.ori v0 v1
  let c3_i32_0 : BitVec 32 := 3#32
  let v3 : BitVec 32 := Scalar.select v2 arg1 c3_i32_0
  let c0_i32_1 : BitVec 32 := 0#32
  let c0_i32_2 : BitVec 32 := 0#32
  ![v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024 : Shape := ⟨1, ![1024]⟩
abbrev S2048x4x704 : Shape := ⟨3, ![2048, 4, 704]⟩
abbrev S4x2048x704 : Shape := ⟨3, ![4, 2048, 704]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1024x5632, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x5632, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x5632, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .bf16⟩
  | .hbm, ⟨82, _⟩ => ⟨S2048x2816, .f32⟩
  | .hbm, ⟨83, _⟩ => ⟨S2048x4x704, .f32⟩
  | .hbm, ⟨84, _⟩ => ⟨S4x2048x704, .f32⟩
  | .hbm, ⟨85, _⟩ => ⟨S4x2048x704, .bf16⟩
  | .hbm, ⟨86, _⟩ => ⟨S2048x2816, .f32⟩
  | .hbm, ⟨87, _⟩ => ⟨S2048x4x704, .f32⟩
  | .hbm, ⟨88, _⟩ => ⟨S4x2048x704, .f32⟩
  | .hbm, ⟨89, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S1024x5632 : Shape := ⟨2, ![1024, 5632]⟩
abbrev S5632x1024 : Shape := ⟨2, ![5632, 1024]⟩
abbrev S2x4x704x1024 : Shape := ⟨4, ![2, 4, 704, 1024]⟩
abbrev S4x2048x704 : Shape := ⟨3, ![4, 2048, 704]⟩
abbrev S1024x1024 : Shape := ⟨2, ![1024, 1024]⟩
abbrev S2x1x704x1024 : Shape := ⟨4, ![2, 1, 704, 1024]⟩
abbrev S1x1024x704 : Shape := ⟨3, ![1, 1024, 704]⟩
abbrev S1024 : Shape := ⟨1, ![1024]⟩
abbrev S1024x1 : Shape := ⟨2, ![1024, 1]⟩
abbrev S256x1024 : Shape := ⟨2, ![256, 1024]⟩
abbrev S1x1x704x1024 : Shape := ⟨4, ![1, 1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S5632x1024, .f32⟩
  | .hbm, ⟨4, _⟩ => ⟨S2x4x704x1024, .f32⟩
  | .hbm, ⟨5, _⟩ => ⟨S2x4x704x1024, .bf16⟩
  | .hbm, ⟨6, _⟩ => ⟨S4x2048x704, .bf16⟩
  | .hbm, ⟨7, _⟩ => ⟨S4x2048x704, .bf16⟩
  | .hbm, ⟨8, _⟩ => ⟨S4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1x704x1024, .bf16⟩
  | .local _ .vmem, ⟨4, _⟩ => ⟨S2x1x704x1024, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v124 : Index := Scalar.indexCast v1
  let c0_87 : Index := 0#32
  ![v124.toNat, 0]
def k0_mult2 (i : grid0.Coords) : BitVec 32 :=
  let arg1 : BitVec 32 := BitVec.ofNat 32 (i 1).val
  let c1024_i32_1 : BitVec 32 := 1024#32
  let v5 : BitVec 32 := Scalar.muli arg1 c1024_i32_1
  let c0_i32_2 : BitVec 32 := 0#32
  let v6 : BitVec 32 := Scalar.addi v5 c0_i32_2
  v6
def k0_off2 (i : grid0.Coords) (c0_i32_2 : BitVec 32) : Fin 2 → Nat :=
  let arg1 : BitVec 32 := BitVec.ofNat 32 (i 1).val
  let c1024_i32_1 : BitVec 32 := 1024#32
  let v5 : BitVec 32 := Scalar.muli arg1 c1024_i32_1
  let v6 : BitVec 32 := Scalar.addi v5 c0_i32_2
  let v7 : BitVec 32 := v6
  let v8 : Index := Scalar.indexCast v7
  let c0 : Index := 0#32
  ![v8.toNat, 0]
def k0_mult3 (i : grid0.Coords) : BitVec 32 :=
  let arg1 : BitVec 32 := BitVec.ofNat 32 (i 1).val
  let c1024_i32_3 : BitVec 32 := 1024#32
  let v10 : BitVec 32 := Scalar.muli arg1 c1024_i32_3
  let c256_i32 : BitVec 32 := 256#32
  let v11 : BitVec 32 := Scalar.addi v10 c256_i32
  v11
def k0_mult4 (i : grid0.Coords) : BitVec 32 :=
  let arg1 : BitVec 32 := BitVec.ofNat 32 (i 1).val
  let c1024_i32_5 : BitVec 32 := 1024#32
  let v15 : BitVec 32 := Scalar.muli arg1 c1024_i32_5
  let c512_i32 : BitVec 32 := 512#32
  let v16 : BitVec 32 := Scalar.addi v15 c512_i32
  v16
def k0_mult5 (i : grid0.Coords) : BitVec 32 :=
  let arg1 : BitVec 32 := BitVec.ofNat 32 (i 1).val
  let c1024_i32_7 : BitVec 32 := 1024#32
  let v20 : BitVec 32 := Scalar.muli arg1 c1024_i32_7
  let c768_i32 : BitVec 32 := 768#32
  let v21 : BitVec 32 := Scalar.addi v20 c768_i32
  v21
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2048x1024 : Shape := ⟨2, ![2048, 1024]⟩
abbrev S1x1024 : Shape := ⟨2, ![1, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x5632, .f32⟩
  | .hbm, ⟨19, _⟩ => ⟨S2048x2816, .f32⟩
  | .hbm, ⟨20, _⟩ => ⟨S2048x2816, .f32⟩
  | .hbm, ⟨21, _⟩ => ⟨S2048x4x704, .f32⟩
  | .hbm, ⟨22, _⟩ => ⟨S4x2048x704, .f32⟩
  | .hbm, ⟨23, _⟩ => ⟨S4x2048x704, .bf16⟩
  | .hbm, ⟨24, _⟩ => ⟨S2048x4x704, .f32⟩
  | .hbm, ⟨25, _⟩ => ⟨S4x2048x704, .f32⟩
  | .hbm, ⟨26, _⟩ => ⟨S4x2048x704, .bf16⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x4x704, .f32⟩
  | .hbm, ⟨38, _⟩ => ⟨S4x2048x704, .f32⟩
  | .hbm, ⟨39, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Payload.lean ====
/-
  The operations of one 256 × 256 block of the attention's backward pass, read at an index over the extended reals.

  The kernel treats a block of 256 keys against 256 queries, once for each of eight heads. This file names the values
  a head's part of a block goes through — the bias, the scores, their mask, the weights `exp (s - lse)`, the score
  gradients `p * (dp - delta)`, and the four accumulated results — as functions of the rectangles that are loaded, and
  says what each holds at an index.
-/
module

public import proofs.«01_k».proof.Proof.Gen.KernelIdeal.Skeleton
public import Idealize.ShloMosaic.Lib.ValueIdx
public import Idealize.ShloMosaic.Lib.Pipeline.Value
public import Idealize.ShloMosaic.Lib.Pointwise.Contract
public import Idealize.ShloMosaic.PureOps.Ideal.Laws
public import Idealize.ShloMosaic.PureOps.IdealRules

@[expose] public section

set_option maxRecDepth 16384

noncomputable section

namespace Cert.KernelIdeal.Att

open Idealize.ShloMosaic Idealize.SL.Sem
open Cert.KernelIdeal Cert.KernelIdeal.Gen

section Functions

variable {F : FTy → Type} [FloatOps F] [Named F]

/-- A head's bias: the query's cumulative sum less the key's. -/
def bias (r : Vec F S1x256 .f32) (k : Vec F S256x1 .f32) : FVec F S256x256 .f32 :=
  subf (broadcastTo S256x256 (shapeCast S1x256 r shapeCasts_S1x256_S1x256) broadcasts_S1x256_S256x256)
    (broadcastTo S256x256 k broadcasts_S256x1_S256x256)

/-- A product of a [256, 64] by a [64, 256] rectangle, contracting a head's 64 features. -/
def feat (x : Vec F S256x64 .bf16) (y : Vec F S64x256 .bf16) : FVec F S256x256 .f32 :=
  matmul dot_S256x64_S64x256_S256x256_1_0_0_1_n_n none (shapeCast S256x64 x shapeCasts_S256x64_S256x64)
    (shapeCast S64x256 y shapeCasts_S64x256_S64x256) (constant S256x256 .f32 0x00000000#32)

/-- A head's scores, keys by queries. -/
def score (b : FVec F S256x256 .f32) (x : Vec F S256x64 .bf16) (y : Vec F S64x256 .bf16) : FVec F S256x256 .f32 :=
  addf (feat x y) b

/-- The scores with those of later keys masked. -/
def masked (keep : IVec S256x256 1) (s : FVec F S256x256 .f32) : FVec F S256x256 .f32 :=
  select keep s (broadcast S256x256 (Named.named κ "mask" 0xF149F2CA#32))

/-- The attention weights of a block: `exp (s - lse)`. -/
def weight (s : FVec F S256x256 .f32) (l : Vec F S1x256 .f32) : FVec F S256x256 .f32 :=
  exp (subf s (broadcastTo S256x256 (shapeCast S1x256 l shapeCasts_S1x256_S1x256) broadcasts_S1x256_S256x256))

/-- The score gradients of a block: `p * (dp - delta)`. -/
def grad (p dp : FVec F S256x256 .f32) (dl : Vec F S1x256 .f32) : FVec F S256x256 .f32 :=
  mulf p (subf dp (broadcastTo S256x256 (shapeCast S1x256 dl shapeCasts_S1x256_S1x256) broadcasts_S1x256_S256x256))

/-- A head's column of the cumulative sum's gradient: the old column less the score gradients' sum over the queries. -/
def colNew (ds : FVec F S256x256 .f32) (old : Vec F S256x1 .f32) : FVec F S256x1 .f32 :=
  shapeCast S256x1 (addf old (subf (broadcast S256x1 (Scalar.ofBits .f32 0x00000000#32))
    (shapeCast S256x1 (multiReduction .add [1] S256 ds 0x00000000#32 reduces_S256x256_S256 (.inl rfl) rfl)
      shapeCasts_S256_S256x1))) shapeCasts_S256x1_S256x1

/-- A head's rectangle of a key-side gradient: the old rectangle plus a product contracting the block's queries. -/
def keyNew (p : FVec F S256x256 .f32) (old : Vec F S64x256 .f32) (x : Vec F S64x256 .bf16) : FVec F S64x256 .f32 :=
  shapeCast S64x256 (addf old (matmul dot_S64x256_S256x256_S64x256_1_1_0_0_n_n none
    (shapeCast S64x256 x shapeCasts_S64x256_S64x256) (truncf .bf16 p bitsLt_bf16_f32)
    (constant S64x256 .f32 0x00000000#32))) shapeCasts_S64x256_S64x256

/-- A head's rectangle of the query gradient: the old rectangle plus a product contracting the block's keys. -/
def qryNew (ds : FVec F S256x256 .f32) (old : Vec F S64x256 .f32) (x : Vec F S64x256 .bf16) : FVec F S64x256 .f32 :=
  shapeCast S64x256 (addf old (matmul dot_S64x256_S256x256_S64x256_1_0_0_1_n_n none
    (shapeCast S64x256 x shapeCasts_S64x256_S64x256) (truncf .bf16 ds bitsLt_bf16_f32)
    (constant S64x256 .f32 0x00000000#32))) shapeCasts_S64x256_S64x256

end Functions

section Ideal

/-- A row spread over a block reads its column's element. -/
theorem row_apply (r : Vec Ideal S1x256 .f32) (a b : Fin 256) :
    broadcastTo S256x256 (shapeCast S1x256 r shapeCasts_S1x256_S1x256) broadcasts_S1x256_S256x256 (ix2 a b) = r (ix2 0 b) := by
  rw [shapeCast_self]
  exact broadcastTo_apply _ _ _ _ fun d => by match d with | ⟨0, _⟩ => rfl | ⟨1, _⟩ => rfl

/-- A column spread over a block reads its row's element. -/
theorem col_apply (k : Vec Ideal S256x1 .f32) (a b : Fin 256) :
    broadcastTo S256x256 k broadcasts_S256x1_S256x256 (ix2 a b) = k (ix2 a 0) :=
  broadcastTo_apply _ _ _ _ fun d => by match d with | ⟨0, _⟩ => rfl | ⟨1, _⟩ => rfl

theorem bias_apply (r : Vec Ideal S1x256 .f32) (k : Vec Ideal S256x1 .f32) (a b : Fin 256) :
    bias r k (ix2 a b) = r (ix2 0 b) - k (ix2 a 0) :=
  congrArg₂ (fun x y : EReal => x - y) (row_apply r a b) (col_apply k a b)

theorem feat_apply (x : Vec Ideal S256x64 .bf16) (y : Vec Ideal S64x256 .bf16) (a b : Fin 256) :
    feat x y (ix2 a b) = ∑ d : Fin 64, x (ix2 a d) * y (ix2 d b) := by
  unfold feat
  rw [shapeCast_self, shapeCast_self]
  show Ideal.matmul _ _ _ _ _ = _
  simp only [matmulApply]
  refine (congrArg (· + _) Ideal.ofBits_zero_f32).trans (zero_add _)

theorem score_apply (s : FVec Ideal S256x256 .f32) (x : Vec Ideal S256x64 .bf16) (y : Vec Ideal S64x256 .bf16) (a b : Fin 256) :
    score s x y (ix2 a b) = (∑ d : Fin 64, x (ix2 a d) * y (ix2 d b)) + s (ix2 a b) :=
  congrArg (· + s (ix2 a b)) (feat_apply x y a b)

theorem masked_apply (keep : IVec S256x256 1) (s : FVec Ideal S256x256 .f32) (a b : Fin 256) :
    masked keep s (ix2 a b) = Scalar.select (keep (ix2 a b)) (s (ix2 a b)) ⊥ := by
  show Scalar.select (keep (ix2 a b)) (s (ix2 a b)) (Named.named κ "mask" 0xF149F2CA#32) = _
  rw [IdealRules.named_const.ideal_named_scalar _ _ _ _ rfl]

theorem weight_apply (s : FVec Ideal S256x256 .f32) (l : Vec Ideal S1x256 .f32) (a b : Fin 256) :
    weight s l (ix2 a b) = Ideal.exp (s (ix2 a b) - l (ix2 0 b)) :=
  congrArg (fun x : EReal => Ideal.exp (s (ix2 a b) - x)) (row_apply l a b)

theorem grad_apply (p dp : FVec Ideal S256x256 .f32) (dl : Vec Ideal S1x256 .f32) (a b : Fin 256) :
    grad p dp dl (ix2 a b) = p (ix2 a b) * (dp (ix2 a b) - dl (ix2 0 b)) :=
  congrArg (fun x : EReal => p (ix2 a b) * (dp (ix2 a b) - x)) (row_apply dl a b)

theorem colNew_apply (ds : FVec Ideal S256x256 .f32) (old : Vec Ideal S256x1 .f32) (a : Fin 256) :
    colNew ds old (ix2 a 0) = old (ix2 a 0) + (0 - ∑ b : Fin 256, ds (ix2 a b)) := by
  unfold colNew
  rw [shapeCast_self]
  refine congrArg₂ (fun x y : EReal => old (ix2 a 0) + (x - y)) Ideal.ofBits_zero_f32 ?_
  refine (shapeCast_apply _ _ _ (ix1 a) ?_).trans ?_
  · rfl
  refine (Ideal.multiReduction_add_single ds _ _ _ _ _).trans ?_
  refine Finset.sum_congr rfl fun b _ => congrArg ds ?_
  funext d
  match d with | ⟨0, _⟩ => rfl | ⟨1, _⟩ => rfl

theorem keyNew_apply (p : FVec Ideal S256x256 .f32) (old : Vec Ideal S64x256 .f32) (x : Vec Ideal S64x256 .bf16) (d : Fin 64) (a : Fin 256) :
    keyNew p old x (ix2 d a) = old (ix2 d a) + ∑ b : Fin 256, x (ix2 d b) * p (ix2 a b) := by
  unfold keyNew
  rw [shapeCast_self, shapeCast_self]
  refine congrArg (old (ix2 d a) + ·) ?_
  show Ideal.matmul _ _ _ _ _ = _
  simp only [matmulApply]
  refine (congrArg (· + _) Ideal.ofBits_zero_f32).trans (zero_add _)

theorem qryNew_apply (ds : FVec Ideal S256x256 .f32) (old : Vec Ideal S64x256 .f32) (x : Vec Ideal S64x256 .bf16) (d : Fin 64) (b : Fin 256) :
    qryNew ds old x (ix2 d b) = old (ix2 d b) + ∑ a : Fin 256, x (ix2 d a) * ds (ix2 a b) := by
  unfold qryNew
  rw [shapeCast_self, shapeCast_self]
  refine congrArg (old (ix2 d b) + ·) ?_
  show Ideal.matmul _ _ _ _ _ = _
  simp only [matmulApply]
  refine (congrArg (· + _) Ideal.ofBits_zero_f32).trans (zero_add _)

end Ideal

end Cert.KernelIdeal.Att

end
-- ==== Proof.Block.lean ====
/-
  One block of the attention's backward pass over whole buffers.

  `Ins` holds what the nine read operands hold at a grid point, and the functions after it are the entries of the
  scores, weights and score gradients at absolute positions (head, key, query column of the point). The lemmas then say
  what a head's stores of a block do to the four buffers that are accumulated: each adds to one rectangle of its buffer,
  and the buffers before and after are named as functions of the index.
-/
module

public import proofs.«01_k».proof.Proof.Payload
public import Idealize.ShloMosaic.Lib.WritesUnit
public import Idealize.ShloMosaic.Lib.Pipeline.ValueKit.Tiles

@[expose] public section

set_option maxRecDepth 16384

noncomputable section

namespace Cert.KernelIdeal.Att

open Idealize.ShloMosaic Idealize.SL.Sem
open Cert.KernelIdeal Cert.KernelIdeal.Gen

/-! ### Rank-two buffers, read and stored by rectangles -/

section Rect

variable {κ : Kind} {sp : Space} {e : EltTy} {n0 n1 m0 m1 : ℕ}

/-- A load of a rectangle reads, at (a, b), the buffer at the rectangle's corner plus (a, b). -/
theorem readAt2 (v : View sig κ sp ⟨2, ![n0, n1]⟩ e) (g : v.ty.Contents (Elt Ideal)) {off : Fin 2 → ℕ}
    (inb : ∀ a, off a + (![m0, m1] : Fin 2 → ℕ) a ≤ (![n0, n1] : Fin 2 → ℕ) a) (a : Fin m0) (b : Fin m1) (c : Fin n0) (t : Fin n1) {r0 r1 : ℕ}
    (ho : off = ![r0, r1]) (hc : c.val = r0 + a.val) (ht : t.val = r1 + b.val) :
    v.readAt (Elt Ideal) (Rect.unit (s := ⟨2, ![n0, n1]⟩) off ![m0, m1] inb).toLoadRect g (ix2 a b) = v.read (Elt Ideal) g (ix2 c t) := by
  subst ho
  exact View.ld_unit_apply_of (v.read (Elt Ideal) g) _ _ inb (ix2 a b) (ix2 c t) fun d => by
    match d with | ⟨0, _⟩ => exact hc | ⟨1, _⟩ => exact ht

/-- A store of a rectangle, as the buffer's contents before and after. -/
theorem step2 (v : View sig κ sp ⟨2, ![n0, n1]⟩ e) (f : v.ty.Contents (Elt Ideal)) (L : List (View.Piece (Elt Ideal) ⟨2, ![n0, n1]⟩ e))
    {off : Fin 2 → ℕ} (inb : ∀ a, off a + (![m0, m1] : Fin 2 → ℕ) a ≤ (![n0, n1] : Fin 2 → ℕ) a)
    (w : (⟨2, ![m0, m1]⟩ : Shape).Idx → Elt Ideal e) (A A' : (⟨2, ![n0, n1]⟩ : Shape).Idx → Elt Ideal e) {r0 r1 : ℕ} (ho : off = ![r0, r1])
    (hL : v.read (Elt Ideal) (v.writes (Elt Ideal) f L) = A)
    (hout : ∀ (c : Fin n0) (t : Fin n1), ¬ (r0 ≤ c.val ∧ c.val < r0 + m0 ∧ r1 ≤ t.val ∧ t.val < r1 + m1) → A' (ix2 c t) = A (ix2 c t))
    (hin : ∀ (a : Fin m0) (b : Fin m1) (c : Fin n0) (t : Fin n1), c.val = r0 + a.val → t.val = r1 + b.val → w (ix2 a b) = A' (ix2 c t)) :
    v.read (Elt Ideal) (v.writes (Elt Ideal) f ((⟨Rect.unit (s := ⟨2, ![n0, n1]⟩) off ![m0, m1] inb, w⟩ : View.Piece (Elt Ideal) ⟨2, ![n0, n1]⟩ e) :: L)) = A' := by
  subst ho
  funext y
  rw [eq_ix2 y]
  generalize hc : y 0 = c
  generalize ht : y 1 = t
  clear hc ht y
  by_cases h : r0 ≤ c.val ∧ c.val < r0 + m0 ∧ r1 ≤ t.val ∧ t.val < r1 + m1
  · refine (View.read_writes_cons_unit_of_mem v f inb w L (ix2 c t) (ix2 (⟨c.val - r0, by omega⟩ : Fin m0) (⟨t.val - r1, by omega⟩ : Fin m1)) rfl ?_).trans ?_
    · intro d
      match d with
      | ⟨0, _⟩ => show c.val = r0 + (c.val - r0); omega
      | ⟨1, _⟩ => show t.val = r1 + (t.val - r1); omega
    · exact hin _ _ c t (by show c.val = r0 + (c.val - r0); omega) (by show t.val = r1 + (t.val - r1); omega)
  · refine Eq.trans ?_ ((congrFun hL (ix2 c t)).trans (hout c t h).symm)
    by_cases h0 : c.val < r0 ∨ r0 + m0 ≤ c.val
    · exact View.read_writes_cons_unit_of_not_mem v f inb w L (ix2 c t) rfl (0 : Fin 2) h0
    · exact View.read_writes_cons_unit_of_not_mem v f inb w L (ix2 c t) rfl (1 : Fin 2) (by
        show t.val < r1 ∨ r1 + m1 ≤ t.val
        omega)

end Rect

/-! ### What a grid point reads -/

/-- What the nine read operands hold at a grid point: the scaled queries (channel, query column), the keys (key,
    channel), the keys again (channel, key), the values (key, channel), the output's gradients (channel, query column), the
    log-sum-exp and the gradient's dot product with the output (head, query column), the cumulative sums (key, head), and
    again (head, query column). -/
structure Ins where
  x0 : Vec Ideal S512x256 .bf16
  x1 : Vec Ideal S2048x512 .bf16
  x2 : Vec Ideal S512x2048 .bf16
  x3 : Vec Ideal S2048x512 .bf16
  x4 : Vec Ideal S512x256 .bf16
  x5 : Vec Ideal S8x256 .f32
  x6 : Vec Ideal S8x256 .f32
  x7 : Vec Ideal S2048x128 .f32
  x8 : Vec Ideal S8x256 .f32

/-- Channel `d` of head `h`. -/
def ch (h : Fin 8) (d : Fin 64) : Fin 512 := ⟨64 * h.val + d.val, by omega⟩
/-- The head of channel `c`. -/
def hd (c : Fin 512) : Fin 8 := ⟨c.val / 64, by omega⟩
/-- Key (or query) `a` of block `j`. -/
def tk (j : Fin 8) (a : Fin 256) : Fin 2048 := ⟨256 * j.val + a.val, by omega⟩
/-- A head's lane. -/
def ln (h : Fin 8) : Fin 128 := ⟨h.val, by omega⟩
/-- The head of a lane below eight. -/
def lh (l : Fin 128) : Fin 8 := ⟨l.val % 8, by omega⟩

namespace Ins

variable (I : Ins) (i : Fin 8)

/-- The score of key `t` for the point's query `b` under head `h`. -/
def sc (h : Fin 8) (t : Fin 2048) (b : Fin 256) : EReal :=
  (∑ d : Fin 64, I.x1 (ix2 t (ch h d)) * I.x0 (ix2 (ch h d) b)) + (I.x8 (ix2 h b) - I.x7 (ix2 t (ln h)))

/-- The weight of key `t`, none for a key after the query. -/
def pr (h : Fin 8) (t : Fin 2048) (b : Fin 256) : EReal :=
  Ideal.exp ((if t.val ≤ 256 * i.val + b.val then I.sc h t b else ⊥) - I.x5 (ix2 h b))

/-- The value's product with the output's gradient. -/
def dp (h : Fin 8) (t : Fin 2048) (b : Fin 256) : EReal :=
  ∑ d : Fin 64, I.x3 (ix2 t (ch h d)) * I.x4 (ix2 (ch h d) b)

/-- The score's gradient. -/
def ds (h : Fin 8) (t : Fin 2048) (b : Fin 256) : EReal := I.pr i h t b * (I.dp h t b - I.x6 (ix2 h b))

/-- What the point adds to the key gradient. -/
def dk (c : Fin 512) (t : Fin 2048) : EReal := ∑ b : Fin 256, I.x0 (ix2 c b) * I.ds i (hd c) t b
/-- What the point adds to the value gradient. -/
def dv (c : Fin 512) (t : Fin 2048) : EReal := ∑ b : Fin 256, I.x4 (ix2 c b) * I.pr i (hd c) t b
/-- What the point adds to the cumulative sum's gradient. -/
def dc (t : Fin 2048) (l : Fin 128) : EReal := 0 - ∑ b : Fin 256, I.ds i (lh l) t b
/-- What block `j` adds to the point's query gradient. -/
def dq (j : Fin 8) (c : Fin 512) (b : Fin 256) : EReal := ∑ a : Fin 256, I.x2 (ix2 c (tk j a)) * I.ds i (hd c) (tk j a) b

end Ins

/-- Buffers that hold a point's inputs. -/
structure Loaded (I : Ins)
    (a1 : Memref sig .tc .vmem S512x256 .bf16) (a2 : Memref sig .tc .vmem S2048x512 .bf16) (a3 : Memref sig .tc .vmem S512x2048 .bf16)
    (a4 : Memref sig .tc .vmem S2048x512 .bf16) (a5 : Memref sig .tc .vmem S512x256 .bf16) (a6 : Memref sig .tc .vmem S8x256 .f32)
    (a7 : Memref sig .tc .vmem S8x256 .f32) (a8 : Memref sig .tc .vmem S2048x128 .f32) (a9 : Memref sig .tc .vmem S8x256 .f32)
    (X1 : a1.view.ty.Contents (Elt Ideal)) (X2 : a2.view.ty.Contents (Elt Ideal)) (X3 : a3.view.ty.Contents (Elt Ideal))
    (X4 : a4.view.ty.Contents (Elt Ideal)) (X5 : a5.view.ty.Contents (Elt Ideal)) (X6 : a6.view.ty.Contents (Elt Ideal))
    (X7 : a7.view.ty.Contents (Elt Ideal)) (X8 : a8.view.ty.Contents (Elt Ideal)) (X9 : a9.view.ty.Contents (Elt Ideal)) : Prop where
  h1 : a1.view.read (Elt Ideal) X1 = I.x0
  h2 : a2.view.read (Elt Ideal) X2 = I.x1
  h3 : a3.view.read (Elt Ideal) X3 = I.x2
  h4 : a4.view.read (Elt Ideal) X4 = I.x3
  h5 : a5.view.read (Elt Ideal) X5 = I.x4
  h6 : a6.view.read (Elt Ideal) X6 = I.x5
  h7 : a7.view.read (Elt Ideal) X7 = I.x6
  h8 : a8.view.read (Elt Ideal) X8 = I.x7
  h9 : a9.view.read (Elt Ideal) X9 = I.x8

/-- A head's weights in a block, from the loaded rectangles. -/
def pBlk (msk : FVec Ideal S256x256 .f32 → FVec Ideal S256x256 .f32) (r9 : Vec Ideal S1x256 .f32) (c8 : Vec Ideal S256x1 .f32)
    (k2 : Vec Ideal S256x64 .bf16) (q1 : Vec Ideal S64x256 .bf16) (l6 : Vec Ideal S1x256 .f32) : FVec Ideal S256x256 .f32 :=
  weight (msk (score (bias r9 c8) k2 q1)) l6

/-- A head's score gradients in a block, from the weights and the loaded rectangles. -/
def dsBlk (p : FVec Ideal S256x256 .f32) (v4 : Vec Ideal S256x64 .bf16) (g5 : Vec Ideal S64x256 .bf16) (d7 : Vec Ideal S1x256 .f32) :
    FVec Ideal S256x256 .f32 := grad p (feat v4 g5) d7

/-! ### The buffers after some of the heads -/

/-- A key-side gradient after `h` heads of block `j`. -/
def keyUp (A : S512x2048.Idx → EReal) (C : Fin 512 → Fin 2048 → EReal) (j : Fin 8) (h : ℕ) : S512x2048.Idx → EReal := fun y =>
  A y + if (y 0).val < 64 * h ∧ 256 * j.val ≤ (y 1).val ∧ (y 1).val < 256 * j.val + 256 then C (y 0) (y 1) else 0

/-- The cumulative sum's gradient after `h` heads of block `j`. -/
def colUp (A : S2048x128.Idx → EReal) (C : Fin 2048 → Fin 128 → EReal) (j : Fin 8) (h : ℕ) : S2048x128.Idx → EReal := fun y =>
  A y + if (y 1).val < h ∧ 256 * j.val ≤ (y 0).val ∧ (y 0).val < 256 * j.val + 256 then C (y 0) (y 1) else 0

/-- The query gradient after `h` heads of a block. -/
def qryUp (A : S512x256.Idx → EReal) (C : Fin 512 → Fin 256 → EReal) (h : ℕ) : S512x256.Idx → EReal := fun y =>
  A y + if (y 0).val < 64 * h then C (y 0) (y 1) else 0

/-- A key-side gradient after the blocks before `n`. -/
def keyTo (A : S512x2048.Idx → EReal) (C : Fin 512 → Fin 2048 → EReal) (n : ℕ) : S512x2048.Idx → EReal := fun y =>
  A y + if (y 1).val < 256 * n then C (y 0) (y 1) else 0

/-- The cumulative sum's gradient after the blocks before `n`. -/
def colTo (A : S2048x128.Idx → EReal) (C : Fin 2048 → Fin 128 → EReal) (n : ℕ) : S2048x128.Idx → EReal := fun y =>
  A y + if (y 1).val < 8 ∧ (y 0).val < 256 * n then C (y 0) (y 1) else 0

/-- The query gradient after the blocks before `n`. -/
def qryTo (A : S512x256.Idx → EReal) (C : Fin 8 → Fin 512 → Fin 256 → EReal) (n : ℕ) : S512x256.Idx → EReal := fun y =>
  A y + ∑ j : Fin 8, if j.val < n then C j (y 0) (y 1) else 0

theorem keyTo_zero (A : S512x2048.Idx → EReal) (C : Fin 512 → Fin 2048 → EReal) : keyTo A C 0 = A :=
  funext fun y => by unfold keyTo; rw [if_neg (by omega), add_zero]

theorem colTo_zero (A : S2048x128.Idx → EReal) (C : Fin 2048 → Fin 128 → EReal) : colTo A C 0 = A :=
  funext fun y => by unfold colTo; rw [if_neg (by omega), add_zero]

theorem qryTo_zero (A : S512x256.Idx → EReal) (C : Fin 8 → Fin 512 → Fin 256 → EReal) : qryTo A C 0 = A :=
  funext fun y => by unfold qryTo; simp

theorem keyUp_zero (A : S512x2048.Idx → EReal) (C : Fin 512 → Fin 2048 → EReal) (j : Fin 8) : keyUp A C j 0 = A :=
  funext fun y => by unfold keyUp; rw [if_neg (by omega), add_zero]

theorem colUp_zero (A : S2048x128.Idx → EReal) (C : Fin 2048 → Fin 128 → EReal) (j : Fin 8) : colUp A C j 0 = A :=
  funext fun y => by unfold colUp; rw [if_neg (by omega), add_zero]

theorem qryUp_zero (A : S512x256.Idx → EReal) (C : Fin 512 → Fin 256 → EReal) : qryUp A C 0 = A :=
  funext fun y => by unfold qryUp; rw [if_neg (by omega), add_zero]

/-- Heads not yet treated hold what they held. -/
theorem keyUp_of_le (A : S512x2048.Idx → EReal) (C : Fin 512 → Fin 2048 → EReal) (j : Fin 8) {h : ℕ} {y : S512x2048.Idx} (hy : 64 * h ≤ (y 0).val) :
    keyUp A C j h y = A y := by unfold keyUp; rw [if_neg (by omega), add_zero]

theorem colUp_of_le (A : S2048x128.Idx → EReal) (C : Fin 2048 → Fin 128 → EReal) (j : Fin 8) {h : ℕ} {y : S2048x128.Idx} (hy : h ≤ (y 1).val) :
    colUp A C j h y = A y := by unfold colUp; rw [if_neg (by omega), add_zero]

theorem qryUp_of_le (A : S512x256.Idx → EReal) (C : Fin 512 → Fin 256 → EReal) {h : ℕ} {y : S512x256.Idx} (hy : 64 * h ≤ (y 0).val) :
    qryUp A C h y = A y := by unfold qryUp; rw [if_neg (by omega), add_zero]

/-- The eighth head ends a block. -/
theorem keyUp_keyTo (A : S512x2048.Idx → EReal) (C : Fin 512 → Fin 2048 → EReal) (j : Fin 8) :
    keyUp (keyTo A C j.val) C j 8 = keyTo A C (j.val + 1) := by
  funext y
  have h0 : (y 0).val < 512 := (y 0).isLt
  unfold keyUp keyTo
  rw [add_assoc]
  refine congrArg (A y + ·) ?_
  by_cases h1 : (y 1).val < 256 * j.val
  · rw [if_pos h1, if_neg (by omega), if_pos (by omega), add_zero]
  · rw [if_neg h1, zero_add]
    exact if_congr (by omega) rfl rfl

theorem colUp_colTo (A : S2048x128.Idx → EReal) (C : Fin 2048 → Fin 128 → EReal) (j : Fin 8) :
    colUp (colTo A C j.val) C j 8 = colTo A C (j.val + 1) := by
  funext y
  unfold colUp colTo
  rw [add_assoc]
  refine congrArg (A y + ·) ?_
  by_cases h1 : (y 0).val < 256 * j.val
  · by_cases h2 : (y 1).val < 8
    · rw [if_pos ⟨h2, h1⟩, if_neg (by omega), if_pos (by omega), add_zero]
    · rw [if_neg (by omega), if_neg (by omega), if_neg (by omega), add_zero]
  · rw [if_neg (by omega), zero_add]
    exact if_congr (by omega) rfl rfl

theorem qryUp_qryTo (A : S512x256.Idx → EReal) (C : Fin 8 → Fin 512 → Fin 256 → EReal) (j : Fin 8) :
    qryUp (qryTo A C j.val) (C j) 8 = qryTo A C (j.val + 1) := by
  funext y
  have h0 : (y 0).val < 512 := (y 0).isLt
  unfold qryUp qryTo
  rw [add_assoc, if_pos (by omega)]
  refine congrArg (A y + ·) ?_
  rw [← Finset.sum_erase_add _ _ (Finset.mem_univ j), ← Finset.sum_erase_add _ _ (Finset.mem_univ j), if_neg (by omega), if_pos (by omega),
    add_zero]
  refine congrArg (· + _) (Finset.sum_congr rfl fun k hk => if_congr ?_ rfl rfl)
  have : k.val ≠ j.val := fun h => Finset.ne_of_mem_erase hk (Fin.ext h)
  omega

section Block

variable {I : Ins} {i j : Fin 8} {h : ℕ}
  {a1 : Memref sig .tc .vmem S512x256 .bf16} {a2 : Memref sig .tc .vmem S2048x512 .bf16} {a3 : Memref sig .tc .vmem S512x2048 .bf16}
  {a4 : Memref sig .tc .vmem S2048x512 .bf16} {a5 : Memref sig .tc .vmem S512x256 .bf16} {a6 : Memref sig .tc .vmem S8x256 .f32}
  {a7 : Memref sig .tc .vmem S8x256 .f32} {a8 : Memref sig .tc .vmem S2048x128 .f32} {a9 : Memref sig .tc .vmem S8x256 .f32}
  {X1 : a1.view.ty.Contents (Elt Ideal)} {X2 : a2.view.ty.Contents (Elt Ideal)} {X3 : a3.view.ty.Contents (Elt Ideal)}
  {X4 : a4.view.ty.Contents (Elt Ideal)} {X5 : a5.view.ty.Contents (Elt Ideal)} {X6 : a6.view.ty.Contents (Elt Ideal)}
  {X7 : a7.view.ty.Contents (Elt Ideal)} {X8 : a8.view.ty.Contents (Elt Ideal)} {X9 : a9.view.ty.Contents (Elt Ideal)}

/-- What a mask of block `j` has to do: hide the keys after their query. -/
def Masks (i j : Fin 8) (msk : FVec Ideal S256x256 .f32 → FVec Ideal S256x256 .f32) : Prop :=
  ∀ (s : FVec Ideal S256x256 .f32) (a b : Fin 256), msk s (ix2 a b) = if (tk j a).val ≤ 256 * i.val + b.val then s (ix2 a b) else ⊥

theorem pBlk_apply (H : Loaded I a1 a2 a3 a4 a5 a6 a7 a8 a9 X1 X2 X3 X4 X5 X6 X7 X8 X9)
    {msk : FVec Ideal S256x256 .f32 → FVec Ideal S256x256 .f32} (hm : Masks i j msk) (h : Fin 8)
    {o9 oc or o1 o6 : Fin 2 → ℕ} (i9 ic ir i1 i6)
    (h9 : o9 = ![h.val, 0]) (hc : oc = ![256 * j.val, h.val]) (hr : or = ![256 * j.val, 64 * h.val]) (h1 : o1 = ![64 * h.val, 0])
    (h6 : o6 = ![h.val, 0]) (a b : Fin 256) :
    pBlk msk (a9.view.readAt (Elt Ideal) (Rect.unit (s := S8x256) o9 S1x256.size i9).toLoadRect X9)
        (a8.view.readAt (Elt Ideal) (Rect.unit (s := S2048x128) oc S256x1.size ic).toLoadRect X8)
        (a2.view.readAt (Elt Ideal) (Rect.unit (s := S2048x512) or S256x64.size ir).toLoadRect X2)
        (a1.view.readAt (Elt Ideal) (Rect.unit (s := S512x256) o1 S64x256.size i1).toLoadRect X1)
        (a6.view.readAt (Elt Ideal) (Rect.unit (s := S8x256) o6 S1x256.size i6).toLoadRect X6) (ix2 a b) = I.pr i h (tk j a) b := by
  unfold pBlk
  rw [weight_apply, hm, score_apply, bias_apply]
  unfold Ins.pr Ins.sc
  rw [← H.h1, ← H.h2, ← H.h6, ← H.h8, ← H.h9]
  have e9 := readAt2 a9.view X9 i9 (0 : Fin 1) b h b h9 (by simp) (by simp)
  have e8 := readAt2 a8.view X8 ic a (0 : Fin 1) (tk j a) (ln h) hc rfl (by simp [ln])
  have e6 := readAt2 a6.view X6 i6 (0 : Fin 1) b h b h6 (by simp) (by simp)
  have e2 := fun d : Fin 64 => readAt2 a2.view X2 ir a d (tk j a) (ch h d) hr rfl rfl
  have e1 := fun d : Fin 64 => readAt2 a1.view X1 i1 d b (ch h d) b h1 rfl (by simp)
  refine congrArg Ideal.exp (congrArg₂ (fun x y : EReal => x - y) ?_ e6)
  refine if_congr Iff.rfl ?_ rfl
  refine congrArg₂ (fun x y : EReal => x + y) ?_ (congrArg₂ (fun x y : EReal => x - y) e9 e8)
  exact Finset.sum_congr rfl fun d _ => congrArg₂ (fun x y : EReal => x * y) (e2 d) (e1 d)

theorem dsBlk_apply (H : Loaded I a1 a2 a3 a4 a5 a6 a7 a8 a9 X1 X2 X3 X4 X5 X6 X7 X8 X9) (h : Fin 8)
    {p : FVec Ideal S256x256 .f32} (hp : ∀ a b : Fin 256, p (ix2 a b) = I.pr i h (tk j a) b)
    {or o5 o7 : Fin 2 → ℕ} (ir i5 i7) (hr : or = ![256 * j.val, 64 * h.val]) (h5 : o5 = ![64 * h.val, 0]) (h7 : o7 = ![h.val, 0])
    (a b : Fin 256) :
    dsBlk p (a4.view.readAt (Elt Ideal) (Rect.unit (s := S2048x512) or S256x64.size ir).toLoadRect X4)
        (a5.view.readAt (Elt Ideal) (Rect.unit (s := S512x256) o5 S64x256.size i5).toLoadRect X5)
        (a7.view.readAt (Elt Ideal) (Rect.unit (s := S8x256) o7 S1x256.size i7).toLoadRect X7) (ix2 a b) = I.ds i h (tk j a) b := by
  unfold dsBlk
  rw [grad_apply, feat_apply, hp]
  unfold Ins.ds Ins.dp
  rw [← H.h4, ← H.h5, ← H.h7]
  have e7 := readAt2 a7.view X7 i7 (0 : Fin 1) b h b h7 (by simp) (by simp)
  have e4 := fun d : Fin 64 => readAt2 a4.view X4 ir a d (tk j a) (ch h d) hr rfl rfl
  have e5 := fun d : Fin 64 => readAt2 a5.view X5 i5 d b (ch h d) b h5 rfl (by simp)
  refine congrArg (I.pr i h (tk j a) b * ·) (congrArg₂ (fun x y : EReal => x - y) ?_ e7)
  exact Finset.sum_congr rfl fun d _ => congrArg₂ (fun x y : EReal => x * y) (e4 d) (e5 d)

theorem hd_ch (h : Fin 8) (d : Fin 64) : hd (ch h d) = h := Fin.ext (by simp only [hd, ch]; omega)

theorem lh_ln (h : Fin 8) : lh (ln h) = h := Fin.ext (by simp only [lh, ln]; omega)

/-- A head's store to a key-side gradient. -/
theorem key_step {a : Memref sig .tc .vmem S512x2048 .f32} {ax : Memref sig .tc .vmem S512x256 .bf16} {Xx : ax.view.ty.Contents (Elt Ideal)}
    {f g : a.view.ty.Contents (Elt Ideal)} {L : List (View.Piece (Elt Ideal) S512x2048 .f32)} {A : S512x2048.Idx → EReal}
    {P : Fin 8 → Fin 2048 → Fin 256 → EReal} {x : S512x256.Idx → EReal} (hx : ax.view.read (Elt Ideal) Xx = x) (hh : h < 8)
    {p : FVec Ideal S256x256 .f32} (hp : ∀ a b : Fin 256, p (ix2 a b) = P ⟨h, hh⟩ (tk j a) b)
    {ok ox : Fin 2 → ℕ} (ik ix) (hk : ok = ![64 * h, 256 * j.val]) (ho : ox = ![64 * h, 0])
    (hg : ∀ y : S512x2048.Idx, a.view.read (Elt Ideal) (a.view.writes (Elt Ideal) f L) y = A y → a.view.read (Elt Ideal) g y = A y)
    (hL : a.view.read (Elt Ideal) (a.view.writes (Elt Ideal) f L) = keyUp A (fun c t => ∑ b : Fin 256, x (ix2 c b) * P (hd c) t b) j h) :
    a.view.read (Elt Ideal) (a.view.writes (Elt Ideal) f
        ((⟨Rect.unit (s := S512x2048) ok S64x256.size ik, keyNew p (a.view.readAt (Elt Ideal) (Rect.unit (s := S512x2048) ok S64x256.size ik).toLoadRect g)
          (ax.view.readAt (Elt Ideal) (Rect.unit (s := S512x256) ox S64x256.size ix).toLoadRect Xx)⟩ : View.Piece (Elt Ideal) S512x2048 .f32) :: L))
      = keyUp A (fun c t => ∑ b : Fin 256, x (ix2 c b) * P (hd c) t b) j (h + 1) := by
  subst hx
  refine step2 a.view f L ik _ _ _ hk hL (fun c t hn => ?_) fun d b c t hc ht => ?_
  · refine congrArg (A (ix2 c t) + ·) (if_congr ?_ rfl rfl)
    show (c.val < 64 * (h + 1) ∧ _ ≤ t.val ∧ t.val < _) ↔ (c.val < 64 * h ∧ _ ≤ t.val ∧ t.val < _)
    omega
  · rw [keyNew_apply]
    have ec : c = ch ⟨h, hh⟩ d := Fin.ext hc
    have et : t = tk j b := Fin.ext ht
    show _ = A (ix2 c t) + if c.val < 64 * (h + 1) ∧ 256 * j.val ≤ t.val ∧ t.val < 256 * j.val + 256 then _ else _
    rw [if_pos (by omega)]
    refine congrArg₂ (fun x y : EReal => x + y) ((readAt2 a.view g ik d b c t hk hc ht).trans (hg _ ((congrFun hL _).trans (keyUp_of_le _ _ _ ?_)))) ?_
    · show 64 * h ≤ c.val
      omega
    · refine Finset.sum_congr rfl fun b' _ => congrArg₂ (fun x y : EReal => x * y) ?_ ?_
      · exact readAt2 ax.view Xx ix d b' c b' ho hc (by simp)
      · rw [hp, et, ec]
        exact (congrArg (fun z => P z (tk j b) b') (hd_ch ⟨h, hh⟩ d)).symm

/-- A head's store to the cumulative sum's gradient. -/
theorem col_step {a : Memref sig .tc .vmem S2048x128 .f32}
    {f g : a.view.ty.Contents (Elt Ideal)} {L : List (View.Piece (Elt Ideal) S2048x128 .f32)} {A : S2048x128.Idx → EReal}
    {P : Fin 8 → Fin 2048 → Fin 256 → EReal} (hh : h < 8)
    {p : FVec Ideal S256x256 .f32} (hp : ∀ a b : Fin 256, p (ix2 a b) = P ⟨h, hh⟩ (tk j a) b)
    {ok : Fin 2 → ℕ} (ik) (hk : ok = ![256 * j.val, h])
    (hg : ∀ y : S2048x128.Idx, a.view.read (Elt Ideal) (a.view.writes (Elt Ideal) f L) y = A y → a.view.read (Elt Ideal) g y = A y)
    (hL : a.view.read (Elt Ideal) (a.view.writes (Elt Ideal) f L) = colUp A (fun t l => 0 - ∑ b : Fin 256, P (lh l) t b) j h) :
    a.view.read (Elt Ideal) (a.view.writes (Elt Ideal) f
        ((⟨Rect.unit (s := S2048x128) ok S256x1.size ik, colNew p (a.view.readAt (Elt Ideal) (Rect.unit (s := S2048x128) ok S256x1.size ik).toLoadRect g)⟩ : View.Piece (Elt Ideal) S2048x128 .f32) :: L))
      = colUp A (fun t l => 0 - ∑ b : Fin 256, P (lh l) t b) j (h + 1) := by
  refine step2 a.view f L ik _ _ _ hk hL (fun t l hn => ?_) fun d b t l ht hl => ?_
  · refine congrArg (A (ix2 t l) + ·) (if_congr ?_ rfl rfl)
    show (l.val < h + 1 ∧ _ ≤ t.val ∧ t.val < _) ↔ (l.val < h ∧ _ ≤ t.val ∧ t.val < _)
    omega
  · obtain rfl : b = 0 := Fin.ext (by omega)
    rw [colNew_apply]
    have et : t = tk j d := Fin.ext ht
    have el : l = ln ⟨h, hh⟩ := Fin.ext (by simpa [ln] using hl)
    show _ = A (ix2 t l) + if l.val < h + 1 ∧ 256 * j.val ≤ t.val ∧ t.val < 256 * j.val + 256 then _ else _
    rw [if_pos (by have : l.val = h := by simpa using hl
                   omega)]
    refine congrArg₂ (fun x y : EReal => x + y) ((readAt2 a.view g ik d (0 : Fin 1) t l hk ht hl).trans (hg _ ((congrFun hL _).trans (colUp_of_le _ _ _ ?_)))) ?_
    · show h ≤ l.val
      omega
    · refine congrArg (fun x : EReal => 0 - x) (Finset.sum_congr rfl fun b' _ => ?_)
      rw [hp, et, el]
      exact (congrArg (fun z => P z (tk j d) b') (lh_ln ⟨h, hh⟩)).symm

/-- A head's store to the query gradient. -/
theorem qry_step {a : Memref sig .tc .vmem S512x256 .f32} {ax : Memref sig .tc .vmem S512x2048 .bf16} {Xx : ax.view.ty.Contents (Elt Ideal)}
    {f g : a.view.ty.Contents (Elt Ideal)} {L : List (View.Piece (Elt Ideal) S512x256 .f32)} {A : S512x256.Idx → EReal}
    {P : Fin 8 → Fin 2048 → Fin 256 → EReal} {x : S512x2048.Idx → EReal} (hx : ax.view.read (Elt Ideal) Xx = x) (hh : h < 8)
    {p : FVec Ideal S256x256 .f32} (hp : ∀ a b : Fin 256, p (ix2 a b) = P ⟨h, hh⟩ (tk j a) b)
    {ok ox : Fin 2 → ℕ} (ik ix) (hk : ok = ![64 * h, 0]) (ho : ox = ![64 * h, 256 * j.val])
    (hg : ∀ y : S512x256.Idx, a.view.read (Elt Ideal) (a.view.writes (Elt Ideal) f L) y = A y → a.view.read (Elt Ideal) g y = A y)
    (hL : a.view.read (Elt Ideal) (a.view.writes (Elt Ideal) f L)
      = qryUp A (fun c b => ∑ s : Fin 256, x (ix2 c (tk j s)) * P (hd c) (tk j s) b) h) :
    a.view.read (Elt Ideal) (a.view.writes (Elt Ideal) f
        ((⟨Rect.unit (s := S512x256) ok S64x256.size ik, qryNew p (a.view.readAt (Elt Ideal) (Rect.unit (s := S512x256) ok S64x256.size ik).toLoadRect g)
          (ax.view.readAt (Elt Ideal) (Rect.unit (s := S512x2048) ox S64x256.size ix).toLoadRect Xx)⟩ : View.Piece (Elt Ideal) S512x256 .f32) :: L))
      = qryUp A (fun c b => ∑ s : Fin 256, x (ix2 c (tk j s)) * P (hd c) (tk j s) b) (h + 1) := by
  subst hx
  refine step2 a.view f L ik _ _ _ hk hL (fun c t hn => ?_) fun d b c t hc ht => ?_
  · refine congrArg (A (ix2 c t) + ·) (if_congr ?_ rfl rfl)
    show c.val < 64 * (h + 1) ↔ c.val < 64 * h
    have := t.isLt
    omega
  · rw [qryNew_apply]
    have ec : c = ch ⟨h, hh⟩ d := Fin.ext hc
    have et : t = b := Fin.ext (by simpa using ht)
    show _ = A (ix2 c t) + if c.val < 64 * (h + 1) then _ else _
    rw [if_pos (by omega)]
    refine congrArg₂ (fun x y : EReal => x + y) ((readAt2 a.view g ik d b c t hk hc ht).trans (hg _ ((congrFun hL _).trans (qryUp_of_le _ _ ?_)))) ?_
    · show 64 * h ≤ c.val
      omega
    · refine Finset.sum_congr rfl fun s _ => congrArg₂ (fun x y : EReal => x * y) ?_ ?_
      · exact readAt2 ax.view Xx ix d s c (tk j s) ho hc rfl
      · rw [hp, et, ec]
        exact (congrArg (fun z => P z (tk j s) b) (hd_ch ⟨h, hh⟩ d)).symm

/-- A head's store to the key gradient, from the loaded rectangles. -/
theorem dk_step (H : Loaded I a1 a2 a3 a4 a5 a6 a7 a8 a9 X1 X2 X3 X4 X5 X6 X7 X8 X9)
    {msk : FVec Ideal S256x256 .f32 → FVec Ideal S256x256 .f32} (hm : Masks i j msk) (hh : h < 8)
    {a : Memref sig .tc .vmem S512x2048 .f32} {f g : a.view.ty.Contents (Elt Ideal)} {L : List (View.Piece (Elt Ideal) S512x2048 .f32)}
    {A : S512x2048.Idx → EReal} {o9 oc or o1 o6 or' o5 o7 ok ox : Fin 2 → ℕ} (i9 ic ir i1 i6 ir' i5 i7 ik ix)
    (h9 : o9 = ![h, 0]) (hc : oc = ![256 * j.val, h]) (hr : or = ![256 * j.val, 64 * h]) (h1 : o1 = ![64 * h, 0])
    (h6 : o6 = ![h, 0]) (hr' : or' = ![256 * j.val, 64 * h]) (h5 : o5 = ![64 * h, 0]) (h7 : o7 = ![h, 0]) (hk : ok = ![64 * h, 256 * j.val]) (ho : ox = ![64 * h, 0])
    (hg : ∀ y : S512x2048.Idx, a.view.read (Elt Ideal) (a.view.writes (Elt Ideal) f L) y = A y → a.view.read (Elt Ideal) g y = A y)
    (hL : a.view.read (Elt Ideal) (a.view.writes (Elt Ideal) f L) = keyUp A (I.dk i) j h) :
    a.view.read (Elt Ideal) (a.view.writes (Elt Ideal) f
        ((⟨Rect.unit (s := S512x2048) ok S64x256.size ik, keyNew
          (dsBlk (pBlk msk (a9.view.readAt (Elt Ideal) (Rect.unit (s := S8x256) o9 S1x256.size i9).toLoadRect X9)
            (a8.view.readAt (Elt Ideal) (Rect.unit (s := S2048x128) oc S256x1.size ic).toLoadRect X8)
            (a2.view.readAt (Elt Ideal) (Rect.unit (s := S2048x512) or S256x64.size ir).toLoadRect X2)
            (a1.view.readAt (Elt Ideal) (Rect.unit (s := S512x256) o1 S64x256.size i1).toLoadRect X1)
            (a6.view.readAt (Elt Ideal) (Rect.unit (s := S8x256) o6 S1x256.size i6).toLoadRect X6))
            (a4.view.readAt (Elt Ideal) (Rect.unit (s := S2048x512) or' S256x64.size ir').toLoadRect X4)
            (a5.view.readAt (Elt Ideal) (Rect.unit (s := S512x256) o5 S64x256.size i5).toLoadRect X5)
            (a7.view.readAt (Elt Ideal) (Rect.unit (s := S8x256) o7 S1x256.size i7).toLoadRect X7))
          (a.view.readAt (Elt Ideal) (Rect.unit (s := S512x2048) ok S64x256.size ik).toLoadRect g)
          (a1.view.readAt (Elt Ideal) (Rect.unit (s := S512x256) ox S64x256.size ix).toLoadRect X1)⟩ : View.Piece (Elt Ideal) S512x2048 .f32) :: L))
      = keyUp A (I.dk i) j (h + 1) :=
  key_step (P := I.ds i) H.h1 hh (dsBlk_apply H ⟨h, hh⟩ (pBlk_apply H hm ⟨h, hh⟩ _ _ _ _ _ h9 hc hr h1 h6) _ _ _ hr' h5 h7) _ _ hk ho hg hL

/-- A head's store to the value gradient, from the loaded rectangles. -/
theorem dv_step (H : Loaded I a1 a2 a3 a4 a5 a6 a7 a8 a9 X1 X2 X3 X4 X5 X6 X7 X8 X9)
    {msk : FVec Ideal S256x256 .f32 → FVec Ideal S256x256 .f32} (hm : Masks i j msk) (hh : h < 8)
    {a : Memref sig .tc .vmem S512x2048 .f32} {f g : a.view.ty.Contents (Elt Ideal)} {L : List (View.Piece (Elt Ideal) S512x2048 .f32)}
    {A : S512x2048.Idx → EReal} {o9 oc or o1 o6 ok ox : Fin 2 → ℕ} (i9 ic ir i1 i6 ik ix)
    (h9 : o9 = ![h, 0]) (hc : oc = ![256 * j.val, h]) (hr : or = ![256 * j.val, 64 * h]) (h1 : o1 = ![64 * h, 0])
    (h6 : o6 = ![h, 0]) (hk : ok = ![64 * h, 256 * j.val]) (ho : ox = ![64 * h, 0])
    (hg : ∀ y : S512x2048.Idx, a.view.read (Elt Ideal) (a.view.writes (Elt Ideal) f L) y = A y → a.view.read (Elt Ideal) g y = A y)
    (hL : a.view.read (Elt Ideal) (a.view.writes (Elt Ideal) f L) = keyUp A (I.dv i) j h) :
    a.view.read (Elt Ideal) (a.view.writes (Elt Ideal) f
        ((⟨Rect.unit (s := S512x2048) ok S64x256.size ik, keyNew
          (pBlk msk (a9.view.readAt (Elt Ideal) (Rect.unit (s := S8x256) o9 S1x256.size i9).toLoadRect X9)
            (a8.view.readAt (Elt Ideal) (Rect.unit (s := S2048x128) oc S256x1.size ic).toLoadRect X8)
            (a2.view.readAt (Elt Ideal) (Rect.unit (s := S2048x512) or S256x64.size ir).toLoadRect X2)
            (a1.view.readAt (Elt Ideal) (Rect.unit (s := S512x256) o1 S64x256.size i1).toLoadRect X1)
            (a6.view.readAt (Elt Ideal) (Rect.unit (s := S8x256) o6 S1x256.size i6).toLoadRect X6))
          (a.view.readAt (Elt Ideal) (Rect.unit (s := S512x2048) ok S64x256.size ik).toLoadRect g)
          (a5.view.readAt (Elt Ideal) (Rect.unit (s := S512x256) ox S64x256.size ix).toLoadRect X5)⟩ : View.Piece (Elt Ideal) S512x2048 .f32) :: L))
      = keyUp A (I.dv i) j (h + 1) :=
  key_step (P := I.pr i) H.h5 hh (pBlk_apply H hm ⟨h, hh⟩ _ _ _ _ _ h9 hc hr h1 h6) _ _ hk ho hg hL

/-- A head's store to the cumulative sum's gradient, from the loaded rectangles. -/
theorem dc_step (H : Loaded I a1 a2 a3 a4 a5 a6 a7 a8 a9 X1 X2 X3 X4 X5 X6 X7 X8 X9)
    {msk : FVec Ideal S256x256 .f32 → FVec Ideal S256x256 .f32} (hm : Masks i j msk) (hh : h < 8)
    {a : Memref sig .tc .vmem S2048x128 .f32} {f g : a.view.ty.Contents (Elt Ideal)} {L : List (View.Piece (Elt Ideal) S2048x128 .f32)}
    {A : S2048x128.Idx → EReal} {o9 oc or o1 o6 or' o5 o7 ok : Fin 2 → ℕ} (i9 ic ir i1 i6 ir' i5 i7 ik)
    (h9 : o9 = ![h, 0]) (hc : oc = ![256 * j.val, h]) (hr : or = ![256 * j.val, 64 * h]) (h1 : o1 = ![64 * h, 0])
    (h6 : o6 = ![h, 0]) (hr' : or' = ![256 * j.val, 64 * h]) (h5 : o5 = ![64 * h, 0]) (h7 : o7 = ![h, 0]) (hk : ok = ![256 * j.val, h])
    (hg : ∀ y : S2048x128.Idx, a.view.read (Elt Ideal) (a.view.writes (Elt Ideal) f L) y = A y → a.view.read (Elt Ideal) g y = A y)
    (hL : a.view.read (Elt Ideal) (a.view.writes (Elt Ideal) f L) = colUp A (I.dc i) j h) :
    a.view.read (Elt Ideal) (a.view.writes (Elt Ideal) f
        ((⟨Rect.unit (s := S2048x128) ok S256x1.size ik, colNew
          (dsBlk (pBlk msk (a9.view.readAt (Elt Ideal) (Rect.unit (s := S8x256) o9 S1x256.size i9).toLoadRect X9)
            (a8.view.readAt (Elt Ideal) (Rect.unit (s := S2048x128) oc S256x1.size ic).toLoadRect X8)
            (a2.view.readAt (Elt Ideal) (Rect.unit (s := S2048x512) or S256x64.size ir).toLoadRect X2)
            (a1.view.readAt (Elt Ideal) (Rect.unit (s := S512x256) o1 S64x256.size i1).toLoadRect X1)
            (a6.view.readAt (Elt Ideal) (Rect.unit (s := S8x256) o6 S1x256.size i6).toLoadRect X6))
            (a4.view.readAt (Elt Ideal) (Rect.unit (s := S2048x512) or' S256x64.size ir').toLoadRect X4)
            (a5.view.readAt (Elt Ideal) (Rect.unit (s := S512x256) o5 S64x256.size i5).toLoadRect X5)
            (a7.view.readAt (Elt Ideal) (Rect.unit (s := S8x256) o7 S1x256.size i7).toLoadRect X7))
          (a.view.readAt (Elt Ideal) (Rect.unit (s := S2048x128) ok S256x1.size ik).toLoadRect g)⟩ : View.Piece (Elt Ideal) S2048x128 .f32) :: L))
      = colUp A (I.dc i) j (h + 1) :=
  col_step (P := I.ds i) hh (dsBlk_apply H ⟨h, hh⟩ (pBlk_apply H hm ⟨h, hh⟩ _ _ _ _ _ h9 hc hr h1 h6) _ _ _ hr' h5 h7) _ hk hg hL

/-- A head's store to the query gradient, from the loaded rectangles. -/
theorem dq_step (H : Loaded I a1 a2 a3 a4 a5 a6 a7 a8 a9 X1 X2 X3 X4 X5 X6 X7 X8 X9)
    {msk : FVec Ideal S256x256 .f32 → FVec Ideal S256x256 .f32} (hm : Masks i j msk) (hh : h < 8)
    {a : Memref sig .tc .vmem S512x256 .f32} {f g : a.view.ty.Contents (Elt Ideal)} {L : List (View.Piece (Elt Ideal) S512x256 .f32)}
    {A : S512x256.Idx → EReal} {o9 oc or o1 o6 or' o5 o7 ok ox : Fin 2 → ℕ} (i9 ic ir i1 i6 ir' i5 i7 ik ix)
    (h9 : o9 = ![h, 0]) (hc : oc = ![256 * j.val, h]) (hr : or = ![256 * j.val, 64 * h]) (h1 : o1 = ![64 * h, 0])
    (h6 : o6 = ![h, 0]) (hr' : or' = ![256 * j.val, 64 * h]) (h5 : o5 = ![64 * h, 0]) (h7 : o7 = ![h, 0]) (hk : ok = ![64 * h, 0]) (ho : ox = ![64 * h, 256 * j.val])
    (hg : ∀ y : S512x256.Idx, a.view.read (Elt Ideal) (a.view.writes (Elt Ideal) f L) y = A y → a.view.read (Elt Ideal) g y = A y)
    (hL : a.view.read (Elt Ideal) (a.view.writes (Elt Ideal) f L) = qryUp A (I.dq i j) h) :
    a.view.read (Elt Ideal) (a.view.writes (Elt Ideal) f
        ((⟨Rect.unit (s := S512x256) ok S64x256.size ik, qryNew
          (dsBlk (pBlk msk (a9.view.readAt (Elt Ideal) (Rect.unit (s := S8x256) o9 S1x256.size i9).toLoadRect X9)
            (a8.view.readAt (Elt Ideal) (Rect.unit (s := S2048x128) oc S256x1.size ic).toLoadRect X8)
            (a2.view.readAt (Elt Ideal) (Rect.unit (s := S2048x512) or S256x64.size ir).toLoadRect X2)
            (a1.view.readAt (Elt Ideal) (Rect.unit (s := S512x256) o1 S64x256.size i1).toLoadRect X1)
            (a6.view.readAt (Elt Ideal) (Rect.unit (s := S8x256) o6 S1x256.size i6).toLoadRect X6))
            (a4.view.readAt (Elt Ideal) (Rect.unit (s := S2048x512) or' S256x64.size ir').toLoadRect X4)
            (a5.view.readAt (Elt Ideal) (Rect.unit (s := S512x256) o5 S64x256.size i5).toLoadRect X5)
            (a7.view.readAt (Elt Ideal) (Rect.unit (s := S8x256) o7 S1x256.size i7).toLoadRect X7))
          (a.view.readAt (Elt Ideal) (Rect.unit (s := S512x256) ok S64x256.size ik).toLoadRect g)
          (a3.view.readAt (Elt Ideal) (Rect.unit (s := S512x2048) ox S64x256.size ix).toLoadRect X3)⟩ : View.Piece (Elt Ideal) S512x256 .f32) :: L))
      = qryUp A (I.dq i j) (h + 1) :=
  qry_step (P := I.ds i) H.h3 hh (dsBlk_apply H ⟨h, hh⟩ (pBlk_apply H hm ⟨h, hh⟩ _ _ _ _ _ h9 hc hr h1 h6) _ _ _ hr' h5 h7) _ _ hk ho hg hL

end Block

end Cert.KernelIdeal.Att

end
-- ==== Proof.Reals.lean ====
/-
  The backward pass of the forgetting attention over the real numbers.

  `RIn` holds the five arguments as real matrices. The functions after it are the scores, the softmax weights, the
  gradients of the weights and of the scores at (head, query, key), and the four results. `M` is the number that is
  subtracted from a query's scores before exponentiation. The lemmas at the end read the operations of extended reals
  at real numbers.
-/
module

public import proofs.«01_k».proof.Proof.Block

@[expose] public section

noncomputable section

namespace Cert.Att

open Idealize.ShloMosaic
open Cert.KernelIdeal.Att (ch hd ln)

/-- The queries, keys, values and the output's gradient, (token, channel), and the cumulative forget gates, (token,
    lane). -/
structure RIn where
  q : Fin 2048 → Fin 512 → ℝ
  k : Fin 2048 → Fin 512 → ℝ
  v : Fin 2048 → Fin 512 → ℝ
  g : Fin 2048 → Fin 512 → ℝ
  u : Fin 2048 → Fin 128 → ℝ

variable (R : RIn) (M : Fin 8 → Fin 2048 → ℝ)

namespace RIn

/-- The score of a key for a query. -/
def s (h : Fin 8) (q t : Fin 2048) : ℝ := (∑ d : Fin 64, R.q q (ch h d) * R.k t (ch h d)) * (1 / 8) + R.u q (ln h) - R.u t (ln h)

/-- The exponential of a score of a key that is not after the query. -/
def e (h : Fin 8) (q t : Fin 2048) : ℝ := if t ≤ q then Real.exp (R.s h q t - M h q) else 0

/-- A query's sum of exponentials. -/
def z (h : Fin 8) (q : Fin 2048) : ℝ := ∑ t : Fin 2048, R.e M h q t

/-- The softmax weight. -/
def p (h : Fin 8) (q t : Fin 2048) : ℝ := R.e M h q t / R.z M h q

/-- The attention's output, at (query, channel). -/
def o (q : Fin 2048) (h : Fin 8) (d : Fin 64) : ℝ := ∑ t : Fin 2048, R.v t (ch h d) * R.p M h q t

/-- The gradient of a weight. -/
def dp (h : Fin 8) (q t : Fin 2048) : ℝ := ∑ d : Fin 64, R.g q (ch h d) * R.v t (ch h d)

/-- A query's weighted sum of the weights' gradients. -/
def row (h : Fin 8) (q : Fin 2048) : ℝ := ∑ t : Fin 2048, R.p M h q t * R.dp h q t

/-- The gradient of a score. -/
def ds (h : Fin 8) (q t : Fin 2048) : ℝ := R.p M h q t * (R.dp h q t - R.row M h q)

/-- The gradient of the values, at (channel, key). -/
def dv (c : Fin 512) (t : Fin 2048) : ℝ := ∑ q : Fin 2048, R.g q c * R.p M (hd c) q t

/-- The gradient of the keys, at (channel, key). -/
def dk (c : Fin 512) (t : Fin 2048) : ℝ := ∑ q : Fin 2048, R.ds M (hd c) q t * (1 / 8) * R.q q c

/-- The gradient of the queries, at (channel, query). -/
def dq (c : Fin 512) (q : Fin 2048) : ℝ := ∑ t : Fin 2048, R.ds M (hd c) q t * (1 / 8) * R.k t c

/-- The gradient of the cumulative gates, at (token, head): a token is a key of all queries. -/
def du (h : Fin 8) (t : Fin 2048) : ℝ := -∑ q : Fin 2048, R.ds M h q t

theorem e_nonneg (h : Fin 8) (q t : Fin 2048) : 0 ≤ R.e M h q t := by
  unfold e; split
  · exact (Real.exp_pos _).le
  · exact le_rfl

theorem z_pos (h : Fin 8) (q : Fin 2048) : 0 < R.z M h q :=
  Finset.sum_pos' (fun t _ => R.e_nonneg M h q t) ⟨q, Finset.mem_univ _, by unfold e; rw [if_pos le_rfl]; exact Real.exp_pos _⟩

theorem p_late (h : Fin 8) (q t : Fin 2048) (ht : ¬ t ≤ q) : R.p M h q t = 0 := by
  unfold p e; rw [if_neg ht, zero_div]

theorem ds_late (h : Fin 8) (q t : Fin 2048) (ht : ¬ t ≤ q) : R.ds M h q t = 0 := by
  unfold ds; rw [R.p_late M h q t ht, zero_mul]

theorem sum_p (h : Fin 8) (q : Fin 2048) : ∑ t : Fin 2048, R.p M h q t = 1 := by
  unfold p; rw [← Finset.sum_div]; exact div_self (R.z_pos M h q).ne'

/-- The gradients of a query's scores sum to zero: adding a constant to all of them changes no weight. -/
theorem sum_ds (h : Fin 8) (q : Fin 2048) : ∑ t : Fin 2048, R.ds M h q t = 0 := by
  unfold ds
  simp only [mul_sub, Finset.sum_sub_distrib]
  rw [← Finset.sum_mul, R.sum_p M h q, one_mul]
  exact sub_self _

/-- The weighted sum of the weights' gradients is the product of the output's gradient with the output. -/
theorem row_eq (h : Fin 8) (q : Fin 2048) : R.row M h q = ∑ d : Fin 64, R.g q (ch h d) * R.o M q h d := by
  unfold row dp o
  simp only [Finset.mul_sum]
  rw [Finset.sum_comm]
  exact Finset.sum_congr rfl fun d _ => Finset.sum_congr rfl fun t _ => by ring

/-- The form in which the gradient of a softmax is computed from the exponentials. -/
theorem ds_form (h : Fin 8) (q t : Fin 2048) :
    (R.dp h q t / R.z M h q + -∑ t' : Fin 2048, R.dp h q t' * (1 / (R.z M h q * R.z M h q)) * R.e M h q t') * R.e M h q t = R.ds M h q t := by
  have hz := (R.z_pos M h q).ne'
  have hr : (∑ t' : Fin 2048, R.dp h q t' * (1 / (R.z M h q * R.z M h q)) * R.e M h q t') = R.row M h q / R.z M h q := by
    unfold row p
    rw [Finset.sum_div]
    exact Finset.sum_congr rfl fun t' _ => by field_simp
  rw [hr]
  unfold ds p
  field_simp
  ring

/-- A weight from the logarithm of the sum of exponentials. -/
theorem exp_lse (h : Fin 8) (q t : Fin 2048) (ht : t ≤ q) : Real.exp (R.s h q t - (M h q + Real.log (R.z M h q))) = R.p M h q t := by
  unfold p e
  rw [if_pos ht, ← sub_sub, Real.exp_sub, Real.exp_log (R.z_pos M h q)]

end RIn

/-! ### Operations of extended reals at real numbers -/

section Coe

variable {a b : EReal} {x y : ℝ}

theorem coe_sum {ι : Type} (S : Finset ι) (f : ι → ℝ) : (∑ i ∈ S, (f i : EReal)) = ((∑ i ∈ S, f i : ℝ) : EReal) := by
  classical
  induction S using Finset.induction_on with
  | empty => simp
  | insert i S hi ih => rw [Finset.sum_insert hi, Finset.sum_insert hi, ih, EReal.coe_add]

theorem sum_of {ι : Type} [Fintype ι] (F : ι → EReal) (f : ι → ℝ) (h : ∀ i, F i = (f i : EReal)) : (∑ i, F i) = ((∑ i, f i : ℝ) : EReal) :=
  (Finset.sum_congr rfl fun i _ => h i).trans (coe_sum _ f)

theorem zero_add_sum_of {ι : Type} [Fintype ι] {z : EReal} (hz : z = 0) (F : ι → EReal) (f : ι → ℝ) (h : ∀ i, F i = (f i : EReal)) :
    (z + ∑ i, F i) = ((∑ i, f i : ℝ) : EReal) := by rw [hz, zero_add]; exact sum_of F f h

theorem mul_of (ha : a = (x : EReal)) (hb : b = (y : EReal)) : a * b = ((x * y : ℝ) : EReal) := by rw [ha, hb, EReal.coe_mul]
theorem add_of (ha : a = (x : EReal)) (hb : b = (y : EReal)) : a + b = ((x + y : ℝ) : EReal) := by rw [ha, hb, EReal.coe_add]
theorem sub_of (ha : a = (x : EReal)) (hb : b = (y : EReal)) : a - b = ((x - y : ℝ) : EReal) := by rw [ha, hb, EReal.coe_sub]
theorem neg_of (ha : a = (x : EReal)) : -a = ((-x : ℝ) : EReal) := by rw [ha, EReal.coe_neg]
theorem div_of (ha : a = (x : EReal)) (hb : b = (y : EReal)) (hy : y ≠ 0) : Ideal.div a b = ((x / y : ℝ) : EReal) := by
  rw [ha, hb, Ideal.div_coe hy, ← EReal.coe_mul]; congr 1; ring

theorem eighth : Ideal.ofBits .f32 0x3E000000#32 = ((1 / 8 : ℝ) : EReal) := by
  simp [Ideal.ofBits, Ideal.ieee, -EReal.coe_mul]; norm_num
theorem unit : Ideal.ofBits .f32 0x3F800000#32 = ((1 : ℝ) : EReal) := by
  simp [Ideal.ofBits, Ideal.ieee, -EReal.coe_mul]; norm_num
theorem minusInf : Ideal.ofBits .f32 0xFF800000#32 = ⊥ := by
  simp [Ideal.ofBits, Ideal.ieee, -EReal.coe_mul]

/-- The exponential of a masked score. -/
theorem exp_masked (R : RIn) (M : Fin 8 → Fin 2048 → ℝ) (h : Fin 8) (q t : Fin 2048) :
    Ideal.exp ((if t.val ≤ q.val then (R.s h q t : EReal) else ⊥) - (M h q : EReal)) = (R.e M h q t : EReal) := by
  unfold RIn.e
  by_cases hc : t.val ≤ q.val
  · rw [if_pos hc, if_pos (show t ≤ q from hc), ← EReal.coe_sub, Ideal.exp_coe]
  · rw [if_neg hc, if_neg (show ¬ t ≤ q from hc), EReal.bot_sub, Ideal.exp_bot, EReal.coe_zero]

/-- Of a family of extended reals below infinity of which one is real, the greatest is real. -/
theorem fold_max_real {n : ℕ} (F : Fin n → EReal) (hT : ∀ i, F i ≠ ⊤) (j : Fin n) (hj : F j ≠ ⊥) :
    ∃ r : ℝ, (Finset.univ : Finset (Fin n)).fold max ⊥ F = (r : EReal) := by
  have hle : F j ≤ (Finset.univ : Finset (Fin n)).fold max ⊥ F := (Finset.le_fold_max (F j)).2 (Or.inr ⟨j, Finset.mem_univ _, le_rfl⟩)
  have hlt : (Finset.univ : Finset (Fin n)).fold max ⊥ F < ⊤ := (Finset.fold_max_lt ⊤).2 ⟨bot_lt_top, fun i _ => lt_top_iff_ne_top.2 (hT i)⟩
  refine ⟨((Finset.univ : Finset (Fin n)).fold max ⊥ F).toReal, (EReal.coe_toReal hlt.ne ?_).symm⟩
  intro hb
  rw [hb, le_bot_iff] at hle
  exact hj hle

end Coe

end Cert.Att
-- ==== Proof.Ref.lean ====
/-
  The reference read at real arguments: each stage of the reference, at an index, is a function of `RIn`.

  The stages are taken in the program's order. A statement is about an index `i` and names its coordinates, and
  the proof reads the stage from the stages before.
-/
module

public import proofs.«01_k».proof.Proof.Reals
public import proofs.«01_k».proof.Proof.Gen.ReferenceIdeal.Read
public import Idealize.ShloMosaic.Lib.KernelVsHost

@[expose] public section

set_option maxRecDepth 16384

noncomputable section

namespace Cert.Att.Ref

open Idealize.ShloMosaic
open Cert.ReferenceIdeal Cert.ReferenceIdeal.Gen Cert.ReferenceIdeal.Read
open Cert.KernelIdeal.Att (ch hd ln)

/-- The arguments hold real numbers. -/
structure Holds (R : RIn) (x0 x1 x2 : S2048x512.Idx → EReal) (x3 : S2048x128.Idx → EReal) (x4 : S2048x512.Idx → EReal) : Prop where
  q : ∀ i, x0 i = (R.q (i 0) (i 1) : EReal)
  k : ∀ i, x1 i = (R.k (i 0) (i 1) : EReal)
  v : ∀ i, x2 i = (R.v (i 0) (i 1) : EReal)
  u : ∀ i, x3 i = (R.u (i 0) (i 1) : EReal)
  g : ∀ i, x4 i = (R.g (i 0) (i 1) : EReal)

variable {R : RIn} {x0 x1 x2 : S2048x512.Idx → EReal} {x3 : S2048x128.Idx → EReal} {x4 : S2048x512.Idx → EReal}
variable (H : Holds R x0 x1 x2 x3 x4)

/-- The row and the column of an entry of a (token, channel) matrix that is split into (token, head, channel of the head). -/
theorem split_row (a : Fin 2048) (b : Fin 8) (c : Fin 64) (hlt : ((a.val * 8 + b.val) * 64 + c.val) / 512 < 2048) :
    (⟨((a.val * 8 + b.val) * 64 + c.val) / 512, hlt⟩ : Fin 2048) = a := Fin.ext (by show ((a.val * 8 + b.val) * 64 + c.val) / 512 = a.val; omega)

theorem split_col (a : Fin 2048) (b : Fin 8) (c : Fin 64) (hlt : ((a.val * 8 + b.val) * 64 + c.val) % 512 < 512) :
    (⟨((a.val * 8 + b.val) * 64 + c.val) % 512, hlt⟩ : Fin 512) = ch b c :=
  Fin.ext (by show ((a.val * 8 + b.val) * 64 + c.val) % 512 = (ch b c).val; unfold ch; simp only []; omega)

include H

/-! ### The scores -/

theorem s0 (i : S2048x8x64.Idx) : val_main_v0 (F := Ideal) x0 i = (R.q (i 0) (ch (i 1) (i 2)) : EReal) := by
  rw [val_main_v0_apply, H.q]
  exact congrArg₂ (fun a b => (R.q a b : EReal)) (split_row (i 0) (i 1) (i 2) _) (split_col (i 0) (i 1) (i 2) _)

theorem s1 (i : S2048x8x64.Idx) : val_main_v1 (F := Ideal) x1 i = (R.k (i 0) (ch (i 1) (i 2)) : EReal) := by
  rw [val_main_v1_apply, H.k]
  exact congrArg₂ (fun a b => (R.k a b : EReal)) (split_row (i 0) (i 1) (i 2) _) (split_col (i 0) (i 1) (i 2) _)

theorem s2 (i : S2048x8x64.Idx) : val_main_v2 (F := Ideal) x2 i = (R.v (i 0) (ch (i 1) (i 2)) : EReal) := by
  rw [val_main_v2_apply, H.v]
  exact congrArg₂ (fun a b => (R.v a b : EReal)) (split_row (i 0) (i 1) (i 2) _) (split_col (i 0) (i 1) (i 2) _)

theorem s52 (i : S2048x8x64.Idx) : val_main_v52 (F := Ideal) x4 i = (R.g (i 0) (ch (i 1) (i 2)) : EReal) := by
  rw [val_main_v52_apply, H.g]
  exact congrArg₂ (fun a b => (R.g a b : EReal)) (split_row (i 0) (i 1) (i 2) _) (split_col (i 0) (i 1) (i 2) _)

theorem s3 (i : S8x2048x2048.Idx) : val_main_v3 (F := Ideal) x0 x1 i
    = ((∑ d : Fin 64, R.q (i 1) (ch (i 0) d) * R.k (i 2) (ch (i 0) d) : ℝ) : EReal) := by
  rw [val_main_v3_apply]
  exact sum_of _ _ fun d => mul_of (s0 H _) (s1 H _)

theorem s5 (i : S8x2048x2048.Idx) : val_main_v5 (F := Ideal) x0 x1 i
    = (((∑ d : Fin 64, R.q (i 1) (ch (i 0) d) * R.k (i 2) (ch (i 0) d)) * (1 / 8) : ℝ) : EReal) := by
  rw [val_main_v5_apply]
  refine mul_of (s3 H i) ?_
  rw [val_main_v4_apply, val_main_cst_apply]
  exact eighth

theorem s7 (i : S8x2048.Idx) : val_main_v7 (F := Ideal) x3 i = (R.u (i 1) (ln (i 0)) : EReal) := by
  rw [val_main_v7_apply, val_main_v6_apply, H.u]; rfl

theorem s9 (i : S8x2048x2048.Idx) : val_main_v9 (F := Ideal) x3 i = (R.u (i 1) (ln (i 0)) : EReal) := by
  rw [val_main_v9_apply, val_main_v8_apply]
  exact s7 H _

theorem s12 (i : S8x2048x2048.Idx) : val_main_v12 (F := Ideal) x3 i = (R.u (i 2) (ln (i 0)) : EReal) := by
  rw [val_main_v12_apply, val_main_v11_apply]
  exact s7 H _

theorem s13 (i : S8x2048x2048.Idx) : val_main_v13 (F := Ideal) x0 x1 x3 i = (R.s (i 0) (i 1) (i 2) : EReal) := by
  rw [val_main_v13_apply, val_main_v10_apply]
  exact sub_of (add_of (s5 H i) (s9 H i)) (s12 H i)

omit H in
theorem sle_small (a b : ℕ) (ha : a < 2048) (hb : b < 2048) :
    IntOp.cmpi .sle (BitVec.ofNat 32 a) (BitVec.ofNat 32 b) = BitVec.ofBool (decide (a ≤ b)) := by
  have h1 : (BitVec.ofNat 32 a).toInt = (a : ℤ) := by
    rw [BitVec.toInt_ofNat']; exact Int.bmod_eq_of_le (by omega) (by omega)
  have h2 : (BitVec.ofNat 32 b).toInt = (b : ℤ) := by
    rw [BitVec.toInt_ofNat']; exact Int.bmod_eq_of_le (by omega) (by omega)
  show BitVec.ofBool (BitVec.sle _ _) = _
  unfold BitVec.sle
  rw [h1, h2]
  refine congrArg _ (decide_eq_decide.2 ?_)
  omega

omit H in
/-- The mask keeps a key that is not after the query. -/
theorem s20_1 (i : S8x2048x2048.Idx) : val_main_v20_1 (F := Ideal) i = BitVec.ofBool (decide ((i 2).val ≤ (i 1).val)) := by
  rw [val_main_v20_1_apply, val_main_v19_apply, val_main_v17_apply, val_main_v18_apply, val_main_v15_apply, val_main_v16_apply,
    val_main_v14_apply, val_main_v14_apply]
  exact sle_small (i 2).val (i 1).val (i 2).isLt (i 1).isLt

omit H in
theorem sel {α : Type} (p : Prop) [Decidable p] (a b : α) : Scalar.select (BitVec.ofBool (decide p)) a b = if p then a else b := by
  unfold Scalar.select
  by_cases h : p <;> simp [h]

theorem s20 (i : S8x2048x2048.Idx) : val_main_v20_0 (F := Ideal) x0 x1 x3 i
    = if (i 2).val ≤ (i 1).val then (R.s (i 0) (i 1) (i 2) : EReal) else ⊥ := by
  rw [val_main_v20_0_apply, s20_1, sel, s13 H, val_main_call0_v2_apply, val_main_call0_v0_apply, val_main_cst_0_apply]
  exact congrArg (fun b : EReal => if (i 2).val ≤ (i 1).val then (R.s (i 0) (i 1) (i 2) : EReal) else b) minusInf

/-- A query's greatest score is a real number. -/
theorem s21_real : ∃ M : Fin 8 → Fin 2048 → ℝ, ∀ i : S8x2048.Idx, val_main_v21 (F := Ideal) x0 x1 x3 i = (M (i 0) (i 1) : EReal) := by
  have key : ∀ (h : Fin 8) (q : Fin 2048), ∃ r : ℝ, val_main_v21 (F := Ideal) x0 x1 x3 (ix2 h q) = (r : EReal) := by
    intro h q
    have hs := s20 H
    unfold val_main_v21
    revert hs
    generalize val_main_v20_0 (F := Ideal) x0 x1 x3 = y
    intro hs
    change S8x2048x2048.Idx → EReal at y
    have hr : Host.reduce (FloatOps.maximumf (F := Ideal) (φ := .f32)) y (val_main_cst_1 (F := Ideal)) reducesTo_S8x2048x2048_S8x2048_d2 h_S_ (ix2 h q)
        = (Finset.univ : Finset (Fin 2048)).fold max ⊥ fun t : Fin 2048 => y (ix3 h q t) := by
      unfold val_main_cst_1
      refine (congrFun (hostReduce_maximumf_eq_multiReduction (F := Ideal) (φ := .f32) y 0xFF800000#32 reducesTo_S8x2048x2048_S8x2048_d2 h_S_
        (by decide) (by decide) (by decide)) (ix2 h q)).trans ?_
      rw [Ideal.multiReduction_maximumf_single]
      show Finset.fold max (Ideal.ofBits .f32 0xFF800000#32) _ _ = _
      rw [minusInf]
      refine congrArg (fun f => Finset.fold max ⊥ f Finset.univ) (funext fun t => congrArg y ?_)
      funext a
      match a with
      | ⟨0, _⟩ => rfl
      | ⟨1, _⟩ => rfl
      | ⟨2, _⟩ => rfl
    rw [hr]
    refine fold_max_real _ (fun t => ?_) q ?_
    · rw [hs]; split
      · exact EReal.coe_ne_top _
      · exact bot_ne_top
    · rw [hs]
      show (if q.val ≤ q.val then _ else _) ≠ _
      rw [if_pos le_rfl]
      exact EReal.coe_ne_bot _
  choose M hM using key
  exact ⟨M, fun i => (congrArg _ (eq_ix2 i)).trans (hM (i 0) (i 1))⟩

/-! ### The weights -/

variable {M : Fin 8 → Fin 2048 → ℝ} (HM : ∀ i : S8x2048.Idx, val_main_v21 (F := Ideal) x0 x1 x3 i = (M (i 0) (i 1) : EReal))

omit H in
theorem s28 (i : S8x2048.Idx) : val_main_v28 (F := Ideal) x0 x1 x3 i = val_main_v21 (F := Ideal) x0 x1 x3 i := by
  rw [val_main_v28_apply, val_main_v27_apply, val_main_cst_3_apply]
  generalize val_main_v21 (F := Ideal) x0 x1 x3 i = y
  show max (Ideal.ofBits .f32 0xFF800000#32) y = y
  rw [minusInf]
  exact bot_sup_eq y

include HM

omit H in
theorem s39 (i : S8x2048x2048.Idx) : val_main_v39 (F := Ideal) x0 x1 x3 i = (M (i 0) (i 1) : EReal) := by
  rw [val_main_v39_apply, val_main_v38_apply, s28]
  exact HM _

theorem s41 (i : S8x2048x2048.Idx) : val_main_v41 (F := Ideal) x0 x1 x3 i = (R.e M (i 0) (i 1) (i 2) : EReal) := by
  rw [val_main_v41_apply, val_main_v40_apply, s20 H, s39 HM]
  exact exp_masked R M (i 0) (i 1) (i 2)

theorem s42 (i : S8x2048.Idx) : val_main_v42 (F := Ideal) x0 x1 x3 i = (R.z M (i 0) (i 1) : EReal) := by
  rw [val_main_v42_apply]
  exact zero_add_sum_of Ideal.ofBits_zero_f32 _ _ fun t => s41 H HM _

theorem s43 (i : S8x2048x1.Idx) : val_main_v43 (F := Ideal) x0 x1 x3 i = (R.z M (i 0) (i 1) : EReal) := by
  rw [val_main_v43_apply]
  exact s42 H HM _

theorem s44 (i : S8x2048x2048.Idx) : val_main_v44 (F := Ideal) x0 x1 x3 i = (R.z M (i 0) (i 1) : EReal) := by
  rw [val_main_v44_apply]
  exact s43 H HM _

theorem s45 (i : S8x2048x2048.Idx) : val_main_v45 (F := Ideal) x0 x1 x3 i = (R.p M (i 0) (i 1) (i 2) : EReal) := by
  rw [val_main_v45_apply]
  exact div_of (s41 H HM i) (s44 H HM i) (R.z_pos M _ _).ne'

theorem s48 (i : S8x2048x1.Idx) : val_main_v48 (F := Ideal) x0 x1 x3 i = ((1 / (R.z M (i 0) (i 1) * R.z M (i 0) (i 1)) : ℝ) : EReal) := by
  rw [val_main_v48_apply, val_main_v46_apply, val_main_v47_apply, val_main_cst_10_apply]
  exact div_of unit (mul_of (s43 H HM i) (s43 H HM i)) (mul_pos (R.z_pos M _ _) (R.z_pos M _ _)).ne'

theorem s49 (i : S8x64x2048.Idx) : val_main_v49 (F := Ideal) x0 x1 x2 x3 i = (R.o M (i 2) (i 0) (i 1) : EReal) := by
  rw [val_main_v49_apply]
  exact sum_of _ _ fun t => mul_of (s2 H _) (s45 H HM _)

theorem s50 (i : S2048x8x64.Idx) : val_main_v50 (F := Ideal) x0 x1 x2 x3 i = (R.o M (i 0) (i 1) (i 2) : EReal) := by
  rw [val_main_v50_apply]
  exact s49 H HM _

/-! ### The gradient of the values -/

omit HM in
theorem s53 (i : S8x64x2048.Idx) : val_main_v53 (F := Ideal) x4 i = (R.g (i 2) (ch (i 0) (i 1)) : EReal) := by
  rw [val_main_v53_apply]
  exact s52 H _

omit HM in
theorem s54 (i : S8x2048x2048.Idx) : val_main_v54 (F := Ideal) x2 x4 i = (R.dp (i 0) (i 1) (i 2) : EReal) := by
  rw [val_main_v54_apply]
  exact sum_of _ _ fun d => mul_of (s53 H _) (s2 H _)

theorem s55 (i : S8x64x2048.Idx) : val_main_v55 (F := Ideal) x0 x1 x3 x4 i
    = ((∑ q : Fin 2048, R.g q (ch (i 0) (i 1)) * R.p M (i 0) q (i 2) : ℝ) : EReal) := by
  rw [val_main_v55_apply]
  exact sum_of _ _ fun q => mul_of (s53 H _) (s45 H HM _)

theorem s56 (i : S2048x8x64.Idx) : val_main_v56 (F := Ideal) x0 x1 x3 x4 i
    = ((∑ q : Fin 2048, R.g q (ch (i 1) (i 2)) * R.p M (i 1) q (i 0) : ℝ) : EReal) := by
  rw [val_main_v56_apply]
  exact s55 H HM _

/-! ### The gradient of the scores -/

theorem s59 (i : S8x2048x2048.Idx) : val_main_v59 (F := Ideal) x0 x1 x2 x3 x4 i
    = ((R.dp (i 0) (i 1) (i 2) * (1 / (R.z M (i 0) (i 1) * R.z M (i 0) (i 1))) * R.e M (i 0) (i 1) (i 2) : ℝ) : EReal) := by
  rw [val_main_v59_apply, val_main_v58_apply, val_main_v57_apply]
  exact mul_of (mul_of (s54 H i) (s48 H HM _)) (s41 H HM i)

theorem s60 (i : S8x2048.Idx) : val_main_v60 (F := Ideal) x0 x1 x2 x3 x4 i
    = ((∑ t : Fin 2048, R.dp (i 0) (i 1) t * (1 / (R.z M (i 0) (i 1) * R.z M (i 0) (i 1))) * R.e M (i 0) (i 1) t : ℝ) : EReal) := by
  rw [val_main_v60_apply]
  exact zero_add_sum_of Ideal.ofBits_zero_f32 _ _ fun t => s59 H HM _

omit H HM in
/-- The entry of a matrix that a (head, token, 1) array is a reshape of. -/
theorem unit_row (a : Fin 8) (b : Fin 2048) (c : Fin 1) (hlt : ((a.val * 2048 + b.val) * 1 + c.val) / 2048 < 8) :
    (⟨((a.val * 2048 + b.val) * 1 + c.val) / 2048, hlt⟩ : Fin 8) = a := Fin.ext (by show ((a.val * 2048 + b.val) * 1 + c.val) / 2048 = a.val; omega)

omit H HM in
theorem unit_col (a : Fin 8) (b : Fin 2048) (c : Fin 1) (hlt : ((a.val * 2048 + b.val) * 1 + c.val) % 2048 < 2048) :
    (⟨((a.val * 2048 + b.val) * 1 + c.val) % 2048, hlt⟩ : Fin 2048) = b := Fin.ext (by show ((a.val * 2048 + b.val) * 1 + c.val) % 2048 = b.val; omega)

theorem s62 (i : S8x2048x1.Idx) : val_main_v62 (F := Ideal) x0 x1 x2 x3 x4 i
    = ((-∑ t : Fin 2048, R.dp (i 0) (i 1) t * (1 / (R.z M (i 0) (i 1) * R.z M (i 0) (i 1))) * R.e M (i 0) (i 1) t : ℝ) : EReal) := by
  rw [val_main_v62_apply, val_main_v61_apply]
  refine neg_of ((s60 H HM _).trans ?_)
  exact congrArg₂ (fun (a : Fin 8) (b : Fin 2048) => ((∑ t : Fin 2048, R.dp a b t * (1 / (R.z M a b * R.z M a b)) * R.e M a b t : ℝ) : EReal))
    (unit_row (i 0) (i 1) (i 2) _) (unit_col (i 0) (i 1) (i 2) _)

theorem s65 (i : S8x2048.Idx) : val_main_v65 (F := Ideal) x0 x1 x2 x3 x4 i
    = ((-∑ t : Fin 2048, R.dp (i 0) (i 1) t * (1 / (R.z M (i 0) (i 1) * R.z M (i 0) (i 1))) * R.e M (i 0) (i 1) t : ℝ) : EReal) := by
  rw [val_main_v65_apply]
  refine (zero_add_sum_of Ideal.ofBits_zero_f32 _ _ fun t => s62 H HM _).trans ?_
  rw [Fin.sum_univ_one]; rfl

theorem s68 (i : S8x2048x2048.Idx) : val_main_v68 (F := Ideal) x0 x1 x2 x3 x4 i = (R.ds M (i 0) (i 1) (i 2) : EReal) := by
  rw [val_main_v68_apply, val_main_v67_apply, val_main_v64_apply, val_main_v63_apply, val_main_v66_apply]
  refine (mul_of (add_of (div_of (s54 H i) (s43 H HM _) (R.z_pos M _ _).ne') (s65 H HM _)) (s41 H HM i)).trans ?_
  exact congrArg _ (R.ds_form M (i 0) (i 1) (i 2))

theorem s69 (i : S8x2048x2048.Idx) : val_main_v69 (F := Ideal) x0 x1 x2 x3 x4 i = (R.ds M (i 0) (i 1) (i 2) : EReal) := by
  rw [val_main_v69_apply, s20_1, sel, s68 H HM, val_main_call1_v0_apply, val_main_call1_cst_apply]
  by_cases h : (i 2).val ≤ (i 1).val
  · rw [if_pos h]
  · rw [if_neg h]
    exact Ideal.ofBits_zero_f32.trans (congrArg (fun r : ℝ => (r : EReal)) (R.ds_late M (i 0) (i 1) (i 2) h).symm)

/-! ### The gradient of the cumulative gates -/

theorem s71 (i : S8x2048.Idx) : val_main_v71 (F := Ideal) x0 x1 x2 x3 x4 i = (R.du M (i 0) (i 1) : EReal) := by
  rw [val_main_v71_apply]
  refine (zero_add_sum_of Ideal.ofBits_zero_f32 _ (fun q : Fin 2048 => -R.ds M (i 0) q (i 1)) fun q => ?_).trans ?_
  · rw [val_main_v70_apply]; exact neg_of (s69 H HM _)
  · rw [Finset.sum_neg_distrib]; rfl

theorem s74 (i : S8x2048.Idx) : val_main_v74 (F := Ideal) x0 x1 x2 x3 x4 i = ((0 : ℝ) : EReal) := by
  rw [val_main_v74_apply]
  refine (zero_add_sum_of Ideal.ofBits_zero_f32 _ (fun t : Fin 2048 => R.ds M (i 0) (i 1) t) fun t => s69 H HM _).trans ?_
  rw [R.sum_ds M (i 0) (i 1)]

theorem s73 (i : S8x2048.Idx) : val_main_v73 (F := Ideal) x0 x1 x2 x3 x4 i = (R.du M (i 0) (i 1) : EReal) := by
  rw [val_main_v73_apply]
  refine (zero_add_sum_of Ideal.ofBits_zero_f32 _ (fun _ : Fin 1 => R.du M (i 0) (i 1)) fun k => ?_).trans (by rw [Fin.sum_univ_one])
  rw [val_main_v72_apply, s71 H HM]
  refine congrArg₂ (fun (a : Fin 8) (b : Fin 2048) => (R.du M a b : EReal)) (Fin.ext ?_) (Fin.ext ?_)
  · show (((i 0).val * 1 + k.val) * 2048 + (i 1).val) / 2048 = (i 0).val
    have h1 : (i 1).val < 2048 := (i 1).isLt
    omega
  · show (((i 0).val * 1 + k.val) * 2048 + (i 1).val) % 2048 = (i 1).val
    have h1 : (i 1).val < 2048 := (i 1).isLt
    omega

theorem s76 (i : S8x2048.Idx) : val_main_v76 (F := Ideal) x0 x1 x2 x3 x4 i = ((0 : ℝ) : EReal) := by
  rw [val_main_v76_apply]
  refine (zero_add_sum_of Ideal.ofBits_zero_f32 _ (fun _ : Fin 1 => (0 : ℝ)) fun k => ?_).trans (by rw [Fin.sum_univ_one])
  rw [val_main_v75_apply]
  exact s74 H HM _

theorem s78 (i : S2048x8.Idx) : val_main_v78 (F := Ideal) x0 x1 x2 x3 x4 i = (R.du M (i 1) (i 0) : EReal) := by
  rw [val_main_v78_apply, val_main_v77_apply]
  refine (add_of (s73 H HM _) (s76 H HM _)).trans ?_
  rw [add_zero]; rfl

/-! ### The results -/

theorem s83 (i : S2048x8x64.Idx) : val_main_v83 (F := Ideal) x0 x1 x2 x3 x4 i
    = ((∑ q : Fin 2048, R.ds M (i 1) q (i 0) * (1 / 8) * R.q q (ch (i 1) (i 2)) : ℝ) : EReal) := by
  rw [val_main_v83_apply, val_main_v82_apply]
  refine sum_of _ _ fun q => mul_of ?_ (s0 H _)
  rw [val_main_v81_apply, val_main_v80_apply, val_main_cst_18_apply]
  exact mul_of (s69 H HM _) eighth

theorem s85 (i : S2048x8x64.Idx) : val_main_v85 (F := Ideal) x0 x1 x2 x3 x4 i
    = ((∑ t : Fin 2048, R.ds M (i 1) (i 0) t * (1 / 8) * R.k t (ch (i 1) (i 2)) : ℝ) : EReal) := by
  rw [val_main_v85_apply, val_main_v84_apply]
  refine sum_of _ _ fun t => mul_of ?_ (s1 H _)
  rw [val_main_v81_apply, val_main_v80_apply, val_main_cst_18_apply]
  exact mul_of (s69 H HM _) eighth

omit H HM in
theorem join_row (a : Fin 2048) (c : Fin 512) (hlt : (a.val * 512 + c.val) / 512 < 2048) :
    (⟨(a.val * 512 + c.val) / 512, hlt⟩ : Fin 2048) = a := Fin.ext (by show (a.val * 512 + c.val) / 512 = a.val; omega)

omit H HM in
theorem join_head (a : Fin 2048) (c : Fin 512) (hlt : (a.val * 512 + c.val) / 64 % 8 < 8) :
    (⟨(a.val * 512 + c.val) / 64 % 8, hlt⟩ : Fin 8) = hd c :=
  Fin.ext (by show (a.val * 512 + c.val) / 64 % 8 = (hd c).val; unfold hd; simp only []; omega)

omit H HM in
theorem join_ch (a : Fin 2048) (c : Fin 512) (hlt : (a.val * 512 + c.val) % 64 < 64) :
    ch (hd c) (⟨(a.val * 512 + c.val) % 64, hlt⟩ : Fin 64) = c :=
  Fin.ext (by unfold ch hd; simp only []; omega)

omit H HM in
/-- A function of a (token, head, channel of the head) array's index, at the entry of a (token, channel) matrix. -/
theorem join (f : Fin 2048 → Fin 8 → Fin 512 → ℝ) (a : Fin 2048) (c : Fin 512) (h0 : (a.val * 512 + c.val) / 512 < 2048)
    (h1 : (a.val * 512 + c.val) / 64 % 8 < 8) (h2 : (a.val * 512 + c.val) % 64 < 64) :
    f ⟨(a.val * 512 + c.val) / 512, h0⟩ ⟨(a.val * 512 + c.val) / 64 % 8, h1⟩
      (ch ⟨(a.val * 512 + c.val) / 64 % 8, h1⟩ ⟨(a.val * 512 + c.val) % 64, h2⟩) = f a (hd c) c := by
  rw [join_row a c h0, join_head a c h1, join_ch a c h2]

theorem dv_ref (i : S512x2048.Idx) : val_main_v92 (F := Ideal) x0 x1 x3 x4 i = (R.dv M (i 0) (i 1) : EReal) := by
  rw [val_main_v92_apply, val_main_v86_apply, s56 H HM]
  exact congrArg _ (join (fun t h c => ∑ q : Fin 2048, R.g q c * R.p M h q t) (i 1) (i 0) _ _ _)

theorem dk_ref (i : S512x2048.Idx) : val_main_v91 (F := Ideal) x0 x1 x2 x3 x4 i = (R.dk M (i 0) (i 1) : EReal) := by
  rw [val_main_v91_apply, val_main_v87_apply, s83 H HM]
  exact congrArg _ (join (fun t h c => ∑ q : Fin 2048, R.ds M h q t * (1 / 8) * R.q q c) (i 1) (i 0) _ _ _)

theorem dq_ref (i : S512x2048.Idx) : val_main_v90 (F := Ideal) x0 x1 x2 x3 x4 i = (R.dq M (i 0) (i 1) : EReal) := by
  rw [val_main_v90_apply]
  refine Eq.trans (b := val_main_v89 (F := Ideal) x0 x1 x2 x3 x4 i) rfl ?_
  rw [val_main_v89_apply, val_main_v88_apply, s85 H HM]
  exact congrArg _ (join (fun q h c => ∑ t : Fin 2048, R.ds M h q t * (1 / 8) * R.k t c) (i 1) (i 0) _ _ _)

theorem du_ref (i : S2048x128.Idx) : val_main_v79 (F := Ideal) x0 x1 x2 x3 x4 i
    = if h : (i 1).val < 8 then (R.du M ⟨(i 1).val, h⟩ (i 0) : EReal) else 0 := by
  unfold val_main_v79
  by_cases h : (i 1).val < 8
  · rw [dif_pos h]
    refine (pad_apply_of_inside _ _ _ _ _ pads_S2048x8_S2048x128_000_01200 h_S_ i (ix2 (i 0 : Fin 2048) (⟨(i 1).val, h⟩ : Fin 8)) fun a => ?_).trans
      (s78 H HM _)
    match a with
    | ⟨0, _⟩ => show (i 0).val = 0 + (i 0).val * 1; omega
    | ⟨1, _⟩ => show (i 1).val = 0 + (i 1).val * 1; omega
  · rw [dif_neg h]
    refine (pad_apply_of_not_inside _ _ _ _ _ pads_S2048x8_S2048x128_000_01200 h_S_ i (1 : Fin 2) fun hc => h ?_).trans Ideal.ofBits_zero_f32
    have hc' : ((i 1).val - 0) / 1 < 8 := hc.2.2
    omega

end Cert.Att.Ref
-- ==== Proof.Trip.lean ====
/-
  One trip of the kernel's loop over the key blocks before the diagonal one.
-/
module

public import proofs.«01_k».proof.Proof.Block
public import proofs.«01_k».proof.Proof.Gen.KernelIdeal.Loops
public import Idealize.ShloMosaic.Lib.Tactic

@[expose] public section

set_option maxRecDepth 16384

noncomputable section

namespace Cert.KernelIdeal.Att

open Idealize.ShloMosaic Idealize.SL.Sem
open Cert.KernelIdeal Cert.KernelIdeal.Gen

/-- The block a trip treats: the trip's own number. -/
theorem trip_word {n : ℕ} (k : Fin n) (hn : n ≤ 8) :
    (Scalar.indexCast (Scalar.muli (Scf.iv 0#32 1#32 k.val) 256#32)).toNat = 256 * k.val := by
  have h : ∀ k : Fin 8, (Scalar.indexCast (Scalar.muli (Scf.iv 0#32 1#32 k.val) 256#32)).toNat = 256 * k.val := by decide +kernel
  exact h ⟨k.val, by omega⟩

theorem trips1 : ∀ i : grid0.Coords, (k0_t1_loop i).trips = (i 0).val := by
  intro i
  have h : ∀ n : Fin 8, (Scf.Loop.mk 0#32 (Scalar.addi 0#32 (Scalar.muli (Scalar.divsi (Scalar.subi (Scalar.muli 1#32 (BitVec.ofNat 32 n.val)) 0#32) 1#32) 1#32)) 1#32 : Scf.Loop 32).trips = n.val := by decide +kernel
  exact h (i 0)

theorem trips2 : ∀ i : grid0.Coords, (k0_t2_loop i).trips = 0 := by
  intro i
  have h : ∀ n : Fin 8, (Scf.Loop.mk (Scalar.addi 0#32 (Scalar.muli (Scalar.divsi (Scalar.subi (Scalar.muli 1#32 (BitVec.ofNat 32 n.val)) 0#32) 1#32) 1#32)) (Scalar.addi 0#32 (Scalar.subi (Scalar.muli 1#32 (BitVec.ofNat 32 n.val)) 0#32)) 1#32 : Scf.Loop 32).trips = 0 := by decide +kernel
  exact h (i 0)

/-- A trip's corners: a head's column of a block's keys, a head's features of a block's keys, and the transposes. -/
theorem trip_off {n : ℕ} (k : Fin n) (hn : n ≤ 8) (j : Fin 8) (hj : j.val = k.val) (h : ℕ) :
    (![(Scalar.indexCast (Scalar.muli (Scf.iv 0#32 1#32 k.val) 256#32)).toNat, h] : Fin 2 → ℕ) = ![256 * j.val, h] := by
  rw [trip_word k hn, hj]

theorem trip_off' {n : ℕ} (k : Fin n) (hn : n ≤ 8) (j : Fin 8) (hj : j.val = k.val) (h : ℕ) :
    (![h, (Scalar.indexCast (Scalar.muli (Scf.iv 0#32 1#32 k.val) 256#32)).toNat] : Fin 2 → ℕ) = ![h, 256 * j.val] := by
  rw [trip_word k hn, hj]

/-- A block before the diagonal one needs no mask. -/
theorem masks_id {i j : Fin 8} (hij : j < i) : Masks i j id := by
  intro s a b
  rw [if_pos]
  · rfl
  · show 256 * j.val + a.val ≤ _
    have := Fin.lt_def.mp hij
    omega

section Trip

variable {I : Ins} {i' j : Fin 8} (𝒱 : Variants) (c : Dev nD) (bd : Option 𝒱.V) (i : grid0.Coords)
  (arg1 : Memref sig .tc .vmem S512x256 .bf16) (harg1 : arg1.IsWhole) (arg2 : Memref sig .tc .vmem S2048x512 .bf16) (harg2 : arg2.IsWhole)
  (arg3 : Memref sig .tc .vmem S512x2048 .bf16) (harg3 : arg3.IsWhole) (arg4 : Memref sig .tc .vmem S2048x512 .bf16) (harg4 : arg4.IsWhole)
  (arg5 : Memref sig .tc .vmem S512x256 .bf16) (harg5 : arg5.IsWhole) (arg6 : Memref sig .tc .vmem S8x256 .f32) (harg6 : arg6.IsWhole)
  (arg7 : Memref sig .tc .vmem S8x256 .f32) (harg7 : arg7.IsWhole) (arg8 : Memref sig .tc .vmem S2048x128 .f32) (harg8 : arg8.IsWhole)
  (arg9 : Memref sig .tc .vmem S8x256 .f32) (harg9 : arg9.IsWhole) (arg10 : Memref sig .tc .vmem S512x256 .bf16) (harg10 : arg10.IsWhole)
  (arg11 : Memref sig .tc .vmem S512x2048 .f32) (harg11 : arg11.IsWhole) (arg12 : Memref sig .tc .vmem S512x2048 .f32) (harg12 : arg12.IsWhole)
  (arg13 : Memref sig .tc .vmem S2048x128 .f32) (harg13 : arg13.IsWhole) (arg14 : Memref sig .tc .vmem S512x256 .f32) (harg14 : arg14.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty) (X9 : BufTy.Contents (Elt Ideal) arg9.view.ty)
  (k : Fin (k0_t1_loop i).trips) (f11 : BufTy.Contents (Elt Ideal) arg11.view.ty) (f12 : BufTy.Contents (Elt Ideal) arg12.view.ty)
  (f13 : BufTy.Contents (Elt Ideal) arg13.view.ty) (f14 : BufTy.Contents (Elt Ideal) arg14.view.ty)

set_option maxHeartbeats 4000000 in
/-- What a trip adds to the key gradient. -/
theorem trip_dk (H : Loaded I arg1 arg2 arg3 arg4 arg5 arg6 arg7 arg8 arg9 X1 X2 X3 X4 X5 X6 X7 X8 X9) (hj : j.val = k.val) (hij : j < i')
    (hn : (k0_t1_loop i).trips ≤ 8) :
    arg11.view.read (Elt Ideal) (arg11.view.writes (Elt Ideal) f11
        (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 k f11 f12 f13 f14).1)
      = keyUp (arg11.view.read (Elt Ideal) f11) (I.dk i') j 8 := by
  unfold tripL_k0_t1 trip_k0_t1
  dsimp only
  iterate 8
    refine dk_step H (masks_id hij) (by omega) _ _ _ _ _ _ _ _ _ _ rfl (trip_off k hn j hj _) (trip_off k hn j hj _) rfl rfl
      (trip_off k hn j hj _) rfl rfl (trip_off' k hn j hj _) rfl (fun _ _ => rfl) ?_
  exact (keyUp_zero _ _ _).symm

set_option maxHeartbeats 4000000 in
/-- What a trip adds to the value gradient. -/
theorem trip_dv (H : Loaded I arg1 arg2 arg3 arg4 arg5 arg6 arg7 arg8 arg9 X1 X2 X3 X4 X5 X6 X7 X8 X9) (hj : j.val = k.val) (hij : j < i')
    (hn : (k0_t1_loop i).trips ≤ 8) :
    arg12.view.read (Elt Ideal) (arg12.view.writes (Elt Ideal) f12
        (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 k f11 f12 f13 f14).2.1)
      = keyUp (arg12.view.read (Elt Ideal) f12) (I.dv i') j 8 := by
  unfold tripL_k0_t1 trip_k0_t1
  dsimp only
  iterate 8
    refine dv_step H (masks_id hij) (by omega) _ _ _ _ _ _ _ rfl (trip_off k hn j hj _) (trip_off k hn j hj _) rfl rfl
      (trip_off' k hn j hj _) rfl (fun _ _ => rfl) ?_
  exact (keyUp_zero _ _ _).symm

set_option maxHeartbeats 4000000 in
/-- What a trip adds to the cumulative sum's gradient. -/
theorem trip_dc (H : Loaded I arg1 arg2 arg3 arg4 arg5 arg6 arg7 arg8 arg9 X1 X2 X3 X4 X5 X6 X7 X8 X9) (hj : j.val = k.val) (hij : j < i')
    (hn : (k0_t1_loop i).trips ≤ 8) :
    arg13.view.read (Elt Ideal) (arg13.view.writes (Elt Ideal) f13
        (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 k f11 f12 f13 f14).2.2.1)
      = colUp (arg13.view.read (Elt Ideal) f13) (I.dc i') j 8 := by
  unfold tripL_k0_t1 trip_k0_t1
  dsimp only
  iterate 8
    refine dc_step H (masks_id hij) (by omega) _ _ _ _ _ _ _ _ _ rfl (trip_off k hn j hj _) (trip_off k hn j hj _) rfl rfl
      (trip_off k hn j hj _) rfl rfl (trip_off k hn j hj _) (fun _ _ => rfl) ?_
  exact (colUp_zero _ _ _).symm

set_option maxHeartbeats 4000000 in
/-- What a trip adds to the query gradient. -/
theorem trip_dq (H : Loaded I arg1 arg2 arg3 arg4 arg5 arg6 arg7 arg8 arg9 X1 X2 X3 X4 X5 X6 X7 X8 X9) (hj : j.val = k.val) (hij : j < i')
    (hn : (k0_t1_loop i).trips ≤ 8) :
    arg14.view.read (Elt Ideal) (arg14.view.writes (Elt Ideal) f14
        (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 k f11 f12 f13 f14).2.2.2)
      = qryUp (arg14.view.read (Elt Ideal) f14) (I.dq i' j) 8 := by
  unfold tripL_k0_t1 trip_k0_t1
  dsimp only
  iterate 8
    refine dq_step H (masks_id hij) (by omega) _ _ _ _ _ _ _ _ _ _ rfl (trip_off k hn j hj _) (trip_off k hn j hj _) rfl rfl
      (trip_off k hn j hj _) rfl rfl rfl (trip_off' k hn j hj _) (fun _ _ => rfl) ?_
  exact (qryUp_zero _ _).symm

end Trip

section Loop

variable {I : Ins} {i' j : Fin 8} (𝒱 : Variants) (c : Dev nD) (bd : Option 𝒱.V) (i : grid0.Coords)
  (arg1 : Memref sig .tc .vmem S512x256 .bf16) (harg1 : arg1.IsWhole) (arg2 : Memref sig .tc .vmem S2048x512 .bf16) (harg2 : arg2.IsWhole)
  (arg3 : Memref sig .tc .vmem S512x2048 .bf16) (harg3 : arg3.IsWhole) (arg4 : Memref sig .tc .vmem S2048x512 .bf16) (harg4 : arg4.IsWhole)
  (arg5 : Memref sig .tc .vmem S512x256 .bf16) (harg5 : arg5.IsWhole) (arg6 : Memref sig .tc .vmem S8x256 .f32) (harg6 : arg6.IsWhole)
  (arg7 : Memref sig .tc .vmem S8x256 .f32) (harg7 : arg7.IsWhole) (arg8 : Memref sig .tc .vmem S2048x128 .f32) (harg8 : arg8.IsWhole)
  (arg9 : Memref sig .tc .vmem S8x256 .f32) (harg9 : arg9.IsWhole) (arg10 : Memref sig .tc .vmem S512x256 .bf16) (harg10 : arg10.IsWhole)
  (arg11 : Memref sig .tc .vmem S512x2048 .f32) (harg11 : arg11.IsWhole) (arg12 : Memref sig .tc .vmem S512x2048 .f32) (harg12 : arg12.IsWhole)
  (arg13 : Memref sig .tc .vmem S2048x128 .f32) (harg13 : arg13.IsWhole) (arg14 : Memref sig .tc .vmem S512x256 .f32) (harg14 : arg14.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty) (X9 : BufTy.Contents (Elt Ideal) arg9.view.ty)
  (f11 : BufTy.Contents (Elt Ideal) arg11.view.ty) (f12 : BufTy.Contents (Elt Ideal) arg12.view.ty)
  (f13 : BufTy.Contents (Elt Ideal) arg13.view.ty) (f14 : BufTy.Contents (Elt Ideal) arg14.view.ty)

/-- What the loop has added to the four buffers before trip `n`. -/
theorem loop_to (H : Loaded I arg1 arg2 arg3 arg4 arg5 arg6 arg7 arg8 arg9 X1 X2 X3 X4 X5 X6 X7 X8 X9) (hi : i'.val = (i 0).val) (n : ℕ) (hn : n ≤ (k0_t1_loop i).trips) :
    (arg11.view.read (Elt Ideal) (arg11.view.writes (Elt Ideal) f11 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 f11 f12 f13 f14 n).1) = keyTo (arg11.view.read (Elt Ideal) f11) (I.dk i') n)
    ∧ (arg12.view.read (Elt Ideal) (arg12.view.writes (Elt Ideal) f12 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 f11 f12 f13 f14 n).2.1) = keyTo (arg12.view.read (Elt Ideal) f12) (I.dv i') n)
    ∧ (arg13.view.read (Elt Ideal) (arg13.view.writes (Elt Ideal) f13 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 f11 f12 f13 f14 n).2.2.1) = colTo (arg13.view.read (Elt Ideal) f13) (I.dc i') n)
    ∧ (arg14.view.read (Elt Ideal) (arg14.view.writes (Elt Ideal) f14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 f11 f12 f13 f14 n).2.2.2) = qryTo (arg14.view.read (Elt Ideal) f14) (I.dq i') n) := by
  have ht := trips1 i
  induction n with
  | zero => exact ⟨(keyTo_zero _ _).symm, (keyTo_zero _ _).symm, (colTo_zero _ _).symm, (qryTo_zero _ _).symm⟩
  | succ n ih =>
    obtain ⟨h11, h12, h13, h14⟩ := ih (by omega)
    have hlt : n < (k0_t1_loop i).trips := hn
    have hlt' : n < 8 := by have := i'.isLt; omega
    have hij : (⟨n, hlt'⟩ : Fin 8) < i' := Fin.lt_def.mpr (by show n < i'.val; omega)
    have hb : (k0_t1_loop i).trips ≤ 8 := by have := i'.isLt; omega
    have e := pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 f11 f12 f13 f14 ⟨n, hlt⟩
    rw [show n + 1 = (⟨n, hlt⟩ : Fin (k0_t1_loop i).trips).val + 1 from rfl, e]
    dsimp only
    refine ⟨?_, ?_, ?_, ?_⟩
    · rw [View.writes_append, trip_dk (j := ⟨n, hlt'⟩) (H := H) (hj := rfl) (hij := hij) (hn := hb), h11]
      exact keyUp_keyTo _ _ ⟨n, hlt'⟩
    · rw [View.writes_append, trip_dv (j := ⟨n, hlt'⟩) (H := H) (hj := rfl) (hij := hij) (hn := hb), h12]
      exact keyUp_keyTo _ _ ⟨n, hlt'⟩
    · rw [View.writes_append, trip_dc (j := ⟨n, hlt'⟩) (H := H) (hj := rfl) (hij := hij) (hn := hb), h13]
      exact colUp_colTo _ _ ⟨n, hlt'⟩
    · rw [View.writes_append, trip_dq (j := ⟨n, hlt'⟩) (H := H) (hj := rfl) (hij := hij) (hn := hb), h14]
      exact qryUp_qryTo _ _ ⟨n, hlt'⟩

end Loop

end Cert.KernelIdeal.Att

end
-- ==== Proof.Point.lean ====
/-
  What a grid point leaves in the four output buffers and in the scratch buffer.

  The diagonal block masks the keys after their query. Its eight heads are read as a trip of the loop is; with the loop's
  blocks before it, a point adds to the key-side gradients for the keys up to its own block, and leaves the point's query
  gradient, scaled.
-/
module

public import proofs.«01_k».proof.Proof.Trip
public import proofs.«01_k».proof.Proof.Gen.KernelIdeal.Frame

@[expose] public section

set_option maxRecDepth 16384

noncomputable section

namespace Cert.KernelIdeal.Att

open Idealize.ShloMosaic Idealize.SL.Sem
open Cert.KernelIdeal Cert.KernelIdeal.Gen

/-- The word a point's diagonal block starts at. -/
theorem diag_word (n : Fin 8) :
    (Scalar.indexCast (Scalar.muli (Scalar.addi (Scalar.muli 1#32 (BitVec.ofNat 32 n.val)) 0#32) 256#32)).toNat = 256 * n.val := by
  revert n
  decide +kernel

theorem diag_off (i : grid0.Coords) (j : Fin 8) (hj : j.val = (i 0).val) (h : ℕ) :
    (![(Scalar.indexCast (Scalar.muli (Scalar.addi (Scalar.muli 1#32 (BitVec.ofNat 32 (i 0).val)) 0#32) 256#32)).toNat, h] : Fin 2 → ℕ) = ![256 * j.val, h] := by
  rw [← hj, diag_word j]

theorem diag_off' (i : grid0.Coords) (j : Fin 8) (hj : j.val = (i 0).val) (h : ℕ) :
    (![h, (Scalar.indexCast (Scalar.muli (Scalar.addi (Scalar.muli 1#32 (BitVec.ofNat 32 (i 0).val)) 0#32) 256#32)).toNat] : Fin 2 → ℕ) = ![h, 256 * j.val] := by
  rw [← hj, diag_word j]

/-- The two comparands of the mask, for key `a` or query `a` of block `n`. -/
theorem mask_word (n : Fin 8) (a : Fin 256) : (BitVec.ofNat 32 (256 * n.val) + BitVec.ofNat 32 a.val).toInt = (256 * n.val + a.val : ℕ) := by
  rw [← BitVec.ofNat_add, BitVec.toInt_ofNat']
  have := n.isLt
  have := a.isLt
  exact Int.bmod_eq_of_le (by omega) (by omega)

theorem mask_words (n : Fin 8) : Scalar.muli (Scalar.addi (Scalar.muli 1#32 (BitVec.ofNat 32 n.val)) 0#32) 256#32 = BitVec.ofNat 32 (256 * n.val)
    ∧ Scalar.muli (BitVec.ofNat 32 n.val) 256#32 = BitVec.ofNat 32 (256 * n.val) := by
  revert n
  decide +kernel

/-- The diagonal block's mask hides the keys after their query. -/
theorem masks_diag (i : grid0.Coords) {i' : Fin 8} (hi : i'.val = (i 0).val) : Masks i' i' (masked (k0_pay184 i)) := by
  intro s a b
  rw [masked_apply]
  have e : k0_pay184 i (ix2 a b) = BitVec.ofBool ((BitVec.ofNat 32 (256 * i'.val) + BitVec.ofNat 32 a.val).sle (BitVec.ofNat 32 (256 * i'.val) + BitVec.ofNat 32 b.val)) := by
    have h1 := (mask_words i').1
    have h2 := (mask_words i').2
    rw [hi] at h1 h2
    rw [hi, ← h1]
    conv_rhs => arg 1; arg 2; rw [h1, ← h2]
    show BitVec.ofBool (BitVec.sle (_ + BitVec.ofNat 32 (0 * 256 + a.val)) (_ + BitVec.ofNat 32 (0 * 256 + b.val))) = _
    rw [Nat.zero_mul, Nat.zero_add, Nat.zero_add]
    rfl
  rw [e, BitVec.sle, mask_word, mask_word]
  show (if BitVec.ofBool _ = 1#1 then _ else _) = _
  by_cases hab : a.val ≤ b.val
  · rw [decide_eq_true (by exact_mod_cast Nat.add_le_add_left hab _)]
    exact (if_pos rfl).trans (if_pos (Nat.add_le_add_left hab _)).symm
  · rw [decide_eq_false (by intro h; exact hab (Nat.le_of_add_le_add_left (by exact_mod_cast h)))]
    exact (if_neg (by decide)).trans (if_neg (fun h => hab (Nat.le_of_add_le_add_left h))).symm

/-- The lists a loop without trips leaves. -/
theorem read_skip {κ : Kind} {sp : Space} {s : Shape} {e : EltTy} (v : View sig κ sp s e) (f : v.ty.Contents (Elt Ideal))
    {T L : List (View.Piece (Elt Ideal) s e)} {A : s.Idx → Elt Ideal e} (hT : T = []) (h : v.read (Elt Ideal) (v.writes (Elt Ideal) f L) = A) :
    v.read (Elt Ideal) (v.writes (Elt Ideal) f (T ++ L)) = A := by
  subst hT
  exact h

/-- A store of zeros over a whole rank-two buffer. -/
theorem read_zero {κ : Kind} {sp : Space} {n0 n1 : ℕ} (v : View sig κ sp ⟨2, ![n0, n1]⟩ .f32) (f : v.ty.Contents (Elt Ideal)) (inb)
    (w : (⟨2, ![n0, n1]⟩ : Shape).Idx → EReal) (hw : ∀ y, w y = 0) :
    v.read (Elt Ideal) (v.writes (Elt Ideal) f [(⟨Rect.unit (s := ⟨2, ![n0, n1]⟩) ![0, 0] ![n0, n1] inb, w⟩ : View.Piece (Elt Ideal) ⟨2, ![n0, n1]⟩ .f32)]) = fun _ => (0 : EReal) :=
  step2 v f [] inb w _ (fun _ => (0 : EReal)) rfl rfl
    (fun c t h => absurd ⟨Nat.zero_le _, by have := c.isLt; omega, Nat.zero_le _, by have := t.isLt; omega⟩ h)
    fun a b c t _ _ => hw _

/-- The point's query gradient, scaled. -/
def dqOut (A : S512x256.Idx → EReal) : S512x256.Idx → EReal := fun y => A y * Ideal.ofBits .f32 0x3E000000#32

/-- A store of the scaled query gradient over the whole output buffer. -/
theorem read_dqOut {κ : Kind} {sp : Space} (v : View sig κ sp S512x256 .bf16) (f : v.ty.Contents (Elt Ideal))
    {a : Memref sig .tc .vmem S512x256 .f32} {g : a.view.ty.Contents (Elt Ideal)} {A : S512x256.Idx → EReal} (inb inb')
    (hg : a.view.read (Elt Ideal) g = A) :
    v.read (Elt Ideal) (v.writes (Elt Ideal) f
      [(⟨Rect.unit (s := S512x256) ![0, 0] ![512, 256] inb, k0_pay1 (a.view.readAt (Elt Ideal) (Rect.unit (s := S512x256) ![0, 0] ![512, 256] inb').toLoadRect g)⟩ : View.Piece (Elt Ideal) S512x256 .bf16)]) = dqOut A := by
  subst hg
  refine step2 v f [] inb _ _ _ rfl rfl
    (fun c t h => absurd ⟨Nat.zero_le _, by have := c.isLt; omega, Nat.zero_le _, by have := t.isLt; omega⟩ h) fun d b c t hc ht => ?_
  unfold k0_pay1
  rw [shapeCast_self]
  exact congrArg (fun x : EReal => x * Ideal.ofBits .f32 0x3E000000#32) (readAt2 a.view g inb' d b c t rfl hc ht)

section Point

variable {i' : Fin 8} (c : Dev nD) (i : grid0.Coords)
  (arg1 : Memref sig .tc .vmem S512x256 .bf16) (harg1 : arg1.IsWhole) (arg2 : Memref sig .tc .vmem S2048x512 .bf16) (harg2 : arg2.IsWhole)
  (arg3 : Memref sig .tc .vmem S512x2048 .bf16) (harg3 : arg3.IsWhole) (arg4 : Memref sig .tc .vmem S2048x512 .bf16) (harg4 : arg4.IsWhole)
  (arg5 : Memref sig .tc .vmem S512x256 .bf16) (harg5 : arg5.IsWhole) (arg6 : Memref sig .tc .vmem S8x256 .f32) (harg6 : arg6.IsWhole)
  (arg7 : Memref sig .tc .vmem S8x256 .f32) (harg7 : arg7.IsWhole) (arg8 : Memref sig .tc .vmem S2048x128 .f32) (harg8 : arg8.IsWhole)
  (arg9 : Memref sig .tc .vmem S8x256 .f32) (harg9 : arg9.IsWhole) (arg10 : Memref sig .tc .vmem S512x256 .bf16) (harg10 : arg10.IsWhole)
  (arg11 : Memref sig .tc .vmem S512x2048 .f32) (harg11 : arg11.IsWhole) (arg12 : Memref sig .tc .vmem S512x2048 .f32) (harg12 : arg12.IsWhole)
  (arg13 : Memref sig .tc .vmem S2048x128 .f32) (harg13 : arg13.IsWhole) (arg14 : Memref sig .tc .vmem S512x256 .f32) (harg14 : arg14.IsWhole)
  (x0 : Vec Ideal S512x256 .bf16) (x1 : Vec Ideal S2048x512 .bf16) (x2 : Vec Ideal S512x2048 .bf16) (x3 : Vec Ideal S2048x512 .bf16)
  (x4 : Vec Ideal S512x256 .bf16) (x5 : Vec Ideal S8x256 .f32) (x6 : Vec Ideal S8x256 .f32) (x7 : Vec Ideal S2048x128 .f32) (x8 : Vec Ideal S8x256 .f32)
  (xo10 : Vec Ideal S512x2048 .f32) (xo11 : Vec Ideal S512x2048 .f32) (xo12 : Vec Ideal S2048x128 .f32)

theorem loaded_unread : Loaded ⟨x0, x1, x2, x3, x4, x5, x6, x7, x8⟩ arg1 arg2 arg3 arg4 arg5 arg6 arg7 arg8 arg9 (harg1.unread x0) (harg2.unread x1) (harg3.unread x2)
    (harg4.unread x3) (harg5.unread x4) (harg6.unread x5) (harg7.unread x6) (harg8.unread x7) (harg9.unread x8) :=
  ⟨harg1.read_unread _, harg2.read_unread _, harg3.read_unread _, harg4.read_unread _, harg5.read_unread _, harg6.read_unread _,
    harg7.read_unread _, harg8.read_unread _, harg9.read_unread _⟩

/-- The kernel's second loop has no trips, so it stores nothing. -/
theorem second_nil (𝒱 : Variants) (bd : Option 𝒱.V) (v12 : BitVec 32)
    (X1 : BufTy.Contents (Elt Ideal) arg1.view.ty) (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty) (X6 : BufTy.Contents (Elt Ideal) arg6.view.ty)
    (X7 : BufTy.Contents (Elt Ideal) arg7.view.ty) (X8 : BufTy.Contents (Elt Ideal) arg8.view.ty) (X9 : BufTy.Contents (Elt Ideal) arg9.view.ty)
    (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty) :
    pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v12 X1 X2 X3 X4 X5 X6 X7 X8 X9 f11 f12 f13 f14 (k0_t2_loop i).trips = ([], [], [], []) := by
  rw [trips2]
  rfl

set_option maxHeartbeats 4000000 in
/-- The key gradient after a point that is not the first. -/
theorem pointB_dk (hc0 : ¬cond0_0 i) (hi : i'.val = (i 0).val) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = keyTo xo10 (Ins.dk (Ins.mk x0 x1 x2 x3 x4 x5 x6 x7 x8) i') (i'.val + 1) := by
  have H := loaded_unread arg1 harg1 arg2 harg2 arg3 harg3 arg4 harg4 arg5 harg5 arg6 harg6 arg7 harg7 arg8 harg8 arg9 harg9 x0 x1 x2 x3 x4 x5 x6 x7 x8
  have ht : (k0_t1_loop i).trips = i'.val := (trips1 i).trans hi.symm
  unfold out0_B_10
  unfold kernelRun0_B
  dsimp only
  rw [← keyUp_keyTo]
  iterate 8
    refine dk_step H (masks_diag i hi) (by omega) _ _ _ _ _ _ _ _ _ _ rfl (diag_off i i' hi _) (diag_off i i' hi _) rfl rfl
      (diag_off i i' hi _) rfl rfl (diag_off' i i' hi _) rfl (fun _ h => h) ?_
  refine Eq.trans ?_ (keyUp_zero _ _ _).symm
  refine read_skip _ _ (congrArg (fun z => z.1) (second_nil ..)) ?_
  refine (loop_to (H := H) (hi := hi) (n := (k0_t1_loop i).trips) (hn := le_refl _) ..).1.trans ?_
  rw [harg11.read_unread, ht]

set_option maxHeartbeats 4000000 in
/-- The value gradient after a point that is not the first. -/
theorem pointB_dv (hc0 : ¬cond0_0 i) (hi : i'.val = (i 0).val) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = keyTo xo11 (Ins.dv (Ins.mk x0 x1 x2 x3 x4 x5 x6 x7 x8) i') (i'.val + 1) := by
  have H := loaded_unread arg1 harg1 arg2 harg2 arg3 harg3 arg4 harg4 arg5 harg5 arg6 harg6 arg7 harg7 arg8 harg8 arg9 harg9 x0 x1 x2 x3 x4 x5 x6 x7 x8
  have ht : (k0_t1_loop i).trips = i'.val := (trips1 i).trans hi.symm
  unfold out0_B_11
  unfold kernelRun0_B
  dsimp only
  rw [← keyUp_keyTo]
  iterate 8
    refine dv_step H (masks_diag i hi) (by omega) _ _ _ _ _ _ _ rfl (diag_off i i' hi _) (diag_off i i' hi _) rfl rfl
      (diag_off' i i' hi _) rfl (fun _ h => h) ?_
  refine Eq.trans ?_ (keyUp_zero _ _ _).symm
  refine read_skip _ _ (congrArg (fun z => z.2.1) (second_nil ..)) ?_
  refine (loop_to (H := H) (hi := hi) (n := (k0_t1_loop i).trips) (hn := le_refl _) ..).2.1.trans ?_
  rw [harg12.read_unread, ht]

set_option maxHeartbeats 4000000 in
/-- The cumulative sum's gradient after a point that is not the first. -/
theorem pointB_dc (hc0 : ¬cond0_0 i) (hi : i'.val = (i 0).val) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = colTo xo12 (Ins.dc (Ins.mk x0 x1 x2 x3 x4 x5 x6 x7 x8) i') (i'.val + 1) := by
  have H := loaded_unread arg1 harg1 arg2 harg2 arg3 harg3 arg4 harg4 arg5 harg5 arg6 harg6 arg7 harg7 arg8 harg8 arg9 harg9 x0 x1 x2 x3 x4 x5 x6 x7 x8
  have ht : (k0_t1_loop i).trips = i'.val := (trips1 i).trans hi.symm
  unfold out0_B_12
  unfold kernelRun0_B
  dsimp only
  rw [← colUp_colTo]
  iterate 8
    refine dc_step H (masks_diag i hi) (by omega) _ _ _ _ _ _ _ _ _ rfl (diag_off i i' hi _) (diag_off i i' hi _) rfl rfl
      (diag_off i i' hi _) rfl rfl (diag_off i i' hi _) (fun _ h => h) ?_
  refine Eq.trans ?_ (colUp_zero _ _ _).symm
  refine read_skip _ _ (congrArg (fun z => z.2.2.1) (second_nil ..)) ?_
  refine (loop_to (H := H) (hi := hi) (n := (k0_t1_loop i).trips) (hn := le_refl _) ..).2.2.1.trans ?_
  rw [harg13.read_unread, ht]

set_option maxHeartbeats 4000000 in
/-- The query gradient after a point that is not the first. -/
theorem pointB_dq (hc0 : ¬cond0_0 i) (hi : i'.val = (i 0).val) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 = dqOut (qryTo (fun _ => (0 : EReal)) (Ins.dq (Ins.mk x0 x1 x2 x3 x4 x5 x6 x7 x8) i') (i'.val + 1)) := by
  have H := loaded_unread arg1 harg1 arg2 harg2 arg3 harg3 arg4 harg4 arg5 harg5 arg6 harg6 arg7 harg7 arg8 harg8 arg9 harg9 x0 x1 x2 x3 x4 x5 x6 x7 x8
  have ht : (k0_t1_loop i).trips = i'.val := (trips1 i).trans hi.symm
  unfold out0_B_9
  unfold kernelRun0_B
  dsimp only
  refine read_dqOut _ _ (a := arg14) _ _ ?_
  rw [← qryUp_qryTo]
  show arg14.view.read (Elt Ideal) (arg14.view.writes (Elt Ideal) arg14.view.junk _) = _
  iterate 8
    refine dq_step H (masks_diag i hi) (by omega) _ _ _ _ _ _ _ _ _ _ rfl (diag_off i i' hi _) (diag_off i i' hi _) rfl rfl
      (diag_off i i' hi _) rfl rfl rfl (diag_off' i i' hi _) (fun _ h => h) ?_
  refine Eq.trans ?_ (qryUp_zero _ _).symm
  refine read_skip _ _ (congrArg (fun z => z.2.2.2) (second_nil ..)) ?_
  rw [View.writes_append]
  refine (loop_to (H := H) (hi := hi) (n := (k0_t1_loop i).trips) (hn := le_refl _) ..).2.2.2.trans ?_
  rw [ht]
  refine congrArg (fun z => qryTo z _ _) ?_
  refine read_zero _ _ _ _ fun y => ?_
  unfold k0_pay181
  rw [shapeCast_self]
  exact Ideal.ofBits_zero_f32

set_option maxHeartbeats 4000000 in
/-- The key gradient after a point: the first one starts from zeros. -/
theorem pointA_dk (hc0 : cond0_0 i) (hi : i'.val = (i 0).val) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = keyTo (fun _ => (0 : EReal)) (Ins.dk (Ins.mk x0 x1 x2 x3 x4 x5 x6 x7 x8) i') (i'.val + 1) := by
  have H := loaded_unread arg1 harg1 arg2 harg2 arg3 harg3 arg4 harg4 arg5 harg5 arg6 harg6 arg7 harg7 arg8 harg8 arg9 harg9 x0 x1 x2 x3 x4 x5 x6 x7 x8
  have ht : (k0_t1_loop i).trips = i'.val := (trips1 i).trans hi.symm
  have e : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = arg11.view.read (Elt Ideal) (arg11.view.writes (Elt Ideal) arg11.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.1) :=
    funext fun y => View.read_writes_apply_eq VO0_10 VO0_10.junk arg11.view arg11.view.junk _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y)
  rw [e]
  unfold kernelRun0_A
  dsimp only
  rw [← keyUp_keyTo]
  iterate 8
    refine dk_step H (masks_diag i hi) (by omega) _ _ _ _ _ _ _ _ _ _ rfl (diag_off i i' hi _) (diag_off i i' hi _) rfl rfl
      (diag_off i i' hi _) rfl rfl (diag_off' i i' hi _) rfl (fun _ h => h) ?_
  refine Eq.trans ?_ (keyUp_zero _ _ _).symm
  refine read_skip _ _ (congrArg (fun z => z.1) (second_nil ..)) ?_
  rw [View.writes_append]
  refine (loop_to (H := H) (hi := hi) (n := (k0_t1_loop i).trips) (hn := le_refl _) ..).1.trans ?_
  rw [ht]
  refine congrArg (fun z => keyTo z _ _) ?_
  refine read_zero _ _ _ _ fun y => ?_
  unfold k0_pay178
  rw [shapeCast_self]
  exact Ideal.ofBits_zero_f32

set_option maxHeartbeats 4000000 in
/-- The value gradient after a point: the first one starts from zeros. -/
theorem pointA_dv (hc0 : cond0_0 i) (hi : i'.val = (i 0).val) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = keyTo (fun _ => (0 : EReal)) (Ins.dv (Ins.mk x0 x1 x2 x3 x4 x5 x6 x7 x8) i') (i'.val + 1) := by
  have H := loaded_unread arg1 harg1 arg2 harg2 arg3 harg3 arg4 harg4 arg5 harg5 arg6 harg6 arg7 harg7 arg8 harg8 arg9 harg9 x0 x1 x2 x3 x4 x5 x6 x7 x8
  have ht : (k0_t1_loop i).trips = i'.val := (trips1 i).trans hi.symm
  have e : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = arg12.view.read (Elt Ideal) (arg12.view.writes (Elt Ideal) arg12.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1) :=
    funext fun y => View.read_writes_apply_eq VO0_11 VO0_11.junk arg12.view arg12.view.junk _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y)
  rw [e]
  unfold kernelRun0_A
  dsimp only
  rw [← keyUp_keyTo]
  iterate 8
    refine dv_step H (masks_diag i hi) (by omega) _ _ _ _ _ _ _ rfl (diag_off i i' hi _) (diag_off i i' hi _) rfl rfl
      (diag_off' i i' hi _) rfl (fun _ h => h) ?_
  refine Eq.trans ?_ (keyUp_zero _ _ _).symm
  refine read_skip _ _ (congrArg (fun z => z.2.1) (second_nil ..)) ?_
  rw [View.writes_append]
  refine (loop_to (H := H) (hi := hi) (n := (k0_t1_loop i).trips) (hn := le_refl _) ..).2.1.trans ?_
  rw [ht]
  refine congrArg (fun z => keyTo z _ _) ?_
  refine read_zero _ _ _ _ fun y => ?_
  unfold k0_pay179
  rw [shapeCast_self]
  exact Ideal.ofBits_zero_f32

set_option maxHeartbeats 4000000 in
/-- The cumulative sum's gradient after a point: the first one starts from zeros. -/
theorem pointA_dc (hc0 : cond0_0 i) (hi : i'.val = (i 0).val) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = colTo (fun _ => (0 : EReal)) (Ins.dc (Ins.mk x0 x1 x2 x3 x4 x5 x6 x7 x8) i') (i'.val + 1) := by
  have H := loaded_unread arg1 harg1 arg2 harg2 arg3 harg3 arg4 harg4 arg5 harg5 arg6 harg6 arg7 harg7 arg8 harg8 arg9 harg9 x0 x1 x2 x3 x4 x5 x6 x7 x8
  have ht : (k0_t1_loop i).trips = i'.val := (trips1 i).trans hi.symm
  have e : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = arg13.view.read (Elt Ideal) (arg13.view.writes (Elt Ideal) arg13.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1) :=
    funext fun y => View.read_writes_apply_eq VO0_12 VO0_12.junk arg13.view arg13.view.junk _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y)
  rw [e]
  unfold kernelRun0_A
  dsimp only
  rw [← colUp_colTo]
  iterate 8
    refine dc_step H (masks_diag i hi) (by omega) _ _ _ _ _ _ _ _ _ rfl (diag_off i i' hi _) (diag_off i i' hi _) rfl rfl
      (diag_off i i' hi _) rfl rfl (diag_off i i' hi _) (fun _ h => h) ?_
  refine Eq.trans ?_ (colUp_zero _ _ _).symm
  refine read_skip _ _ (congrArg (fun z => z.2.2.1) (second_nil ..)) ?_
  rw [View.writes_append]
  refine (loop_to (H := H) (hi := hi) (n := (k0_t1_loop i).trips) (hn := le_refl _) ..).2.2.1.trans ?_
  rw [ht]
  refine congrArg (fun z => colTo z _ _) ?_
  refine read_zero _ _ _ _ fun y => ?_
  unfold k0_pay180
  rw [shapeCast_self]
  exact Ideal.ofBits_zero_f32

set_option maxHeartbeats 4000000 in
/-- The query gradient after a point: the first one starts from zeros. -/
theorem pointA_dq (hc0 : cond0_0 i) (hi : i'.val = (i 0).val) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = dqOut (qryTo (fun _ => (0 : EReal)) (Ins.dq (Ins.mk x0 x1 x2 x3 x4 x5 x6 x7 x8) i') (i'.val + 1)) := by
  have H := loaded_unread arg1 harg1 arg2 harg2 arg3 harg3 arg4 harg4 arg5 harg5 arg6 harg6 arg7 harg7 arg8 harg8 arg9 harg9 x0 x1 x2 x3 x4 x5 x6 x7 x8
  have ht : (k0_t1_loop i).trips = i'.val := (trips1 i).trans hi.symm
  unfold out0_A_9
  unfold kernelRun0_A
  dsimp only
  refine read_dqOut _ _ (a := arg14) _ _ ?_
  rw [← qryUp_qryTo]
  show arg14.view.read (Elt Ideal) (arg14.view.writes (Elt Ideal) arg14.view.junk _) = _
  iterate 8
    refine dq_step H (masks_diag i hi) (by omega) _ _ _ _ _ _ _ _ _ _ rfl (diag_off i i' hi _) (diag_off i i' hi _) rfl rfl
      (diag_off i i' hi _) rfl rfl rfl (diag_off' i i' hi _) (fun _ h => h) ?_
  refine Eq.trans ?_ (qryUp_zero _ _).symm
  refine read_skip _ _ (congrArg (fun z => z.2.2.2) (second_nil ..)) ?_
  rw [View.writes_append]
  refine (loop_to (H := H) (hi := hi) (n := (k0_t1_loop i).trips) (hn := le_refl _) ..).2.2.2.trans ?_
  rw [ht]
  refine congrArg (fun z => qryTo z _ _) ?_
  refine read_zero _ _ _ _ fun y => ?_
  unfold k0_pay181
  rw [shapeCast_self]
  exact Ideal.ofBits_zero_f32

end Point

end Cert.KernelIdeal.Att

end
-- ==== Proof.Final.lean ====
/-
  The four output arrays after the run, as sums over the grid points.

  The key-side gradients and the cumulative sum's gradient stay in their buffers over all points and are written back
  once; each point adds its own share for the keys up to its block. The query gradient's blocks tile its array.
-/
module

public import proofs.«01_k».proof.Proof.Point
public import proofs.«01_k».proof.Proof.Gen.KernelIdeal.Value

@[expose] public section

set_option maxRecDepth 16384

noncomputable section

namespace Cert.KernelIdeal.Att

open Idealize.ShloMosaic Idealize.ShloMosaic.TcCoe Idealize.ShloMosaic.Pipeline Idealize.SL.Sem
open Cert.KernelIdeal Cert.KernelIdeal.Gen Cert.KernelIdeal.Value

variable (m : (ℓ : Loc nD τ sig) → Buf (Elt Ideal) ℓ) (c : Dev nD)

/-- What a point's read windows hold. -/
def insAt (t : Fin cfg0.N) : Ins := ⟨iblk m c 0 t, iblk m c 1 t, iblk m c 2 t, iblk m c 3 t, iblk m c 4 t, iblk m c 5 t, iblk m c 6 t, iblk m c 7 t, iblk m c 8 t⟩

/-- Grid point `i`. -/
def pt (i : Fin 8) : Fin cfg0.N := ⟨i.val, by rw [show cfg0.N = 8 from N_0]; exact i.isLt⟩

theorem coord (t : Fin cfg0.N) : (grid0.coords t 0).val = t.val := (by decide +kernel : ∀ t : Fin grid0.N, (grid0.coords t 0).val = t.val) t

/-- A sum over the points up to `n + 1`. -/
theorem sum_le_succ (f : Fin 8 → EReal) (n : ℕ) (hn : n + 1 < 8) :
    ∑ i : Fin 8, (if i.val ≤ n + 1 then f i else 0) = (∑ i : Fin 8, if i.val ≤ n then f i else 0) + f ⟨n + 1, hn⟩ := by
  rw [← Finset.sum_erase_add _ _ (Finset.mem_univ (⟨n + 1, hn⟩ : Fin 8)),
    ← Finset.sum_erase_add Finset.univ (fun i : Fin 8 => if i.val ≤ n then f i else 0) (Finset.mem_univ (⟨n + 1, hn⟩ : Fin 8)),
    if_pos (le_refl (n + 1)), if_neg (by simp), add_zero]
  refine congrArg (· + _) (Finset.sum_congr rfl fun k hk => if_congr ?_ rfl rfl)
  have : k.val ≠ n + 1 := fun h => Finset.ne_of_mem_erase hk (Fin.ext h)
  omega

theorem sum_le_zero (f : Fin 8 → EReal) : ∑ i : Fin 8, (if i.val ≤ 0 then f i else 0) = f 0 := by
  rw [Finset.sum_eq_single (0 : Fin 8)]
  · exact if_pos (le_refl 0)
  · intro b _ hb
    exact if_neg fun h => hb (Fin.ext (Nat.le_zero.mp h))
  · intro h
    exact absurd (Finset.mem_univ _) h

/-- The key gradient of the first points. -/
def dkSum (n : ℕ) : S512x2048.Idx → EReal := fun y =>
  ∑ i : Fin 8, if i.val ≤ n then (if (y 1).val < 256 * (i.val + 1) then (insAt m c (pt i)).dk i (y 0) (y 1) else 0) else 0

theorem outs_dk : ∀ (n : ℕ) (h : n < cfg0.N), (outsAt0 m c n h).2.1 = dkSum m c n := by
  have hN : cfg0.N = 8 := N_0
  intro n
  induction n with
  | zero =>
    intro h
    have e := congrArg (fun z => z.2.1) (outsAt0_A m c ⟨0, h⟩ rfl)
    refine e.trans ?_
    dsimp only
    rw [pointA_dk (i' := (0 : Fin 8)) (hi := (coord ⟨0, h⟩).symm)]
    funext y
    unfold keyTo dkSum
    rw [zero_add, sum_le_zero]
    rfl
  | succ n ih =>
    intro h
    have hB : ¬(⟨n + 1, h⟩ : Fin cfg0.N).val % 8 = 0 := by dsimp only; omega
    have e := congrArg (fun z => z.2.1) (outsAt0_B m c ⟨n + 1, h⟩ hB)
    refine e.trans ?_
    dsimp only
    rw [pointB_dk (i' := (⟨n + 1, by omega⟩ : Fin 8)) (hi := (coord ⟨n + 1, h⟩).symm)]
    have ih' := ih (by omega)
    funext y
    unfold keyTo dkSum
    rw [sum_le_succ _ n (by omega)]
    refine congrArg₂ (fun a b : EReal => a + b) ?_ rfl
    exact congrFun ih' y

/-- The key gradient. -/
def dkAll : S512x2048.Idx → EReal := fun y =>
  ∑ i : Fin 8, if (y 1).val < 256 * (i.val + 1) then (insAt m c (pt i)).dk i (y 0) (y 1) else 0

theorem dkSum_last : dkSum m c 7 = dkAll m c :=
  funext fun y => Finset.sum_congr rfl fun i _ => if_pos (by omega)

theorem final_dk : (dats m 0 c).arrAt 10 cfg0.N = dkAll m c := by
  have hN : cfg0.N = 8 := N_0
  have hz : ∀ t : Fin cfg0.N, (fun a => win0_10.index t a * main_v58_1.ty.shape.size a) = fun _ => 0 := fun t =>
    funext fun a => by
      rw [(by decide +kernel : ∀ t : Fin grid0.N, ∀ a, win0_10.index t a = 0) t a, Nat.zero_mul]
  refine (dats m 0 c).arrAt_eq_of_cover 10 (dkAll m c) (fun t hf => ?_) fun i => ?_
  · have ht : t.val = 7 := by have := (flush0_10 t).mp hf; have := t.isLt; omega
    refine (flushed10 m c t).trans ?_
    rw [outs_dk, ht, dkSum_last]
    exact (Memref.read_access_unit_zero (Elt Ideal) main_v58_1 (hz t) (fun a => by rw [congrFun (hz t) a]; simp) (dkAll m c)).symm
  · have h7 : 7 < cfg0.N := by omega
    refine ⟨⟨7, h7⟩, (flush0_10 _).mpr rfl, ?_⟩
    show i ∈ ((View.whole main_v58_1).slice (win0_10.rect ⟨7, h7⟩)).set
    rw [View.set_slice_whole, Rect.mem_set_unit]
    intro a
    show win0_10.index ⟨7, h7⟩ a * win0_10.size a ≤ (i a : ℕ) ∧ (i a : ℕ) < win0_10.index ⟨7, h7⟩ a * win0_10.size a + win0_10.xsize (grid0.coords ⟨7, h7⟩) a
    rw [(by decide +kernel : ∀ t : Fin grid0.N, ∀ a, win0_10.index t a = 0) ⟨7, h7⟩ a, Nat.zero_mul, Nat.zero_add]
    refine ⟨Nat.zero_le _, lt_of_lt_of_le (i a).isLt (le_of_eq ?_)⟩
    match a with
    | ⟨0, _⟩ => rfl
    | ⟨1, _⟩ => rfl

/-- The value gradient of the first points. -/
def dvSum (n : ℕ) : S512x2048.Idx → EReal := fun y =>
  ∑ i : Fin 8, if i.val ≤ n then (if (y 1).val < 256 * (i.val + 1) then (insAt m c (pt i)).dv i (y 0) (y 1) else 0) else 0

theorem outs_dv : ∀ (n : ℕ) (h : n < cfg0.N), (outsAt0 m c n h).2.2.1 = dvSum m c n := by
  have hN : cfg0.N = 8 := N_0
  intro n
  induction n with
  | zero =>
    intro h
    have e := congrArg (fun z => z.2.2.1) (outsAt0_A m c ⟨0, h⟩ rfl)
    refine e.trans ?_
    dsimp only
    rw [pointA_dv (i' := (0 : Fin 8)) (hi := (coord ⟨0, h⟩).symm)]
    funext y
    unfold keyTo dvSum
    rw [zero_add, sum_le_zero]
    rfl
  | succ n ih =>
    intro h
    have hB : ¬(⟨n + 1, h⟩ : Fin cfg0.N).val % 8 = 0 := by dsimp only; omega
    have e := congrArg (fun z => z.2.2.1) (outsAt0_B m c ⟨n + 1, h⟩ hB)
    refine e.trans ?_
    dsimp only
    rw [pointB_dv (i' := (⟨n + 1, by omega⟩ : Fin 8)) (hi := (coord ⟨n + 1, h⟩).symm)]
    have ih' := ih (by omega)
    funext y
    unfold keyTo dvSum
    rw [sum_le_succ _ n (by omega)]
    refine congrArg₂ (fun a b : EReal => a + b) ?_ rfl
    exact congrFun ih' y

/-- The value gradient. -/
def dvAll : S512x2048.Idx → EReal := fun y =>
  ∑ i : Fin 8, if (y 1).val < 256 * (i.val + 1) then (insAt m c (pt i)).dv i (y 0) (y 1) else 0

theorem dvSum_last : dvSum m c 7 = dvAll m c :=
  funext fun y => Finset.sum_congr rfl fun i _ => if_pos (by omega)

theorem final_dv : (dats m 0 c).arrAt 11 cfg0.N = dvAll m c := by
  have hN : cfg0.N = 8 := N_0
  have hz : ∀ t : Fin cfg0.N, (fun a => win0_11.index t a * main_v58_2.ty.shape.size a) = fun _ => 0 := fun t =>
    funext fun a => by
      rw [(by decide +kernel : ∀ t : Fin grid0.N, ∀ a, win0_11.index t a = 0) t a, Nat.zero_mul]
  refine (dats m 0 c).arrAt_eq_of_cover 11 (dvAll m c) (fun t hf => ?_) fun i => ?_
  · have ht : t.val = 7 := by have := (flush0_11 t).mp hf; have := t.isLt; omega
    refine (flushed11 m c t).trans ?_
    rw [outs_dv, ht, dvSum_last]
    exact (Memref.read_access_unit_zero (Elt Ideal) main_v58_2 (hz t) (fun a => by rw [congrFun (hz t) a]; simp) (dvAll m c)).symm
  · have h7 : 7 < cfg0.N := by omega
    refine ⟨⟨7, h7⟩, (flush0_11 _).mpr rfl, ?_⟩
    show i ∈ ((View.whole main_v58_2).slice (win0_11.rect ⟨7, h7⟩)).set
    rw [View.set_slice_whole, Rect.mem_set_unit]
    intro a
    show win0_11.index ⟨7, h7⟩ a * win0_11.size a ≤ (i a : ℕ) ∧ (i a : ℕ) < win0_11.index ⟨7, h7⟩ a * win0_11.size a + win0_11.xsize (grid0.coords ⟨7, h7⟩) a
    rw [(by decide +kernel : ∀ t : Fin grid0.N, ∀ a, win0_11.index t a = 0) ⟨7, h7⟩ a, Nat.zero_mul, Nat.zero_add]
    refine ⟨Nat.zero_le _, lt_of_lt_of_le (i a).isLt (le_of_eq ?_)⟩
    match a with
    | ⟨0, _⟩ => rfl
    | ⟨1, _⟩ => rfl

/-- The cumulative sum's gradient of the first points. -/
def dcSum (n : ℕ) : S2048x128.Idx → EReal := fun y =>
  ∑ i : Fin 8, if i.val ≤ n then (if (y 1).val < 8 ∧ (y 0).val < 256 * (i.val + 1) then (insAt m c (pt i)).dc i (y 0) (y 1) else 0) else 0

theorem outs_dc : ∀ (n : ℕ) (h : n < cfg0.N), (outsAt0 m c n h).2.2.2 = dcSum m c n := by
  have hN : cfg0.N = 8 := N_0
  intro n
  induction n with
  | zero =>
    intro h
    have e := congrArg (fun z => z.2.2.2) (outsAt0_A m c ⟨0, h⟩ rfl)
    refine e.trans ?_
    dsimp only
    rw [pointA_dc (i' := (0 : Fin 8)) (hi := (coord ⟨0, h⟩).symm)]
    funext y
    unfold colTo dcSum
    rw [zero_add, sum_le_zero]
    rfl
  | succ n ih =>
    intro h
    have hB : ¬(⟨n + 1, h⟩ : Fin cfg0.N).val % 8 = 0 := by dsimp only; omega
    have e := congrArg (fun z => z.2.2.2) (outsAt0_B m c ⟨n + 1, h⟩ hB)
    refine e.trans ?_
    dsimp only
    rw [pointB_dc (i' := (⟨n + 1, by omega⟩ : Fin 8)) (hi := (coord ⟨n + 1, h⟩).symm)]
    have ih' := ih (by omega)
    funext y
    unfold colTo dcSum
    rw [sum_le_succ _ n (by omega)]
    refine congrArg₂ (fun a b : EReal => a + b) ?_ rfl
    exact congrFun ih' y

/-- The cumulative sum's gradient. -/
def dcAll : S2048x128.Idx → EReal := fun y =>
  ∑ i : Fin 8, if (y 1).val < 8 ∧ (y 0).val < 256 * (i.val + 1) then (insAt m c (pt i)).dc i (y 0) (y 1) else 0

theorem dcSum_last : dcSum m c 7 = dcAll m c :=
  funext fun y => Finset.sum_congr rfl fun i _ => if_pos (by omega)

theorem final_dc : (dats m 0 c).arrAt 12 cfg0.N = dcAll m c := by
  have hN : cfg0.N = 8 := N_0
  have hz : ∀ t : Fin cfg0.N, (fun a => win0_12.index t a * main_v58_3.ty.shape.size a) = fun _ => 0 := fun t =>
    funext fun a => by
      rw [(by decide +kernel : ∀ t : Fin grid0.N, ∀ a, win0_12.index t a = 0) t a, Nat.zero_mul]
  refine (dats m 0 c).arrAt_eq_of_cover 12 (dcAll m c) (fun t hf => ?_) fun i => ?_
  · have ht : t.val = 7 := by have := (flush0_12 t).mp hf; have := t.isLt; omega
    refine (flushed12 m c t).trans ?_
    rw [outs_dc, ht, dcSum_last]
    exact (Memref.read_access_unit_zero (Elt Ideal) main_v58_3 (hz t) (fun a => by rw [congrFun (hz t) a]; simp) (dcAll m c)).symm
  · have h7 : 7 < cfg0.N := by omega
    refine ⟨⟨7, h7⟩, (flush0_12 _).mpr rfl, ?_⟩
    show i ∈ ((View.whole main_v58_3).slice (win0_12.rect ⟨7, h7⟩)).set
    rw [View.set_slice_whole, Rect.mem_set_unit]
    intro a
    show win0_12.index ⟨7, h7⟩ a * win0_12.size a ≤ (i a : ℕ) ∧ (i a : ℕ) < win0_12.index ⟨7, h7⟩ a * win0_12.size a + win0_12.xsize (grid0.coords ⟨7, h7⟩) a
    rw [(by decide +kernel : ∀ t : Fin grid0.N, ∀ a, win0_12.index t a = 0) ⟨7, h7⟩ a, Nat.zero_mul, Nat.zero_add]
    refine ⟨Nat.zero_le _, lt_of_lt_of_le (i a).isLt (le_of_eq ?_)⟩
    match a with
    | ⟨0, _⟩ => rfl
    | ⟨1, _⟩ => rfl

/-- The block of a query. -/
def qb (t : Fin 2048) : Fin 8 := ⟨t.val / 256, by omega⟩
/-- A query's column in its block. -/
def qc (t : Fin 2048) : Fin 256 := ⟨t.val % 256, by omega⟩

/-- The query gradient. -/
def dqAll : S512x2048.Idx → EReal := fun y =>
  (∑ j : Fin 8, if j.val < (qb (y 1)).val + 1 then (insAt m c (pt (qb (y 1)))).dq (qb (y 1)) j (y 0) (qc (y 1)) else 0) * Ideal.ofBits .f32 0x3E000000#32

theorem outs_dq (t : Fin cfg0.N) (i : Fin 8) (hi : i.val = t.val) : (outsAt0 m c t.val t.isLt).1 = dqOut (qryTo (fun _ => 0) ((insAt m c t).dq i) (i.val + 1)) := by
  by_cases h0 : t.val % 8 = 0
  · rw [outsAt0_A m c t h0]
    dsimp only
    rw [pointA_dq (i' := i) (hi := hi.trans (coord t).symm)]
    rfl
  · rw [outsAt0_B m c t h0]
    dsimp only
    rw [pointB_dq (i' := i) (hi := hi.trans (coord t).symm)]
    rfl

theorem index9 (t : Fin cfg0.N) : win0_9.index t 0 = 0 ∧ win0_9.index t 1 = t.val :=
  (by decide +kernel : ∀ t : Fin grid0.N, win0_9.index t 0 = 0 ∧ win0_9.index t 1 = t.val) t

theorem final_dq : (dats m 0 c).arrAt 9 cfg0.N = dqAll m c := by
  have hN : cfg0.N = 8 := N_0
  refine (dats m 0 c).arrAt_eq_of_cover 9 (dqAll m c) (fun t _ => ?_) fun i => ?_
  · have ht : t.val < 8 := hN ▸ t.isLt
    refine (flushed9 m c t).trans ?_
    rw [outs_dq m c t ⟨t.val, ht⟩ rfl]
    funext y
    rw [View.read_apply]
    show dqOut _ y = dqAll m c _
    have e : ((win0_9.rect t).emb y : S512x2048.Idx) = ix2 (y 0) (tk ⟨t.val, ht⟩ (y 1)) := by
      funext a
      apply Fin.ext
      have h := win0_9.rect_emb_val t y a
      match a with
      | ⟨0, _⟩ => exact h.trans (by show win0_9.index t 0 * 512 + (y 0).val = (y 0).val; rw [(index9 t).1]; omega)
      | ⟨1, _⟩ => exact h.trans (by show win0_9.index t 1 * 256 + (y 1).val = 256 * t.val + (y 1).val; rw [(index9 t).2]; omega)
    refine Eq.trans ?_ (congrArg (dqAll m c) e).symm
    have hy : (y 1).val < 256 := (y 1).isLt
    have e1 : qb (tk ⟨t.val, ht⟩ (y 1)) = ⟨t.val, ht⟩ := Fin.ext (by show (256 * t.val + (y 1).val) / 256 = t.val; omega)
    have e2 : qc (tk ⟨t.val, ht⟩ (y 1)) = y 1 := Fin.ext (by show (256 * t.val + (y 1).val) % 256 = (y 1).val; omega)
    have e3 : pt ⟨t.val, ht⟩ = t := rfl
    show (0 + ∑ j : Fin 8, _) * _ = (∑ j : Fin 8, if j.val < (qb (tk ⟨t.val, ht⟩ (y 1))).val + 1 then (insAt m c (pt (qb (tk ⟨t.val, ht⟩ (y 1))))).dq
      (qb (tk ⟨t.val, ht⟩ (y 1))) j (y 0) (qc (tk ⟨t.val, ht⟩ (y 1))) else 0) * _
    rw [e1, e2, e3, zero_add]
  · have h0 : (i 0).val < 512 := (i 0).isLt
    have h1 : (i 1).val < 2048 := (i 1).isLt
    have h7 : (i 1).val / 256 < cfg0.N := by omega
    refine ⟨⟨(i 1).val / 256, h7⟩, flush0_9 _, ?_⟩
    show i ∈ ((View.whole main_v58_0).slice (win0_9.rect ⟨(i 1).val / 256, h7⟩)).set
    rw [View.set_slice_whole, Rect.mem_set_unit]
    intro a
    match a with
    | ⟨0, _⟩ =>
      show win0_9.index ⟨(i 1).val / 256, h7⟩ 0 * 512 ≤ (i 0).val ∧ (i 0).val < win0_9.index ⟨(i 1).val / 256, h7⟩ 0 * 512 + 512
      rw [(index9 _).1]
      omega
    | ⟨1, _⟩ =>
      show win0_9.index ⟨(i 1).val / 256, h7⟩ 1 * 256 ≤ (i 1).val ∧ (i 1).val < win0_9.index ⟨(i 1).val / 256, h7⟩ 1 * 256 + 256
      rw [(index9 _).2]
      show (i 1).val / 256 * 256 ≤ (i 1).val ∧ (i 1).val < (i 1).val / 256 * 256 + 256
      omega

/-- The run: the results, and the arguments as they were. -/
theorem run_all (ρ : Dev nD → PrngReg) : θ_run (defs (F := Ideal)) (onTc (τ := τ) (main (F := Ideal))) ⟨m, fun _ => 0, ρ⟩ fun r => ∀ c : Dev nD,
      r.2.mem ((c : Thread nD τ).loc main_v58_0) = dqAll m c
      ∧ r.2.mem ((c : Thread nD τ).loc main_v58_1) = dkAll m c
      ∧ r.2.mem ((c : Thread nD τ).loc main_v58_2) = dvAll m c
      ∧ r.2.mem ((c : Thread nD τ).loc main_v58_3) = dcAll m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_dq m c), (h c).2.1.trans (final_dk m c), (h c).2.2.1.trans (final_dv m c),
    (h c).2.2.2.1.trans (final_dc m c), (h c).2.2.2.2⟩) (run_blocks m ρ)

end Cert.KernelIdeal.Att

end
-- ==== Proof.Host.lean ====
/-
  What the kernel's grid points read, from the arguments.

  A window of 256 columns holds at point `i` the columns from `256 * i`; the other windows hold their whole arrays. The
  arrays are written by the operations before the launch: the scaled and transposed queries, the keys, the values, the
  output's gradient, the logarithms of the sums of exponentials, and the output's products with its gradient.
-/
module

public import proofs.«01_k».proof.Proof.Ref
public import proofs.«01_k».proof.Proof.Final

@[expose] public section

set_option maxRecDepth 16384

noncomputable section

namespace Cert.KernelIdeal.Att

open Idealize.ShloMosaic Idealize.ShloMosaic.TcCoe Idealize.SL.Sem
open Cert.KernelIdeal Cert.KernelIdeal.Gen
open Cert.Att (RIn)
open Cert.ReferenceIdeal.Read (val_main_v20_0 val_main_v21 val_main_v28 val_main_v42 val_main_v50 val_main_v52)

variable (m : (ℓ : Loc nD τ sig) → Buf (Elt Ideal) ℓ) (c : Dev nD)

/-! ### The windows -/

theorem index0 (t : Fin cfg0.N) : win0_0.index t 0 = 0 ∧ win0_0.index t 1 = t.val :=
  (by decide +kernel : ∀ t : Fin grid0.N, win0_0.index t 0 = 0 ∧ win0_0.index t 1 = t.val) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = 0 ∧ win0_4.index t 1 = t.val :=
  (by decide +kernel : ∀ t : Fin grid0.N, win0_4.index t 0 = 0 ∧ win0_4.index t 1 = t.val) t
theorem index5 (t : Fin cfg0.N) : win0_5.index t 0 = 0 ∧ win0_5.index t 1 = t.val :=
  (by decide +kernel : ∀ t : Fin grid0.N, win0_5.index t 0 = 0 ∧ win0_5.index t 1 = t.val) t
theorem index6 (t : Fin cfg0.N) : win0_6.index t 0 = 0 ∧ win0_6.index t 1 = t.val :=
  (by decide +kernel : ∀ t : Fin grid0.N, win0_6.index t 0 = 0 ∧ win0_6.index t 1 = t.val) t
theorem index7 (t : Fin cfg0.N) : win0_7.index t 0 = 0 ∧ win0_7.index t 1 = 0 :=
  (by decide +kernel : ∀ t : Fin grid0.N, win0_7.index t 0 = 0 ∧ win0_7.index t 1 = 0) t
theorem index8 (t : Fin cfg0.N) : win0_8.index t 0 = 0 ∧ win0_8.index t 1 = t.val :=
  (by decide +kernel : ∀ t : Fin grid0.N, win0_8.index t 0 = 0 ∧ win0_8.index t 1 = t.val) t

theorem rd0 (A : S512x2048.Idx → EReal) (i : Fin 8) (a : Fin 512) (b : Fin 256) :
    ((cfg0.win 0).blk (pt i)).view.read (Elt Ideal) A (ix2 a b) = A (ix2 a (tk i b)) := by
  rw [View.read_apply]
  show A _ = A _
  refine congrArg _ (funext fun d => Fin.ext ?_)
  match d with
  | ⟨0, _⟩ => show win0_0.index (pt i) 0 * 512 + 1 * a.val = a.val; rw [(index0 _).1]; omega
  | ⟨1, _⟩ => show win0_0.index (pt i) 1 * 256 + 1 * b.val = 256 * i.val + b.val; rw [(index0 _).2]; show i.val * 256 + 1 * b.val = _; omega

theorem blk0 (i : Fin 8) (a : Fin 512) (b : Fin 256) : (insAt m c (pt i)).x0 (ix2 a b) = V m c main_v49 (ix2 a (tk i b)) :=
  rd0 (V m c main_v49) i a b

theorem rd1 (A : S2048x512.Idx → EReal) (i : Fin 8) (a : Fin 2048) (b : Fin 512) :
    ((cfg0.win 1).blk (pt i)).view.read (Elt Ideal) A (ix2 a b) = A (ix2 a b) := by
  rw [View.read_apply]
  show A _ = A _
  refine congrArg _ (funext fun d => Fin.ext ?_)
  match d with
  | ⟨0, _⟩ => show win0_1.index (pt i) 0 * 2048 + 1 * a.val = a.val; rw [(index1 _).1]; omega
  | ⟨1, _⟩ => show win0_1.index (pt i) 1 * 512 + 1 * b.val = b.val; rw [(index1 _).2]; omega

theorem blk1 (i : Fin 8) (a : Fin 2048) (b : Fin 512) : (insAt m c (pt i)).x1 (ix2 a b) = V m c main_v50 (ix2 a b) :=
  rd1 (V m c main_v50) i a b

theorem rd2 (A : S512x2048.Idx → EReal) (i : Fin 8) (a : Fin 512) (b : Fin 2048) :
    ((cfg0.win 2).blk (pt i)).view.read (Elt Ideal) A (ix2 a b) = A (ix2 a b) := by
  rw [View.read_apply]
  show A _ = A _
  refine congrArg _ (funext fun d => Fin.ext ?_)
  match d with
  | ⟨0, _⟩ => show win0_2.index (pt i) 0 * 512 + 1 * a.val = a.val; rw [(index2 _).1]; omega
  | ⟨1, _⟩ => show win0_2.index (pt i) 1 * 2048 + 1 * b.val = b.val; rw [(index2 _).2]; omega

theorem blk2 (i : Fin 8) (a : Fin 512) (b : Fin 2048) : (insAt m c (pt i)).x2 (ix2 a b) = V m c main_v52 (ix2 a b) :=
  rd2 (V m c main_v52) i a b

theorem rd3 (A : S2048x512.Idx → EReal) (i : Fin 8) (a : Fin 2048) (b : Fin 512) :
    ((cfg0.win 3).blk (pt i)).view.read (Elt Ideal) A (ix2 a b) = A (ix2 a b) := by
  rw [View.read_apply]
  show A _ = A _
  refine congrArg _ (funext fun d => Fin.ext ?_)
  match d with
  | ⟨0, _⟩ => show win0_3.index (pt i) 0 * 2048 + 1 * a.val = a.val; rw [(index3 _).1]; omega
  | ⟨1, _⟩ => show win0_3.index (pt i) 1 * 512 + 1 * b.val = b.val; rw [(index3 _).2]; omega

theorem blk3 (i : Fin 8) (a : Fin 2048) (b : Fin 512) : (insAt m c (pt i)).x3 (ix2 a b) = V m c main_v53 (ix2 a b) :=
  rd3 (V m c main_v53) i a b

theorem rd4 (A : S512x2048.Idx → EReal) (i : Fin 8) (a : Fin 512) (b : Fin 256) :
    ((cfg0.win 4).blk (pt i)).view.read (Elt Ideal) A (ix2 a b) = A (ix2 a (tk i b)) := by
  rw [View.read_apply]
  show A _ = A _
  refine congrArg _ (funext fun d => Fin.ext ?_)
  match d with
  | ⟨0, _⟩ => show win0_4.index (pt i) 0 * 512 + 1 * a.val = a.val; rw [(index4 _).1]; omega
  | ⟨1, _⟩ => show win0_4.index (pt i) 1 * 256 + 1 * b.val = 256 * i.val + b.val; rw [(index4 _).2]; show i.val * 256 + 1 * b.val = _; omega

theorem blk4 (i : Fin 8) (a : Fin 512) (b : Fin 256) : (insAt m c (pt i)).x4 (ix2 a b) = V m c main_v55 (ix2 a (tk i b)) :=
  rd4 (V m c main_v55) i a b

theorem rd5 (A : S8x2048.Idx → EReal) (i : Fin 8) (a : Fin 8) (b : Fin 256) :
    ((cfg0.win 5).blk (pt i)).view.read (Elt Ideal) A (ix2 a b) = A (ix2 a (tk i b)) := by
  rw [View.read_apply]
  show A _ = A _
  refine congrArg _ (funext fun d => Fin.ext ?_)
  match d with
  | ⟨0, _⟩ => show win0_5.index (pt i) 0 * 8 + 1 * a.val = a.val; rw [(index5 _).1]; omega
  | ⟨1, _⟩ => show win0_5.index (pt i) 1 * 256 + 1 * b.val = 256 * i.val + b.val; rw [(index5 _).2]; show i.val * 256 + 1 * b.val = _; omega

theorem blk5 (i : Fin 8) (a : Fin 8) (b : Fin 256) : (insAt m c (pt i)).x5 (ix2 a b) = V m c main_v29 (ix2 a (tk i b)) :=
  rd5 (V m c main_v29) i a b

theorem rd6 (A : S8x2048.Idx → EReal) (i : Fin 8) (a : Fin 8) (b : Fin 256) :
    ((cfg0.win 6).blk (pt i)).view.read (Elt Ideal) A (ix2 a b) = A (ix2 a (tk i b)) := by
  rw [View.read_apply]
  show A _ = A _
  refine congrArg _ (funext fun d => Fin.ext ?_)
  match d with
  | ⟨0, _⟩ => show win0_6.index (pt i) 0 * 8 + 1 * a.val = a.val; rw [(index6 _).1]; omega
  | ⟨1, _⟩ => show win0_6.index (pt i) 1 * 256 + 1 * b.val = 256 * i.val + b.val; rw [(index6 _).2]; show i.val * 256 + 1 * b.val = _; omega

theorem blk6 (i : Fin 8) (a : Fin 8) (b : Fin 256) : (insAt m c (pt i)).x6 (ix2 a b) = V m c main_v45 (ix2 a (tk i b)) :=
  rd6 (V m c main_v45) i a b

theorem rd7 (A : S2048x128.Idx → EReal) (i : Fin 8) (a : Fin 2048) (b : Fin 128) :
    ((cfg0.win 7).blk (pt i)).view.read (Elt Ideal) A (ix2 a b) = A (ix2 a b) := by
  rw [View.read_apply]
  show A _ = A _
  refine congrArg _ (funext fun d => Fin.ext ?_)
  match d with
  | ⟨0, _⟩ => show win0_7.index (pt i) 0 * 2048 + 1 * a.val = a.val; rw [(index7 _).1]; omega
  | ⟨1, _⟩ => show win0_7.index (pt i) 1 * 128 + 1 * b.val = b.val; rw [(index7 _).2]; omega

theorem blk7 (i : Fin 8) (a : Fin 2048) (b : Fin 128) : (insAt m c (pt i)).x7 (ix2 a b) = m ((c : Thread nD τ).loc main_arg3) (ix2 a b) :=
  (rd7 (V m c main_arg3) i a b).trans (congrFun (V_main_arg3 m c) _)

theorem rd8 (A : S8x2048.Idx → EReal) (i : Fin 8) (a : Fin 8) (b : Fin 256) :
    ((cfg0.win 8).blk (pt i)).view.read (Elt Ideal) A (ix2 a b) = A (ix2 a (tk i b)) := by
  rw [View.read_apply]
  show A _ = A _
  refine congrArg _ (funext fun d => Fin.ext ?_)
  match d with
  | ⟨0, _⟩ => show win0_8.index (pt i) 0 * 8 + 1 * a.val = a.val; rw [(index8 _).1]; omega
  | ⟨1, _⟩ => show win0_8.index (pt i) 1 * 256 + 1 * b.val = 256 * i.val + b.val; rw [(index8 _).2]; show i.val * 256 + 1 * b.val = _; omega

theorem blk8 (i : Fin 8) (a : Fin 8) (b : Fin 256) : (insAt m c (pt i)).x8 (ix2 a b) = V m c main_v57 (ix2 a (tk i b)) :=
  rd8 (V m c main_v57) i a b

/-! ### The arrays, from the arguments -/

/-- The argument arrays. -/
abbrev aq : S2048x512.Idx → EReal := m ((c : Thread nD τ).loc main_arg0)
abbrev ak : S2048x512.Idx → EReal := m ((c : Thread nD τ).loc main_arg1)
abbrev av : S2048x512.Idx → EReal := m ((c : Thread nD τ).loc main_arg2)
abbrev au : S2048x128.Idx → EReal := m ((c : Thread nD τ).loc main_arg3)
abbrev ag : S2048x512.Idx → EReal := m ((c : Thread nD τ).loc main_arg4)

/-- The logarithms of the sums of exponentials, from the masked scores and the queries' greatest scores. -/
def lseOf (y : FVec Ideal S8x2048x2048 .f32) (mx mx' : FVec Ideal S8x2048 .f32) : FVec Ideal S8x2048 .f32 :=
  addf mx (Host.log (Host.reduceAdd (Host.exp (subf y (broadcastInDim S8x2048x2048 ![0, 1, 2] bcast_S8x2048x1_S8x2048x2048_0_1_2
    (broadcastInDim S8x2048x1 ![0, 1] bcast_S8x2048_S8x2048x1_0_1 mx')))) (constant S_ .f32 0x00000000#32) reducesTo_S8x2048x2048_S8x2048_d2 h_S_))

/-- The products of the output's gradient with the output, summed over a head's channels. -/
def deltaOf (g o : FVec Ideal S2048x8x64 .f32) : FVec Ideal S8x2048 .f32 :=
  transpose S8x2048 [1, 0] (Host.reduceAdd (mulf g o) (constant S_ .f32 0x00000000#32) reducesTo_S2048x8x64_S2048x8_d2 h_S_) transposes_S2048x8_S8x2048_1_0

theorem V_v29 : V m c main_v29 = lseOf (val_main_v20_0 (F := Ideal) (aq m c) (ak m c) (au m c))
    (val_main_v21 (F := Ideal) (aq m c) (ak m c) (au m c)) (val_main_v21 (F := Ideal) (aq m c) (ak m c) (au m c)) := by
  show StableHlo.after (List.flatten [hostOps0, hostOps0_1, hostOps0_2]) (fun b => m (c, b)) (Proc.devRef .tc main_v29) = _
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

theorem V_v45 : V m c main_v45 = deltaOf (val_main_v52 (F := Ideal) (ag m c))
    (val_main_v50 (F := Ideal) (aq m c) (ak m c) (av m c) (au m c)) := by
  show StableHlo.after (List.flatten [hostOps0, hostOps0_1, hostOps0_2]) (fun b => m (c, b)) (Proc.devRef .tc main_v45) = _
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

theorem V_v49 : V m c main_v49 = transpose S512x2048 [1, 0] (mulf (F := Ideal) (φ := .f32) (aq m c)
    (broadcastInDim S2048x512 ![] bcast_S_S2048x512 (constant S_ .f32 0x3E000000#32))) transposes_S2048x512_S512x2048_1_0 := by
  show StableHlo.after (List.flatten [hostOps0, hostOps0_1, hostOps0_2]) (fun b => m (c, b)) (Proc.devRef .tc main_v49) = _
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

theorem V_v50 : V m c main_v50 = ak m c := by
  show StableHlo.after (List.flatten [hostOps0, hostOps0_1, hostOps0_2]) (fun b => m (c, b)) (Proc.devRef .tc main_v50) = _
  simp only [hostOps0, hostOps0_1, hostOps0_2, List.flatten_cons, List.flatten_nil, List.append_nil, List.cons_append, List.nil_append]
  after_results_simp
  rfl

theorem V_v52 : V m c main_v52 = transpose S512x2048 [1, 0] (ak m c) transposes_S2048x512_S512x2048_1_0 := by
  show StableHlo.after (List.flatten [hostOps0, hostOps0_1, hostOps0_2]) (fun b => m (c, b)) (Proc.devRef .tc main_v52) = _
  after_results_simp
  rfl

theorem V_v53 : V m c main_v53 = av m c := by
  show StableHlo.after (List.flatten [hostOps0, hostOps0_1, hostOps0_2]) (fun b => m (c, b)) (Proc.devRef .tc main_v53) = _
  simp only [hostOps0, hostOps0_1, hostOps0_2, List.flatten_cons, List.flatten_nil, List.append_nil, List.cons_append, List.nil_append]
  after_results_simp
  rfl

theorem V_v55 : V m c main_v55 = transpose S512x2048 [1, 0] (ag m c) transposes_S2048x512_S512x2048_1_0 := by
  show StableHlo.after (List.flatten [hostOps0, hostOps0_1, hostOps0_2]) (fun b => m (c, b)) (Proc.devRef .tc main_v55) = _
  after_results_simp
  rfl

theorem V_v57 : V m c main_v57 = extractStridedSlice S8x2048 ![0, 0] (transpose S128x2048 [1, 0] (au m c) transposes_S2048x128_S128x2048_1_0)
    slices_S128x2048_S8x2048_0_0 := by
  show StableHlo.after (List.flatten [hostOps0, hostOps0_1, hostOps0_2]) (fun b => m (c, b)) (Proc.devRef .tc main_v57) = _
  after_results_simp
  rfl

end Cert.KernelIdeal.Att
-- ==== Proof.Match.lean ====
/-
  The kernel's results at real arguments.

  A grid point's inputs are read as functions of `RIn`; its weights and score gradients are the real ones; and the
  sums over the points and blocks that the kernel visits are the sums over all tokens, since the terms that it leaves
  out are those of keys after the query, which are zero.
-/
module

public import proofs.«01_k».proof.Proof.Host

@[expose] public section

set_option maxRecDepth 16384

noncomputable section

namespace Cert.KernelIdeal.Att

open Idealize.ShloMosaic Idealize.ShloMosaic.TcCoe Idealize.SL.Sem
open Cert.KernelIdeal Cert.KernelIdeal.Gen
open Cert.Att
open Cert.ReferenceIdeal.Read (val_main_v20_0 val_main_v21 val_main_v28 val_main_v42 val_main_v50 val_main_v52)

/-! ### Sums over blocks -/

theorem sum_tk (f : Fin 2048 → ℝ) : ∑ j : Fin 8, ∑ a : Fin 256, f (tk j a) = ∑ t : Fin 2048, f t := by
  rw [← Fintype.sum_prod_type' (fun (j : Fin 8) (a : Fin 256) => f (tk j a))]
  refine Fintype.sum_equiv (finProdFinEquiv (m := 8) (n := 256)) _ _ fun x => congrArg f (Fin.ext ?_)
  show 256 * x.1.val + x.2.val = x.2.val + 256 * x.1.val
  omega

/-- The points before a key's block add nothing. -/
theorem sum_from (f : Fin 2048 → ℝ) (t : Fin 2048) (h0 : ∀ q, ¬ t ≤ q → f q = 0) :
    (∑ i : Fin 8, if t.val < 256 * (i.val + 1) then ∑ b : Fin 256, f (tk i b) else 0) = ∑ q : Fin 2048, f q := by
  rw [← sum_tk f]
  refine Finset.sum_congr rfl fun i _ => ?_
  split
  · rfl
  · rename_i h
    refine (Finset.sum_eq_zero fun b _ => h0 _ fun hle => h ?_).symm
    have h1 : t.val ≤ 256 * i.val + b.val := hle
    omega

/-- The blocks after a query's block add nothing. -/
theorem sum_upto (f : Fin 2048 → ℝ) (q : Fin 2048) (h0 : ∀ t, ¬ t ≤ q → f t = 0) :
    (∑ j : Fin 8, if j.val < (qb q).val + 1 then ∑ a : Fin 256, f (tk j a) else 0) = ∑ t : Fin 2048, f t := by
  rw [← sum_tk f]
  refine Finset.sum_congr rfl fun j _ => ?_
  split
  · rfl
  · rename_i h
    refine (Finset.sum_eq_zero fun a _ => h0 _ fun hle => h ?_).symm
    have h1 : 256 * j.val + a.val ≤ q.val := hle
    have h2 : (qb q).val = q.val / 256 := rfl
    omega

theorem ite_of (p : Prop) [Decidable p] {a : EReal} {x : ℝ} (ha : a = (x : EReal)) :
    (if p then a else 0) = (((if p then x else 0) : ℝ) : EReal) := by
  split
  · exact ha
  · rfl

/-! ### A point's inputs -/

variable {m : (ℓ : Loc nD τ sig) → Buf (Elt Ideal) ℓ} {c : Dev nD} {R : RIn}
variable (H : Ref.Holds R (aq m c) (ak m c) (av m c) (au m c) (ag m c))
variable {M : Fin 8 → Fin 2048 → ℝ}
variable (HM : ∀ i : S8x2048.Idx, val_main_v21 (F := Ideal) (aq m c) (ak m c) (au m c) i = (M (i 0) (i 1) : EReal))

include H

theorem x0_real (i : Fin 8) (a : Fin 512) (b : Fin 256) : (insAt m c (pt i)).x0 (ix2 a b) = ((R.q (tk i b) a * (1 / 8) : ℝ) : EReal) := by
  rw [blk0, V_v49]
  have hq := H.q
  generalize aq m c = A at hq ⊢
  refine (transpose_apply [1, 0] _ transposes_S2048x512_S512x2048_1_0 (ix2 a (tk i b)) (ix2 (tk i b) a)
    (fun d => match d with | ⟨0, _⟩ => rfl | ⟨1, _⟩ => rfl)).trans ?_
  rw [ValueIdx.mulf_apply]
  refine mul_of (hq _) ?_
  refine (broadcastInDim_apply _ bcast_S_S2048x512 _ _ (fun d => d.elim0) (fun d => d.elim0)).trans ?_
  exact eighth

theorem x1_real (i : Fin 8) (t : Fin 2048) (a : Fin 512) : (insAt m c (pt i)).x1 (ix2 t a) = (R.k t a : EReal) := by
  rw [blk1, V_v50]; exact H.k _

theorem x2_real (i : Fin 8) (a : Fin 512) (t : Fin 2048) : (insAt m c (pt i)).x2 (ix2 a t) = (R.k t a : EReal) := by
  rw [blk2, V_v52]
  refine (transpose_apply [1, 0] _ transposes_S2048x512_S512x2048_1_0 (ix2 a t) (ix2 t a)
    (fun d => match d with | ⟨0, _⟩ => rfl | ⟨1, _⟩ => rfl)).trans (H.k _)

theorem x3_real (i : Fin 8) (t : Fin 2048) (a : Fin 512) : (insAt m c (pt i)).x3 (ix2 t a) = (R.v t a : EReal) := by
  rw [blk3, V_v53]; exact H.v _

theorem x4_real (i : Fin 8) (a : Fin 512) (b : Fin 256) : (insAt m c (pt i)).x4 (ix2 a b) = (R.g (tk i b) a : EReal) := by
  rw [blk4, V_v55]
  refine (transpose_apply [1, 0] _ transposes_S2048x512_S512x2048_1_0 (ix2 a (tk i b)) (ix2 (tk i b) a)
    (fun d => match d with | ⟨0, _⟩ => rfl | ⟨1, _⟩ => rfl)).trans (H.g _)

theorem x7_real (i : Fin 8) (t : Fin 2048) (l : Fin 128) : (insAt m c (pt i)).x7 (ix2 t l) = (R.u t l : EReal) := by
  rw [blk7]; exact H.u _

theorem x8_real (i : Fin 8) (h : Fin 8) (b : Fin 256) : (insAt m c (pt i)).x8 (ix2 h b) = (R.u (tk i b) (ln h) : EReal) := by
  rw [blk8, V_v57]
  refine (extractStridedSlice_apply _ _ slices_S128x2048_S8x2048_0_0 (ix2 h (tk i b)) (ix2 (ln h) (tk i b))
    (fun d => match d with
      | ⟨0, _⟩ => by show h.val = 0 + h.val; omega
      | ⟨1, _⟩ => by show (tk i b).val = 0 + (tk i b).val; omega)).trans ?_
  refine (transpose_apply [1, 0] _ transposes_S2048x128_S128x2048_1_0 (ix2 (ln h) (tk i b)) (ix2 (tk i b) (ln h))
    (fun d => match d with | ⟨0, _⟩ => rfl | ⟨1, _⟩ => rfl)).trans (H.u _)

include HM

theorem x5_real (i : Fin 8) (h : Fin 8) (b : Fin 256) :
    (insAt m c (pt i)).x5 (ix2 h b) = ((M h (tk i b) + Real.log (R.z M h (tk i b)) : ℝ) : EReal) := by
  rw [blk5, V_v29]
  have e : lseOf (val_main_v20_0 (F := Ideal) (aq m c) (ak m c) (au m c)) (val_main_v21 (F := Ideal) (aq m c) (ak m c) (au m c))
      (val_main_v28 (F := Ideal) (aq m c) (ak m c) (au m c))
      = addf (F := Ideal) (φ := .f32) (val_main_v21 (F := Ideal) (aq m c) (ak m c) (au m c))
        (Host.log (F := Ideal) (φ := .f32) (val_main_v42 (F := Ideal) (aq m c) (ak m c) (au m c))) := rfl
  rw [show val_main_v28 (F := Ideal) (aq m c) (ak m c) (au m c) = val_main_v21 (F := Ideal) (aq m c) (ak m c) (au m c) from
    funext fun j => Ref.s28 j] at e
  rw [e, ValueIdx.addf_apply]
  refine add_of (HM _) ?_
  have hz : val_main_v42 (F := Ideal) (aq m c) (ak m c) (au m c) (ix2 h (tk i b)) = (R.z M h (tk i b) : EReal) := Ref.s42 H HM _
  refine (congrArg Ideal.log hz).trans ((Ideal.log_coe _).trans ?_)
  rw [if_neg (not_le.2 (R.z_pos M _ _))]

theorem x6_real (i : Fin 8) (h : Fin 8) (b : Fin 256) : (insAt m c (pt i)).x6 (ix2 h b) = (R.row M h (tk i b) : EReal) := by
  rw [blk6, V_v45]
  have hg := Ref.s52 H
  have ho := Ref.s50 H HM
  generalize val_main_v52 (F := Ideal) (ag m c) = G at hg ⊢
  generalize val_main_v50 (F := Ideal) (aq m c) (ak m c) (av m c) (au m c) = O at ho ⊢
  unfold deltaOf
  refine (transpose_apply [1, 0] _ transposes_S2048x8_S8x2048_1_0 (ix2 h (tk i b)) (ix2 (tk i b) h)
    (fun d => match d with | ⟨0, _⟩ => rfl | ⟨1, _⟩ => rfl)).trans ?_
  simp only [Host.reduceAdd, Ideal.hostReduceAdd_def]
  rw [Ideal.hostReduceAdd_single reducesTo_S2048x8x64_S2048x8_d2 (by decide), R.row_eq M]
  refine zero_add_sum_of Ideal.ofBits_zero_f32 _ _ fun d => ?_
  rw [ValueIdx.mulf_apply]
  exact mul_of (hg _) (ho _)

/-! ### A point's weights and gradients -/

omit HM in
theorem sc_real (i : Fin 8) (h : Fin 8) (t : Fin 2048) (b : Fin 256) : (insAt m c (pt i)).sc h t b = (R.s h (tk i b) t : EReal) := by
  unfold Ins.sc
  refine (add_of (sum_of _ (fun d => R.k t (ch h d) * (R.q (tk i b) (ch h d) * (1 / 8))) fun d => mul_of (x1_real H _ _ _) (x0_real H _ _ _))
    (sub_of (x8_real H _ _ _) (x7_real H _ _ _))).trans (congrArg (fun r : ℝ => (r : EReal)) ?_)
  unfold RIn.s
  rw [Finset.sum_mul, ← add_sub_assoc]
  refine congrArg (fun r => r + R.u (tk i b) (ln h) - R.u t (ln h)) (Finset.sum_congr rfl fun d _ => by ring)

theorem pr_real (i : Fin 8) (h : Fin 8) (t : Fin 2048) (b : Fin 256) :
    (insAt m c (pt i)).pr i h t b = (R.p M h (tk i b) t : EReal) := by
  unfold Ins.pr
  rw [x5_real H HM, sc_real H]
  by_cases hc : t.val ≤ 256 * i.val + b.val
  · rw [if_pos hc, ← EReal.coe_sub, Ideal.exp_coe, R.exp_lse M h (tk i b) t hc]
  · rw [if_neg hc, EReal.bot_sub, Ideal.exp_bot, R.p_late M h (tk i b) t hc, EReal.coe_zero]

omit HM in
theorem dp_real (i : Fin 8) (h : Fin 8) (t : Fin 2048) (b : Fin 256) : (insAt m c (pt i)).dp h t b = (R.dp h (tk i b) t : EReal) := by
  unfold Ins.dp
  refine (sum_of _ (fun d => R.v t (ch h d) * R.g (tk i b) (ch h d)) fun d => mul_of (x3_real H _ _ _) (x4_real H _ _ _)).trans
    (congrArg (fun r : ℝ => (r : EReal)) ?_)
  unfold RIn.dp
  exact Finset.sum_congr rfl fun d _ => mul_comm _ _

theorem ds_real (i : Fin 8) (h : Fin 8) (t : Fin 2048) (b : Fin 256) :
    (insAt m c (pt i)).ds i h t b = (R.ds M h (tk i b) t : EReal) :=
  mul_of (pr_real H HM _ _ _ _) (sub_of (dp_real H _ _ _ _) (x6_real H HM _ _ _))

/-! ### The results -/

theorem dkAll_real (y : S512x2048.Idx) : dkAll m c y = (R.dk M (y 0) (y 1) : EReal) := by
  unfold dkAll
  refine (sum_of _ _ fun i => ite_of _ (sum_of _ (fun b => R.q (tk i b) (y 0) * (1 / 8) * R.ds M (hd (y 0)) (tk i b) (y 1))
    fun b => mul_of (x0_real H _ _ _) (ds_real H HM _ _ _ _))).trans (congrArg (fun r : ℝ => (r : EReal)) ?_)
  refine (sum_from (fun q => R.q q (y 0) * (1 / 8) * R.ds M (hd (y 0)) q (y 1)) (y 1) fun q hq => ?_).trans ?_
  · rw [R.ds_late M _ _ _ hq, mul_zero]
  · exact Finset.sum_congr rfl fun q _ => by ring

theorem dvAll_real (y : S512x2048.Idx) : dvAll m c y = (R.dv M (y 0) (y 1) : EReal) := by
  unfold dvAll
  refine (sum_of _ _ fun i => ite_of _ (sum_of _ (fun b => R.g (tk i b) (y 0) * R.p M (hd (y 0)) (tk i b) (y 1))
    fun b => mul_of (x4_real H _ _ _) (pr_real H HM _ _ _ _))).trans (congrArg (fun r : ℝ => (r : EReal)) ?_)
  refine sum_from (fun q => R.g q (y 0) * R.p M (hd (y 0)) q (y 1)) (y 1) fun q hq => ?_
  rw [R.p_late M _ _ _ hq, mul_zero]

theorem dqAll_real (y : S512x2048.Idx) : dqAll m c y = (R.dq M (y 0) (y 1) : EReal) := by
  unfold dqAll
  have hq : tk (qb (y 1)) (qc (y 1)) = y 1 := Fin.ext (by
    show 256 * ((y 1).val / 256) + (y 1).val % 256 = (y 1).val
    omega)
  refine (mul_of (sum_of _ _ fun j => ite_of _ (sum_of _
    (fun a => R.k (tk j a) (y 0) * R.ds M (hd (y 0)) (tk (qb (y 1)) (qc (y 1))) (tk j a))
    fun a => mul_of (x2_real H _ _ _) (ds_real H HM _ _ _ _))) eighth).trans (congrArg (fun r : ℝ => (r : EReal)) ?_)
  rw [hq, sum_upto (fun t => R.k t (y 0) * R.ds M (hd (y 0)) (y 1) t) (y 1) fun t ht => by rw [R.ds_late M _ _ _ ht, mul_zero]]
  unfold RIn.dq
  rw [Finset.sum_mul]
  exact Finset.sum_congr rfl fun t _ => by ring

theorem dcAll_real (y : S2048x128.Idx) : dcAll m c y = if h : (y 1).val < 8 then (R.du M ⟨(y 1).val, h⟩ (y 0) : EReal) else 0 := by
  unfold dcAll
  by_cases h : (y 1).val < 8
  · rw [dif_pos h]
    have hl : lh (y 1) = ⟨(y 1).val, h⟩ := Fin.ext (by show (y 1).val % 8 = (y 1).val; omega)
    refine (sum_of _ _ fun i => ite_of _ (x := -∑ b : Fin 256, R.ds M ⟨(y 1).val, h⟩ (tk i b) (y 0)) ?_).trans (congrArg (fun r : ℝ => (r : EReal)) ?_)
    · unfold Ins.dc
      rw [hl, zero_sub]
      exact neg_of (sum_of _ _ fun b => ds_real H HM _ _ _ _)
    · refine (Finset.sum_congr rfl fun i _ => ?_).trans ((sum_from (fun q => -R.ds M ⟨(y 1).val, h⟩ q (y 0)) (y 0) fun q hq => by
        rw [R.ds_late M _ _ _ hq, neg_zero]).trans (Finset.sum_neg_distrib _))
      by_cases hc : (y 0).val < 256 * (i.val + 1)
      · rw [if_pos ⟨h, hc⟩, if_pos hc, Finset.sum_neg_distrib]
      · rw [if_neg (fun hh => hc hh.2), if_neg hc]
  · rw [dif_neg h]
    exact Finset.sum_eq_zero fun i _ => if_neg fun hh => h hh.1

end Cert.KernelIdeal.Att
-- ==== Proof.Attn.lean ====
/-
  The claims about the attention's backward pass.
-/
module

public import proofs.«01_k».proof.Defs
public import proofs.«01_k».proof.Proof.Match
public import proofs.«01_k».proof.Proof.Gen.Kernel.Frame
public import proofs.«01_k».proof.Proof.Gen.Pre_finite

@[expose] public section

set_option maxRecDepth 16384

noncomputable section

namespace Cert.Proof.Attn

open Idealize.ShloMosaic Idealize.SL.Sem Idealize.ShloMosaic.TcCoe
open Cert.Att Cert.KernelIdeal.Att

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ

/-- The reference's run leaves its arguments as they are; it has no semaphore. -/
theorem frame_ri : Cert.quiescent_ReferenceIdeal := fun m ρ _ =>
  (θ_run (Cert.ReferenceIdeal.defs (F := Ideal)) _ _).mono (fun r h => And.intro (fun c => (h c).2.2.2.2)
      (Idealize.ShloMosaic.sem_eq_zero_of_no_sems (by decide) r.2))
    (Cert.ReferenceIdeal.Value.run (F := Ideal) m ρ)
theorem frame_ri_finite : Cert.quiescent_ReferenceIdeal_pre_finite := fun m ρ _ => frame_ri m ρ trivial

/-- The number that hides a score stands for minus infinity. -/
theorem preserves : Cert.preserves_Kernel_KernelIdeal :=
  IdealRules.named_const.statement Cert.KernelIdeal.κ "mask" .f32 0xF149F2CA#32 ⊥ rfl

/-! ### Finite arguments are real -/

theorem infinity : Ideal.ofBits .f32 0x7F800000#32 = ⊤ := by
  simp [Ideal.ofBits, Ideal.ieee, -EReal.coe_mul]

theorem real_of_lt {a : EReal} (h : FloatOps.cmpf (F := Ideal) (φ := .f32) .olt (FloatOps.hostAbsf a) (Ideal.ofBits .f32 0x7F800000#32) = 1#1) :
    ∃ r : ℝ, a = (r : EReal) := by
  rw [infinity] at h
  have h' : max a (-a) < ⊤ := by
    by_contra hn
    have : FloatOps.cmpf (F := Ideal) (φ := .f32) .olt (FloatOps.hostAbsf a) ⊤ = 0#1 := by
      show BitVec.ofBool (decide (max a (-a) < ⊤)) = 0#1
      rw [decide_eq_false hn]; rfl
    rw [this] at h
    exact absurd h (by decide)
  refine ⟨a.toReal, (EReal.coe_toReal (fun ht => ?_) (fun hb => ?_)).symm⟩
  · rw [ht] at h'; exact absurd h' (by simp)
  · rw [hb] at h'; exact absurd h' (by simp)

/-- An array whose entries are all finite is a matrix of real numbers. -/
theorem real_array {n0 n1 : ℕ} (A : (⟨2, ![n0, n1]⟩ : Shape).Idx → EReal) (h : ∀ i, ∃ r : ℝ, A i = (r : EReal)) :
    ∃ f : Fin n0 → Fin n1 → ℝ, ∀ i, A i = (f (i 0) (i 1) : EReal) := by
  choose f hf using h
  exact ⟨fun a b => f (ix2 a b), fun i => (hf i).trans (congrArg (fun j => (f j : EReal)) (eq_ix2 i))⟩

theorem holds (m : (ℓ : Loc Cert.KernelIdeal.nD Cert.KernelIdeal.τ Cert.KernelIdeal.sig) → Buf (Elt Ideal) ℓ)
    (hp : Cert.Pre_KernelIdeal_finite m) (c : Dev Cert.KernelIdeal.nD) :
    ∃ R : RIn, Ref.Holds R (aq m c) (ak m c) (av m c) (au m c) (ag m c) := by
  obtain ⟨h0, h1, h2, h3, h4⟩ := hp c
  obtain ⟨q, hq⟩ := real_array (aq m c) fun i => real_of_lt (congrFun h0 i)
  obtain ⟨k, hk⟩ := real_array (ak m c) fun i => real_of_lt (congrFun h1 i)
  obtain ⟨v, hv⟩ := real_array (av m c) fun i => real_of_lt (congrFun h2 i)
  obtain ⟨u, hu⟩ := real_array (au m c) fun i => real_of_lt (congrFun h3 i)
  obtain ⟨g, hg⟩ := real_array (ag m c) fun i => real_of_lt (congrFun h4 i)
  exact ⟨⟨q, k, v, g, u⟩, ⟨hq, hk, hv, hu, hg⟩⟩

/-! ### The results -/

theorem values (m : (ℓ : Loc Cert.KernelIdeal.nD Cert.KernelIdeal.τ Cert.KernelIdeal.sig) → Buf (Elt Ideal) ℓ)
    (hp : Cert.Pre_KernelIdeal_finite m) (c : Dev Cert.KernelIdeal.nD) :
    Cert.ReferenceIdeal.Read.val_main_v90 (F := Ideal) (aq m c) (ak m c) (av m c) (au m c) (ag m c) = dqAll m c
    ∧ Cert.ReferenceIdeal.Read.val_main_v91 (F := Ideal) (aq m c) (ak m c) (av m c) (au m c) (ag m c) = dkAll m c
    ∧ Cert.ReferenceIdeal.Read.val_main_v92 (F := Ideal) (aq m c) (ak m c) (au m c) (ag m c) = dvAll m c
    ∧ Cert.ReferenceIdeal.Read.val_main_v79 (F := Ideal) (aq m c) (ak m c) (av m c) (au m c) (ag m c) = dcAll m c := by
  obtain ⟨R, H⟩ := holds m hp c
  obtain ⟨M, HM⟩ := Ref.s21_real H
  exact ⟨funext fun y => (Ref.dq_ref H HM y).trans (dqAll_real H HM y).symm,
    funext fun y => (Ref.dk_ref H HM y).trans (dkAll_real H HM y).symm,
    funext fun y => (Ref.dv_ref H HM y).trans (dvAll_real H HM y).symm,
    funext fun y => (Ref.du_ref H HM y).trans (dcAll_real H HM y).symm⟩

theorem algebraic : Cert.algebraic_KernelIdeal_ReferenceIdeal_pre_finite := by
  intro m ρ m' ρ' hp hagree
  refine ⟨fun c => dqAll m c, fun c => dkAll m c, fun c => dvAll m c, fun c => dcAll m c, run_all m ρ, ?_⟩
  refine (θ_run (Cert.ReferenceIdeal.defs (F := Ideal)) _ _).mono (fun r h c => ?_) (Cert.ReferenceIdeal.Value.run (F := Ideal) m' ρ')
  obtain ⟨a0, a1, a2, a3, a4⟩ := hagree c
  obtain ⟨e0, e1, e2, e3⟩ := values m hp c
  refine ⟨(h c).1.trans ((Cert.ReferenceIdeal.Read.val_main_v90_eq m' c).trans ?_),
    (h c).2.1.trans ((Cert.ReferenceIdeal.Read.val_main_v91_eq m' c).trans ?_),
    (h c).2.2.1.trans ((Cert.ReferenceIdeal.Read.val_main_v92_eq m' c).trans ?_),
    (h c).2.2.2.1.trans ((Cert.ReferenceIdeal.Read.val_main_v79_eq m' c).trans ?_), (h c).2.2.2.2⟩
  · rw [a0, a1, a2, a3, a4]; exact e0
  · rw [a0, a1, a2, a3, a4]; exact e1
  · rw [a0, a1, a3, a4]; exact e2
  · rw [a0, a1, a2, a3, a4]; exact e3

end Cert.Proof.Attn
-- ==== Proof.Blocks.lean ====
/-
  The hidden layer's columns, cut in four blocks of 704.

  The feed-forward calls hold an array of 2816 columns as four blocks [4, 2048, 704]. This file reads such an array at an
  index, and turns a sum over the columns into the sum over the blocks and their columns.
-/
module

public import Idealize.ShloMosaic.Lib.ValueIdx
public import Idealize.ShloMosaic.Lib.Pipeline.Value
public import Idealize.ShloMosaic.Lib.Pointwise.Contract
public import Idealize.ShloMosaic.PureOps.Ideal.Laws

@[expose] public section

noncomputable section

namespace Cert.Blocks

open Idealize.ShloMosaic

/-- Column `f` of block `j`. -/
def col (j : Fin 4) (f : Fin 704) : Fin 2816 := ⟨704 * j.val + f.val, by omega⟩

theorem blocks_apply {α : Type} (A : (⟨2, ![2048, 2816]⟩ : Shape).Idx → α)
    (h1 : (⟨2, ![2048, 2816]⟩ : Shape).ShapeCasts ⟨3, ![2048, 4, 704]⟩)
    (h2 : (⟨3, ![2048, 4, 704]⟩ : Shape).Transposes [1, 0, 2] ⟨3, ![4, 2048, 704]⟩)
    (j : Fin 4) (t : Fin 2048) (f : Fin 704) :
    transpose ⟨3, ![4, 2048, 704]⟩ [1, 0, 2] (shapeCast ⟨3, ![2048, 4, 704]⟩ A h1) h2 (ix3 j t f) = A (ix2 t (col j f)) := by
  refine (transpose_apply _ _ _ (ix3 j t f) (ix3 t j f) fun b => by
    match b with | ⟨0, _⟩ => rfl | ⟨1, _⟩ => rfl | ⟨2, _⟩ => rfl).trans ?_
  refine shapeCast_apply _ _ (ix3 t j f) (ix2 t (col j f)) ?_
  rw [Shape.rowMajor_val_two, Shape.rowMajor_val_three]
  show t.val * 2816 + (704 * j.val + f.val) = (t.val * 4 + j.val) * 704 + f.val
  omega

/-- Over the reals a change of format leaves a value as it is. -/
theorem rounded_apply {S : Shape} (X : FVec Ideal S .f32) (h : FTy.bf16.bits < FTy.f32.bits) (i : S.Idx) :
    truncf (F := Ideal) .bf16 X h i = X i := rfl

/-- A sum over the columns, block by block. -/
theorem sum_cols (F : Fin 2816 → EReal) : ∑ x : Fin 2816, F x = ∑ j : Fin 4, ∑ f : Fin 704, F (col j f) := by
  rw [← Fintype.sum_prod_type' (f := fun (j : Fin 4) (f : Fin 704) => F (col j f))]
  refine (Equiv.sum_comp ((finProdFinEquiv (m := 4) (n := 704)).trans (finCongr (by norm_num))) F).symm.trans ?_
  refine Finset.sum_congr rfl fun x _ => congrArg F (Fin.ext ?_)
  show x.2.val + 704 * x.1.val = 704 * x.1.val + x.2.val
  omega

end Cert.Blocks
-- ==== Proof.W13.lean ====
/-
  The gradient of the feed-forward block's first weights.

  Grid point `j` multiplies the transposed block `j` of the gate's (and of the up half's) gradient by the block's input. The
  result's entry (s, j, f, d) is the sum over the positions of the gradient's column `2816 s + 704 j + f` times the input's
  column `d`.
-/
module

public import proofs.«01_k».proof.Defs
public import proofs.«01_k».proof.Proof.Blocks
public import proofs.«01_k».proof.Proof.Gen.Kernel2.Frame
public import proofs.«01_k».proof.Proof.Gen.Kernel2Ideal.Value
public import proofs.«01_k».proof.Proof.Gen.Reference2Ideal.Read

@[expose] public section

set_option maxRecDepth 16384

noncomputable section

namespace Cert.Kernel2Ideal.W13

open Idealize.ShloMosaic Idealize.ShloMosaic.TcCoe Idealize.ShloMosaic.Pipeline Idealize.SL.Sem
open Cert.Kernel2Ideal Cert.Kernel2Ideal.Gen Cert.Kernel2Ideal.Value Cert.Blocks

variable (m : (ℓ : Loc nD τ sig) → Buf (Elt Ideal) ℓ) (c : Dev nD)

/-- The block's input and the gradient of its product with the weights. -/
def inp : S2048x1024.Idx → EReal := m ((c : Thread nD τ).loc main_arg0)
def dz : S2048x5632.Idx → EReal := m ((c : Thread nD τ).loc main_arg1)

/-- Column `f` of block `j` of half `s`. -/
def wcol (s : Fin 2) (j : Fin 4) (f : Fin 704) : Fin 5632 := ⟨2816 * s.val + 704 * j.val + f.val, by omega⟩

/-- The result. -/
def grad : S2x4x704x1024.Idx → EReal := fun y => ∑ t : Fin 2048, dz m c (ix2 t (wcol (y 0) (y 1) (y 2))) * inp m c (ix2 t (y 3))

/-! ### What the launch finds -/

theorem V_gate (j : Fin 4) (t : Fin 2048) (f : Fin 704) : V m c main_v3 (ix3 j t f) = dz m c (ix2 t (wcol 0 j f)) := by
  have e : V m c main_v3 = (truncf (F := Ideal) .bf16 (transpose S4x2048x704 [1, 0, 2] (shapeCast S2048x4x704 (extractStridedSlice S2048x2816 ![0, 0] (dz m c)
      slices_S2048x5632_S2048x2816_0_0) shapeCasts_S2048x2816_S2048x4x704) transposes_S2048x4x704_S4x2048x704_1_0_2) bitsLt_bf16_f32 : FVec Ideal S4x2048x704 .bf16) := by
    show StableHlo.after hostOps0 (fun b => m (c, b)) (Proc.devRef .tc main_v3) = _
    after_results
    all_goals rfl
  refine (congrFun e _).trans ((rounded_apply _ _ _).trans ((blocks_apply _ _ _ j t f).trans ?_))
  refine extractStridedSlice_apply _ _ _ _ _ fun a => ?_
  match a with
  | ⟨0, _⟩ => show t.val = 0 + t.val; omega
  | ⟨1, _⟩ => show 2816 * 0 + 704 * j.val + f.val = 0 + (704 * j.val + f.val); omega

theorem V_up (j : Fin 4) (t : Fin 2048) (f : Fin 704) : V m c main_v7 (ix3 j t f) = dz m c (ix2 t (wcol 1 j f)) := by
  have e : V m c main_v7 = (truncf (F := Ideal) .bf16 (transpose S4x2048x704 [1, 0, 2] (shapeCast S2048x4x704 (extractStridedSlice S2048x2816 ![0, 2816] (dz m c)
      slices_S2048x5632_S2048x2816_0_2816) shapeCasts_S2048x2816_S2048x4x704) transposes_S2048x4x704_S4x2048x704_1_0_2) bitsLt_bf16_f32 : FVec Ideal S4x2048x704 .bf16) := by
    show StableHlo.after hostOps0 (fun b => m (c, b)) (Proc.devRef .tc main_v7) = _
    after_results
    all_goals rfl
  refine (congrFun e _).trans ((rounded_apply _ _ _).trans ((blocks_apply _ _ _ j t f).trans ?_))
  refine extractStridedSlice_apply _ _ _ _ _ fun a => ?_
  match a with
  | ⟨0, _⟩ => show t.val = 0 + t.val; omega
  | ⟨1, _⟩ => show 2816 * 1 + 704 * j.val + f.val = 2816 + (704 * j.val + f.val); omega

theorem V_inp : V m c main_v8 = (inp m c : S2048x1024.Idx → EReal) := by
  show StableHlo.after hostOps0 (fun b => m (c, b)) (Proc.devRef .tc main_v8) = _
  after_results
  all_goals rfl

/-! ### The windows' blocks -/

theorem index0 (t : Fin cfg0.N) : win0_0.index t 0 = 0 ∧ win0_0.index t 1 = 0 :=
  (by decide +kernel : ∀ t : Fin grid0.N, win0_0.index t 0 = 0 ∧ win0_0.index t 1 = 0) t
theorem index1 (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t
theorem index2 (t : Fin cfg0.N) : win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0) t
theorem index3 (t : Fin cfg0.N) : win0_3.index t 0 = 0 ∧ win0_3.index t 1 = t.val ∧ win0_3.index t 2 = 0 ∧ win0_3.index t 3 = 0 :=
  (by decide +kernel : ∀ t : Fin grid0.N, win0_3.index t 0 = 0 ∧ win0_3.index t 1 = t.val ∧ win0_3.index t 2 = 0 ∧ win0_3.index t 3 = 0) t

/-- Grid point `j`. -/
def pt (j : Fin 4) : Fin cfg0.N := ⟨j.val, by rw [show cfg0.N = 4 from N_0]; exact j.isLt⟩

theorem rd0 (A : S2048x1024.Idx → EReal) (j : Fin 4) (t : Fin 2048) (d : Fin 1024) :
    ((cfg0.win 0).blk (pt j)).view.read (Elt Ideal) A (ix2 t d) = A (ix2 t d) := by
  rw [View.read_apply]
  show A _ = A _
  refine congrArg _ (funext fun a => Fin.ext ?_)
  match a with
  | ⟨0, _⟩ => show win0_0.index (pt j) 0 * 2048 + 1 * t.val = t.val; rw [(index0 _).1]; omega
  | ⟨1, _⟩ => show win0_0.index (pt j) 1 * 1024 + 1 * d.val = d.val; rw [(index0 _).2]; omega

theorem rd1 (A : S4x2048x704.Idx → EReal) (j : Fin 4) (t : Fin 2048) (f : Fin 704) :
    ((cfg0.win 1).blk (pt j)).view.read (Elt Ideal) A (ix3 0 t f) = A (ix3 j t f) := by
  rw [View.read_apply]
  show A _ = A _
  refine congrArg _ (funext fun a => Fin.ext ?_)
  match a with
  | ⟨0, _⟩ => show win0_1.index (pt j) 0 * 1 + 1 * 0 = j.val; rw [(index1 _).1]; show j.val * 1 + 1 * 0 = _; omega
  | ⟨1, _⟩ => show win0_1.index (pt j) 1 * 2048 + 1 * t.val = t.val; rw [(index1 _).2.1]; omega
  | ⟨2, _⟩ => show win0_1.index (pt j) 2 * 704 + 1 * f.val = f.val; rw [(index1 _).2.2]; omega

theorem rd2 (A : S4x2048x704.Idx → EReal) (j : Fin 4) (t : Fin 2048) (f : Fin 704) :
    ((cfg0.win 2).blk (pt j)).view.read (Elt Ideal) A (ix3 0 t f) = A (ix3 j t f) := by
  rw [View.read_apply]
  show A _ = A _
  refine congrArg _ (funext fun a => Fin.ext ?_)
  match a with
  | ⟨0, _⟩ => show win0_2.index (pt j) 0 * 1 + 1 * 0 = j.val; rw [(index2 _).1]; show j.val * 1 + 1 * 0 = _; omega
  | ⟨1, _⟩ => show win0_2.index (pt j) 1 * 2048 + 1 * t.val = t.val; rw [(index2 _).2.1]; omega
  | ⟨2, _⟩ => show win0_2.index (pt j) 2 * 704 + 1 * f.val = f.val; rw [(index2 _).2.2]; omega

theorem blk0 (j : Fin 4) (t : Fin 2048) (d : Fin 1024) : iblk m c 0 (pt j) (ix2 t d) = inp m c (ix2 t d) :=
  (rd0 (V m c main_v8) j t d).trans (congrFun (V_inp m c) _)
theorem blk1 (j : Fin 4) (t : Fin 2048) (f : Fin 704) : iblk m c 1 (pt j) (ix3 0 t f) = dz m c (ix2 t (wcol 0 j f)) :=
  (rd1 (V m c main_v3) j t f).trans (V_gate m c j t f)
theorem blk2 (j : Fin 4) (t : Fin 2048) (f : Fin 704) : iblk m c 2 (pt j) (ix3 0 t f) = dz m c (ix2 t (wcol 1 j f)) :=
  (rd2 (V m c main_v7) j t f).trans (V_up m c j t f)

/-! ### What a grid point stores -/

theorem pay1 (x : Vec Ideal S1x2048x704 .bf16) (h : Vec Ideal S2048x1024 .bf16) (u v : Fin 1) (f : Fin 704) (d : Fin 1024) :
    k0_pay1 x h (ix4 u v f d) = ∑ t : Fin 2048, x (ix3 0 t f) * h (ix2 t d) := by
  unfold k0_pay1
  refine (shapeCast_apply _ _ (ix4 u v f d) (ix2 f d) ?_).trans ?_
  · rw [Shape.rowMajor_val_two, Shape.rowMajor_val_four]
    show f.val * 1024 + d.val = ((u.val * 1 + v.val) * 704 + f.val) * 1024 + d.val
    omega
  show matmul (F := Ideal) dot_S2048x704_S2048x1024_S704x1024_0_0_1_1_n_n none (shapeCast S2048x704 x shapeCasts_S1x2048x704_S2048x704)
    (shapeCast S2048x1024 h shapeCasts_S2048x1024_S2048x1024) (constant S704x1024 .f32 0#32) (ix2 f d) = _
  show Ideal.matmul _ _ _ _ _ = _
  simp only [matmulApply]
  refine (congrArg (· + _) Ideal.ofBits_zero_f32).trans ((zero_add _).trans ?_)
  refine Finset.sum_congr rfl fun t _ => congrArg₂ (fun a b : EReal => a * b) ?_ ?_
  · refine shapeCast_apply _ _ (ix2 t f) (ix3 0 t f) ?_
    rw [Shape.rowMajor_val_two, Shape.rowMajor_val_three]
    show ((0 : ℕ) * 2048 + t.val) * 704 + f.val = t.val * 704 + f.val
    omega
  · rw [shapeCast_self]
    rfl

theorem pay2 (x : Vec Ideal S1x2048x704 .bf16) (h : Vec Ideal S2048x1024 .bf16) : k0_pay2 x h = k0_pay1 x h := rfl

/-- What point `j` leaves in its buffer is block `j` of the result. -/
theorem out_apply (j : Fin 4) (y : S2x1x704x1024.Idx) :
    out0_3 (iblk m c 0 (pt j)) (iblk m c 1 (pt j)) (iblk m c 2 (pt j)) y = grad m c (ix4 (y 0) j (y 2) (y 3)) := by
  unfold out0_3
  have z2 : (![0, 0] : Fin 2 → ℕ) = fun _ => 0 := funext fun a => by match a with | ⟨0, _⟩ => rfl | ⟨1, _⟩ => rfl
  have z3 : (![0, 0, 0] : Fin 3 → ℕ) = fun _ => 0 := funext fun a => by match a with | ⟨0, _⟩ => rfl | ⟨1, _⟩ => rfl | ⟨2, _⟩ => rfl
  rw [View.ld_unit_zero (S := S1x2048x704) z3, View.ld_unit_zero (S := S1x2048x704) z3, View.ld_unit_zero (S := S2048x1024) z2]
  refine View.canon_apply_of_pieces (Val := Elt Ideal) (fun y : S2x1x704x1024.Idx => grad m c (ix4 (y 0) j (y 2) (y 3))) _ (fun p hp x => ?_) y (cover0_3 _ _ y)
  simp only [List.mem_cons, List.not_mem_nil, or_false] at hp
  rcases hp with rfl | rfl
  · rw [pay2]
    refine (congrArg _ (eq_ix4 x)).trans ((pay1 _ _ (x 0) (x 1) (x 2) (x 3)).trans ?_)
    refine Finset.sum_congr rfl fun t _ => (congrArg₂ (fun a b : EReal => a * b) (blk2 m c j t (x 2)) (blk0 m c j t (x 3))).trans ?_
    refine congrArg₂ (fun a b : EReal => a * b) (congrArg (fun k => dz m c (ix2 t k)) (Fin.ext ?_)) (congrArg (fun k => inp m c (ix2 t k)) (Fin.ext ?_))
    · have : (x 0).val < 1 := (x 0).isLt
      show 2816 * 1 + 704 * j.val + (x 2).val = 2816 * (1 + 1 * (x 0).val) + 704 * j.val + (0 + 1 * (x 2).val)
      omega
    · show (x 3).val = 0 + 1 * (x 3).val
      omega
  · refine (congrArg _ (eq_ix4 x)).trans ((pay1 _ _ (x 0) (x 1) (x 2) (x 3)).trans ?_)
    refine Finset.sum_congr rfl fun t _ => (congrArg₂ (fun a b : EReal => a * b) (blk1 m c j t (x 2)) (blk0 m c j t (x 3))).trans ?_
    refine congrArg₂ (fun a b : EReal => a * b) (congrArg (fun k => dz m c (ix2 t k)) (Fin.ext ?_)) (congrArg (fun k => inp m c (ix2 t k)) (Fin.ext ?_))
    · have : (x 0).val < 1 := (x 0).isLt
      show 2816 * 0 + 704 * j.val + (x 2).val = 2816 * (0 + 1 * (x 0).val) + 704 * j.val + (0 + 1 * (x 2).val)
      omega
    · show (x 3).val = 0 + 1 * (x 3).val
      omega

/-! ### The run -/

theorem final : (dats m 0 c).arrAt 3 cfg0.N = grad m c := by
  have hN : cfg0.N = 4 := N_0
  refine (dats m 0 c).arrAt_eq_of_cover 3 (grad m c) (fun t _ => ?_) fun i => ?_
  · have ht : t.val < 4 := hN ▸ t.isLt
    refine (flushed3 m c t).trans ?_
    funext y
    rw [View.read_apply]
    refine (out_apply m c ⟨t.val, ht⟩ y).trans ?_
    show grad m c _ = grad m c _
    refine congrArg (grad m c) (funext fun a => Fin.ext ?_)
    have h := win0_3.rect_emb_val t y a
    match a with
    | ⟨0, _⟩ => exact Eq.trans (by show (y 0).val = win0_3.index t 0 * 2 + (y 0).val; rw [(index3 t).1]; omega) h.symm
    | ⟨1, _⟩ =>
      have h1 : (y 1).val < 1 := (y 1).isLt
      exact Eq.trans (by show t.val = win0_3.index t 1 * 1 + (y 1).val; rw [(index3 t).2.1]; omega) h.symm
    | ⟨2, _⟩ => exact Eq.trans (by show (y 2).val = win0_3.index t 2 * 704 + (y 2).val; rw [(index3 t).2.2.1]; omega) h.symm
    | ⟨3, _⟩ => exact Eq.trans (by show (y 3).val = win0_3.index t 3 * 1024 + (y 3).val; rw [(index3 t).2.2.2]; omega) h.symm
  · have h0 : (i 0).val < 2 := (i 0).isLt
    have h1 : (i 1).val < 4 := (i 1).isLt
    have h2 : (i 2).val < 704 := (i 2).isLt
    have h3 : (i 3).val < 1024 := (i 3).isLt
    have h7 : (i 1).val < cfg0.N := by omega
    refine ⟨⟨(i 1).val, h7⟩, flush0_3 _, ?_⟩
    show i ∈ ((View.whole main_v9).slice (win0_3.rect ⟨(i 1).val, h7⟩)).set
    rw [View.set_slice_whole, Rect.mem_set_unit]
    intro a
    match a with
    | ⟨0, _⟩ =>
      show win0_3.index ⟨(i 1).val, h7⟩ 0 * 2 ≤ (i 0).val ∧ (i 0).val < win0_3.index ⟨(i 1).val, h7⟩ 0 * 2 + 2
      rw [(index3 _).1]; omega
    | ⟨1, _⟩ =>
      show win0_3.index ⟨(i 1).val, h7⟩ 1 * 1 ≤ (i 1).val ∧ (i 1).val < win0_3.index ⟨(i 1).val, h7⟩ 1 * 1 + 1
      rw [(index3 _).2.1]
      show (i 1).val * 1 ≤ (i 1).val ∧ (i 1).val < (i 1).val * 1 + 1
      omega
    | ⟨2, _⟩ =>
      show win0_3.index ⟨(i 1).val, h7⟩ 2 * 704 ≤ (i 2).val ∧ (i 2).val < win0_3.index ⟨(i 1).val, h7⟩ 2 * 704 + 704
      rw [(index3 _).2.2.1]; omega
    | ⟨3, _⟩ =>
      show win0_3.index ⟨(i 1).val, h7⟩ 3 * 1024 ≤ (i 3).val ∧ (i 3).val < win0_3.index ⟨(i 1).val, h7⟩ 3 * 1024 + 1024
      rw [(index3 _).2.2.2]; omega

/-- The reference's result is the same sum. -/
theorem ref (a : S2048x1024.Idx → EReal) (z : S2048x5632.Idx → EReal) (y : S2x4x704x1024.Idx) :
    Cert.Reference2Ideal.Read.val_main_v6 (F := Ideal) a z y
      = ∑ t : Fin 2048, z (ix2 t (wcol (y 0) (y 1) (y 2))) * a (ix2 t (y 3)) := by
  have e5 : Cert.Reference2Ideal.Read.idx_main_v5 y = ix2 (wcol (y 0) (y 1) (y 2)) (y 3) := by
    have h1 : (y 1).val < 4 := (y 1).isLt
    have h2 : (y 2).val < 704 := (y 2).isLt
    have h3 : (y 3).val < 1024 := (y 3).isLt
    funext b
    apply Fin.ext
    match b with
    | ⟨0, _⟩ =>
      show ((((y 0).val * 4 + (y 1).val) * 704 + (y 2).val) * 1024 + (y 3).val) / 1024 = 2816 * (y 0).val + 704 * (y 1).val + (y 2).val
      omega
    | ⟨1, _⟩ =>
      show ((((y 0).val * 4 + (y 1).val) * 704 + (y 2).val) * 1024 + (y 3).val) % 1024 = (y 3).val
      omega
  rw [Cert.Reference2Ideal.Read.val_main_v6_apply]
  refine (Cert.Reference2Ideal.Read.val_main_v5_apply _ _ _).trans ?_
  rw [e5]
  refine (Cert.Reference2Ideal.Read.val_main_v4_apply _ _ _).trans ((Cert.Reference2Ideal.Read.val_main_v3_apply _ _ _).trans
    ((Cert.Reference2Ideal.Read.val_main_v2_apply _ _ _).trans ?_))
  refine Finset.sum_congr rfl fun t _ => congrArg₂ (fun p q : EReal => p * q) (congrArg z ?_) (congrArg a ?_)
  · funext b; match b with | ⟨0, _⟩ => rfl | ⟨1, _⟩ => rfl
  · funext b; match b with | ⟨0, _⟩ => rfl | ⟨1, _⟩ => rfl

/-! ### The claims -/

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run (Cert.Reference2Ideal.defs (F := Ideal)) _ _).mono (fun r h => And.intro (fun c => (h c).2)
      (Idealize.ShloMosaic.sem_eq_zero_of_no_sems (by decide) r.2))
    (Cert.Reference2Ideal.Value.run (F := Ideal) m ρ)
theorem preserves : Cert.preserves_Kernel2_Kernel2Ideal := trivial

theorem algebraic : Cert.algebraic_Kernel2Ideal_Reference2Ideal := by
  intro m ρ m' ρ' _ hagree
  refine ⟨fun c => grad m c, (θ_run (defs (F := Ideal)) _ _).mono (fun r h c => ?_) (run_blocks (F := Ideal) m ρ), ?_⟩
  · exact ⟨(h c).1.trans (final m c), (h c).2⟩
  refine (θ_run (Cert.Reference2Ideal.defs (F := Ideal)) _ _).mono (fun r h c => ?_) (Cert.Reference2Ideal.Value.run (F := Ideal) m' ρ')
  obtain ⟨a0, a1⟩ := hagree c
  refine ⟨(h c).1.trans ((Cert.Reference2Ideal.Read.val_main_v6_eq _ _).trans ?_), (h c).2⟩
  rw [a0, a1]
  exact funext fun y => ref _ _ y

end Cert.Kernel2Ideal.W13
-- ==== Proof.W2.lean ====
/-
  The gradient of the feed-forward block's second weights.

  The first grid point copies the output's gradient into scratch, four stretches of positions, and halves it. Grid point `j`
  multiplies the transposed block `j` of the hidden values by it. The result's entry (k, d) is the sum over the positions of
  hidden column `k` times half of the gradient's column `d`.
-/
module

public import Idealize.ShloMosaic.Lib.Pipeline.ValueKit.Tiles
public import proofs.«01_k».proof.Defs
public import proofs.«01_k».proof.Proof.Blocks
public import proofs.«01_k».proof.Proof.Gen.Kernel3.Frame
public import proofs.«01_k».proof.Proof.Gen.Kernel3Ideal.Value
public import proofs.«01_k».proof.Proof.Gen.Reference3Ideal.Read

@[expose] public section

set_option maxRecDepth 16384

noncomputable section

namespace Cert.Kernel3Ideal.W2

open Idealize.ShloMosaic Idealize.ShloMosaic.TcCoe Idealize.ShloMosaic.Pipeline Idealize.SL.Sem
open Cert.Kernel3Ideal Cert.Kernel3Ideal.Gen Cert.Kernel3Ideal.Value Cert.Blocks

def half : EReal := Ideal.ofBits .f32 0x3F000000#32

/-- Half of an array. -/
def halfOf (g : S2048x1024.Idx → EReal) : Vec Ideal S2048x1024 .bf16 := fun y => half * g y

theorem z2 : (![0, 0] : Fin 2 → ℕ) = fun _ => 0 := funext fun a => by match a with | ⟨0, _⟩ => rfl | ⟨1, _⟩ => rfl
theorem z3 : (![0, 0, 0] : Fin 3 → ℕ) = fun _ => 0 := funext fun a => by match a with | ⟨0, _⟩ => rfl | ⟨1, _⟩ => rfl | ⟨2, _⟩ => rfl

/-! ### What a grid point computes, on any buffers -/

section Body

variable (c : Dev nD) (i : grid0.Coords) (arg2 : Memref sig .tc .vmem S1x2048x704 .bf16) (harg2 : arg2.IsWhole)
  (arg3 : Memref sig .tc .vmem S704x1024 .bf16) (harg3 : arg3.IsWhole) (arg4 : Memref sig .tc .vmem S2048x1024 .bf16) (harg4 : arg4.IsWhole)
  (arg5 : Memref sig .tc .vmem S2048x1024 .f32) (harg5 : arg5.IsWhole) (x0 : Vec Ideal S1x2048x704 .bf16) (xs0 : Vec Ideal S2048x1024 .bf16)
  (fh0 : HbBuf0 (F := Ideal) c hbM0_0)

/-- The copies' pieces, last first. -/
def copies : List (View.Piece (Elt Ideal) S2048x1024 .f32) :=
  [⟨Rect.unit ![1536, 0] S512x1024.size inb_S2048x1024_S512x1024_1536_0, kernelRun0_A.sl.dma0_3 c fh0⟩,
    ⟨Rect.unit ![1024, 0] S512x1024.size inb_S2048x1024_S512x1024_1024_0, kernelRun0_A.sl.dma0_2 c fh0⟩,
    ⟨Rect.unit ![512, 0] S512x1024.size inb_S2048x1024_S512x1024_512_0, kernelRun0_A.sl.dma0_1 c fh0⟩,
    ⟨Rect.unit ![0, 0] S512x1024.size inb_S2048x1024_S512x1024_0_0, kernelRun0_A.sl.dma0 c fh0⟩]

/-- Together they are the operand. -/
theorem copies_apply (y : S2048x1024.Idx) : View.canon (copies c fh0) y = fh0 y := by
  refine View.canon_apply_of_pieces (Val := Elt Ideal) (S := S2048x1024) (e := .f32) fh0 _ (fun p hp x => ?_) y
    (View.cover_of_tiled (copies c fh0) S512x1024.size (by rfl) y)
  simp only [copies, List.mem_cons, List.not_mem_nil, or_false] at hp
  rcases hp with rfl | rfl | rfl | rfl <;> rfl

theorem landed {o sz : Fin 2 → ℕ} (inb : ∀ a, o a + sz a ≤ S2048x1024.size a) (x : (Rect.unit (s := S2048x1024) o sz inb).shape.Idx) :
    arg5.view.readCov (copies c fh0) (Rect.unit (s := S2048x1024) o sz inb).toLoadRect x = fh0 ((Rect.unit (s := S2048x1024) o sz inb).emb x) :=
  (congrFun (View.readCov_eq_canon' arg5.view (copies c fh0) _) x).trans (copies_apply c fh0 _)

theorem pay1 (v : Vec Ideal S512x1024 .f32) (x : S512x1024.Idx) : k0_pay1 v x = half * v x := by
  unfold k0_pay1
  exact congrFun (shapeCast_self _ _) x
theorem pay3 (v : Vec Ideal S512x1024 .f32) (x : S512x1024.Idx) : k0_pay4 (k0_pay3 v) x = half * v x := pay1 v x
theorem pay5 (v : Vec Ideal S512x1024 .f32) (x : S512x1024.Idx) : k0_pay5 v x = half * v x := pay1 v x
theorem pay6 (v : Vec Ideal S512x1024 .f32) (x : S512x1024.Idx) : k0_pay6 v x = half * v x := pay1 v x

/-- The scratch after the first point. -/
theorem halves_apply (y : S2048x1024.Idx) : View.canon (kernelRun0_A.sl.HS0_4 (F := Ideal) c arg5 fh0) y = half * fh0 y := by
  refine View.canon_apply_of_pieces (Val := Elt Ideal) (S := S2048x1024) (e := .bf16) (halfOf fh0) _ (fun p hp x => ?_) y
    (View.cover_of_tiled (kernelRun0_A.sl.HS0_4 (F := Ideal) c arg5 fh0) S512x1024.size (by rfl) y)
  simp only [kernelRun0_A.sl.HS0_4, List.mem_cons, List.not_mem_nil, or_false] at hp
  rcases hp with rfl | rfl | rfl | rfl
  · exact (pay1 _ x).trans (congrArg (fun s : EReal => half * s) (landed c arg5 fh0 inb_S2048x1024_S512x1024_1536_0 x))
  · exact (pay6 _ x).trans (congrArg (fun s : EReal => half * s) (landed c arg5 fh0 inb_S2048x1024_S512x1024_1024_0 x))
  · exact (pay5 _ x).trans (congrArg (fun s : EReal => half * s) (landed c arg5 fh0 inb_S2048x1024_S512x1024_512_0 x))
  · exact (pay3 _ x).trans (congrArg (fun s : EReal => half * s) (landed c arg5 fh0 inb_S2048x1024_S512x1024_0_0 x))

theorem scratch_A (hc0 : cond0_0 i) :
    sout0_A_0 (F := Ideal) c i arg2 harg2 arg3 harg3 arg4 harg4 arg5 harg5 hc0 x0 fh0 = halfOf fh0 := by
  unfold sout0_A_0
  rw [View.read_writes_junk_eq_canon]
  exact funext fun y => halves_apply c arg5 fh0 y

/-- The product. -/
theorem pay2 (x : Vec Ideal S1x2048x704 .bf16) (g : Vec Ideal S2048x1024 .bf16) (f : Fin 704) (d : Fin 1024) :
    k0_pay2 x g (ix2 f d) = ∑ t : Fin 2048, x (ix3 0 t f) * g (ix2 t d) := by
  unfold k0_pay2
  refine (congrFun (shapeCast_self _ _) _).trans ?_
  show matmul (F := Ideal) (φ₁ := .bf16) (φ₂ := .bf16) dot_S2048x704_S2048x1024_S704x1024_0_0_1_1_n_n none (shapeCast S2048x704 x shapeCasts_S1x2048x704_S2048x704 : FVec Ideal S2048x704 .bf16)
    g (constant S704x1024 .f32 0#32) (ix2 f d) = _
  show Ideal.matmul _ _ _ _ _ = _
  simp only [matmulApply]
  refine (congrArg (· + _) Ideal.ofBits_zero_f32).trans ((zero_add _).trans ?_)
  refine Finset.sum_congr rfl fun t _ => congrArg₂ (fun a b : EReal => a * b) ?_ rfl
  refine shapeCast_apply _ _ (ix2 t f) (ix3 0 t f) ?_
  rw [Shape.rowMajor_val_two, Shape.rowMajor_val_three]
  show ((0 : ℕ) * 2048 + t.val) * 704 + f.val = t.val * 704 + f.val
  omega

theorem load2 : arg2.view.readAt (Elt Ideal) (Rect.unit ![0, 0, 0] ![1, 2048, 704] inb_S1x2048x704_S1x2048x704_0_0_0).toLoadRect (harg2.unread x0) = x0 := by
  show View.ld (arg2.view.read (Elt Ideal) (harg2.unread x0)) (Rect.unit ![0, 0, 0] S1x2048x704.size inb_S1x2048x704_S1x2048x704_0_0_0) = x0
  rw [harg2.read_unread]
  exact View.ld_unit_zero (S := S1x2048x704) z3 _ _

theorem load4 : arg4.view.readAt (Elt Ideal) (Rect.unit ![0, 0] ![2048, 1024] inb_S2048x1024_S2048x1024_0_0).toLoadRect (harg4.unread xs0) = xs0 := by
  show View.ld (arg4.view.read (Elt Ideal) (harg4.unread xs0)) (Rect.unit ![0, 0] S2048x1024.size inb_S2048x1024_S2048x1024_0_0) = xs0
  rw [harg4.read_unread]
  exact View.ld_unit_zero (S := S2048x1024) z2 _ _

theorem load_A : kernelRun0_A.sl.v5 (F := Ideal) c arg4 arg5 fh0 = halfOf fh0 := by
  unfold kernelRun0_A.sl.v5
  rw [View.readCov_eq_canon']
  funext y
  refine (halves_apply c arg5 fh0 _).trans (congrArg (fun k : S2048x1024.Idx => half * fh0 k) (funext fun a => Fin.ext ?_))
  match a with
  | ⟨0, _⟩ => show 0 + 1 * (y 0).val = (y 0).val; omega
  | ⟨1, _⟩ => show 0 + 1 * (y 1).val = (y 1).val; omega

theorem out_A (hc0 : cond0_0 i) :
    out0_A_1 (F := Ideal) c i arg2 harg2 arg3 harg3 arg4 harg4 arg5 harg5 hc0 x0 fh0 = k0_pay2 x0 (halfOf fh0) := by
  unfold out0_A_1
  rw [View.read_writes_junk_eq_canon]
  refine (View.canon_cons_unit_zero (S := S704x1024) z2 inb_S704x1024_S704x1024_0_0 _ []).trans ?_
  rw [load2, load_A]

theorem out_B (hc0 : ¬cond0_0 i) :
    out0_B_1 (F := Ideal) c i arg2 harg2 arg3 harg3 arg4 harg4 arg5 harg5 hc0 x0 xs0 fh0 = k0_pay2 x0 xs0 := by
  unfold out0_B_1
  rw [View.read_writes_junk_eq_canon]
  refine (View.canon_cons_unit_zero (S := S704x1024) z2 inb_S704x1024_S704x1024_0_0 _ []).trans ?_
  rw [load2, load4]

end Body

/-! ### The run's contents -/

variable (m : (ℓ : Loc nD τ sig) → Buf (Elt Ideal) ℓ) (c : Dev nD)

/-- The output's gradient and the hidden values. -/
def dy : S2048x1024.Idx → EReal := m ((c : Thread nD τ).loc main_arg0)
def hid : S2048x2816.Idx → EReal := m ((c : Thread nD τ).loc main_arg1)

/-- The result. -/
def grad : S2816x1024.Idx → EReal := fun y => ∑ t : Fin 2048, hid m c (ix2 t (y 0)) * (half * dy m c (ix2 t (y 1)))

theorem V_hid (j : Fin 4) (t : Fin 2048) (f : Fin 704) : V m c main_v2 (ix3 j t f) = hid m c (ix2 t (col j f)) := by
  have e : V m c main_v2 = (truncf (F := Ideal) .bf16 (transpose S4x2048x704 [1, 0, 2] (shapeCast S2048x4x704 (hid m c)
      shapeCasts_S2048x2816_S2048x4x704) transposes_S2048x4x704_S4x2048x704_1_0_2) bitsLt_bf16_f32 : FVec Ideal S4x2048x704 .bf16) := by
    show StableHlo.after hostOps0 (fun b => m (c, b)) (Proc.devRef .tc main_v2) = _
    after_results
    all_goals rfl
  exact (congrFun e _).trans ((rounded_apply _ _ _).trans (blocks_apply _ _ _ j t f))

theorem index0 (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t
theorem index1 (t : Fin cfg0.N) : win0_1.index t 0 = t.val ∧ win0_1.index t 1 = 0 :=
  (by decide +kernel : ∀ t : Fin grid0.N, win0_1.index t 0 = t.val ∧ win0_1.index t 1 = 0) t

/-- Grid point `j`. -/
def pt (j : Fin 4) : Fin cfg0.N := ⟨j.val, by rw [show cfg0.N = 4 from N_0]; exact j.isLt⟩

theorem rd0 (A : S4x2048x704.Idx → EReal) (j : Fin 4) (t : Fin 2048) (f : Fin 704) :
    ((cfg0.win 0).blk (pt j)).view.read (Elt Ideal) A (ix3 0 t f) = A (ix3 j t f) := by
  rw [View.read_apply]
  show A _ = A _
  refine congrArg _ (funext fun a => Fin.ext ?_)
  match a with
  | ⟨0, _⟩ => show win0_0.index (pt j) 0 * 1 + 1 * 0 = j.val; rw [(index0 _).1]; show j.val * 1 + 1 * 0 = _; omega
  | ⟨1, _⟩ => show win0_0.index (pt j) 1 * 2048 + 1 * t.val = t.val; rw [(index0 _).2.1]; omega
  | ⟨2, _⟩ => show win0_0.index (pt j) 2 * 704 + 1 * f.val = f.val; rw [(index0 _).2.2]; omega

theorem blk0 (j : Fin 4) (t : Fin 2048) (f : Fin 704) : iblk m c 0 (pt j) (ix3 0 t f) = hid m c (ix2 t (col j f)) :=
  (rd0 (V m c main_v2) j t f).trans (V_hid m c j t f)

/-- After every point the scratch holds half of the gradient. -/
theorem scratch (n : ℕ) : ∀ hn : n < cfg0.N, (outsAt0 m c n hn).2 = halfOf (V m c main_arg0) := by
  have hN : cfg0.N = 4 := N_0
  induction n with
  | zero =>
    intro hn
    have e := outsAt0_A m c ⟨0, hn⟩ rfl
    dsimp only at e
    rw [e, scratch_A]
  | succ n ih =>
    intro hn
    have h0 : ¬(n + 1) % 4 = 0 := by omega
    have e := outsAt0_B m c ⟨n + 1, hn⟩ h0
    dsimp only at e
    have back : ∀ k (hk : k < cfg0.N), k = n → (outsAt0 m c k hk).2 = halfOf (V m c main_arg0) := by
      rintro k hk rfl
      exact ih hk
    rw [e]
    unfold sout0_B_0
    dsimp only
    exact back (n + 1 - 1) _ (Nat.add_sub_cancel n 1)

/-- What point `j` leaves in its buffer. -/
theorem outs (j : Fin 4) : (outsAt0 m c (pt j).val (pt j).isLt).1 = k0_pay2 (iblk m c 0 (pt j)) (halfOf (V m c main_arg0)) := by
  by_cases h0 : (pt j).val % 4 = 0
  · rw [outsAt0_A m c (pt j) h0, out_A]
  · rw [outsAt0_B m c (pt j) h0, out_B, scratch]

theorem out_apply (j : Fin 4) (y : S704x1024.Idx) :
    (outsAt0 m c (pt j).val (pt j).isLt).1 y = grad m c (ix2 (col j (y 0)) (y 1)) := by
  rw [outs m c j]
  refine (congrArg (k0_pay2 (iblk m c 0 (pt j)) (halfOf (V m c main_arg0))) (eq_ix2 y)).trans
    ((pay2 (iblk m c 0 (pt j)) (halfOf (V m c main_arg0)) (y 0) (y 1)).trans ?_)
  refine Finset.sum_congr rfl fun t _ => congrArg₂ (fun a b : EReal => a * (half * b)) (blk0 m c j t (y 0)) ?_
  exact congrFun (V_main_arg0 m c) (ix2 t (y 1))

theorem final : (dats m 0 c).arrAt 1 cfg0.N = grad m c := by
  have hN : cfg0.N = 4 := N_0
  refine (dats m 0 c).arrAt_eq_of_cover 1 (grad m c) (fun t _ => ?_) fun i => ?_
  · have ht : t.val < 4 := hN ▸ t.isLt
    refine (flushed1 m c t).trans ?_
    funext y
    rw [View.read_apply]
    refine (out_apply m c ⟨t.val, ht⟩ y).trans ?_
    show grad m c _ = grad m c _
    refine congrArg (grad m c) (funext fun a => Fin.ext ?_)
    have h := win0_1.rect_emb_val t y a
    match a with
    | ⟨0, _⟩ => exact Eq.trans (by show 704 * t.val + (y 0).val = win0_1.index t 0 * 704 + (y 0).val; rw [(index1 t).1]; omega) h.symm
    | ⟨1, _⟩ => exact Eq.trans (by show (y 1).val = win0_1.index t 1 * 1024 + (y 1).val; rw [(index1 t).2]; omega) h.symm
  · have h0 : (i 0).val < 2816 := (i 0).isLt
    have h1 : (i 1).val < 1024 := (i 1).isLt
    have h7 : (i 0).val / 704 < cfg0.N := by omega
    refine ⟨⟨(i 0).val / 704, h7⟩, flush0_1 _, ?_⟩
    show i ∈ ((View.whole main_v3).slice (win0_1.rect ⟨(i 0).val / 704, h7⟩)).set
    rw [View.set_slice_whole, Rect.mem_set_unit]
    intro a
    match a with
    | ⟨0, _⟩ =>
      show win0_1.index ⟨(i 0).val / 704, h7⟩ 0 * 704 ≤ (i 0).val ∧ (i 0).val < win0_1.index ⟨(i 0).val / 704, h7⟩ 0 * 704 + 704
      rw [(index1 _).1]
      show (i 0).val / 704 * 704 ≤ (i 0).val ∧ (i 0).val < (i 0).val / 704 * 704 + 704
      omega
    | ⟨1, _⟩ =>
      show win0_1.index ⟨(i 0).val / 704, h7⟩ 1 * 1024 ≤ (i 1).val ∧ (i 1).val < win0_1.index ⟨(i 0).val / 704, h7⟩ 1 * 1024 + 1024
      rw [(index1 _).2]; omega

/-- The reference's result is the same sum, its factors the other way round. -/
theorem ref (g : S2048x1024.Idx → EReal) (a : S2048x2816.Idx → EReal) (y : S2816x1024.Idx) :
    Cert.Reference3Ideal.Read.val_main_v8 (F := Ideal) g a y = ∑ t : Fin 2048, a (ix2 t (y 0)) * (half * g (ix2 t (y 1))) := by
  rw [Cert.Reference3Ideal.Read.val_main_v8_apply]
  show Cert.Reference3Ideal.Read.val_main_v7 (F := Ideal) g a y = _
  rw [Cert.Reference3Ideal.Read.val_main_v7_apply, Cert.Reference3Ideal.Read.val_main_v6_apply]
  refine Finset.sum_congr rfl fun t _ => (mul_comm _ _).trans (congrArg₂ (fun p q : EReal => p * q) (congrArg a ?_)
    (congrArg (fun k => half * g k) ?_))
  · funext b; match b with | ⟨0, _⟩ => rfl | ⟨1, _⟩ => rfl
  · funext b; match b with | ⟨0, _⟩ => rfl | ⟨1, _⟩ => rfl

/-! ### The claims -/

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run (Cert.Reference3Ideal.defs (F := Ideal)) _ _).mono (fun r h => And.intro (fun c => (h c).2)
      (Idealize.ShloMosaic.sem_eq_zero_of_no_sems (by decide) r.2))
    (Cert.Reference3Ideal.Value.run (F := Ideal) m ρ)
theorem preserves : Cert.preserves_Kernel3_Kernel3Ideal := trivial

theorem algebraic : Cert.algebraic_Kernel3Ideal_Reference3Ideal := by
  intro m ρ m' ρ' _ hagree
  refine ⟨fun c => grad m c, (θ_run (defs (F := Ideal)) _ _).mono (fun r h c => ?_) (run_blocks (F := Ideal) m ρ), ?_⟩
  · exact ⟨(h c).1.trans (final m c), (h c).2⟩
  refine (θ_run (Cert.Reference3Ideal.defs (F := Ideal)) _ _).mono (fun r h c => ?_) (Cert.Reference3Ideal.Value.run (F := Ideal) m' ρ')
  obtain ⟨a0, a1⟩ := hagree c
  refine ⟨(h c).1.trans ((Cert.Reference3Ideal.Read.val_main_v8_eq _ _).trans ?_), (h c).2⟩
  rw [a0, a1]
  exact funext fun y => ref _ _ y

end Cert.Kernel3Ideal.W2
-- ==== Proof.Down.lean ====
/-
  The second product of the feed-forward block.

  Grid point `i` takes 512 positions, multiplies their hidden values by the weights block of columns by block of columns, and
  adds half of the sum to the positions' input. The result's entry (t, d) is the input's plus half of the sum over all hidden
  columns.
-/
module

public import Idealize.ShloMosaic.Lib.Pipeline.ValueKit.Tiles
public import proofs.«01_k».proof.Defs
public import proofs.«01_k».proof.Proof.Blocks
public import proofs.«01_k».proof.Proof.Gen.Kernel4.Frame
public import proofs.«01_k».proof.Proof.Gen.Kernel4Ideal.Value
public import proofs.«01_k».proof.Proof.Gen.Reference4Ideal.Read

@[expose] public section

set_option maxRecDepth 16384

noncomputable section

namespace Cert.Kernel4Ideal.Down

open Idealize.ShloMosaic Idealize.ShloMosaic.TcCoe Idealize.ShloMosaic.Pipeline Idealize.SL.Sem
open Cert.Kernel4Ideal Cert.Kernel4Ideal.Gen Cert.Kernel4Ideal.Value Cert.Blocks

variable (m : (ℓ : Loc nD τ sig) → Buf (Elt Ideal) ℓ) (c : Dev nD)

/-- The block's input, its hidden values and the weights. -/
def inp : S2048x1024.Idx → EReal := m ((c : Thread nD τ).loc main_arg0)
def hid : S2048x2816.Idx → EReal := m ((c : Thread nD τ).loc main_arg1)
def wts : S2816x1024.Idx → EReal := m ((c : Thread nD τ).loc main_arg2)

def half : EReal := Ideal.ofBits .f32 0x3F000000#32

/-- The result. -/
def res : S2048x1024.Idx → EReal := fun y =>
  inp m c y + half * ∑ k : Fin 2816, hid m c (ix2 (y 0) k) * wts m c (ix2 k (y 1))

/-! ### What the launch finds -/

theorem V_hid (j : Fin 4) (t : Fin 2048) (f : Fin 704) : V m c main_v2 (ix3 j t f) = hid m c (ix2 t (col j f)) := by
  have e : V m c main_v2 = (truncf (F := Ideal) .bf16 (transpose S4x2048x704 [1, 0, 2] (shapeCast S2048x4x704 (hid m c)
      shapeCasts_S2048x2816_S2048x4x704) transposes_S2048x4x704_S4x2048x704_1_0_2) bitsLt_bf16_f32 : FVec Ideal S4x2048x704 .bf16) := by
    show StableHlo.after hostOps0 (fun b => m (c, b)) (Proc.devRef .tc main_v2) = _
    after_results
    all_goals rfl
  exact (congrFun e _).trans ((rounded_apply _ _ _).trans (blocks_apply _ _ _ j t f))

theorem V_wts : V m c main_v3 = (wts m c : S2816x1024.Idx → EReal) := by
  show StableHlo.after hostOps0 (fun b => m (c, b)) (Proc.devRef .tc main_v3) = _
  after_results
  all_goals rfl

/-! ### The windows' blocks -/

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t

/-- Grid point `i`, and position `t` of its block. -/
def pt (i : Fin 4) : Fin cfg0.N := ⟨i.val, by rw [show cfg0.N = 4 from N_0]; exact i.isLt⟩
def row (i : Fin 4) (t : Fin 512) : Fin 2048 := ⟨512 * i.val + t.val, by omega⟩

theorem rd0 (A : S2048x1024.Idx → EReal) (i : Fin 4) (t : Fin 512) (d : Fin 1024) :
    ((cfg0.win 0).blk (pt i)).view.read (Elt Ideal) A (ix2 t d) = A (ix2 (row i t) d) := by
  rw [View.read_apply]
  show A _ = A _
  refine congrArg _ (funext fun a => Fin.ext ?_)
  match a with
  | ⟨0, _⟩ => show win0_0.index (pt i) 0 * 512 + 1 * t.val = 512 * i.val + t.val; rw [(index0 _).1]; show i.val * 512 + 1 * t.val = _; omega
  | ⟨1, _⟩ => show win0_0.index (pt i) 1 * 1024 + 1 * d.val = d.val; rw [(index0 _).2]; omega

theorem rd1 (A : S4x2048x704.Idx → EReal) (i : Fin 4) (j : Fin 4) (t : Fin 512) (f : Fin 704) :
    ((cfg0.win 1).blk (pt i)).view.read (Elt Ideal) A (ix3 j t f) = A (ix3 j (row i t) f) := by
  rw [View.read_apply]
  show A _ = A _
  refine congrArg _ (funext fun a => Fin.ext ?_)
  match a with
  | ⟨0, _⟩ => show win0_1.index (pt i) 0 * 4 + 1 * j.val = j.val; rw [(index1 _).1]; omega
  | ⟨1, _⟩ => show win0_1.index (pt i) 1 * 512 + 1 * t.val = 512 * i.val + t.val; rw [(index1 _).2.1]; show i.val * 512 + 1 * t.val = _; omega
  | ⟨2, _⟩ => show win0_1.index (pt i) 2 * 704 + 1 * f.val = f.val; rw [(index1 _).2.2]; omega

theorem rd2 (A : S2816x1024.Idx → EReal) (i : Fin 4) (k : Fin 2816) (d : Fin 1024) :
    ((cfg0.win 2).blk (pt i)).view.read (Elt Ideal) A (ix2 k d) = A (ix2 k d) := by
  rw [View.read_apply]
  show A _ = A _
  refine congrArg _ (funext fun a => Fin.ext ?_)
  match a with
  | ⟨0, _⟩ => show win0_2.index (pt i) 0 * 2816 + 1 * k.val = k.val; rw [(index2 _).1]; omega
  | ⟨1, _⟩ => show win0_2.index (pt i) 1 * 1024 + 1 * d.val = d.val; rw [(index2 _).2]; omega

theorem blk0 (i : Fin 4) (t : Fin 512) (d : Fin 1024) : iblk m c 0 (pt i) (ix2 t d) = inp m c (ix2 (row i t) d) :=
  (rd0 (V m c main_arg0) i t d).trans (congrFun (V_main_arg0 m c) _)
theorem blk1 (i j : Fin 4) (t : Fin 512) (f : Fin 704) : iblk m c 1 (pt i) (ix3 j t f) = hid m c (ix2 (row i t) (col j f)) :=
  (rd1 (V m c main_v2) i j t f).trans (V_hid m c j (row i t) f)
theorem blk2 (i : Fin 4) (k : Fin 2816) (d : Fin 1024) : iblk m c 2 (pt i) (ix2 k d) = wts m c (ix2 k d) :=
  (rd2 (V m c main_v3) i k d).trans (congrFun (V_wts m c) _)

/-! ### What a grid point stores -/

/-- One block's product. -/
theorem prod_apply (a : Vec Ideal S1x512x704 .bf16) (w : Vec Ideal S704x1024 .bf16) (t : Fin 512) (d : Fin 1024) :
    matmul (F := Ideal) dot_S512x704_S704x1024_S512x1024_1_0_0_1_n_n none (shapeCast S512x704 a shapeCasts_S1x512x704_S512x704 : FVec Ideal S512x704 .bf16)
      (shapeCast S704x1024 w shapeCasts_S704x1024_S704x1024 : FVec Ideal S704x1024 .bf16) (constant S512x1024 .f32 0x00000000#32) (ix2 t d)
      = ∑ f : Fin 704, a (ix3 0 t f) * w (ix2 f d) := by
  show Ideal.matmul _ _ _ _ _ = _
  simp only [matmulApply]
  refine (congrArg (· + _) Ideal.ofBits_zero_f32).trans ((zero_add _).trans ?_)
  refine Finset.sum_congr rfl fun f _ => congrArg₂ (fun a b : EReal => a * b) ?_ ?_
  · refine shapeCast_apply _ _ (ix2 t f) (ix3 0 t f) ?_
    rw [Shape.rowMajor_val_two, Shape.rowMajor_val_three]
    show ((0 : ℕ) * 512 + t.val) * 704 + f.val = t.val * 704 + f.val
    omega
  · rw [shapeCast_self]
    rfl

theorem pay1 (a0 a1 a2 a3 : Vec Ideal S1x512x704 .bf16) (w0 w1 w2 w3 : Vec Ideal S704x1024 .bf16) (x : Vec Ideal S512x1024 .f32)
    (t : Fin 512) (d : Fin 1024) :
    k0_pay1 a0 w0 a1 w1 a2 w2 a3 w3 x (ix2 t d) = x (ix2 t d) + half * ((((∑ f : Fin 704, a0 (ix3 0 t f) * w0 (ix2 f d))
      + ∑ f : Fin 704, a1 (ix3 0 t f) * w1 (ix2 f d)) + ∑ f : Fin 704, a2 (ix3 0 t f) * w2 (ix2 f d))
      + ∑ f : Fin 704, a3 (ix3 0 t f) * w3 (ix2 f d)) := by
  unfold k0_pay1
  refine (congrFun (shapeCast_self _ _) _).trans ?_
  exact congrArg (fun s : EReal => x (ix2 t d) + half * s) (congrArg₂ (fun p q : EReal => p + q) (congrArg₂ (fun p q : EReal => p + q)
    (congrArg₂ (fun p q : EReal => p + q) (prod_apply a0 w0 t d) (prod_apply a1 w1 t d)) (prod_apply a2 w2 t d)) (prod_apply a3 w3 t d))

/-- Block `j` of the hidden values, and of the weights, as the body loads them. -/
theorem ld_hid (X : Vec Ideal S4x512x704 .bf16) (j : Fin 4) {o : Fin 3 → ℕ} (h : o = ![j.val, 0, 0]) (inb : ∀ a, o a + S1x512x704.size a ≤ S4x512x704.size a)
    (t : Fin 512) (f : Fin 704) :
    View.ld (Val := Elt Ideal) X (Rect.unit (s := S4x512x704) o S1x512x704.size inb) (ix3 0 t f) = X (ix3 j t f) := by
  subst h
  refine View.ld_unit_apply_of X _ _ inb (ix3 0 t f) (ix3 j t f) fun a => ?_
  match a with
  | ⟨0, _⟩ => rfl
  | ⟨1, _⟩ => show t.val = 0 + t.val; omega
  | ⟨2, _⟩ => show f.val = 0 + f.val; omega

theorem ld_wts (X : Vec Ideal S2816x1024 .bf16) (j : Fin 4) {o : Fin 2 → ℕ} (h : o = ![704 * j.val, 0]) (inb : ∀ a, o a + S704x1024.size a ≤ S2816x1024.size a)
    (f : Fin 704) (d : Fin 1024) :
    View.ld (Val := Elt Ideal) X (Rect.unit (s := S2816x1024) o S704x1024.size inb) (ix2 f d) = X (ix2 (col j f) d) := by
  subst h
  refine View.ld_unit_apply_of X _ _ inb (ix2 f d) (ix2 (col j f) d) fun a => ?_
  match a with
  | ⟨0, _⟩ => rfl
  | ⟨1, _⟩ => show d.val = 0 + d.val; omega

/-- What point `i` leaves in its buffer is block `i` of the result. -/
theorem out_apply (i : Fin 4) (y : S512x1024.Idx) :
    out0_3 (iblk m c 0 (pt i)) (iblk m c 1 (pt i)) (iblk m c 2 (pt i)) y = res m c (ix2 (row i (y 0)) (y 1)) := by
  unfold out0_3
  have z2 : (![0, 0] : Fin 2 → ℕ) = fun _ => 0 := funext fun a => by match a with | ⟨0, _⟩ => rfl | ⟨1, _⟩ => rfl
  rw [View.ld_unit_zero (S := S512x1024) z2]
  refine View.canon_apply_of_pieces (Val := Elt Ideal) (fun y : S512x1024.Idx => res m c (ix2 (row i (y 0)) (y 1))) _ (fun p hp x => ?_) y (cover0_3 _ y)
  simp only [List.mem_cons, List.not_mem_nil, or_false] at hp
  subst hp
  refine (congrArg _ (eq_ix2 x)).trans ((pay1 _ _ _ _ _ _ _ _ _ (x 0) (x 1)).trans ?_)
  have e0 : (r0_8.emb x : S512x1024.Idx) = ix2 (x 0) (x 1) := funext fun a => Fin.ext (by
    match a with
    | ⟨0, _⟩ => show 0 + 1 * (x 0).val = (x 0).val; omega
    | ⟨1, _⟩ => show 0 + 1 * (x 1).val = (x 1).val; omega)
  rw [e0]
  have term (j : Fin 4) {o : Fin 3 → ℕ} (h : o = ![j.val, 0, 0]) (inb) {o' : Fin 2 → ℕ} (h' : o' = ![704 * j.val, 0]) (inb') :
      ∑ f : Fin 704, (View.ld (Val := Elt Ideal) (e' := .bf16) (iblk m c 1 (pt i)) (Rect.unit (s := S4x512x704) o S1x512x704.size inb) (ix3 0 (x 0) f) : EReal)
          * (View.ld (Val := Elt Ideal) (e' := .bf16) (iblk m c 2 (pt i)) (Rect.unit (s := S2816x1024) o' S704x1024.size inb') (ix2 f (x 1)) : EReal)
        = ∑ f : Fin 704, hid m c (ix2 (row i (x 0)) (col j f)) * wts m c (ix2 (col j f) (x 1)) :=
    Finset.sum_congr rfl fun f _ => congrArg₂ (fun p q : EReal => p * q) ((ld_hid _ j h inb (x 0) f).trans (blk1 m c i j (x 0) f))
      ((ld_wts _ j h' inb' f (x 1)).trans (blk2 m c i (col j f) (x 1)))
  refine (congrArg₂ (fun p q : EReal => p + half * q) (blk0 m c i (x 0) (x 1)) (congrArg₂ (fun p q : EReal => p + q) (congrArg₂ (fun p q : EReal => p + q)
    (congrArg₂ (fun p q : EReal => p + q) (term 0 rfl _ rfl _) (term 1 rfl _ rfl _)) (term 2 rfl _ rfl _)) (term 3 rfl _ rfl _))).trans ?_
  show _ = inp m c _ + half * ∑ k : Fin 2816, hid m c (ix2 (row i (x 0)) k) * wts m c (ix2 k (x 1))
  rw [sum_cols, Fin.sum_univ_four]
  rfl

/-! ### The run -/

theorem final : (dats m 0 c).arrAt 3 cfg0.N = res m c := by
  have hN : cfg0.N = 4 := N_0
  refine (dats m 0 c).arrAt_eq_of_cover 3 (res m c) (fun t _ => ?_) fun i => ?_
  · have ht : t.val < 4 := hN ▸ t.isLt
    refine (flushed3 m c t).trans ?_
    funext y
    rw [View.read_apply]
    refine (out_apply m c ⟨t.val, ht⟩ y).trans ?_
    show res m c _ = res m c _
    refine congrArg (res m c) (funext fun a => Fin.ext ?_)
    have h := win0_3.rect_emb_val t y a
    match a with
    | ⟨0, _⟩ => exact Eq.trans (by show 512 * t.val + (y 0).val = win0_3.index t 0 * 512 + (y 0).val; rw [(index3 t).1]; omega) h.symm
    | ⟨1, _⟩ => exact Eq.trans (by show (y 1).val = win0_3.index t 1 * 1024 + (y 1).val; rw [(index3 t).2]; omega) h.symm
  · have h0 : (i 0).val < 2048 := (i 0).isLt
    have h1 : (i 1).val < 1024 := (i 1).isLt
    have h7 : (i 0).val / 512 < cfg0.N := by omega
    refine ⟨⟨(i 0).val / 512, h7⟩, flush0_3 _, ?_⟩
    show i ∈ ((View.whole main_v4).slice (win0_3.rect ⟨(i 0).val / 512, h7⟩)).set
    rw [View.set_slice_whole, Rect.mem_set_unit]
    intro a
    match a with
    | ⟨0, _⟩ =>
      show win0_3.index ⟨(i 0).val / 512, h7⟩ 0 * 512 ≤ (i 0).val ∧ (i 0).val < win0_3.index ⟨(i 0).val / 512, h7⟩ 0 * 512 + 512
      rw [(index3 _).1]
      show (i 0).val / 512 * 512 ≤ (i 0).val ∧ (i 0).val < (i 0).val / 512 * 512 + 512
      omega
    | ⟨1, _⟩ =>
      show win0_3.index ⟨(i 0).val / 512, h7⟩ 1 * 1024 ≤ (i 1).val ∧ (i 1).val < win0_3.index ⟨(i 0).val / 512, h7⟩ 1 * 1024 + 1024
      rw [(index3 _).2]; omega

/-- The reference's result is the same sum. -/
theorem ref (x : S2048x1024.Idx → EReal) (a : S2048x2816.Idx → EReal) (w : S2816x1024.Idx → EReal) (y : S2048x1024.Idx) :
    Cert.Reference4Ideal.Read.val_main_v3 (F := Ideal) x a w y
      = x y + half * ∑ k : Fin 2816, a (ix2 (y 0) k) * w (ix2 k (y 1)) := by
  refine congrArg (fun s : EReal => x y + half * s) ((Cert.Reference4Ideal.Read.val_main_v0_apply a w y).trans ?_)
  refine Finset.sum_congr rfl fun t _ => congrArg₂ (fun p q : EReal => p * q) (congrArg a ?_) (congrArg w ?_)
  · funext b; match b with | ⟨0, _⟩ => rfl | ⟨1, _⟩ => rfl
  · funext b; match b with | ⟨0, _⟩ => rfl | ⟨1, _⟩ => rfl

/-! ### The claims -/

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run (Cert.Reference4Ideal.defs (F := Ideal)) _ _).mono (fun r h => And.intro (fun c => (h c).2)
      (Idealize.ShloMosaic.sem_eq_zero_of_no_sems (by decide) r.2))
    (Cert.Reference4Ideal.Value.run (F := Ideal) m ρ)
theorem preserves : Cert.preserves_Kernel4_Kernel4Ideal := trivial

theorem algebraic : Cert.algebraic_Kernel4Ideal_Reference4Ideal := by
  intro m ρ m' ρ' _ hagree
  refine ⟨fun c => res m c, (θ_run (defs (F := Ideal)) _ _).mono (fun r h c => ?_) (run_blocks (F := Ideal) m ρ), ?_⟩
  · exact ⟨(h c).1.trans (final m c), (h c).2⟩
  refine (θ_run (Cert.Reference4Ideal.defs (F := Ideal)) _ _).mono (fun r h c => ?_) (Cert.Reference4Ideal.Value.run (F := Ideal) m' ρ')
  obtain ⟨a0, a1, a2⟩ := hagree c
  refine ⟨(h c).1.trans ((Cert.Reference4Ideal.Read.val_main_v3_eq _ _ _).trans ?_), (h c).2⟩
  rw [a0, a1, a2]
  exact funext fun y => ref _ _ _ y

end Cert.Kernel4Ideal.Down
-- ==== Proof.UpRun.lean ====
/-
  The first products of the feed-forward block: what the program does at one grid point.

  The program normalises a block of positions when it meets it for the first time, keeps it in its scratch memory, and at every
  point multiplies the block's rows, read from there, by two blocks of weights.
-/
module

public import proofs.«01_k».proof.Proof.Gen.Kernel6Ideal.Frame
public import proofs.«01_k».proof.Proof.Gen.Kernel6Ideal.Skeleton

@[expose] public section

set_option maxRecDepth 16384

noncomputable section

namespace Cert.Kernel6Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel6Ideal.Gen

variable {F : FTy → Type} [FloatOps F]

/-- The resources a statement about this program speaks of. -/
abbrev Res (F : FTy → Type) := MT nD τ sig Unit (Elt F) ℕ (UR sig nD τ) ℕ

/-- The scratch memory that keeps the normalised positions. -/
abbrev kept : Memref sig .tc .vmem S2048x1024 .bf16 := Memref.whole cc0_scratch0

section
variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S2x1x704x1024 .bf16) (harg4 : arg4.IsWhole) (arg5 : Memref sig .tc .vmem S1x1024x704 .bf16) (harg5 : arg5.IsWhole)
  (arg6 : Memref sig .tc .vmem S1x1024x704 .bf16) (harg6 : arg6.IsWhole) (arg7 : Memref sig .tc .vmem S1x1024x704 .bf16) (harg7 : arg7.IsWhole)
  (arg8 : Memref sig .tc .vmem S2048x1024 .bf16) (harg8 : arg8.IsWhole)
  (x0 : Vec F S1024x1024 .f32) (x1 : Vec F S1x1024 .f32) (x2 : Vec F S2x1x704x1024 .bf16) (xs : Vec F S2048x1024 .bf16)

set_option maxHeartbeats 2000000 in
/-- A point that meets its block of positions for the first time: what it stores, and that it runs. -/
def runFirst (hc : k0_cond1 i = 1#1) :
    Σ' (L3 : List (View.Piece (Elt F) S1x1024x704 .bf16)) (L4 : List (View.Piece (Elt F) S1x1024x704 .bf16))
      (L5 : List (View.Piece (Elt F) S1x1024x704 .bf16)), { LS : List (View.Piece (Elt F) S2048x1024 .bf16) //
      ∀ K : PUnit → sProp (Res F),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (arg8.view.loc (c : Thread nD τ) ↦[arg8.view.set]{fullShare} arg8.view.writes (Elt F) (harg8.unread xs) LS)) -∗ K ⟨⟩))
          ⊢ wp frame (wpE (defs₀ (F := F)) Variants.none c none) Set.univ
              (cc0_ffn_up i arg2 harg2 arg3 harg3 arg4 harg4 arg5 harg5 arg6 harg6 arg7 harg7 arg8 harg8) K } := by
  refine ⟨?_, ?_, ?_, ?_, fun K => ?run⟩
  case run =>
    simp only [cc0_ffn_up_eq_skeleton]; unfold cc0_ffn_up_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs, %hfs, HS⟩, Hk⟩
    obtain rfl := harg2.eq_unread hf0; obtain rfl := harg3.eq_unread hf1
    obtain rfl := harg4.eq_unread hf2; obtain rfl := harg8.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexact HS

set_option maxHeartbeats 2000000 in
/-- A later point: what it stores, and that it runs. -/
def runLater (hc : ¬ k0_cond1 i = 1#1) :
    Σ' (L3 : List (View.Piece (Elt F) S1x1024x704 .bf16)) (L4 : List (View.Piece (Elt F) S1x1024x704 .bf16)),
      { L5 : List (View.Piece (Elt F) S1x1024x704 .bf16) //
      ∀ K : PUnit → sProp (Res F),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ owns (c : Thread nD τ) arg8 fullShare xs) -∗ K ⟨⟩))
          ⊢ wp frame (wpE (defs₀ (F := F)) Variants.none c none) Set.univ
              (cc0_ffn_up i arg2 harg2 arg3 harg3 arg4 harg4 arg5 harg5 arg6 harg6 arg7 harg7 arg8 harg8) K } := by
  refine ⟨?_, ?_, ?_, fun K => ?run⟩
  case run =>
    simp only [cc0_ffn_up_eq_skeleton]; unfold cc0_ffn_up_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs, %hfs, HS⟩, Hk⟩
    obtain rfl := harg2.eq_unread hf0; obtain rfl := harg3.eq_unread hf1
    obtain rfl := harg4.eq_unread hf2; obtain rfl := harg8.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; isplitr; · ipureintro; exact harg8.read_unread _
    iexact HS

end

end Cert.Kernel6Ideal.Up

end
-- ==== Proof.UpFrame.lean ====
/-
  The first products of the feed-forward block: the program runs, and what each point leaves.

  The scratch memory holds at every point the normalised blocks of positions met so far; the rest of it may hold anything. From
  there a point's three results are functions of its block and of its weights.
-/
module

public import Idealize.ShloMosaic.Lib.Pointwise.Index
public import Idealize.ShloMosaic.Lib.Pipeline.ValueKit.Tiles
public import proofs.«01_k».proof.Proof.UpRun

@[expose] public section

set_option maxRecDepth 16384

noncomputable section

namespace Cert.Kernel6Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel6Ideal.Gen

variable {F : FTy → Type} [FloatOps F]

/-! ### A point's results -/

/-- Rows `256 r` to `256 r + 255` of a block of positions. -/
def rows (h : Vec F S1024x1024 .bf16) (r : Fin 4) : Vec F S256x1024 .bf16 := fun x =>
  h (ix2 (⟨256 * r.val + (x 0).val, by have h0 : (x 0).val < 256 := (x 0).isLt; have := r.isLt; omega⟩ : Fin 1024) (x 1))

/-- The two blocks of weights. -/
def wGate (w : Vec F S2x1x704x1024 .bf16) : Vec F S1x1x704x1024 .bf16 :=
  View.ld w (Rect.unit ![0, 0, 0, 0] S1x1x704x1024.size inb_S2x1x704x1024_S1x1x704x1024_0_0_0_0)
def wUp (w : Vec F S2x1x704x1024 .bf16) : Vec F S1x1x704x1024 .bf16 :=
  View.ld w (Rect.unit ![1, 0, 0, 0] S1x1x704x1024.size inb_S2x1x704x1024_S1x1x704x1024_1_0_0_0)

/-- The stores into each result, the last one first. -/
def gateL (h : Vec F S1024x1024 .bf16) (w : Vec F S2x1x704x1024 .bf16) : List (View.Piece (Elt F) S1x1024x704 .bf16) :=
  [⟨Rect.unit ![0, 768, 0] S1x256x704.size inb_S1x1024x704_S1x256x704_0_768_0, k0_pay2 (k0_pay12 (rows h 3) (wGate w))⟩,
   ⟨Rect.unit ![0, 512, 0] S1x256x704.size inb_S1x1024x704_S1x256x704_0_512_0, k0_pay21 (k0_pay10 (rows h 2) (wGate w))⟩,
   ⟨Rect.unit ![0, 256, 0] S1x256x704.size inb_S1x1024x704_S1x256x704_0_256_0, k0_pay18 (k0_pay8 (rows h 1) (wGate w))⟩,
   ⟨Rect.unit ![0, 0, 0] S1x256x704.size inb_S1x1024x704_S1x256x704_0_0_0, k0_pay14 (k0_pay6 (rows h 0) (wGate w))⟩]
def upL (h : Vec F S1024x1024 .bf16) (w : Vec F S2x1x704x1024 .bf16) : List (View.Piece (Elt F) S1x1024x704 .bf16) :=
  [⟨Rect.unit ![0, 768, 0] S1x256x704.size inb_S1x1024x704_S1x256x704_0_768_0, k0_pay3 (k0_pay13 (rows h 3) (wUp w))⟩,
   ⟨Rect.unit ![0, 512, 0] S1x256x704.size inb_S1x1024x704_S1x256x704_0_512_0, k0_pay22 (k0_pay11 (rows h 2) (wUp w))⟩,
   ⟨Rect.unit ![0, 256, 0] S1x256x704.size inb_S1x1024x704_S1x256x704_0_256_0, k0_pay19 (k0_pay9 (rows h 1) (wUp w))⟩,
   ⟨Rect.unit ![0, 0, 0] S1x256x704.size inb_S1x1024x704_S1x256x704_0_0_0, k0_pay16 (k0_pay15 (k0_pay7 (rows h 0) (wUp w)))⟩]
def actL (h : Vec F S1024x1024 .bf16) (w : Vec F S2x1x704x1024 .bf16) : List (View.Piece (Elt F) S1x1024x704 .bf16) :=
  [⟨Rect.unit ![0, 768, 0] S1x256x704.size inb_S1x1024x704_S1x256x704_0_768_0,
      k0_pay4 (k0_pay12 (rows h 3) (wGate w)) (k0_pay13 (rows h 3) (wUp w))⟩,
   ⟨Rect.unit ![0, 512, 0] S1x256x704.size inb_S1x1024x704_S1x256x704_0_512_0,
      k0_pay1 (k0_pay23 (k0_pay10 (rows h 2) (wGate w)) (k0_pay11 (rows h 2) (wUp w)))⟩,
   ⟨Rect.unit ![0, 256, 0] S1x256x704.size inb_S1x1024x704_S1x256x704_0_256_0,
      k0_pay20 (k0_pay8 (rows h 1) (wGate w)) (k0_pay9 (rows h 1) (wUp w))⟩,
   ⟨Rect.unit ![0, 0, 0] S1x256x704.size inb_S1x1024x704_S1x256x704_0_0_0,
      k0_pay17 (k0_pay6 (rows h 0) (wGate w)) (k0_pay7 (rows h 0) (wUp w))⟩]

theorem gateL_cover (h : Vec F S1024x1024 .bf16) (w : Vec F S2x1x704x1024 .bf16) (y : S1x1024x704.Idx) :
    ∃ p ∈ gateL h w, y ∈ p.1.set := View.cover_of_tiledL (gateL h w) S1x256x704.size (by sl_kernel_rfl) y
theorem upL_cover (h : Vec F S1024x1024 .bf16) (w : Vec F S2x1x704x1024 .bf16) (y : S1x1024x704.Idx) :
    ∃ p ∈ upL h w, y ∈ p.1.set := View.cover_of_tiledL (upL h w) S1x256x704.size (by sl_kernel_rfl) y
theorem actL_cover (h : Vec F S1024x1024 .bf16) (w : Vec F S2x1x704x1024 .bf16) (y : S1x1024x704.Idx) :
    ∃ p ∈ actL h w, y ∈ p.1.set := View.cover_of_tiledL (actL h w) S1x256x704.size (by sl_kernel_rfl) y

/-- A covering list of stores leaves its own contents, whatever was there. -/
theorem left {S : Shape} {e : EltTy} (v : View sig .tc .vmem S e) (f : v.ty.Contents (Elt F)) (L : List (View.Piece (Elt F) S e))
    (h : ∀ y, ∃ p ∈ L, y ∈ p.1.set) : v.read (Elt F) (v.writes (Elt F) f L) = View.canon L :=
  (View.read_writes_of_cover v f v v.junk L h).trans (View.read_writes_junk_eq_canon v L)

/-! ### The scratch memory -/

/-- Block `k` of the scratch memory is `h`. -/
def Holds (xs : Vec F S2048x1024 .bf16) (k : Fin 2) (h : Vec F S1024x1024 .bf16) : Prop :=
  ∀ (t d : Fin 1024), xs (ix2 (⟨1024 * k.val + t.val, by omega⟩ : Fin 2048) d) = h (ix2 t d)

section
variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S2x1x704x1024 .bf16) (harg4 : arg4.IsWhole) (arg5 : Memref sig .tc .vmem S1x1024x704 .bf16) (harg5 : arg5.IsWhole)
  (arg6 : Memref sig .tc .vmem S1x1024x704 .bf16) (harg6 : arg6.IsWhole) (arg7 : Memref sig .tc .vmem S1x1024x704 .bf16) (harg7 : arg7.IsWhole)
  (arg8 : Memref sig .tc .vmem S2048x1024 .bf16) (harg8 : arg8.IsWhole)
  (x0 : Vec F S1024x1024 .f32) (x1 : Vec F S1x1024 .f32) (x2 : Vec F S2x1x704x1024 .bf16) (xs : Vec F S2048x1024 .bf16)

/-- The store of a normalised block. -/
def keep (hc : k0_cond1 i = 1#1) (h : Vec F S1024x1024 .bf16) : List (View.Piece (Elt F) S2048x1024 .bf16) :=
  [⟨Rect.unit (k0_off1 i) S1024x1024.size (k0_off1_inb i hc), h⟩]

theorem keep_eq (hc : k0_cond1 i = 1#1) :
    runFirst.sl.HS_1 c i arg2 harg2 arg3 harg3 x0 x1 hc = keep i hc (k0_pay5 x0 x1) := by
  have z2 : (![0, 0] : Fin 2 → ℕ) = fun _ => 0 := funext fun a => by match a with | ⟨0, _⟩ => rfl | ⟨1, _⟩ => rfl
  unfold runFirst.sl.HS_1 keep
  rw [View.readAt_eq_ld, View.readAt_eq_ld, harg2.read_unread, harg3.read_unread,
    View.ld_unit_zero (S := S1024x1024) z2, View.ld_unit_zero (S := S1x1024) z2]

theorem keep_rows (hc : k0_cond1 i = 1#1) (h : Vec F S1024x1024 .bf16) (r : Fin 4) :
    arg8.view.readCov (keep i hc h)
      (Rect.unit (s := S2048x1024) (k0_off2 i (BitVec.ofNat 32 (256 * r.val))) S256x1024.size (k0_off2_inb i r)).toLoadRect = rows h r := by
  rw [View.readCov_eq_canon']
  funext x
  have e : (Rect.unit (s := S2048x1024) (k0_off2 i (BitVec.ofNat 32 (256 * r.val))) S256x1024.size (k0_off2_inb i r)).toLoadRect.idx x
      = (Rect.unit (s := S2048x1024) (k0_off1 i) S1024x1024.size (k0_off1_inb i hc)).emb
        (ix2 (⟨256 * r.val + (x 0).val, by have h0 : (x 0).val < 256 := (x 0).isLt; have := r.isLt; omega⟩ : Fin 1024) (x 1)) := by
    funext a
    refine Fin.ext ?_
    match a with
    | ⟨0, _⟩ =>
      show k0_off2 i (BitVec.ofNat 32 (256 * r.val)) 0 + 1 * (x 0).val = k0_off1 i 0 + 1 * (256 * r.val + (x 0).val)
      rw [congrFun (k0_off2_eq i r) 0, congrFun (k0_off1_eq i) 0]
      show 1024 * (i 1).val + 256 * r.val + 1 * (x 0).val = 1024 * (i 1).val + 1 * (256 * r.val + (x 0).val)
      omega
    | ⟨1, _⟩ =>
      show k0_off2 i (BitVec.ofNat 32 (256 * r.val)) 1 + 1 * (x 1).val = k0_off1 i 1 + 1 * (x 1).val
      rw [congrFun (k0_off2_eq i r) 1, congrFun (k0_off1_eq i) 1]
      rfl
  exact (congrArg (View.canon (keep i hc h)) e).trans (View.canon_cons_emb _ _ _ _)

theorem kept_rows (k : Fin 2) (hk : (i 1).val = k.val) (h : Vec F S1024x1024 .bf16) (hh : Holds xs k h) (r : Fin 4) :
    arg8.view.readAt (Elt F)
      (Rect.unit (s := S2048x1024) (k0_off2 i (BitVec.ofNat 32 (256 * r.val))) S256x1024.size (k0_off2_inb i r)).toLoadRect (harg8.unread xs) = rows h r := by
  rw [View.readAt_eq_ld, harg8.read_unread]
  funext x
  have h0 : (x 0).val < 256 := (x 0).isLt
  have hr := r.isLt
  refine Eq.trans ?_ (hh ⟨256 * r.val + (x 0).val, by omega⟩ (x 1))
  refine congrArg xs (funext fun a => Fin.ext ?_)
  match a with
  | ⟨0, _⟩ =>
    show k0_off2 i (BitVec.ofNat 32 (256 * r.val)) 0 + 1 * (x 0).val = 1024 * k.val + (256 * r.val + (x 0).val)
    rw [congrFun (k0_off2_eq i r) 0]
    show 1024 * (i 1).val + 256 * r.val + 1 * (x 0).val = 1024 * k.val + (256 * r.val + (x 0).val)
    omega
  | ⟨1, _⟩ =>
    show k0_off2 i (BitVec.ofNat 32 (256 * r.val)) 1 + 1 * (x 1).val = (x 1).val
    rw [congrFun (k0_off2_eq i r) 1]
    show 0 + 1 * (x 1).val = (x 1).val
    omega

/-- After the store the block is there, and the other blocks are as they were. -/
theorem keep_holds (hc : k0_cond1 i = 1#1) (k : Fin 2) (hk : (i 1).val = k.val) (h : Vec F S1024x1024 .bf16) :
    Holds (arg8.view.read (Elt F) (arg8.view.writes (Elt F) (harg8.unread xs) (keep i hc h))) k h := fun t d => by
  refine View.read_writes_cons_hit arg8.view (harg8.unread xs) (Rect.unit (k0_off1 i) S1024x1024.size (k0_off1_inb i hc)) h [] (ix2 t d) _
    (funext fun a => Fin.ext ?_)
  match a with
  | ⟨0, _⟩ =>
    show k0_off1 i 0 + 1 * t.val = 1024 * k.val + t.val
    rw [congrFun (k0_off1_eq i) 0]
    show 1024 * (i 1).val + 1 * t.val = _
    omega
  | ⟨1, _⟩ =>
    show k0_off1 i 1 + 1 * d.val = d.val
    rw [congrFun (k0_off1_eq i) 1]
    show 0 + 1 * d.val = _
    omega

theorem keep_other (hc : k0_cond1 i = 1#1) (k : Fin 2) (hk : (i 1).val ≠ k.val) (h h' : Vec F S1024x1024 .bf16) (hh : Holds xs k h') :
    Holds (arg8.view.read (Elt F) (arg8.view.writes (Elt F) (harg8.unread xs) (keep i hc h))) k h' := fun t d => by
  refine (View.read_writes_cons_miss_of_axis _ _ _ _ _ (0 : Fin 2) (1024 * (i 1).val) 1024 ?_ rfl rfl ?_).trans
    ((congrFun (harg8.read_unread xs) _).trans (hh t d))
  · show k0_off1 i 0 = _
    rw [congrFun (k0_off1_eq i) 0]
    rfl
  · show 1024 * k.val + t.val < _ ∨ _ ≤ 1024 * k.val + t.val
    omega

theorem gate_weights : arg4.view.readAt (Elt F)
    (Rect.unit (s := S2x1x704x1024) ![0, 0, 0, 0] S1x1x704x1024.size inb_S2x1x704x1024_S1x1x704x1024_0_0_0_0).toLoadRect (harg4.unread x2) = wGate x2 := by
  rw [View.readAt_eq_ld, harg4.read_unread]; rfl
theorem up_weights : arg4.view.readAt (Elt F)
    (Rect.unit (s := S2x1x704x1024) ![1, 0, 0, 0] S1x1x704x1024.size inb_S2x1x704x1024_S1x1x704x1024_1_0_0_0).toLoadRect (harg4.unread x2) = wUp x2 := by
  rw [View.readAt_eq_ld, harg4.read_unread]; rfl

/-- What a point that meets its block stores. -/
theorem first_stores (hc : k0_cond1 i = 1#1) :
    (runFirst c i arg2 harg2 arg3 harg3 arg4 harg4 arg5 harg5 arg6 harg6 arg7 harg7 arg8 harg8 x0 x1 x2 xs hc).1 = gateL (k0_pay5 x0 x1) x2
    ∧ (runFirst c i arg2 harg2 arg3 harg3 arg4 harg4 arg5 harg5 arg6 harg6 arg7 harg7 arg8 harg8 x0 x1 x2 xs hc).2.1 = upL (k0_pay5 x0 x1) x2
    ∧ (runFirst c i arg2 harg2 arg3 harg3 arg4 harg4 arg5 harg5 arg6 harg6 arg7 harg7 arg8 harg8 x0 x1 x2 xs hc).2.2.1 = actL (k0_pay5 x0 x1) x2
    ∧ (runFirst c i arg2 harg2 arg3 harg3 arg4 harg4 arg5 harg5 arg6 harg6 arg7 harg7 arg8 harg8 x0 x1 x2 xs hc).2.2.2.1 = keep i hc (k0_pay5 x0 x1) := by
  have k : runFirst.sl.HS_1 c i arg2 harg2 arg3 harg3 x0 x1 hc = keep i hc (k0_pay5 x0 x1) := keep_eq c i arg2 harg2 arg3 harg3 x0 x1 hc
  have v0 : runFirst.sl.v9 c i arg2 harg2 arg3 harg3 arg8 x0 x1 hc = rows (k0_pay5 x0 x1) 0 := by
    unfold runFirst.sl.v9; rw [k]; exact keep_rows i arg8 hc _ 0
  have v1 : runFirst.sl.v14 c i arg2 harg2 arg3 harg3 arg8 x0 x1 hc = rows (k0_pay5 x0 x1) 1 := by
    unfold runFirst.sl.v14; rw [k]; exact keep_rows i arg8 hc _ 1
  have v2 : runFirst.sl.v19 c i arg2 harg2 arg3 harg3 arg8 x0 x1 hc = rows (k0_pay5 x0 x1) 2 := by
    unfold runFirst.sl.v19; rw [k]; exact keep_rows i arg8 hc _ 2
  have v3 : runFirst.sl.v24 c i arg2 harg2 arg3 harg3 arg8 x0 x1 hc = rows (k0_pay5 x0 x1) 3 := by
    unfold runFirst.sl.v24; rw [k]; exact keep_rows i arg8 hc _ 3
  have wg := gate_weights arg4 harg4 x2
  have wu := up_weights arg4 harg4 x2
  unfold runFirst
  dsimp only
  simp only [runFirst.sl.r, runFirst.sl.r_1, runFirst.sl.r_2, runFirst.sl.r_3, runFirst.sl.r_4, runFirst.sl.r_5, runFirst.sl.r_6,
    runFirst.sl.r_7, runFirst.sl.r_8, runFirst.sl.r_10]
  rw [v0, v1, v2, v3, wg, wu, k]
  exact ⟨rfl, rfl, rfl, rfl⟩

/-- What a later point stores. -/
theorem later_stores (hc : ¬ k0_cond1 i = 1#1) (k : Fin 2) (hk : (i 1).val = k.val) (h : Vec F S1024x1024 .bf16) (hh : Holds xs k h) :
    (runLater c i arg2 harg2 arg3 harg3 arg4 harg4 arg5 harg5 arg6 harg6 arg7 harg7 arg8 harg8 x0 x1 x2 xs hc).1 = gateL h x2
    ∧ (runLater c i arg2 harg2 arg3 harg3 arg4 harg4 arg5 harg5 arg6 harg6 arg7 harg7 arg8 harg8 x0 x1 x2 xs hc).2.1 = upL h x2
    ∧ (runLater c i arg2 harg2 arg3 harg3 arg4 harg4 arg5 harg5 arg6 harg6 arg7 harg7 arg8 harg8 x0 x1 x2 xs hc).2.2.1 = actL h x2 := by
  have v (r : Fin 4) := kept_rows i arg8 harg8 xs k hk h hh r
  have wg := gate_weights arg4 harg4 x2
  have wu := up_weights arg4 harg4 x2
  have v1 : runLater.sl.r c i arg8 harg8 xs = rows h 1 := v 1
  have v2 : runLater.sl.r_1 c i arg8 harg8 xs = rows h 2 := v 2
  have v3 : runLater.sl.r_2 c i arg8 harg8 xs = rows h 3 := v 3
  have v0 : arg8.view.readAt (Elt F) (Rect.unit (s := S2048x1024) (k0_off2 i 0#32) S256x1024.size (k0_off2_inb i 0)).toLoadRect
      (harg8.unread xs) = rows h 0 := v 0
  unfold runLater
  dsimp only
  simp only [runLater.sl.r_3, runLater.sl.r_4, runLater.sl.r_5, runLater.sl.r_6, runLater.sl.r_7, runLater.sl.r_8, runLater.sl.r_9,
    runLater.sl.r_10, runLater.sl.r_11, runLater.sl.r_13]
  rw [v0, v1, v2, v3, wg, wu]
  exact ⟨rfl, rfl, rfl⟩

end

end Cert.Kernel6Ideal.Up

end
-- ==== Proof.UpWhole.lean ====
/-
  The first products of the feed-forward block: the whole run.

  Between the points the scratch memory holds the normalised blocks of positions met so far. A point that is one of the first two
  stores its own; every point leaves its three results.
-/
module

public import Idealize.ShloMosaic.Lib.Claim
public import proofs.«01_k».proof.Proof.UpFrame

@[expose] public section

set_option maxRecDepth 16384

noncomputable section

namespace Cert.Kernel6Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel6Ideal.Gen

variable {F : FTy → Type} [FloatOps F]
variable (m : (ℓ : Loc nD τ sig) → Buf (Elt F) ℓ) (ρ : Dev nD → PrngReg)

/-! ### The points -/

theorem meets : ∀ t : Fin grid0.N, k0_cond1 (grid0.coords t) = 1#1 ↔ t.val < 2 := by decide +kernel
theorem block_of : ∀ t : Fin grid0.N, (grid0.coords t 1).val = t.val % 2 := by decide +kernel

/-- The point that meets block `k`. -/
def pt (k : Fin 2) : Fin cfg0.N := ⟨k.val, lt_of_lt_of_eq (by omega : k.val < 8) N_0.symm⟩

/-- The block a point works on. -/
def blockAt (t : Fin cfg0.N) : Fin 2 := ⟨t.val % 2, by omega⟩

/-- Block `k`, normalised. -/
def hblk (c : Dev nD) (k : Fin 2) : Vec F S1024x1024 .bf16 := k0_pay5 (iblk m c 0 (pt k)) (iblk m c 1 (pt k))

/-- The scratch memory before point `n`. -/
def Inv (c : Dev nD) (n : ℕ) (X : Vec F S2048x1024 .bf16) : Prop := ∀ k : Fin 2, k.val < n → Holds X k (hblk m c k)

def PhiS (c : Dev nD) (n : ℕ) : sProp (Res F) :=
  iprop((∃ X, ⌜Inv m c n X⌝ ∗ owns (c : Thread nD τ) kept fullShare X) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => View.canon (gateL (hblk m c (blockAt t)) (iblk m c 2 t))
    | ⟨4, _⟩ => View.canon (upL (hblk m c (blockAt t)) (iblk m c 2 t))
    | ⟨5, _⟩ => View.canon (actL (hblk m c (blockAt t)) (iblk m c 2 t))
  Φ t := PhiS m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = View.canon (gateL (hblk m c (blockAt t)) (iblk m c 2 t)) := by dsimp only [dats]
theorem after_4 (c : Dev nD) (t : Fin cfg0.N) :
    (dats m 0 c).after 4 t = View.canon (upL (hblk m c (blockAt t)) (iblk m c 2 t)) := by dsimp only [dats]
theorem after_5 (c : Dev nD) (t : Fin cfg0.N) :
    (dats m 0 c).after 5 t = View.canon (actL (hblk m c (blockAt t)) (iblk m c 2 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ### One point -/

def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A result's buffer after a covering list of stores. -/
theorem give (c : Dev nD) {S : Shape} {e : EltTy} (a : Memref sig .tc .vmem S e) (L L' : List (View.Piece (Elt F) S e)) (h : L = L')
    (cov : ∀ y, ∃ p ∈ L', y ∈ p.1.set) :
    (iprop(∃ f, a.view.loc (c : Thread nD τ) ↦[a.view.set]{fullShare} a.view.writes (Elt F) f L) : sProp (Res F))
      ⊢ owns (c : Thread nD τ) a fullShare (View.canon L') := by
  subst h
  unfold owns
  iintro ⟨%f, H⟩
  iexists _; isplitr
  swap; · iexact H
  ipureintro; exact left _ _ _ cov

theorem Inv_keep (c : Dev nD) (t : Fin cfg0.N) (hc : k0_cond1 (grid0.coords t) = 1#1) (X : Vec F S2048x1024 .bf16) (hX : Inv m c t.val X) :
    Inv m c (t.val + 1) (kept.view.read (Elt F) (kept.view.writes (Elt F) ((Memref.isWhole_whole cc0_scratch0).unread X)
      (keep (grid0.coords t) hc (k0_pay5 (iblk m c 0 t) (iblk m c 1 t))))) := by
  have ht := (meets t).mp hc
  have hb := block_of t
  intro k hk
  by_cases h : k.val = t.val
  · have e : t = pt k := Fin.ext h.symm
    have := keep_holds (grid0.coords t) kept (Memref.isWhole_whole _) X hc k (by omega) (k0_pay5 (iblk m c 0 t) (iblk m c 1 t))
    exact (show k0_pay5 (iblk m c 0 t) (iblk m c 1 t) = hblk m c k by rw [e]; rfl) ▸ this
  · exact keep_other (grid0.coords t) kept (Memref.isWhole_whole _) X hc k (by omega) _ _ (hX k (by omega))

theorem hblk_of (c : Dev nD) (t : Fin cfg0.N) (ht : t.val < 2) : k0_pay5 (iblk m c 0 t) (iblk m c 1 t) = hblk m c (blockAt t) := by
  have e : t = pt (blockAt t) := Fin.ext (by show t.val = t.val % 2; omega)
  unfold hblk; rw [← e]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after_0, after_1, after_2, after_3, after_4, after_5]
  unfold PhiS
  by_cases hc : k0_cond1 (grid0.coords t) = 1#1
  · have st := first_stores c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) kept (Memref.isWhole_whole _) (iblk m c 0 t) (iblk m c 1 t) (iblk m c 2 t)
    iintro ⟨⟨⟨%X, %hX, HS⟩, Hg⟩, Ho, ⟨%d0, H0⟩, ⟨%d1, H1⟩, ⟨%d2, H2⟩, ⟨%d3, H3⟩, ⟨%d4, H4⟩, ⟨%d5, H5⟩⟩
    have sX := st X hc
    rw [hblk_of m c t ((meets t).mp hc)] at sX
    iapply ((runFirst c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) kept (Memref.isWhole_whole _) (iblk m c 0 t) (iblk m c 1 t) (iblk m c 2 t) X hc).2.2.2.2 _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexists _; isplitr
        swap
        · unfold owns; iexists _; isplitr
          swap; · iexact HS
          ipureintro; rfl
        ipureintro
        rw [sX.2.2.2, ← hblk_of m c t ((meets t).mp hc)]
        exact Inv_keep m c t hc X hX
      iexact Hg
    isplitl [Ho]; · iexact Ho
    isplitl [H0]; · iexact H0
    isplitl [H1]; · iexact H1
    isplitl [H2]; · iexact H2
    isplitl [H3]; · iapply (give c _ _ _ sX.1 (gateL_cover _ _)); iexact H3
    isplitl [H4]; · iapply (give c _ _ _ sX.2.1 (upL_cover _ _)); iexact H4
    iapply (give c _ _ _ sX.2.2.1 (actL_cover _ _)); iexact H5
  · have h2 : ¬ t.val < 2 := fun h => hc ((meets t).mpr h)
    iintro ⟨⟨⟨%X, %hX, HS⟩, Hg⟩, Ho, ⟨%d0, H0⟩, ⟨%d1, H1⟩, ⟨%d2, H2⟩, ⟨%d3, H3⟩, ⟨%d4, H4⟩, ⟨%d5, H5⟩⟩
    have sX := later_stores c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) kept (Memref.isWhole_whole _) (iblk m c 0 t) (iblk m c 1 t) (iblk m c 2 t) X hc
      (blockAt t) (block_of t) (hblk m c (blockAt t)) (hX _ (by show t.val % 2 < t.val; omega))
    iapply ((runLater c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) kept (Memref.isWhole_whole _) (iblk m c 0 t) (iblk m c 1 t) (iblk m c 2 t) X hc).2.2.2 _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexists _; isplitr
        swap; · iexact HS
        ipureintro; exact fun k _ => hX k (by omega)
      iexact Hg
    isplitl [Ho]; · iexact Ho
    isplitl [H0]; · iexact H0
    isplitl [H1]; · iexact H1
    isplitl [H2]; · iexact H2
    isplitl [H3]; · iapply (give c _ _ _ sX.1 (gateL_cover _ _)); iexact H3
    isplitl [H4]; · iapply (give c _ _ _ sX.2.1 (upL_cover _ _)); iexact H4
    iapply (give c _ _ _ sX.2.2 (actL_cover _ _)); iexact H5

theorem body_at (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_at]
  exact triple_restated (sound_body m c t) rfl .rfl fun _ => .rfl

/-! ### The run -/

theorem rest_eq (c : Dev nD) : (Pipeline.ΦA spec0 c : sProp (Res F))
    = iprop((∃ X, owns (c : Thread nD τ) kept fullShare X) ∗ (∃ r, prngReg c r)) := by
  unfold Pipeline.ΦA; rw [scopedRest0_eq]; simp only [kept, owns_whole]; try rfl

theorem enter (c : Dev nD) : Pipeline.ΦA spec0 c ⊢ (dats m 0 c).Φ 0 := by
  rw [show (dats m 0 c).Φ 0 = PhiS m c 0 from rfl, rest_eq]
  unfold PhiS
  iintro ⟨⟨%X, HS⟩, Hg⟩
  isplitl [HS]
  · iexists X; isplitr
    · ipureintro; exact fun k hk => absurd hk (Nat.not_lt_zero _)
    iexact HS
  iexact Hg

theorem leave (c : Dev nD) : (dats m 0 c).Φ (Fin.last cfg0.N) ⊢ Pipeline.ΦA spec0 c := by
  rw [show (dats m 0 c).Φ (Fin.last cfg0.N) = PhiS m c cfg0.N from rfl, rest_eq]
  unfold PhiS
  iintro ⟨⟨%X, -, HS⟩, Hg⟩
  isplitl [HS]
  · iexists X; iexact HS
  iexact Hg

set_option backward.isDefEq.respectTransparency.types false in
/-- The program ends with every array at what the stores leave in it and with every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- The program runs to an end, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.Kernel6Ideal.Up

end
-- ==== Proof.Up.lean ====
/-
  The first products of the feed-forward block: the results.

  Each position is scaled to unit mean square and by the gain, and multiplied by the two halves of the weights, block of columns
  by block of columns. The third result is the first, times its sigmoid, times the second.
-/
module

public import Idealize.ShloMosaic.Lib.Pipeline.ValueKit.Tiles
public import Idealize.ShloMosaic.Lib.IdealHost
public import proofs.«01_k».proof.Defs
public import proofs.«01_k».proof.Proof.Blocks
public import proofs.«01_k».proof.Proof.UpWhole
public import proofs.«01_k».proof.Proof.Gen.Reference6Ideal.Read

@[expose] public section

set_option maxRecDepth 16384

noncomputable section

namespace Cert.Kernel6Ideal.Up

open Idealize.ShloMosaic Idealize.ShloMosaic.TcCoe Idealize.ShloMosaic.Pipeline Idealize.SL.Sem
open Cert.Kernel6Ideal Cert.Kernel6Ideal.Gen Cert.Blocks

/-! ### The block's mathematics -/

/-- A position's input, scaled. -/
def scaled {n : ℕ} (x : (⟨2, ![n, 1024]⟩ : Shape).Idx → EReal) (g : S1x1024.Idx → EReal) (t : Fin n) (d : Fin 1024) : EReal :=
  x (ix2 t d) * Ideal.rsqrt (Ideal.div (∑ k : Fin 1024, x (ix2 t k) * x (ix2 t k)) (Ideal.ofBits .f32 0x44800000#32)
    + Ideal.ofBits .f32 0x358637BD#32) * g (ix2 0 d)

/-- Column `k` of half `s` of the weights. -/
def half (s : Fin 2) (k : Fin 2816) : Fin 5632 := ⟨2816 * s.val + k.val, by omega⟩

/-- The product with half `s` of the weights. -/
def prod (x : S2048x1024.Idx → EReal) (g : S1x1024.Idx → EReal) (w : S1024x5632.Idx → EReal) (s : Fin 2) (t : Fin 2048) (k : Fin 2816) : EReal :=
  ∑ d : Fin 1024, scaled x g t d * w (ix2 d (half s k))

/-- The gated product. -/
def gated (p q : EReal) : EReal := p * Ideal.logistic p * q

/-- An array over blocks of columns. -/
def inBlocks (A : Fin 2048 → Fin 2816 → EReal) : S4x2048x704.Idx → EReal := fun y => A (y 1) (col (y 0) (y 2))

variable (m : (ℓ : Loc nD τ sig) → Buf (Elt Ideal) ℓ) (c : Dev nD)

def inp : S2048x1024.Idx → EReal := m ((c : Thread nD τ).loc main_arg0)
def gain : S1x1024.Idx → EReal := m ((c : Thread nD τ).loc main_arg1)
def wts : S1024x5632.Idx → EReal := m ((c : Thread nD τ).loc main_arg2)

/-- The three results. -/
def gate : S4x2048x704.Idx → EReal := inBlocks (prod (inp m c) (gain m c) (wts m c) 0)
def up : S4x2048x704.Idx → EReal := inBlocks (prod (inp m c) (gain m c) (wts m c) 1)
def act : S4x2048x704.Idx → EReal := fun y => gated (gate m c y) (up m c y)

/-! ### What the launch finds -/

theorem V_wts (s : Fin 2) (j : Fin 4) (f : Fin 704) (d : Fin 1024) : V m c main_v2 (ix4 s j f d) = wts m c (ix2 d (half s (col j f))) := by
  have e : V m c main_v2 = (truncf (F := Ideal) .bf16 (shapeCast S2x4x704x1024 (transpose S5632x1024 [1, 0] (wts m c)
      transposes_S1024x5632_S5632x1024_1_0) shapeCasts_S5632x1024_S2x4x704x1024) bitsLt_bf16_f32 : FVec Ideal S2x4x704x1024 .bf16) := by
    show StableHlo.after hostOps0 (fun b => m (c, b)) (Proc.devRef .tc main_v2) = _
    after_results
    all_goals rfl
  refine (congrFun e _).trans ((rounded_apply _ _ _).trans ?_)
  refine (shapeCast_apply _ _ (ix4 s j f d) (ix2 (half s (col j f)) d) ?_).trans ?_
  · rw [Shape.rowMajor_val_two, Shape.rowMajor_val_four]
    show (2816 * s.val + (704 * j.val + f.val)) * 1024 + d.val = ((s.val * 4 + j.val) * 704 + f.val) * 1024 + d.val
    omega
  · exact transpose_apply _ _ _ (ix2 (half s (col j f)) d) (ix2 d (half s (col j f))) fun b => by
      match b with | ⟨0, _⟩ => rfl | ⟨1, _⟩ => rfl

/-! ### The windows' blocks -/

theorem index0 (k : Fin 2) : win0_0.index (pt k) 0 = k.val ∧ win0_0.index (pt k) 1 = 0 :=
  (by decide +kernel : ∀ k : Fin 2, win0_0.index (pt k) 0 = k.val ∧ win0_0.index (pt k) 1 = 0) k
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = 0 ∧ win0_2.index t 1 = t.val / 2 ∧ win0_2.index t 2 = 0 ∧ win0_2.index t 3 = 0 :=
  (by decide +kernel : ∀ t : Fin grid0.N, win0_2.index t 0 = 0 ∧ win0_2.index t 1 = t.val / 2 ∧ win0_2.index t 2 = 0 ∧ win0_2.index t 3 = 0) t
theorem index3 (t : Fin cfg0.N) : win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0) t
theorem index4 (t : Fin cfg0.N) : win0_4.index t = win0_3.index t :=
  funext ((by decide +kernel : ∀ t : Fin grid0.N, ∀ a, win0_4.index t a = win0_3.index t a) t)
theorem index5 (t : Fin cfg0.N) : win0_5.index t = win0_3.index t :=
  funext ((by decide +kernel : ∀ t : Fin grid0.N, ∀ a, win0_5.index t a = win0_3.index t a) t)

/-- Position `t` of block `k`. -/
def row (k : Fin 2) (t : Fin 1024) : Fin 2048 := ⟨1024 * k.val + t.val, by omega⟩
/-- The block of columns a point works on. -/
def colsAt (t : Fin cfg0.N) : Fin 4 := ⟨t.val / 2, by have : t.val < 8 := lt_of_lt_of_eq t.isLt N_0; omega⟩

theorem rd0 (A : S2048x1024.Idx → EReal) (k : Fin 2) (t d : Fin 1024) :
    ((cfg0.win 0).blk (pt k)).view.read (Elt Ideal) A (ix2 t d) = A (ix2 (row k t) d) := by
  rw [View.read_apply]
  show A _ = A _
  refine congrArg _ (funext fun a => Fin.ext ?_)
  match a with
  | ⟨0, _⟩ => show win0_0.index (pt k) 0 * 1024 + 1 * t.val = 1024 * k.val + t.val; rw [(index0 _).1]; omega
  | ⟨1, _⟩ => show win0_0.index (pt k) 1 * 1024 + 1 * d.val = d.val; rw [(index0 _).2]; omega

theorem rd1 (A : S1x1024.Idx → EReal) (t : Fin cfg0.N) (d : Fin 1024) :
    ((cfg0.win 1).blk t).view.read (Elt Ideal) A (ix2 0 d) = A (ix2 0 d) := by
  rw [View.read_apply]
  show A _ = A _
  refine congrArg _ (funext fun a => Fin.ext ?_)
  match a with
  | ⟨0, _⟩ => show win0_1.index t 0 * 1 + 1 * 0 = 0; rw [(index1 _).1]
  | ⟨1, _⟩ => show win0_1.index t 1 * 1024 + 1 * d.val = d.val; rw [(index1 _).2]; omega

theorem rd2 (A : S2x4x704x1024.Idx → EReal) (t : Fin cfg0.N) (s : Fin 2) (f : Fin 704) (d : Fin 1024) :
    ((cfg0.win 2).blk t).view.read (Elt Ideal) A (ix4 s 0 f d) = A (ix4 s (colsAt t) f d) := by
  rw [View.read_apply]
  show A _ = A _
  refine congrArg _ (funext fun a => Fin.ext ?_)
  match a with
  | ⟨0, _⟩ => show win0_2.index t 0 * 2 + 1 * s.val = s.val; rw [(index2 _).1]; omega
  | ⟨1, _⟩ => show win0_2.index t 1 * 1 + 1 * 0 = t.val / 2; rw [(index2 _).2.1]; omega
  | ⟨2, _⟩ => show win0_2.index t 2 * 704 + 1 * f.val = f.val; rw [(index2 _).2.2.1]; omega
  | ⟨3, _⟩ => show win0_2.index t 3 * 1024 + 1 * d.val = d.val; rw [(index2 _).2.2.2]; omega

theorem blk0 (k : Fin 2) (t d : Fin 1024) : iblk m c 0 (pt k) (ix2 t d) = inp m c (ix2 (row k t) d) :=
  (rd0 (V m c main_arg0) k t d).trans (congrFun (V_main_arg0 m c) _)
theorem blk1 (t : Fin cfg0.N) (d : Fin 1024) : iblk m c 1 t (ix2 0 d) = gain m c (ix2 0 d) :=
  (rd1 (V m c main_arg1) t d).trans (congrFun (V_main_arg1 m c) _)
theorem blk2 (t : Fin cfg0.N) (s : Fin 2) (f : Fin 704) (d : Fin 1024) :
    iblk m c 2 t (ix4 s 0 f d) = wts m c (ix2 d (half s (col (colsAt t) f))) :=
  (rd2 (V m c main_v2) t s f d).trans (V_wts m c s (colsAt t) f d)

/-! ### What a grid point stores -/

theorem scaled_apply (x : Vec Ideal S1024x1024 .f32) (g : Vec Ideal S1x1024 .f32) (t d : Fin 1024) :
    k0_pay5 x g (ix2 t d) = scaled (n := 1024) x g t d := by
  unfold k0_pay5
  refine (congrFun (shapeCast_self _ _) _).trans ((rounded_apply _ _ _).trans ?_)
  refine congrArg₂ (fun p q : EReal => x (ix2 t d) * p * q) ?_ ?_
  · refine (broadcastTo_apply _ _ _ (ix2 t (0 : Fin 1)) fun b => by match b with | ⟨0, _⟩ => rfl | ⟨1, _⟩ => rfl).trans ?_
    refine congrArg (fun s : EReal => Ideal.rsqrt (Ideal.div s (Ideal.ofBits .f32 0x44800000#32) + Ideal.ofBits .f32 0x358637BD#32)) ?_
    refine (shapeCast_apply _ _ _ (ix1 t) rfl).trans ?_
    refine (Ideal.multiReduction_add_single (mulf (F := Ideal) x x) _ _ _ _ _).trans ?_
    refine Finset.sum_congr rfl fun k _ => congrArg (fun i => x i * x i) ?_
    funext b
    match b with | ⟨0, _⟩ => rfl | ⟨1, _⟩ => rfl
  · exact broadcastTo_apply _ _ _ (ix2 0 d) fun b => by match b with | ⟨0, _⟩ => rfl | ⟨1, _⟩ => rfl

theorem hblk_apply (k : Fin 2) (t d : Fin 1024) : hblk m c k (ix2 t d) = scaled (inp m c) (gain m c) (row k t) d := by
  refine (scaled_apply _ _ t d).trans ?_
  unfold scaled
  simp only [blk0, blk1]

/-- The product of 256 positions with a block of weights. -/
theorem part_apply (h : Vec Ideal S256x1024 .bf16) (w : Vec Ideal S1x1x704x1024 .bf16) (t : Fin 256) (f : Fin 704) :
    k0_pay6 h w (ix2 t f) = ∑ d : Fin 1024, h (ix2 t d) * w (ix4 0 0 f d) := by
  unfold k0_pay6
  show Ideal.matmul _ _ _ _ _ = _
  simp only [matmulApply]
  refine (congrArg (· + _) Ideal.ofBits_zero_f32).trans ((zero_add _).trans ?_)
  refine Finset.sum_congr rfl fun d _ => congrArg₂ (fun a b : EReal => a * b) rfl ?_
  refine shapeCast_apply _ _ (ix2 f d) (ix4 0 0 f d) ?_
  rw [Shape.rowMajor_val_two, Shape.rowMajor_val_four]
  show (((0 : ℕ) * 1 + 0) * 704 + f.val) * 1024 + d.val = f.val * 1024 + d.val
  omega

/-- What is stored of it. -/
theorem stored_apply (A : FVec Ideal S256x704 .f32) (x : S1x256x704.Idx) : k0_pay1 A x = A (ix2 (x 1) (x 2)) := by
  unfold k0_pay1
  refine (shapeCast_apply _ _ x (ix2 (x 1) (x 2)) ?_).trans (rounded_apply _ _ _)
  rw [Shape.rowMajor_val_two, Shape.rowMajor_val_three]
  have h0 : (x 0).val < 1 := (x 0).isLt
  show (x 1).val * 704 + (x 2).val = ((x 0).val * 256 + (x 1).val) * 704 + (x 2).val
  omega

/-- Half `s` of the block of weights, as the body loads it. -/
theorem wGate_apply (w : Vec Ideal S2x1x704x1024 .bf16) (f : Fin 704) (d : Fin 1024) : wGate w (ix4 0 0 f d) = w (ix4 0 0 f d) := by
  refine View.ld_unit_apply_of w _ _ _ (ix4 0 0 f d) (ix4 0 0 f d) fun a => ?_
  match a with
  | ⟨0, _⟩ => rfl
  | ⟨1, _⟩ => rfl
  | ⟨2, _⟩ => show f.val = 0 + f.val; omega
  | ⟨3, _⟩ => show d.val = 0 + d.val; omega
theorem wUp_apply (w : Vec Ideal S2x1x704x1024 .bf16) (f : Fin 704) (d : Fin 1024) : wUp w (ix4 0 0 f d) = w (ix4 1 0 f d) := by
  refine View.ld_unit_apply_of w _ _ _ (ix4 0 0 f d) (ix4 1 0 f d) fun a => ?_
  match a with
  | ⟨0, _⟩ => rfl
  | ⟨1, _⟩ => rfl
  | ⟨2, _⟩ => show f.val = 0 + f.val; omega
  | ⟨3, _⟩ => show d.val = 0 + d.val; omega

/-- A block's product with half `s` of a block of weights. -/
def whole (h : Vec Ideal S1024x1024 .bf16) (w : Vec Ideal S2x1x704x1024 .bf16) (s : Fin 2) (y : S1x1024x704.Idx) : EReal :=
  ∑ d : Fin 1024, h (ix2 (y 1) d) * w (ix4 s 0 (y 2) d)

section
variable (h : Vec Ideal S1024x1024 .bf16) (w : Vec Ideal S2x1x704x1024 .bf16)

theorem at_rows (r : Fin 4) {o : Fin 3 → ℕ} (ho : o = ![0, 256 * r.val, 0]) (inb : ∀ a, o a + S1x256x704.size a ≤ S1x1024x704.size a)
    (x : S1x256x704.Idx) (d : Fin 1024) :
    rows h r (ix2 (x 1) d) = h (ix2 ((Rect.unit (s := S1x1024x704) o S1x256x704.size inb).emb x 1) d) := by
  subst ho
  refine congrArg h (funext fun a => Fin.ext ?_)
  match a with
  | ⟨0, _⟩ => show 256 * r.val + (x 1).val = 256 * r.val + 1 * (x 1).val; omega
  | ⟨1, _⟩ => rfl

theorem at_cols {r : ℕ} {o : Fin 3 → ℕ} (ho : o = ![0, r, 0]) (inb : ∀ a, o a + S1x256x704.size a ≤ S1x1024x704.size a)
    (x : S1x256x704.Idx) : (Rect.unit (s := S1x1024x704) o S1x256x704.size inb).emb x 2 = x 2 := by
  subst ho
  exact Fin.ext (by show 0 + 1 * (x 2).val = (x 2).val; omega)

theorem gate_at (r : Fin 4) {o : Fin 3 → ℕ} (ho : o = ![0, 256 * r.val, 0]) (inb : ∀ a, o a + S1x256x704.size a ≤ S1x1024x704.size a)
    (x : S1x256x704.Idx) :
    k0_pay6 (rows h r) (wGate w) (ix2 (x 1) (x 2)) = whole h w 0 ((Rect.unit (s := S1x1024x704) o S1x256x704.size inb).emb x) := by
  refine (part_apply _ _ (x 1) (x 2)).trans (Finset.sum_congr rfl fun d _ => congrArg₂ (fun a b : EReal => a * b) (at_rows h r ho inb x d) ?_)
  rw [at_cols ho inb x]
  exact wGate_apply w (x 2) d

theorem up_at (r : Fin 4) {o : Fin 3 → ℕ} (ho : o = ![0, 256 * r.val, 0]) (inb : ∀ a, o a + S1x256x704.size a ≤ S1x1024x704.size a)
    (x : S1x256x704.Idx) :
    k0_pay6 (rows h r) (wUp w) (ix2 (x 1) (x 2)) = whole h w 1 ((Rect.unit (s := S1x1024x704) o S1x256x704.size inb).emb x) := by
  refine (part_apply _ _ (x 1) (x 2)).trans (Finset.sum_congr rfl fun d _ => congrArg₂ (fun a b : EReal => a * b) (at_rows h r ho inb x d) ?_)
  rw [at_cols ho inb x]
  exact wUp_apply w (x 2) d

theorem gate_stored (y : S1x1024x704.Idx) : View.canon (gateL h w) y = whole h w 0 y := by
  refine View.canon_apply_of_pieces (Val := Elt Ideal) (whole h w 0) _ (fun p hp x => ?_) y (gateL_cover h w y)
  simp only [gateL, List.mem_cons, List.not_mem_nil, or_false] at hp
  rcases hp with rfl | rfl | rfl | rfl
  · exact (stored_apply _ x).trans (gate_at h w 3 rfl inb_S1x1024x704_S1x256x704_0_768_0 x)
  · exact (stored_apply _ x).trans (gate_at h w 2 rfl inb_S1x1024x704_S1x256x704_0_512_0 x)
  · exact (stored_apply _ x).trans (gate_at h w 1 rfl inb_S1x1024x704_S1x256x704_0_256_0 x)
  · exact (stored_apply _ x).trans (gate_at h w 0 rfl inb_S1x1024x704_S1x256x704_0_0_0 x)

theorem up_stored (y : S1x1024x704.Idx) : View.canon (upL h w) y = whole h w 1 y := by
  refine View.canon_apply_of_pieces (Val := Elt Ideal) (whole h w 1) _ (fun p hp x => ?_) y (upL_cover h w y)
  simp only [upL, List.mem_cons, List.not_mem_nil, or_false] at hp
  rcases hp with rfl | rfl | rfl | rfl
  · exact (stored_apply _ x).trans (up_at h w 3 rfl inb_S1x1024x704_S1x256x704_0_768_0 x)
  · exact (stored_apply _ x).trans (up_at h w 2 rfl inb_S1x1024x704_S1x256x704_0_512_0 x)
  · exact (stored_apply _ x).trans (up_at h w 1 rfl inb_S1x1024x704_S1x256x704_0_256_0 x)
  · exact (stored_apply _ x).trans (up_at h w 0 rfl inb_S1x1024x704_S1x256x704_0_0_0 x)

theorem act_at (r : Fin 4) {o : Fin 3 → ℕ} (ho : o = ![0, 256 * r.val, 0]) (inb : ∀ a, o a + S1x256x704.size a ≤ S1x1024x704.size a)
    (x : S1x256x704.Idx) :
    k0_pay17 (k0_pay6 (rows h r) (wGate w)) (k0_pay6 (rows h r) (wUp w)) x
      = gated (whole h w 0 ((Rect.unit (s := S1x1024x704) o S1x256x704.size inb).emb x))
          (whole h w 1 ((Rect.unit (s := S1x1024x704) o S1x256x704.size inb).emb x)) :=
  (stored_apply _ x).trans (congrArg₂ gated (gate_at h w r ho inb x) (up_at h w r ho inb x))

theorem act_stored (y : S1x1024x704.Idx) : View.canon (actL h w) y = gated (whole h w 0 y) (whole h w 1 y) := by
  refine View.canon_apply_of_pieces (Val := Elt Ideal) (fun y => gated (whole h w 0 y) (whole h w 1 y)) _ (fun p hp x => ?_) y (actL_cover h w y)
  simp only [actL, List.mem_cons, List.not_mem_nil, or_false] at hp
  rcases hp with rfl | rfl | rfl | rfl
  · exact act_at h w 3 rfl inb_S1x1024x704_S1x256x704_0_768_0 x
  · exact act_at h w 2 rfl inb_S1x1024x704_S1x256x704_0_512_0 x
  · exact act_at h w 1 rfl inb_S1x1024x704_S1x256x704_0_256_0 x
  · exact act_at h w 0 rfl inb_S1x1024x704_S1x256x704_0_0_0 x

end

/-- Entry `y` of a point's block in the whole array. -/
def place (t : Fin cfg0.N) (y : S1x1024x704.Idx) : S4x2048x704.Idx := ix3 (colsAt t) (row (blockAt t) (y 1)) (y 2)

theorem whole_apply (t : Fin cfg0.N) (s : Fin 2) (y : S1x1024x704.Idx) :
    whole (hblk m c (blockAt t)) (iblk m c 2 t) s y = inBlocks (prod (inp m c) (gain m c) (wts m c) s) (place t y) :=
  Finset.sum_congr rfl fun d _ => congrArg₂ (fun a b : EReal => a * b) (hblk_apply m c (blockAt t) (y 1) d) (blk2 m c t s (y 2) d)

/-! ### The run -/

/-- The blocks of the points are the array's. -/
theorem place_eq (t : Fin cfg0.N) (y : S1x1024x704.Idx) (a : Fin 3) :
    (place t y a).val = win0_3.index t a * S1x1024x704.size a + (y a).val := by
  have h0 : (y 0).val < 1 := (y 0).isLt
  match a with
  | ⟨0, _⟩ => show t.val / 2 = win0_3.index t 0 * 1 + (y 0).val; rw [(index3 t).1]; omega
  | ⟨1, _⟩ => show 1024 * (t.val % 2) + (y 1).val = win0_3.index t 1 * 1024 + (y 1).val; rw [(index3 t).2.1]; omega
  | ⟨2, _⟩ => show (y 2).val = win0_3.index t 2 * 704 + (y 2).val; rw [(index3 t).2.2]; omega

/-- The point whose block holds entry `i`. -/
def pointOf (i : S4x2048x704.Idx) : Fin cfg0.N :=
  ⟨2 * (i 0).val + (i 1).val / 1024, lt_of_lt_of_eq (by
    have h0 : (i 0).val < 4 := (i 0).isLt
    have h1 : (i 1).val < 2048 := (i 1).isLt
    omega : 2 * (i 0).val + (i 1).val / 1024 < 8) N_0.symm⟩

theorem pointOf_holds (i : S4x2048x704.Idx) (a : Fin 3) :
    win0_3.index (pointOf i) a * S1x1024x704.size a ≤ (i a).val
      ∧ (i a).val < win0_3.index (pointOf i) a * S1x1024x704.size a + S1x1024x704.size a := by
  have h0 : (i 0).val < 4 := (i 0).isLt
  have h1 : (i 1).val < 2048 := (i 1).isLt
  have h2 : (i 2).val < 704 := (i 2).isLt
  match a with
  | ⟨0, _⟩ =>
    show win0_3.index (pointOf i) 0 * 1 ≤ (i 0).val ∧ (i 0).val < win0_3.index (pointOf i) 0 * 1 + 1
    rw [(index3 _).1]
    show (2 * (i 0).val + (i 1).val / 1024) / 2 * 1 ≤ (i 0).val ∧ (i 0).val < (2 * (i 0).val + (i 1).val / 1024) / 2 * 1 + 1
    omega
  | ⟨1, _⟩ =>
    show win0_3.index (pointOf i) 1 * 1024 ≤ (i 1).val ∧ (i 1).val < win0_3.index (pointOf i) 1 * 1024 + 1024
    rw [(index3 _).2.1]
    show (2 * (i 0).val + (i 1).val / 1024) % 2 * 1024 ≤ (i 1).val ∧ (i 1).val < (2 * (i 0).val + (i 1).val / 1024) % 2 * 1024 + 1024
    omega
  | ⟨2, _⟩ =>
    show win0_3.index (pointOf i) 2 * 704 ≤ (i 2).val ∧ (i 2).val < win0_3.index (pointOf i) 2 * 704 + 704
    rw [(index3 _).2.2]
    omega

theorem final3 : (dats m 0 c).arrAt 3 cfg0.N = gate m c := by
  refine (dats m 0 c).arrAt_eq_of_cover 3 (gate m c) (fun t _ => ?_) fun i => ⟨pointOf i, flush0_3 _, ?_⟩
  · show (cfg0.win 3).cut (grid0.coords t) ((dats m 0 c).after 3 t) = _
    rw [after_3]
    funext y
    rw [View.read_apply]
    refine (gate_stored _ _ y).trans ((whole_apply m c t 0 y).trans ?_)
    show gate m c _ = gate m c _
    exact congrArg (gate m c) (funext fun a => Fin.ext ((place_eq t y a).trans (win0_3.rect_emb_val t y a).symm))
  · show i ∈ ((View.whole main_v3_0).slice (win0_3.rect (pointOf i))).set
    rw [View.set_slice_whole, Rect.mem_set_unit]
    exact pointOf_holds i

theorem final4 : (dats m 0 c).arrAt 4 cfg0.N = up m c := by
  refine (dats m 0 c).arrAt_eq_of_cover 4 (up m c) (fun t _ => ?_) fun i => ⟨pointOf i, flush0_4 _, ?_⟩
  · show (cfg0.win 4).cut (grid0.coords t) ((dats m 0 c).after 4 t) = _
    rw [after_4]
    funext y
    rw [View.read_apply]
    refine (up_stored _ _ y).trans ((whole_apply m c t 1 y).trans ?_)
    show up m c _ = up m c _
    exact congrArg (up m c) (funext fun a => Fin.ext ((place_eq t y a).trans (win0_3.rect_emb_val t y a).symm))
  · show i ∈ ((View.whole main_v3_1).slice (win0_4.rect (pointOf i))).set
    rw [View.set_slice_whole, Rect.mem_set_unit]
    exact pointOf_holds i

theorem final5 : (dats m 0 c).arrAt 5 cfg0.N = act m c := by
  refine (dats m 0 c).arrAt_eq_of_cover 5 (act m c) (fun t _ => ?_) fun i => ⟨pointOf i, flush0_5 _, ?_⟩
  · show (cfg0.win 5).cut (grid0.coords t) ((dats m 0 c).after 5 t) = _
    rw [after_5]
    funext y
    rw [View.read_apply]
    refine (act_stored _ _ y).trans ((congrArg₂ gated (whole_apply m c t 0 y) (whole_apply m c t 1 y)).trans ?_)
    show act m c _ = act m c _
    exact congrArg (act m c) (funext fun a => Fin.ext ((place_eq t y a).trans (win0_3.rect_emb_val t y a).symm))
  · show i ∈ ((View.whole main_v3_2).slice (win0_5.rect (pointOf i))).set
    rw [View.set_slice_whole, Rect.mem_set_unit]
    exact pointOf_holds i

/-! ### The reference -/

section
open Cert.Reference6Ideal.Read
variable (x : S2048x1024.Idx → EReal) (g : S1x1024.Idx → EReal) (w : S1024x5632.Idx → EReal)

theorem ref_scaled (t : Fin 2048) (d : Fin 1024) : val_main_v11 (F := Ideal) x g (ix2 t d) = scaled x g t d := by
  refine congrArg₂ (fun p q : EReal => x (ix2 t d) * p * q) ?_ ?_
  · refine (val_main_v8_apply (F := Ideal) x (ix2 t d)).trans ?_
    refine congrArg₂ (fun s e : EReal => Ideal.rsqrt (s + e)) (congrArg₂ Ideal.div ?_ ?_) ?_
    · refine (val_main_v2_apply (F := Ideal) x _).trans ((val_main_v1_apply x _).trans ?_)
      refine (congrArg (· + _) Ideal.ofBits_zero_f32).trans ((zero_add _).trans (Finset.sum_congr rfl fun k _ => congrArg (fun i => x i * x i) ?_))
      funext b
      match b with | ⟨0, _⟩ => rfl | ⟨1, _⟩ => rfl
    · exact val_main_v3_apply (F := Ideal) _
    · exact val_main_v5_apply (F := Ideal) _
  · refine (val_main_v10_apply (F := Ideal) g (ix2 t d)).trans (congrArg g ?_)
    funext b
    match b with | ⟨0, _⟩ => rfl | ⟨1, _⟩ => rfl

theorem ref_prod (s : Fin 2) (t : Fin 2048) (k : Fin 2816) : val_main_v12 (F := Ideal) x g w (ix2 t (half s k)) = prod x g w s t k := by
  refine (val_main_v12_apply x g w _).trans (Finset.sum_congr rfl fun d _ => congrArg₂ (fun a b : EReal => a * b) ?_ (congrArg w ?_))
  · refine (congrArg (val_main_v11 (F := Ideal) x g) ?_).trans (ref_scaled x g t d)
    funext b
    match b with | ⟨0, _⟩ => rfl | ⟨1, _⟩ => rfl
  · funext b
    match b with | ⟨0, _⟩ => rfl | ⟨1, _⟩ => rfl

theorem ref_first (t : Fin 2048) (k : Fin 2816) : val_main_v13 (F := Ideal) x g w (ix2 t k) = prod x g w 0 t k := by
  refine (val_main_v13_apply (F := Ideal) x g w _).trans ((congrArg (val_main_v12 (F := Ideal) x g w) ?_).trans (ref_prod x g w 0 t k))
  funext b
  match b with
  | ⟨0, _⟩ => rfl
  | ⟨1, _⟩ => exact Fin.ext (by show k.val = 2816 * 0 + k.val; omega)

theorem ref_second (t : Fin 2048) (k : Fin 2816) : val_main_v14 (F := Ideal) x g w (ix2 t k) = prod x g w 1 t k := by
  refine (val_main_v14_apply (F := Ideal) x g w _).trans ((congrArg (val_main_v12 (F := Ideal) x g w) ?_).trans (ref_prod x g w 1 t k))
  funext b
  match b with
  | ⟨0, _⟩ => rfl
  | ⟨1, _⟩ => exact Fin.ext (by show 2816 + k.val = 2816 * 1 + k.val; omega)

theorem ref_gated (t : Fin 2048) (k : Fin 2816) :
    val_main_v22 (F := Ideal) x g w (ix2 t k) = gated (prod x g w 0 t k) (prod x g w 1 t k) := by
  refine congrArg₂ (fun p q : EReal => p * q) (congrArg₂ (fun p q : EReal => p * q) (ref_first x g w t k) ?_) (ref_second x g w t k)
  refine congrArg₂ Ideal.div ((val_main_call0_v4_apply (F := Ideal) _).trans Ideal.ofBits_one_f32)
    (congrArg₂ (fun p q : EReal => p + q) ((val_main_call0_v2_apply (F := Ideal) _).trans Ideal.ofBits_one_f32) ?_)
  exact congrArg (fun p : EReal => Ideal.exp (-p)) (ref_first x g w t k)

theorem ref3 (y : S4x2048x704.Idx) : val_main_v17 (F := Ideal) x g w y = inBlocks (prod x g w 0) y :=
  (congrArg _ (eq_ix3 y)).trans ((blocks_apply (val_main_v13 (F := Ideal) x g w) _ _ (y 0) (y 1) (y 2)).trans (ref_first x g w _ _))
theorem ref4 (y : S4x2048x704.Idx) : val_main_v20 (F := Ideal) x g w y = inBlocks (prod x g w 1) y :=
  (congrArg _ (eq_ix3 y)).trans ((blocks_apply (val_main_v14 (F := Ideal) x g w) _ _ (y 0) (y 1) (y 2)).trans (ref_second x g w _ _))
theorem ref5 (y : S4x2048x704.Idx) : val_main_v25 (F := Ideal) x g w y = gated (inBlocks (prod x g w 0) y) (inBlocks (prod x g w 1) y) :=
  (congrArg _ (eq_ix3 y)).trans ((blocks_apply (val_main_v22 (F := Ideal) x g w) _ _ (y 0) (y 1) (y 2)).trans (ref_gated x g w _ _))

end

/-! ### The claims -/

theorem frame_pi : Cert.quiescent_Kernel6Ideal := fun m ρ _ => frame m ρ
theorem frame_ri : Cert.quiescent_Reference6Ideal := fun m ρ _ =>
  (θ_run (Cert.Reference6Ideal.defs (F := Ideal)) _ _).mono (fun r h => And.intro (fun c => (h c).2.2.2)
      (Idealize.ShloMosaic.sem_eq_zero_of_no_sems (by decide) r.2))
    (Cert.Reference6Ideal.Value.run (F := Ideal) m ρ)
theorem preserves : Cert.preserves_Kernel6_Kernel6Ideal := trivial

theorem algebraic : Cert.algebraic_Kernel6Ideal_Reference6Ideal := by
  intro m ρ m' ρ' _ hagree
  refine ⟨fun c => gate m c, fun c => up m c, fun c => act m c, (θ_run (defs (F := Ideal)) _ _).mono (fun r h c => ?_) (run_main (F := Ideal) m ρ), ?_⟩
  · refine ⟨((h c).1 3).trans (final3 m c), ((h c).1 4).trans (final4 m c), ((h c).1 5).trans (final5 m c), ?_, ?_, ?_⟩
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).2 main_arg2 (Pipeline.mem_restRefs_of main_arg2 (by decide) (by decide))).trans (V_main_arg2 m c)
  refine (θ_run (Cert.Reference6Ideal.defs (F := Ideal)) _ _).mono (fun r h c => ?_) (Cert.Reference6Ideal.Value.run (F := Ideal) m' ρ')
  obtain ⟨a0, a1, a2⟩ := hagree c
  refine ⟨(h c).1.trans ((Cert.Reference6Ideal.Read.val_main_v17_eq _ _ _).trans ?_),
    (h c).2.1.trans ((Cert.Reference6Ideal.Read.val_main_v20_eq _ _ _).trans ?_),
    (h c).2.2.1.trans ((Cert.Reference6Ideal.Read.val_main_v25_eq _ _ _).trans ?_), (h c).2.2.2⟩
  all_goals rw [a0, a1, a2]
  · exact funext fun y => ref3 _ _ _ y
  · exact funext fun y => ref4 _ _ _ y
  · exact funext fun y => ref5 _ _ _ y

end Cert.Kernel6Ideal.Up

end
-- ==== Proof.UpP.lean ====
/-
  The first products of the feed-forward block: the printed program is the idealized one.

  No operation of it is rewritten, so the two texts are the same program, and what is proved of the one at any numbers is true of
  the other at the machine's.
-/
module

public import proofs.«01_k».proof.Defs
public import proofs.«01_k».proof.Proof.UpWhole
public import proofs.«01_k».proof.Proof.Gen.Kernel6.Frame

@[expose] public section

set_option maxRecDepth 100000

namespace Cert.Kernel6.Up

open Idealize.ShloMosaic Idealize.SL.Sem

variable {F : FTy → Type} [FloatOps F]

theorem bodies : Cert.Kernel6.defs₀ (F := F) = Cert.Kernel6Ideal.defs₀ (F := F) := by
  unfold Cert.Kernel6.defs₀ Cert.Kernel6Ideal.defs₀
  refine congrArg Defs.onTc (funext fun l => funext fun x => ?_)
  match l, x with
  | 0, (t, s) => rfl

theorem procedures : Cert.Kernel6.defs (F := F) = Cert.Kernel6Ideal.defs (F := F) := by
  unfold Cert.Kernel6.defs Cert.Kernel6Ideal.defs
  exact congrArg (Pipeline.defs Cert.Kernel6.pcfgs) bodies

theorem program : Cert.Kernel6.main (F := F) = Cert.Kernel6Ideal.main (F := F) := by
  unfold Cert.Kernel6.main Cert.Kernel6Ideal.main
  rfl

theorem frame_p : Cert.quiescent_Kernel6 := fun m ρ _ => by
  have h := Cert.Kernel6Ideal.Up.frame (F := Bits) m ρ
  exact (congrArg₂ (fun d p => θ_run d (onTc (τ := Cert.Kernel6.τ) p) ⟨m, fun _ => 0, ρ⟩ _) procedures program).mpr h

end Cert.Kernel6.Up

end
-- ==== Proof.BwdReals.lean ====
/-
  The backward pass of the feed-forward block over the real numbers.

  `RIn` holds the five arguments as real matrices. The functions after it follow the forward pass (root mean square,
  normalised activations, the two halves of the first product) and then the gradients back to the block's input.
  The constants of the two programs are read as real numbers at the end.
-/
module

public import proofs.«01_k».proof.Proof.Reals
public import proofs.«01_k».proof.Proof.Blocks

@[expose] public section

noncomputable section

namespace Cert.Ffn

open Idealize.ShloMosaic
open Cert.Blocks Cert.Att

/-- The small number that keeps the mean square away from zero: 8796093 / 2⁴³. -/
def eps : ℝ := 8796093 / 8796093022208

theorem eps_pos : 0 < eps := by unfold eps; norm_num

/-- A column of the first product, as a column `k` of its half `s`. -/
def half (s : Fin 2) (k : Fin 2816) : Fin 5632 := ⟨2816 * s.val + k.val, by omega⟩

/-- The mean square of a row, with the small number added. -/
def rowMs (a : Fin 1024 → ℝ) : ℝ := (∑ k : Fin 1024, a k * a k) / 1024 + eps

/-- The reciprocal root of the mean square of a row. -/
def rowR (a : Fin 1024 → ℝ) : ℝ := (Real.sqrt (rowMs a))⁻¹

theorem rowMs_pos (a : Fin 1024 → ℝ) : 0 < rowMs a :=
  add_pos_of_nonneg_of_pos (div_nonneg (Finset.sum_nonneg fun k _ => mul_self_nonneg _) (by norm_num)) eps_pos

theorem rowR_cube (a : Fin 1024 → ℝ) : rowR a / rowMs a = rowR a * rowR a * rowR a := by
  have h : rowR a * rowR a = (rowMs a)⁻¹ := by
    unfold rowR
    rw [← mul_inv, Real.mul_self_sqrt (rowMs_pos a).le]
  rw [h, div_eq_mul_inv, mul_comm]

/-- The logistic function. -/
def sg (p : ℝ) : ℝ := 1 / (1 + Real.exp (-p))

theorem one_add_exp_ne (p : ℝ) : 1 + Real.exp (-p) ≠ 0 := by positivity

/-- The gradient of a gate entry `p`, for the other half's entry `q` and the activation's gradient `a`. -/
def gateGrad (a p q : ℝ) : ℝ := a * q * (sg p * (1 + p * (1 - sg p)))

/-- The gradient of an entry of the other half. -/
def upGrad (a p : ℝ) : ℝ := a * (p * sg p)

/-- The block's input, norm gain and output gradient, and the two weight matrices. -/
structure RIn where
  x : Fin 2048 → Fin 1024 → ℝ
  g : Fin 1024 → ℝ
  y : Fin 2048 → Fin 1024 → ℝ
  w : Fin 1024 → Fin 5632 → ℝ
  v : Fin 2816 → Fin 1024 → ℝ

namespace RIn

variable (R : RIn)

/-- The reciprocal root of the mean square of token `t`. -/
def r (t : Fin 2048) : ℝ := rowR (R.x t)

/-- The normalised activations. -/
def h (t : Fin 2048) (d : Fin 1024) : ℝ := R.x t d * R.r t * R.g d

/-- The first product. -/
def z (t : Fin 2048) (k : Fin 5632) : ℝ := ∑ d : Fin 1024, R.h t d * R.w d k

/-- The gradient of the activation that enters the second product. -/
def da (t : Fin 2048) (k : Fin 2816) : ℝ := ∑ d : Fin 1024, (1 / 2 * R.y t d) * R.v k d

/-- The gradient of the gate half of the first product. -/
def dp (t : Fin 2048) (k : Fin 2816) : ℝ := gateGrad (R.da t k) (R.z t (half 0 k)) (R.z t (half 1 k))

/-- The gradient of the other half of the first product. -/
def dq (t : Fin 2048) (k : Fin 2816) : ℝ := upGrad (R.da t k) (R.z t (half 0 k))

/-- What block `j` of the hidden columns gives to the gradient of the normalised activations. -/
def part (t : Fin 2048) (d : Fin 1024) (j : Fin 4) : ℝ :=
  (∑ f : Fin 704, R.dp t (col j f) * R.w d (half 0 (col j f))) + ∑ f : Fin 704, R.dq t (col j f) * R.w d (half 1 (col j f))

/-- The gradient of the normalised activations. -/
def dh (t : Fin 2048) (d : Fin 1024) : ℝ := ∑ j : Fin 4, R.part t d j

/-- The gradient of the norm gain. -/
def dg (d : Fin 1024) : ℝ := ∑ t : Fin 2048, R.dh t d * R.x t d * R.r t

/-- The gradient of the block's input, the gradient that passes by the block added. -/
def dx (t : Fin 2048) (d : Fin 1024) : ℝ :=
  R.y t d + (R.r t * (R.dh t d * R.g d) - R.x t d * (R.r t * R.r t * R.r t) * ((∑ k : Fin 1024, R.x t k * (R.dh t k * R.g k)) / 1024))

end RIn

/-! ### Sums over columns and rows -/

/-- A sum over the first product's columns is a sum over the columns of its two halves. -/
theorem sum_halves (F : Fin 5632 → ℝ) : ∑ k, F k = (∑ k : Fin 2816, F (half 0 k)) + ∑ k : Fin 2816, F (half 1 k) :=
  (Fin.sum_univ_add (a := 2816) (b := 2816) F).trans (congrArg₂ (fun a b : ℝ => a + b)
    (Finset.sum_congr rfl fun k _ => congrArg F (Fin.ext (by show k.val = 2816 * 0 + k.val; omega)))
    (Finset.sum_congr rfl fun k _ => congrArg F (Fin.ext (by show 2816 + k.val = 2816 * 1 + k.val; omega))))

/-- A sum over the hidden columns is a sum over the columns of the four blocks. -/
theorem sum_blocks (F : Fin 2816 → ℝ) : ∑ k, F k = ∑ j : Fin 4, ∑ f : Fin 704, F (col j f) := by
  have e := sum_cols fun k => (F k : EReal)
  rw [coe_sum, sum_of (fun j : Fin 4 => ∑ f : Fin 704, (F (col j f) : EReal)) (fun j => ∑ f : Fin 704, F (col j f)) fun j => coe_sum _ _] at e
  exact EReal.coe_injective e

/-- Row `t` of block `k` of 512 rows. -/
def rowOf (k : Fin 4) (t : Fin 512) : Fin 2048 := ⟨512 * k.val + t.val, by omega⟩

/-- A sum over the tokens is a sum over the rows of four blocks. -/
theorem sum_rows (F : Fin 2048 → ℝ) : ∑ t, F t = ∑ k : Fin 4, ∑ t : Fin 512, F (rowOf k t) := by
  rw [← Fintype.sum_prod_type' (f := fun (k : Fin 4) (t : Fin 512) => F (rowOf k t))]
  refine (Fintype.sum_equiv (finProdFinEquiv (m := 4) (n := 512)) _ _ fun p => congrArg F (Fin.ext ?_)).symm
  show 512 * p.1.val + p.2.val = p.2.val + 512 * p.1.val
  omega

/-- The gradient of the normalised activations as one sum over the first product's columns, for a matrix `D` that holds
    the gradients of the two halves. -/
theorem dh_eq (R : RIn) (t : Fin 2048) (d : Fin 1024) (D : Fin 5632 → ℝ) (h0 : ∀ k, D (half 0 k) = R.dp t k) (h1 : ∀ k, D (half 1 k) = R.dq t k) :
    ∑ k : Fin 5632, D k * R.w d k = R.dh t d := by
  rw [sum_halves]
  simp only [h0, h1]
  rw [sum_blocks fun k => R.dp t k * R.w d (half 0 k), sum_blocks fun k => R.dq t k * R.w d (half 1 k), ← Finset.sum_add_distrib]
  rfl

/-! ### The programs' constants and functions at real numbers -/

theorem word_eps : Ideal.ofBits .f32 0x358637BD#32 = ((eps : ℝ) : EReal) := by
  unfold eps
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem rsqrt_of {a : EReal} {m : ℝ} (ha : a = (m : EReal)) (hm : 0 < m) : Ideal.rsqrt a = (((Real.sqrt m)⁻¹ : ℝ) : EReal) := by
  subst ha
  show (if m < 0 then (⊥ : EReal) else if m = 0 then ⊤ else (((Real.sqrt m)⁻¹ : ℝ) : EReal)) = _
  rw [if_neg (not_lt.mpr hm.le), if_neg hm.ne']

theorem logistic_of {a : EReal} {p : ℝ} (ha : a = (p : EReal)) : Ideal.logistic a = (sg p : EReal) := by
  rw [ha, Ideal.logistic_coe, sg, one_div]

end Cert.Ffn
-- ==== Proof.BwdRun.lean ====
/-
  The feed-forward block backwards: what the program does at one grid point.

  The program keeps in its scratch memory the halved gradient of the block's output and the gradient of the normalised positions,
  which it adds up over the blocks of hidden columns. The points of the first block of columns set both up, and those of the last
  one make the gradients of the block's input and of the gain from them.
-/
module

public import proofs.«01_k».proof.Proof.Gen.Kernel5Ideal.Frame
public import proofs.«01_k».proof.Proof.Gen.Kernel5Ideal.Skeleton

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]

/-- The resources a statement about this program speaks of. -/
abbrev Res (F : FTy → Type) := MT nD τ sig Unit (Elt F) ℕ (UR sig nD τ) ℕ

section
variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S512x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S2x1x704x1024 .bf16) (harg7 : arg7.IsWhole)
  (arg8 : Memref sig .tc .vmem S704x1024 .bf16) (harg8 : arg8.IsWhole)
  (arg9 : Memref sig .tc .vmem S512x1024 .f32) (harg9 : arg9.IsWhole)
  (arg10 : Memref sig .tc .vmem S1x1024 .f32) (harg10 : arg10.IsWhole)
  (arg11 : Memref sig .tc .vmem S512x1024 .bf16) (harg11 : arg11.IsWhole)
  (arg12 : Memref sig .tc .vmem S1x512x704 .bf16) (harg12 : arg12.IsWhole)
  (arg13 : Memref sig .tc .vmem S1x512x704 .bf16) (harg13 : arg13.IsWhole)
  (arg14 : Memref sig .tc .vmem S2048x1024 .f32) (harg14 : arg14.IsWhole)
  (arg15 : Memref sig .tc .vmem S2048x1024 .bf16) (harg15 : arg15.IsWhole)
  (arg16 : Memref sig .tc .vmem S2048x1024 .bf16) (harg16 : arg16.IsWhole)
  (x2 : Vec F S512x1024 .f32) (x3 : Vec F S1x1024 .f32) (x4 : Vec F S512x1024 .f32) (x5 : Vec F S1x512x704 .bf16) (x6 : Vec F S1x512x704 .bf16) (x7 : Vec F S2x1x704x1024 .bf16) (x8 : Vec F S704x1024 .bf16) (x10 : Vec F S1x1024 .f32)
  (xs14 : Vec F S2048x1024 .f32) (xs15 : Vec F S2048x1024 .bf16)

set_option maxHeartbeats 4000000 in
/-- A point of the first block of columns: what it stores, and that it runs. -/
def runFirst (h1 : k0_cond1 i = 1#1) (h2 : ¬ k0_cond2 i = 1#1) :
    Σ' (L11 : List (View.Piece (Elt F) S512x1024 .bf16))
      (L12 : List (View.Piece (Elt F) S1x512x704 .bf16))
      (L13 : List (View.Piece (Elt F) S1x512x704 .bf16))
      (L16 : List (View.Piece (Elt F) S2048x1024 .bf16))
      (L14 : List (View.Piece (Elt F) S2048x1024 .f32)),
      { L15 : List (View.Piece (Elt F) S2048x1024 .bf16) //
      ∀ K : PUnit → sProp (Res F),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg16 fullShare d)
            ∗ owns (c : Thread nD τ) arg14 fullShare xs14
            ∗ owns (c : Thread nD τ) arg15 fullShare xs15
            ∗ (iprop(owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (∃ f, arg16.view.loc (c : Thread nD τ) ↦[arg16.view.set]{fullShare} arg16.view.writes (Elt F) f L16)
                ∗ (arg14.view.loc (c : Thread nD τ) ↦[arg14.view.set]{fullShare} arg14.view.writes (Elt F) (harg14.unread xs14) L14)
                ∗ (arg15.view.loc (c : Thread nD τ) ↦[arg15.view.set]{fullShare} arg15.view.writes (Elt F) (harg15.unread xs15) L15)) -∗ K ⟨⟩))
          ⊢ wp frame (wpE (defs₀ (F := F)) Variants.none c none) Set.univ
              (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun K => ?run⟩
  case run =>
    simp only [cc0_ffn_bwd_act_eq_skeleton]; unfold cc0_ffn_bwd_act_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d12, %f12, -, H12⟩, ⟨%d13, %f13, -, H13⟩, ⟨%d16, %f16, -, H16⟩, ⟨%f14, %hf14, H14⟩, ⟨%f15, %hf15, H15⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg14.eq_unread hf14
    obtain rfl := harg15.eq_unread hf15
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]; · iexists _; iexact H11
    isplitl [H12]; · iexists _; iexact H12
    isplitl [H13]; · iexists _; iexact H13
    isplitl [H16]; · iexists _; iexact H16
    isplitl [H14]; · iexact H14
    iexact H15

set_option maxHeartbeats 4000000 in
/-- A point of a middle block of columns. -/
def runMid (h1 : ¬ k0_cond1 i = 1#1) (h2 : ¬ k0_cond2 i = 1#1) :
    Σ' (L12 : List (View.Piece (Elt F) S1x512x704 .bf16))
      (L13 : List (View.Piece (Elt F) S1x512x704 .bf16)),
      { L14 : List (View.Piece (Elt F) S2048x1024 .f32) //
      ∀ K : PUnit → sProp (Res F),
        iprop(owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg15 fullShare xs15
            ∗ (∃ d, owns (c : Thread nD τ) arg12 fullShare d)
            ∗ (∃ d, owns (c : Thread nD τ) arg13 fullShare d)
            ∗ owns (c : Thread nD τ) arg14 fullShare xs14
            ∗ (iprop(owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg15 fullShare xs15
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (arg14.view.loc (c : Thread nD τ) ↦[arg14.view.set]{fullShare} arg14.view.writes (Elt F) (harg14.unread xs14) L14)) -∗ K ⟨⟩))
          ⊢ wp frame (wpE (defs₀ (F := F)) Variants.none c none) Set.univ
              (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun K => ?run⟩
  case run =>
    simp only [cc0_ffn_bwd_act_eq_skeleton]; unfold cc0_ffn_bwd_act_skel
    simp only [k0_part1_eq_skeleton, k0_part2_eq_skeleton, k0_part3_eq_skeleton, k0_part4_eq_skeleton]
    unfold owns
    iintro ⟨⟨%f5, %hf5, H5⟩, ⟨%f6, %hf6, H6⟩, ⟨%f7, %hf7, H7⟩, ⟨%f8, %hf8, H8⟩, ⟨%f15, %hf15, H15⟩, ⟨%d12, %f12, -, H12⟩, ⟨%d13, %f13, -, H13⟩, ⟨%f14, %hf14, H14⟩, Hk⟩
    obtain rfl := harg5.eq_unread hf5
    obtain rfl := harg6.eq_unread hf6
    obtain rfl := harg7.eq_unread hf7
    obtain rfl := harg8.eq_unread hf8
    obtain rfl := harg15.eq_unread hf15
    obtain rfl := harg14.eq_unread hf14
    sl_exec (disch := first | sl_exact h1 | sl_exact h2)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H15]
    · iexists _; isplitr; · ipureintro; exact harg15.read_unread _
      iexact H15
    isplitl [H12]; · iexists _; iexact H12
    isplitl [H13]; · iexists _; iexact H13
    iexact H14

set_option maxHeartbeats 4000000 in
/-- The first point of the last block of columns. -/
def runEnd (h1 : ¬ k0_cond1 i = 1#1) (h2 : k0_cond2 i = 1#1) (h3 : k0_cond3 i = 1#1) (h4 : ¬ k0_cond4 i = 1#1) :
    Σ' (L9 : List (View.Piece (Elt F) S512x1024 .f32))
      (L10 : List (View.Piece (Elt F) S1x1024 .f32))
      (L12 : List (View.Piece (Elt F) S1x512x704 .bf16))
      (L13 : List (View.Piece (Elt F) S1x512x704 .bf16)),
      { L14 : List (View.Piece (Elt F) S2048x1024 .f32) //
      ∀ K : PUnit → sProp (Res F),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg15 fullShare xs15
            ∗ (∃ d, owns (c : Thread nD τ) arg9 fullShare d)
            ∗ (∃ d, owns (c : Thread nD τ) arg10 fullShare d)
            ∗ (∃ d, owns (c : Thread nD τ) arg12 fullShare d)
            ∗ (∃ d, owns (c : Thread nD τ) arg13 fullShare d)
            ∗ owns (c : Thread nD τ) arg14 fullShare xs14
            ∗ (iprop(owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg15 fullShare xs15
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (arg14.view.loc (c : Thread nD τ) ↦[arg14.view.set]{fullShare} arg14.view.writes (Elt F) (harg14.unread xs14) L14)) -∗ K ⟨⟩))
          ⊢ wp frame (wpE (defs₀ (F := F)) Variants.none c none) Set.univ
              (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun K => ?run⟩
  case run =>
    simp only [cc0_ffn_bwd_act_eq_skeleton]; unfold cc0_ffn_bwd_act_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f15, %hf15, H15⟩, ⟨%d9, %f9, -, H9⟩, ⟨%d10, %f10, -, H10⟩, ⟨%d12, %f12, -, H12⟩, ⟨%d13, %f13, -, H13⟩, ⟨%f14, %hf14, H14⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg15.eq_unread hf15
    obtain rfl := harg14.eq_unread hf14
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H15]
    · iexists _; isplitr; · ipureintro; exact harg15.read_unread _
      iexact H15
    isplitl [H9]; · iexists _; iexact H9
    isplitl [H10]; · iexists _; iexact H10
    isplitl [H12]; · iexists _; iexact H12
    isplitl [H13]; · iexists _; iexact H13
    iexact H14

set_option maxHeartbeats 4000000 in
/-- A later point of the last block of columns. -/
def runLast (h1 : ¬ k0_cond1 i = 1#1) (h2 : k0_cond2 i = 1#1) (h3 : ¬ k0_cond3 i = 1#1) (h4 : k0_cond4 i = 1#1) :
    Σ' (L9 : List (View.Piece (Elt F) S512x1024 .f32))
      (L12 : List (View.Piece (Elt F) S1x512x704 .bf16))
      (L13 : List (View.Piece (Elt F) S1x512x704 .bf16))
      (L10 : List (View.Piece (Elt F) S1x1024 .f32)),
      { L14 : List (View.Piece (Elt F) S2048x1024 .f32) //
      ∀ K : PUnit → sProp (Res F),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg15 fullShare xs15
            ∗ (∃ d, owns (c : Thread nD τ) arg9 fullShare d)
            ∗ (∃ d, owns (c : Thread nD τ) arg12 fullShare d)
            ∗ (∃ d, owns (c : Thread nD τ) arg13 fullShare d)
            ∗ owns (c : Thread nD τ) arg10 fullShare x10
            ∗ owns (c : Thread nD τ) arg14 fullShare xs14
            ∗ (iprop(owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg15 fullShare xs15
                ∗ (∃ f, arg9.view.loc (c : Thread nD τ) ↦[arg9.view.set]{fullShare} arg9.view.writes (Elt F) f L9)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)
                ∗ (arg10.view.loc (c : Thread nD τ) ↦[arg10.view.set]{fullShare} arg10.view.writes (Elt F) (harg10.unread x10) L10)
                ∗ (arg14.view.loc (c : Thread nD τ) ↦[arg14.view.set]{fullShare} arg14.view.writes (Elt F) (harg14.unread xs14) L14)) -∗ K ⟨⟩))
          ⊢ wp frame (wpE (defs₀ (F := F)) Variants.none c none) Set.univ
              (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun K => ?run⟩
  case run =>
    simp only [cc0_ffn_bwd_act_eq_skeleton]; unfold cc0_ffn_bwd_act_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f15, %hf15, H15⟩, ⟨%d9, %f9, -, H9⟩, ⟨%d12, %f12, -, H12⟩, ⟨%d13, %f13, -, H13⟩, ⟨%f10, %hf10, H10⟩, ⟨%f14, %hf14, H14⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg15.eq_unread hf15
    obtain rfl := harg10.eq_unread hf10
    obtain rfl := harg14.eq_unread hf14
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H15]
    · iexists _; isplitr; · ipureintro; exact harg15.read_unread _
      iexact H15
    isplitl [H9]; · iexists _; iexact H9
    isplitl [H12]; · iexists _; iexact H12
    isplitl [H13]; · iexists _; iexact H13
    isplitl [H10]; · iexact H10
    iexact H14

end

end Cert.Kernel5Ideal.Bwd

end
-- ==== Proof.BwdFrame.lean ====
/-
  The feed-forward block backwards: what each point leaves.

  A point works on a block of 512 positions in two halves of 256. Its stores are functions of its block of saved products, of its
  weights, of the halved gradient of the output that the scratch memory holds for the block, and of the sum so far.
-/
module

public import Idealize.ShloMosaic.Lib.Pointwise.Index
public import Idealize.ShloMosaic.Lib.Pipeline.ValueKit.Tiles
public import proofs.«01_k».proof.Proof.BwdRun

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]

/-! ### A point's results -/

/-- Rows `256 r` to `256 r + 255` of a block of positions. -/
def rows {e : EltTy} (b : Vec F S512x1024 e) (r : Fin 2) : Vec F S256x1024 e := fun x =>
  b (ix2 (⟨256 * r.val + (x 0).val, by have h0 : (x 0).val < 256 := (x 0).isLt; have := r.isLt; omega⟩ : Fin 512) (x 1))

/-- The two halves of a block of saved products. -/
def top (G : Vec F S1x512x704 .bf16) : Vec F S1x256x704 .bf16 :=
  View.ld G (Rect.unit ![0, 0, 0] S1x256x704.size inb_S1x512x704_S1x256x704_0_0_0)
def low (G : Vec F S1x512x704 .bf16) : Vec F S1x256x704 .bf16 :=
  View.ld G (Rect.unit ![0, 256, 0] S1x256x704.size inb_S1x512x704_S1x256x704_0_256_0)

/-- The two blocks of weights. -/
def wGate (w : Vec F S2x1x704x1024 .bf16) : Vec F S1x1x704x1024 .bf16 :=
  View.ld w (Rect.unit ![0, 0, 0, 0] S1x1x704x1024.size inb_S2x1x704x1024_S1x1x704x1024_0_0_0_0)
def wUp (w : Vec F S2x1x704x1024 .bf16) : Vec F S1x1x704x1024 .bf16 :=
  View.ld w (Rect.unit ![1, 0, 0, 0] S1x1x704x1024.size inb_S2x1x704x1024_S1x1x704x1024_1_0_0_0)

section
variable (f : Vec F S512x1024 .bf16) (x8 : Vec F S704x1024 .bf16) (x5 x6 : Vec F S1x512x704 .bf16) (x7 : Vec F S2x1x704x1024 .bf16)
  (old : Vec F S512x1024 .f32)

/-- The stores into the gradients of the two products, the last one first. -/
def gateL : List (View.Piece (Elt F) S1x512x704 .bf16) :=
  [⟨Rect.unit ![0, 256, 0] S1x256x704.size inb_S1x512x704_S1x256x704_0_256_0,
      k0_pay27 (k0_pay12 (rows f 1) x8) (k0_pay22 (low x5)) (k0_pay23 (low x6)) (k0_pay24 (low x5))⟩,
   ⟨Rect.unit ![0, 0, 0] S1x256x704.size inb_S1x512x704_S1x256x704_0_0_0,
      k0_pay19 (k0_pay14 (top x5)) (k0_pay16 (rows f 0) x8 (top x6)) (k0_pay17 (top x5))⟩]
def upL : List (View.Piece (Elt F) S1x512x704 .bf16) :=
  [⟨Rect.unit ![0, 256, 0] S1x256x704.size inb_S1x512x704_S1x256x704_0_256_0,
      k0_pay28 (k0_pay12 (rows f 1) x8) (k0_pay22 (low x5)) (k0_pay24 (low x5))⟩,
   ⟨Rect.unit ![0, 0, 0] S1x256x704.size inb_S1x512x704_S1x256x704_0_0_0, k0_pay20 (k0_pay15 (rows f 0) x8 (top x5))⟩]

theorem gateL_cover (y : S1x512x704.Idx) : ∃ p ∈ gateL f x8 x5 x6, y ∈ p.1.set :=
  View.cover_of_tiledL (gateL f x8 x5 x6) S1x256x704.size (by sl_kernel_rfl) y
theorem upL_cover (y : S1x512x704.Idx) : ∃ p ∈ upL f x8 x5, y ∈ p.1.set :=
  View.cover_of_tiledL (upL f x8 x5) S1x256x704.size (by sl_kernel_rfl) y

/-- The two halves of the new sum. -/
def sumTop : Vec F S256x1024 .f32 :=
  k0_pay21 (k0_pay14 (top x5)) (k0_pay15 (rows f 0) x8 (top x5)) (k0_pay16 (rows f 0) x8 (top x6)) (k0_pay17 (top x5)) (rows old 0)
    (wGate x7) (wUp x7)
def sumLow : Vec F S256x1024 .f32 :=
  k0_pay29 (k0_pay12 (rows f 1) x8) (k0_pay22 (low x5)) (k0_pay23 (low x6)) (k0_pay24 (low x5)) (rows old 1) (wGate x7) (wUp x7)

end

/-- A block of 512 rows from its halves. -/
def joined (a b : Vec F S256x1024 .f32) : Vec F S512x1024 .f32 := fun x =>
  if h : (x 0).val < 256 then a (ix2 (⟨(x 0).val, h⟩ : Fin 256) (x 1))
  else b (ix2 (⟨(x 0).val - 256, by have h0 : (x 0).val < 512 := (x 0).isLt; omega⟩ : Fin 256) (x 1))

/-- The new sum of a block. -/
def next (f : Vec F S512x1024 .bf16) (x8 : Vec F S704x1024 .bf16) (x5 x6 : Vec F S1x512x704 .bf16) (x7 : Vec F S2x1x704x1024 .bf16)
    (old : Vec F S512x1024 .f32) : Vec F S512x1024 .f32 :=
  joined (sumTop f x8 x5 x6 x7 old) (sumLow f x8 x5 x6 x7 old)

/-- A covering list of stores leaves its own contents, whatever was there. -/
theorem left {S : Shape} {e : EltTy} (v : View sig .tc .vmem S e) (f : v.ty.Contents (Elt F)) (L : List (View.Piece (Elt F) S e))
    (h : ∀ y, ∃ p ∈ L, y ∈ p.1.set) : v.read (Elt F) (v.writes (Elt F) f L) = View.canon L :=
  (View.read_writes_of_cover v f v v.junk L h).trans (View.read_writes_junk_eq_canon v L)

/-- The store of a whole block, and of a whole row. -/
def oneB {e : EltTy} (v : Vec F S512x1024 e) : List (View.Piece (Elt F) S512x1024 e) :=
  [⟨Rect.unit ![0, 0] S512x1024.size inb_S512x1024_S512x1024_0_0, v⟩]
def oneR (v : Vec F S1x1024 .f32) : List (View.Piece (Elt F) S1x1024 .f32) :=
  [⟨Rect.unit ![0, 0] S1x1024.size inb_S1x1024_S1x1024_0_0, v⟩]

theorem z2 : (![0, 0] : Fin 2 → ℕ) = fun _ => 0 := funext fun a => by match a with | ⟨0, _⟩ => rfl | ⟨1, _⟩ => rfl

theorem oneB_canon {e : EltTy} (v : Vec F S512x1024 e) : View.canon (oneB v) = v := View.canon_unit_zero z2 _ _
theorem oneR_canon (v : Vec F S1x1024 .f32) : View.canon (oneR v) = v := View.canon_unit_zero z2 _ _
theorem oneB_cover {e : EltTy} (v : Vec F S512x1024 e) (y : S512x1024.Idx) : ∃ p ∈ oneB v, y ∈ p.1.set :=
  View.cover_of_tiledL (oneB v) S512x1024.size (by sl_kernel_rfl) y
theorem oneR_cover (v : Vec F S1x1024 .f32) (y : S1x1024.Idx) : ∃ p ∈ oneR v, y ∈ p.1.set :=
  View.cover_of_tiledL (oneR v) S1x1024.size (by sl_kernel_rfl) y

/-! ### The scratch memory -/

/-- Block `k` of a scratch memory is `h`. -/
def Holds {e : EltTy} (xs : Vec F S2048x1024 e) (k : Fin 4) (h : Vec F S512x1024 e) : Prop :=
  ∀ (t : Fin 512) (d : Fin 1024), xs (ix2 (⟨512 * k.val + t.val, by omega⟩ : Fin 2048) d) = h (ix2 t d)

section
variable {e : EltTy} (i : grid0.Coords) (a : Memref sig .tc .vmem S2048x1024 e) (ha : a.IsWhole) (xs : Vec F S2048x1024 e)

/-- The rectangle of a point's block, and of a half of it. -/
abbrev whole (hc : k0_cond1 i = 1#1) : Rect S2048x1024 := Rect.unit (k0_off1 i) S512x1024.size (k0_off1_inb i hc)
abbrev half (r : Fin 2) : Rect S2048x1024 :=
  Rect.unit (k0_off2 i (BitVec.ofNat 32 (256 * r.val))) S256x1024.size (k0_off2_inb i r)

theorem half_0 (r : Fin 2) : k0_off2 i (BitVec.ofNat 32 (256 * r.val)) 0 = 512 * (i 1).val + 256 * r.val := congrFun (k0_off2_eq i r) 0
theorem half_1 (r : Fin 2) : k0_off2 i (BitVec.ofNat 32 (256 * r.val)) 1 = 0 := congrFun (k0_off2_eq i r) 1
theorem whole_0 : k0_off1 i 0 = 512 * (i 1).val := congrFun (k0_off1_eq i) 0
theorem whole_1 : k0_off1 i 1 = 0 := congrFun (k0_off1_eq i) 1
theorem last_0 : k0_off3 i 0 = 512 * (i 1).val := congrFun (k0_off3_eq i) 0
theorem last_1 : k0_off3 i 1 = 0 := congrFun (k0_off3_eq i) 1

theorem half_in_whole (hc : k0_cond1 i = 1#1) (r : Fin 2) (x : S256x1024.Idx) :
    (half i r).toLoadRect.idx x
      = (whole i hc).emb (ix2 (⟨256 * r.val + (x 0).val, by have h0 : (x 0).val < 256 := (x 0).isLt; have := r.isLt; omega⟩ : Fin 512) (x 1)) := by
  funext b
  refine Fin.ext ?_
  match b with
  | ⟨0, _⟩ =>
    show k0_off2 i (BitVec.ofNat 32 (256 * r.val)) 0 + 1 * (x 0).val = k0_off1 i 0 + 1 * (256 * r.val + (x 0).val)
    rw [half_0, whole_0]; omega
  | ⟨1, _⟩ =>
    show k0_off2 i (BitVec.ofNat 32 (256 * r.val)) 1 + 1 * (x 1).val = k0_off1 i 1 + 1 * (x 1).val
    rw [half_1, whole_1]

/-- A half of a block just stored. -/
theorem stored_rows (hc : k0_cond1 i = 1#1) (h : Vec F S512x1024 e) (L : List (View.Piece (Elt F) S2048x1024 e)) (r : Fin 2) :
    a.view.readCov (⟨whole i hc, h⟩ :: L) (half i r).toLoadRect = rows h r := by
  rw [View.readCov_eq_canon']
  funext x
  exact (congrArg (View.canon _) (half_in_whole i hc r x)).trans (View.canon_cons_emb _ _ _ _)

/-- The second half of a block is what it was before the store of the first. -/
theorem stored_low (hc : k0_cond1 i = 1#1) (h : Vec F S512x1024 e) (s : Vec F S256x1024 e) :
    a.view.readCov (⟨half i 0, s⟩ :: [⟨whole i hc, h⟩]) (half i 1).toLoadRect = rows h 1 := by
  rw [View.readCov_eq_canon']
  funext x
  refine (View.canon_cons_of_not_mem _ _ ?_).trans
    ((congrArg (View.canon _) (half_in_whole i hc 1 x)).trans (View.canon_cons_emb _ _ _ _))
  intro hm
  have h0 := ((Rect.mem_set_unit (inb := k0_off2_inb i 0)).mp hm) (0 : Fin 2)
  have h2 : k0_off2 i (BitVec.ofNat 32 (256 * (1 : Fin 2).val)) 0 + 1 * (x 0).val
      < k0_off2 i (BitVec.ofNat 32 (256 * (0 : Fin 2).val)) 0 + 256 := h0.2
  rw [half_0, half_0] at h2
  have e1 : (1 : Fin 2).val = 1 := rfl
  have e0 : (0 : Fin 2).val = 0 := rfl
  omega

/-- A half of a block that the scratch memory holds. -/
theorem kept_rows (k : Fin 4) (hk : (i 1).val = k.val) (h : Vec F S512x1024 e) (hh : Holds xs k h) (r : Fin 2) :
    a.view.readAt (Elt F) (half i r).toLoadRect (ha.unread xs) = rows h r := by
  rw [View.readAt_eq_ld, ha.read_unread]
  funext x
  have h0 : (x 0).val < 256 := (x 0).isLt
  have hr := r.isLt
  refine Eq.trans ?_ (hh ⟨256 * r.val + (x 0).val, by omega⟩ (x 1))
  refine congrArg xs (funext fun b => Fin.ext ?_)
  match b with
  | ⟨0, _⟩ =>
    show k0_off2 i (BitVec.ofNat 32 (256 * r.val)) 0 + 1 * (x 0).val = 512 * k.val + (256 * r.val + (x 0).val)
    rw [half_0]; omega
  | ⟨1, _⟩ =>
    show k0_off2 i (BitVec.ofNat 32 (256 * r.val)) 1 + 1 * (x 1).val = (x 1).val
    rw [half_1]; omega

/-- The store of a whole block. -/
theorem keep_holds (hc : k0_cond1 i = 1#1) (k : Fin 4) (hk : (i 1).val = k.val) (h : Vec F S512x1024 e) :
    Holds (a.view.read (Elt F) (a.view.writes (Elt F) (ha.unread xs) [⟨whole i hc, h⟩])) k h := fun t d => by
  refine View.read_writes_cons_hit a.view (ha.unread xs) (whole i hc) h [] (ix2 t d) _ (funext fun b => Fin.ext ?_)
  match b with
  | ⟨0, _⟩ =>
    show k0_off1 i 0 + 1 * t.val = 512 * k.val + t.val
    rw [whole_0]; omega
  | ⟨1, _⟩ =>
    show k0_off1 i 1 + 1 * d.val = d.val
    rw [whole_1]; omega

theorem keep_other (hc : k0_cond1 i = 1#1) (k : Fin 4) (hk : (i 1).val ≠ k.val) (h h' : Vec F S512x1024 e) (hh : Holds xs k h') :
    Holds (a.view.read (Elt F) (a.view.writes (Elt F) (ha.unread xs) [⟨whole i hc, h⟩])) k h' := fun t d => by
  refine (View.read_writes_cons_miss_of_axis _ _ _ _ _ (0 : Fin 2) (512 * (i 1).val) 512 ?_ rfl rfl ?_).trans
    ((congrFun (ha.read_unread xs) _).trans (hh t d))
  · exact whole_0 i
  · show 512 * k.val + t.val < _ ∨ _ ≤ 512 * k.val + t.val
    omega

end

section
variable (i : grid0.Coords) (a : Memref sig .tc .vmem S2048x1024 .f32) (ha : a.IsWhole) (xs : Vec F S2048x1024 .f32)
  (s0 s1 : Vec F S256x1024 .f32)

/-- The stores of the new sum. -/
def sumL : List (View.Piece (Elt F) S2048x1024 .f32) := [⟨half i 1, s1⟩, ⟨half i 0, s0⟩]

theorem sum_holds (L : List (View.Piece (Elt F) S2048x1024 .f32)) (k : Fin 4) (hk : (i 1).val = k.val) :
    Holds (a.view.read (Elt F) (a.view.writes (Elt F) (ha.unread xs) (sumL i s0 s1 ++ L))) k (joined s0 s1) := fun t d => by
  by_cases ht : t.val < 256
  · refine Eq.trans ?_ (dif_pos ht).symm
    refine (View.read_writes_cons_miss_of_axis _ _ _ _ _ (0 : Fin 2) (512 * (i 1).val + 256 * (1 : Fin 2).val) 256 (half_0 i 1) rfl rfl
      (Or.inl ?_)).trans
      (View.read_writes_cons_hit a.view (ha.unread xs) (half i 0) s0 L (ix2 (⟨t.val, ht⟩ : Fin 256) d) _ (funext fun b => Fin.ext ?_))
    · show 512 * k.val + t.val < 512 * (i 1).val + 256 * 1
      omega
    match b with
    | ⟨0, _⟩ =>
      show k0_off2 i (BitVec.ofNat 32 (256 * (0 : Fin 2).val)) 0 + 1 * t.val = 512 * k.val + t.val
      rw [half_0]; show 512 * (i 1).val + 256 * 0 + 1 * t.val = _; omega
    | ⟨1, _⟩ =>
      show k0_off2 i (BitVec.ofNat 32 (256 * (0 : Fin 2).val)) 1 + 1 * d.val = d.val
      rw [half_1]; omega
  · refine Eq.trans ?_ (dif_neg ht).symm
    refine View.read_writes_cons_hit a.view (ha.unread xs) (half i 1) s1 _
      (ix2 (⟨t.val - 256, by have := t.isLt; omega⟩ : Fin 256) d) _ (funext fun b => Fin.ext ?_)
    match b with
    | ⟨0, _⟩ =>
      show k0_off2 i (BitVec.ofNat 32 (256 * (1 : Fin 2).val)) 0 + 1 * (t.val - 256) = 512 * k.val + t.val
      rw [half_0]; show 512 * (i 1).val + 256 * 1 + 1 * (t.val - 256) = _; omega
    | ⟨1, _⟩ =>
      show k0_off2 i (BitVec.ofNat 32 (256 * (1 : Fin 2).val)) 1 + 1 * d.val = d.val
      rw [half_1]; omega

theorem sum_miss (L : List (View.Piece (Elt F) S2048x1024 .f32)) (k : Fin 4) (hk : (i 1).val ≠ k.val) (t : Fin 512) (d : Fin 1024) :
    a.view.read (Elt F) (a.view.writes (Elt F) (ha.unread xs) (sumL i s0 s1 ++ L)) (ix2 (⟨512 * k.val + t.val, by omega⟩ : Fin 2048) d)
      = a.view.read (Elt F) (a.view.writes (Elt F) (ha.unread xs) L) (ix2 (⟨512 * k.val + t.val, by omega⟩ : Fin 2048) d) := by
  refine (View.read_writes_cons_miss_of_axis _ _ _ _ _ (0 : Fin 2) (512 * (i 1).val + 256 * (1 : Fin 2).val) 256 (half_0 i 1) rfl rfl ?_).trans
    (View.read_writes_cons_miss_of_axis _ _ _ _ _ (0 : Fin 2) (512 * (i 1).val + 256 * (0 : Fin 2).val) 256 (half_0 i 0) rfl rfl ?_)
  · show 512 * k.val + t.val < 512 * (i 1).val + 256 * 1 ∨ 512 * (i 1).val + 256 * 1 + 256 ≤ 512 * k.val + t.val
    omega
  · show 512 * k.val + t.val < 512 * (i 1).val + 256 * 0 ∨ 512 * (i 1).val + 256 * 0 + 256 ≤ 512 * k.val + t.val
    omega

theorem sum_other (k : Fin 4) (hk : (i 1).val ≠ k.val) (h' : Vec F S512x1024 .f32) (hh : Holds xs k h') :
    Holds (a.view.read (Elt F) (a.view.writes (Elt F) (ha.unread xs) (sumL i s0 s1))) k h' := fun t d =>
  (sum_miss i a ha xs s0 s1 [] k hk t d).trans ((congrFun (ha.read_unread xs) _).trans (hh t d))

theorem sum_other_first (hc : k0_cond1 i = 1#1) (z : Vec F S512x1024 .f32) (k : Fin 4) (hk : (i 1).val ≠ k.val) (h' : Vec F S512x1024 .f32)
    (hh : Holds xs k h') :
    Holds (a.view.read (Elt F) (a.view.writes (Elt F) (ha.unread xs) (sumL i s0 s1 ++ [⟨whole i hc, z⟩]))) k h' := fun t d =>
  (sum_miss i a ha xs s0 s1 _ k hk t d).trans (keep_other i a ha xs hc k hk z h' hh t d)

/-- The whole new sum read back. -/
theorem sum_read (hc : k0_cond2 i = 1#1) :
    a.view.readCov (sumL i s0 s1) (Rect.unit (s := S2048x1024) (k0_off3 i) S512x1024.size (k0_off3_inb i hc)).toLoadRect = joined s0 s1 := by
  rw [View.readCov_eq_canon']
  funext x
  have hx : (x 0).val < 512 := (x 0).isLt
  by_cases ht : (x 0).val < 256
  · refine Eq.trans ?_ (dif_pos ht).symm
    have e : (Rect.unit (s := S2048x1024) (k0_off3 i) S512x1024.size (k0_off3_inb i hc)).toLoadRect.idx x
        = (half i 0).emb (ix2 (⟨(x 0).val, ht⟩ : Fin 256) (x 1)) := by
      funext b
      refine Fin.ext ?_
      match b with
      | ⟨0, _⟩ =>
        show k0_off3 i 0 + 1 * (x 0).val = k0_off2 i (BitVec.ofNat 32 (256 * (0 : Fin 2).val)) 0 + 1 * (x 0).val
        rw [half_0, last_0]; rfl
      | ⟨1, _⟩ =>
        show k0_off3 i 1 + 1 * (x 1).val = k0_off2 i (BitVec.ofNat 32 (256 * (0 : Fin 2).val)) 1 + 1 * (x 1).val
        rw [half_1, last_1]
    refine (View.canon_cons_of_not_mem _ _ ?_).trans ((congrArg (View.canon _) e).trans (View.canon_cons_emb _ _ _ _))
    intro hm
    have h1 : k0_off2 i (BitVec.ofNat 32 (256 * (1 : Fin 2).val)) 0 ≤ k0_off3 i 0 + 1 * (x 0).val := (((Rect.mem_set_unit (inb := k0_off2_inb i 1)).mp hm) (0 : Fin 2)).1
    rw [half_0, last_0] at h1
    have e1 : (1 : Fin 2).val = 1 := rfl
    omega
  · refine Eq.trans ?_ (dif_neg ht).symm
    have e : (Rect.unit (s := S2048x1024) (k0_off3 i) S512x1024.size (k0_off3_inb i hc)).toLoadRect.idx x
        = (half i 1).emb (ix2 (⟨(x 0).val - 256, by omega⟩ : Fin 256) (x 1)) := by
      funext b
      refine Fin.ext ?_
      match b with
      | ⟨0, _⟩ =>
        show k0_off3 i 0 + 1 * (x 0).val = k0_off2 i (BitVec.ofNat 32 (256 * (1 : Fin 2).val)) 0 + 1 * ((x 0).val - 256)
        rw [half_0, last_0]; show _ = 512 * (i 1).val + 256 * 1 + _; omega
      | ⟨1, _⟩ =>
        show k0_off3 i 1 + 1 * (x 1).val = k0_off2 i (BitVec.ofNat 32 (256 * (1 : Fin 2).val)) 1 + 1 * (x 1).val
        rw [half_1, last_1]
    exact (congrArg (View.canon _) e).trans (View.canon_cons_emb _ _ _ _)

end

/-! ### The stores of a point -/

section
variable (c : Dev nD) (i : grid0.Coords)
  (arg2 : Memref sig .tc .vmem S512x1024 .f32) (harg2 : arg2.IsWhole) (arg3 : Memref sig .tc .vmem S1x1024 .f32) (harg3 : arg3.IsWhole)
  (arg4 : Memref sig .tc .vmem S512x1024 .f32) (harg4 : arg4.IsWhole) (arg5 : Memref sig .tc .vmem S1x512x704 .bf16) (harg5 : arg5.IsWhole)
  (arg6 : Memref sig .tc .vmem S1x512x704 .bf16) (harg6 : arg6.IsWhole) (arg7 : Memref sig .tc .vmem S2x1x704x1024 .bf16) (harg7 : arg7.IsWhole)
  (arg8 : Memref sig .tc .vmem S704x1024 .bf16) (harg8 : arg8.IsWhole) (arg9 : Memref sig .tc .vmem S512x1024 .f32) (harg9 : arg9.IsWhole)
  (arg10 : Memref sig .tc .vmem S1x1024 .f32) (harg10 : arg10.IsWhole) (arg11 : Memref sig .tc .vmem S512x1024 .bf16) (harg11 : arg11.IsWhole)
  (arg12 : Memref sig .tc .vmem S1x512x704 .bf16) (harg12 : arg12.IsWhole) (arg13 : Memref sig .tc .vmem S1x512x704 .bf16) (harg13 : arg13.IsWhole)
  (arg14 : Memref sig .tc .vmem S2048x1024 .f32) (harg14 : arg14.IsWhole) (arg15 : Memref sig .tc .vmem S2048x1024 .bf16) (harg15 : arg15.IsWhole)
  (arg16 : Memref sig .tc .vmem S2048x1024 .bf16) (harg16 : arg16.IsWhole)
  (x2 : Vec F S512x1024 .f32) (x3 : Vec F S1x1024 .f32) (x4 : Vec F S512x1024 .f32) (x5 x6 : Vec F S1x512x704 .bf16)
  (x7 : Vec F S2x1x704x1024 .bf16) (x8 : Vec F S704x1024 .bf16) (x10 : Vec F S1x1024 .f32)
  (xs14 : Vec F S2048x1024 .f32) (xs15 : Vec F S2048x1024 .bf16)

theorem ld2 : arg2.view.readAt (Elt F) (Rect.unit (s := S512x1024) ![0, 0] S512x1024.size inb_S512x1024_S512x1024_0_0).toLoadRect (harg2.unread x2) = x2 := by
  rw [View.readAt_eq_ld, harg2.read_unread, View.ld_unit_zero (S := S512x1024) z2]
theorem ld3 : arg3.view.readAt (Elt F) (Rect.unit (s := S1x1024) ![0, 0] S1x1024.size inb_S1x1024_S1x1024_0_0).toLoadRect (harg3.unread x3) = x3 := by
  rw [View.readAt_eq_ld, harg3.read_unread, View.ld_unit_zero (S := S1x1024) z2]
theorem ld8 : arg8.view.readAt (Elt F) (Rect.unit (s := S704x1024) ![0, 0] S704x1024.size inb_S704x1024_S704x1024_0_0).toLoadRect (harg8.unread x8) = x8 := by
  rw [View.readAt_eq_ld, harg8.read_unread, View.ld_unit_zero (S := S704x1024) z2]
theorem ldTop : arg5.view.readAt (Elt F) (Rect.unit (s := S1x512x704) ![0, 0, 0] S1x256x704.size inb_S1x512x704_S1x256x704_0_0_0).toLoadRect
    (harg5.unread x5) = top x5 := by
  rw [View.readAt_eq_ld, harg5.read_unread]; rfl
theorem ldLow : arg5.view.readAt (Elt F) (Rect.unit (s := S1x512x704) ![0, 256, 0] S1x256x704.size inb_S1x512x704_S1x256x704_0_256_0).toLoadRect
    (harg5.unread x5) = low x5 := by
  rw [View.readAt_eq_ld, harg5.read_unread]; rfl
theorem ldGate : arg7.view.readAt (Elt F)
    (Rect.unit (s := S2x1x704x1024) ![0, 0, 0, 0] S1x1x704x1024.size inb_S2x1x704x1024_S1x1x704x1024_0_0_0_0).toLoadRect (harg7.unread x7) = wGate x7 := by
  rw [View.readAt_eq_ld, harg7.read_unread]; rfl
theorem ldUp : arg7.view.readAt (Elt F)
    (Rect.unit (s := S2x1x704x1024) ![1, 0, 0, 0] S1x1x704x1024.size inb_S2x1x704x1024_S1x1x704x1024_1_0_0_0).toLoadRect (harg7.unread x7) = wUp x7 := by
  rw [View.readAt_eq_ld, harg7.read_unread]; rfl

/-- A point of the first block of columns. -/
theorem first_stores (h1 : k0_cond1 i = 1#1) (h2 : ¬ k0_cond2 i = 1#1) :
    let R := runFirst c i arg2 harg2 arg3 harg3 arg4 harg4 arg5 harg5 arg6 harg6 arg7 harg7 arg8 harg8 arg9 harg9 arg10 harg10 arg11 harg11
      arg12 harg12 arg13 harg13 arg14 harg14 arg15 harg15 arg16 harg16 x2 x3 x4 x5 x6 x7 x8 xs14 xs15 h1 h2
    R.1 = oneB (k0_pay8 x2 x3) ∧ R.2.1 = gateL (k0_pay9 x4) x8 x5 x6 ∧ R.2.2.1 = upL (k0_pay9 x4) x8 x5
    ∧ R.2.2.2.2.1 = sumL i (sumTop (k0_pay9 x4) x8 x5 x6 x7 k0_pay10) (sumLow (k0_pay9 x4) x8 x5 x6 x7 k0_pay10) ++ [⟨whole i h1, k0_pay10⟩]
    ∧ R.2.2.2.2.2.1 = [⟨whole i h1, k0_pay9 x4⟩] := by
  have k : runFirst.sl.H15_1 c i arg4 harg4 x4 h1 = [⟨whole i h1, k0_pay9 x4⟩] := by
    unfold runFirst.sl.H15_1; rw [ld2 arg4 harg4]
  have v0 : runFirst.sl.v12 c i arg4 harg4 arg15 x4 h1 = rows (k0_pay9 x4) 0 := by
    unfold runFirst.sl.v12; rw [k]; exact stored_rows i arg15 h1 _ [] 0
  have v1 : runFirst.sl.v17 c i arg4 harg4 arg15 x4 h1 = rows (k0_pay9 x4) 1 := by
    unfold runFirst.sl.v17; rw [k]; exact stored_rows i arg15 h1 _ [] 1
  have o0 : runFirst.sl.v47 (F := F) c i arg14 h1 = rows k0_pay10 0 := by
    unfold runFirst.sl.v47 runFirst.sl.H14_1; exact stored_rows i arg14 h1 _ [] 0
  have o1 : runFirst.sl.v86 c i arg4 harg4 arg5 harg5 arg6 harg6 arg7 harg7 arg8 harg8 arg14 arg15 x4 x5 x6 x7 x8 h1 = rows k0_pay10 1 := by
    unfold runFirst.sl.v86 runFirst.sl.H14_2 runFirst.sl.H14_1; exact stored_low i arg14 h1 _ _
  unfold runFirst
  dsimp only
  simp only [runFirst.sl.H14_2, runFirst.sl.H14_1, runFirst.sl.r, runFirst.sl.r_1, runFirst.sl.r_2, runFirst.sl.r_3, runFirst.sl.r_4,
    runFirst.sl.r_5, runFirst.sl.r_6, runFirst.sl.r_7]
  rw [v0, v1, o0, o1, k, ld2 arg2 harg2, ld3 arg3 harg3, ld8 arg8 harg8, ldTop arg5 harg5, ldLow arg5 harg5, ldTop arg6 harg6,
    ldLow arg6 harg6, ldGate arg7 harg7, ldUp arg7 harg7]
  exact ⟨rfl, rfl, rfl, rfl, rfl⟩

/-- A point of a middle block of columns. -/
theorem mid_stores (h1 : ¬ k0_cond1 i = 1#1) (h2 : ¬ k0_cond2 i = 1#1) (k : Fin 4) (hk : (i 1).val = k.val)
    (f : Vec F S512x1024 .bf16) (hf : Holds xs15 k f) (old : Vec F S512x1024 .f32) (ho : Holds xs14 k old) :
    let R := runMid c i arg2 harg2 arg3 harg3 arg4 harg4 arg5 harg5 arg6 harg6 arg7 harg7 arg8 harg8 arg9 harg9 arg10 harg10 arg11 harg11
      arg12 harg12 arg13 harg13 arg14 harg14 arg15 harg15 arg16 harg16 x5 x6 x7 x8 xs14 xs15 h1 h2
    R.1 = gateL f x8 x5 x6 ∧ R.2.1 = upL f x8 x5 ∧ R.2.2.1 = sumL i (sumTop f x8 x5 x6 x7 old) (sumLow f x8 x5 x6 x7 old) := by
  have v0 : arg15.view.readAt (Elt F) (Rect.unit (s := S2048x1024) (k0_off2 i 0#32) S256x1024.size (k0_off2_inb i 0)).toLoadRect
      (harg15.unread xs15) = rows f 0 := kept_rows i arg15 harg15 xs15 k hk f hf 0
  have v1 : arg15.view.readAt (Elt F) (Rect.unit (s := S2048x1024) (k0_off2 i 256#32) S256x1024.size (k0_off2_inb i 1)).toLoadRect
      (harg15.unread xs15) = rows f 1 := kept_rows i arg15 harg15 xs15 k hk f hf 1
  have o0 : arg14.view.readAt (Elt F) (Rect.unit (s := S2048x1024) (k0_off2 i 0#32) S256x1024.size (k0_off2_inb i 0)).toLoadRect
      (harg14.unread xs14) = rows old 0 := kept_rows i arg14 harg14 xs14 k hk old ho 0
  have o1 : runMid.sl.v86 c i arg14 harg14 xs14 = rows old 1 := kept_rows i arg14 harg14 xs14 k hk old ho 1
  unfold runMid
  dsimp only
  simp only [runMid.sl.r, runMid.sl.r_1, runMid.sl.r_2, runMid.sl.r_3, runMid.sl.r_4, runMid.sl.r_5, runMid.sl.r_6, runMid.sl.r_7]
  rw [v0, v1, o0, o1, ld8 arg8 harg8, ldTop arg5 harg5, ldLow arg5 harg5, ldTop arg6 harg6, ldLow arg6 harg6, ldGate arg7 harg7, ldUp arg7 harg7]
  exact ⟨rfl, rfl, rfl⟩

/-- The first point of the last block of columns. -/
theorem end_stores (h1 : ¬ k0_cond1 i = 1#1) (h2 : k0_cond2 i = 1#1) (h3 : k0_cond3 i = 1#1) (h4 : ¬ k0_cond4 i = 1#1)
    (k : Fin 4) (hk : (i 1).val = k.val)
    (f : Vec F S512x1024 .bf16) (hf : Holds xs15 k f) (old : Vec F S512x1024 .f32) (ho : Holds xs14 k old) :
    let R := runEnd c i arg2 harg2 arg3 harg3 arg4 harg4 arg5 harg5 arg6 harg6 arg7 harg7 arg8 harg8 arg9 harg9 arg10 harg10 arg11 harg11
      arg12 harg12 arg13 harg13 arg14 harg14 arg15 harg15 arg16 harg16 x2 x3 x4 x5 x6 x7 x8 xs14 xs15 h1 h2 h3 h4
    R.1 = oneB (k0_pay4 x2 x3 (next f x8 x5 x6 x7 old) x4) ∧ R.2.1 = oneR (k0_pay3 x2 (next f x8 x5 x6 x7 old))
    ∧ R.2.2.1 = gateL f x8 x5 x6 ∧ R.2.2.2.1 = upL f x8 x5
    ∧ R.2.2.2.2.1 = sumL i (sumTop f x8 x5 x6 x7 old) (sumLow f x8 x5 x6 x7 old) := by
  have v0 : arg15.view.readAt (Elt F) (Rect.unit (s := S2048x1024) (k0_off2 i 0#32) S256x1024.size (k0_off2_inb i 0)).toLoadRect
      (harg15.unread xs15) = rows f 0 := kept_rows i arg15 harg15 xs15 k hk f hf 0
  have v1 : arg15.view.readAt (Elt F) (Rect.unit (s := S2048x1024) (k0_off2 i 256#32) S256x1024.size (k0_off2_inb i 1)).toLoadRect
      (harg15.unread xs15) = rows f 1 := kept_rows i arg15 harg15 xs15 k hk f hf 1
  have o0 : arg14.view.readAt (Elt F) (Rect.unit (s := S2048x1024) (k0_off2 i 0#32) S256x1024.size (k0_off2_inb i 0)).toLoadRect
      (harg14.unread xs14) = rows old 0 := kept_rows i arg14 harg14 xs14 k hk old ho 0
  have o1 : runEnd.sl.v86 c i arg14 harg14 xs14 = rows old 1 := kept_rows i arg14 harg14 xs14 k hk old ho 1
  have s : runEnd.sl.H14_2 c i arg5 harg5 arg6 harg6 arg7 harg7 arg8 harg8 arg14 harg14 arg15 harg15 x5 x6 x7 x8 xs14 xs15
      = sumL i (sumTop f x8 x5 x6 x7 old) (sumLow f x8 x5 x6 x7 old) := by
    simp only [runEnd.sl.H14_2, runEnd.sl.r, runEnd.sl.r_1, runEnd.sl.r_2, runEnd.sl.r_3, runEnd.sl.r_4, runEnd.sl.r_5, runEnd.sl.r_6,
      runEnd.sl.r_7]
    rw [v0, v1, o0, o1, ld8 arg8 harg8, ldTop arg5 harg5, ldLow arg5 harg5, ldTop arg6 harg6, ldLow arg6 harg6, ldGate arg7 harg7, ldUp arg7 harg7]
    rfl
  have r : runEnd.sl.v113 c i arg5 harg5 arg6 harg6 arg7 harg7 arg8 harg8 arg14 harg14 arg15 harg15 x5 x6 x7 x8 xs14 xs15 h2
      = next f x8 x5 x6 x7 old := by
    unfold runEnd.sl.v113; rw [s]; exact sum_read i arg14 _ _ h2
  unfold runEnd
  dsimp only
  rw [s, r]
  simp only [runEnd.sl.r, runEnd.sl.r_1, runEnd.sl.r_2, runEnd.sl.r_3, runEnd.sl.r_4, runEnd.sl.r_5, runEnd.sl.r_6, runEnd.sl.r_7]
  rw [v0, v1, ld2 arg2 harg2, ld3 arg3 harg3, ld2 arg4 harg4, ld8 arg8 harg8, ldTop arg5 harg5, ldLow arg5 harg5, ldTop arg6 harg6,
    ldLow arg6 harg6]
  exact ⟨rfl, congrArg oneR (shapeCast_self _ _), rfl, rfl, trivial⟩

/-- A later point of the last block of columns. -/
theorem last_stores (h1 : ¬ k0_cond1 i = 1#1) (h2 : k0_cond2 i = 1#1) (h3 : ¬ k0_cond3 i = 1#1) (h4 : k0_cond4 i = 1#1)
    (k : Fin 4) (hk : (i 1).val = k.val)
    (f : Vec F S512x1024 .bf16) (hf : Holds xs15 k f) (old : Vec F S512x1024 .f32) (ho : Holds xs14 k old) :
    let R := runLast c i arg2 harg2 arg3 harg3 arg4 harg4 arg5 harg5 arg6 harg6 arg7 harg7 arg8 harg8 arg9 harg9 arg10 harg10 arg11 harg11
      arg12 harg12 arg13 harg13 arg14 harg14 arg15 harg15 arg16 harg16 x2 x3 x4 x5 x6 x7 x8 x10 xs14 xs15 h1 h2 h3 h4
    R.1 = oneB (k0_pay4 x2 x3 (next f x8 x5 x6 x7 old) x4)
    ∧ R.2.1 = gateL f x8 x5 x6 ∧ R.2.2.1 = upL f x8 x5
    ∧ R.2.2.2.1 = oneR (k0_pay1 (k0_pay3 x2 (next f x8 x5 x6 x7 old)) x10)
    ∧ R.2.2.2.2.1 = sumL i (sumTop f x8 x5 x6 x7 old) (sumLow f x8 x5 x6 x7 old) := by
  have v0 : arg15.view.readAt (Elt F) (Rect.unit (s := S2048x1024) (k0_off2 i 0#32) S256x1024.size (k0_off2_inb i 0)).toLoadRect
      (harg15.unread xs15) = rows f 0 := kept_rows i arg15 harg15 xs15 k hk f hf 0
  have v1 : arg15.view.readAt (Elt F) (Rect.unit (s := S2048x1024) (k0_off2 i 256#32) S256x1024.size (k0_off2_inb i 1)).toLoadRect
      (harg15.unread xs15) = rows f 1 := kept_rows i arg15 harg15 xs15 k hk f hf 1
  have o0 : arg14.view.readAt (Elt F) (Rect.unit (s := S2048x1024) (k0_off2 i 0#32) S256x1024.size (k0_off2_inb i 0)).toLoadRect
      (harg14.unread xs14) = rows old 0 := kept_rows i arg14 harg14 xs14 k hk old ho 0
  have o1 : runLast.sl.v86 c i arg14 harg14 xs14 = rows old 1 := kept_rows i arg14 harg14 xs14 k hk old ho 1
  have s : runLast.sl.H14_2 c i arg5 harg5 arg6 harg6 arg7 harg7 arg8 harg8 arg14 harg14 arg15 harg15 x5 x6 x7 x8 xs14 xs15
      = sumL i (sumTop f x8 x5 x6 x7 old) (sumLow f x8 x5 x6 x7 old) := by
    simp only [runLast.sl.H14_2, runLast.sl.r, runLast.sl.r_1, runLast.sl.r_2, runLast.sl.r_3, runLast.sl.r_4, runLast.sl.r_5, runLast.sl.r_6,
      runLast.sl.r_7]
    rw [v0, v1, o0, o1, ld8 arg8 harg8, ldTop arg5 harg5, ldLow arg5 harg5, ldTop arg6 harg6, ldLow arg6 harg6, ldGate arg7 harg7, ldUp arg7 harg7]
    rfl
  have r : runLast.sl.v113 c i arg5 harg5 arg6 harg6 arg7 harg7 arg8 harg8 arg14 harg14 arg15 harg15 x5 x6 x7 x8 xs14 xs15 h2
      = next f x8 x5 x6 x7 old := by
    unfold runLast.sl.v113; rw [s]; exact sum_read i arg14 _ _ h2
  have g : arg10.view.readAt (Elt F) (Rect.unit (s := S1x1024) ![0, 0] ![1, 1024] inb_S1x1024_S1x1024_0_0).toLoadRect (harg10.unread x10) = x10 :=
    ld3 arg10 harg10 x10
  unfold runLast
  dsimp only
  rw [s, g, r]
  simp only [runLast.sl.r, runLast.sl.r_1, runLast.sl.r_2, runLast.sl.r_3, runLast.sl.r_4, runLast.sl.r_5, runLast.sl.r_6, runLast.sl.r_7,
    runLast.sl.r_8]
  rw [v0, v1, r, ld2 arg2 harg2, ld3 arg3 harg3, ld2 arg4 harg4, ld8 arg8 harg8, ldTop arg5 harg5, ldLow arg5 harg5, ldTop arg6 harg6,
    ldLow arg6 harg6]
  exact ⟨rfl, rfl, rfl, rfl, trivial⟩

end

end Cert.Kernel5Ideal.Bwd

end
-- ==== Proof.BwdVals.lean ====
/-
  The feed-forward block backwards: what a grid point computes, at real arguments.

  Where the blocks a point reads hold real numbers, what it stores and what it adds to the running sum are the
  real functions of those numbers. The two halves of a block of 512 rows go through the same operations.
-/
module

public import Idealize.ShloMosaic.Lib.Pipeline.ValueKit.Tiles
public import Idealize.ShloMosaic.Lib.IdealHost
public import proofs.«01_k».proof.Proof.Blocks
public import proofs.«01_k».proof.Proof.BwdReals
public import proofs.«01_k».proof.Proof.BwdFrame

@[expose] public section

set_option maxRecDepth 16384

noncomputable section

namespace Cert.Kernel5Ideal.Bwd

open Idealize.ShloMosaic Idealize.ShloMosaic.TcCoe Idealize.ShloMosaic.Pipeline Idealize.SL.Sem
open Cert.Kernel5Ideal Cert.Kernel5Ideal.Gen Cert.Blocks Cert.Att
open Cert.Ffn (rowMs rowR rowMs_pos sg gateGrad upGrad word_eps word_1024 word_half rsqrt_of logistic_of)

/-! ### Products and sums -/

/-- The product of 256 rows with a block of weights, both along their columns. -/
theorem act_apply (a : Vec Ideal S256x1024 .bf16) (w : Vec Ideal S704x1024 .bf16) (t : Fin 256) (k : Fin 704) :
    k0_pay11 a w (ix2 t k) = ∑ d : Fin 1024, a (ix2 t d) * w (ix2 k d) := by
  unfold k0_pay11
  show Ideal.matmul _ _ _ _ _ = _
  simp only [matmulApply]
  refine (congrArg (· + _) Ideal.ofBits_zero_f32).trans ((zero_add _).trans ?_)
  exact Finset.sum_congr rfl fun d _ => congrArg₂ (fun a b : EReal => a * b) rfl (congrFun (shapeCast_self _ _) _)

/-- The product of 256 rows of a block's gradients with a block of weights. -/
theorem down_apply (L : FVec Ideal S256x704 .bf16) (w : Vec Ideal S1x1x704x1024 .bf16) (t : Fin 256) (d : Fin 1024) :
    matmul (F := Ideal) dot_S256x704_S704x1024_S256x1024_1_0_0_1_n_n none L
      (shapeCast S704x1024 w shapeCasts_S1x1x704x1024_S704x1024 : FVec Ideal S704x1024 .bf16) (constant S256x1024 .f32 0x00000000#32) (ix2 t d) = ∑ k : Fin 704, L (ix2 t k) * w (ix4 0 0 k d) := by
  show Ideal.matmul _ _ _ _ _ = _
  simp only [matmulApply]
  refine (congrArg (· + _) Ideal.ofBits_zero_f32).trans ((zero_add _).trans ?_)
  refine Finset.sum_congr rfl fun k _ => congrArg₂ (fun a b : EReal => a * b) rfl ?_
  refine shapeCast_apply _ _ (ix2 k d) (ix4 0 0 k d) ?_
  rw [Shape.rowMajor_val_two, Shape.rowMajor_val_four]
  show (((0 : ℕ) * 1 + 0) * 704 + k.val) * 1024 + d.val = k.val * 1024 + d.val
  omega

/-- A saved entry. -/
theorem saved_apply (T : Vec Ideal S1x256x704 .bf16) (t : Fin 256) (k : Fin 704) : k0_pay13 T (ix2 t k) = T (ix3 0 t k) := by
  unfold k0_pay13
  show shapeCast S256x704 T shapeCasts_S1x256x704_S256x704 (ix2 t k) = _
  refine shapeCast_apply _ _ (ix2 t k) (ix3 0 t k) ?_
  rw [Shape.rowMajor_val_two, Shape.rowMajor_val_three]
  show ((0 : ℕ) * 256 + t.val) * 704 + k.val = t.val * 704 + k.val
  omega

/-- What is stored of 256 rows. -/
theorem stored_apply (A : FVec Ideal S256x704 .bf16) (x : S1x256x704.Idx) :
    shapeCast S1x256x704 A shapeCasts_S256x704_S1x256x704 x = A (ix2 (x 1) (x 2)) := by
  refine shapeCast_apply _ _ x (ix2 (x 1) (x 2)) ?_
  rw [Shape.rowMajor_val_two, Shape.rowMajor_val_three]
  have h0 : (x 0).val < 1 := (x 0).isLt
  show (x 1).val * 704 + (x 2).val = ((x 0).val * 256 + (x 1).val) * 704 + (x 2).val
  omega

/-- The sum of a row, and of a column, of a block. -/
theorem row_sum (A : FVec Ideal S512x1024 .f32) (t : Fin 512) :
    shapeCast S512x1 (multiReduction (F := Ideal) .add [1] S512 A 0x00000000#32 reduces_S512x1024_S512 (.inl rfl) rfl) shapeCasts_S512_S512x1 (ix2 t 0)
      = ∑ k : Fin 1024, A (ix2 t k) := by
  refine (shapeCast_apply _ _ _ (ix1 t) rfl).trans ((Ideal.multiReduction_add_single A _ _ _ _ _).trans ?_)
  refine Finset.sum_congr rfl fun k _ => congrArg A ?_
  funext b
  match b with | ⟨0, _⟩ => rfl | ⟨1, _⟩ => rfl
theorem col_sum (A : FVec Ideal S512x1024 .f32) (d : Fin 1024) :
    shapeCast S1x1024 (multiReduction (F := Ideal) .add [0] S1024 A 0x00000000#32 reduces_S512x1024_S1024 (.inl rfl) rfl) shapeCasts_S1024_S1x1024 (ix2 0 d)
      = ∑ t : Fin 512, A (ix2 t d) := by
  refine (shapeCast_apply _ _ _ (ix1 d) ?_).trans ((Ideal.multiReduction_add_single A _ _ _ _ _).trans ?_)
  · rw [Shape.rowMajor_val_one, Shape.rowMajor_val_two]
    show d.val = 0 * 1024 + d.val
    omega
  refine Finset.sum_congr rfl fun k _ => congrArg A ?_
  funext b
  match b with | ⟨0, _⟩ => rfl | ⟨1, _⟩ => rfl

theorem spread_col (r : FVec Ideal S512x1 .f32) (t : Fin 512) (d : Fin 1024) :
    broadcastTo S512x1024 r broadcasts_S512x1_S512x1024 (ix2 t d) = r (ix2 t 0) :=
  broadcastTo_apply _ _ _ (ix2 t (0 : Fin 1)) fun b => by match b with | ⟨0, _⟩ => rfl | ⟨1, _⟩ => rfl
theorem spread_row (g : FVec Ideal S1x1024 .f32) (t : Fin 512) (d : Fin 1024) :
    broadcastTo S512x1024 g broadcasts_S1x1024_S512x1024 (ix2 t d) = g (ix2 0 d) :=
  broadcastTo_apply _ _ _ (ix2 (0 : Fin 1) d) fun b => by match b with | ⟨0, _⟩ => rfl | ⟨1, _⟩ => rfl

/-! ### Half a block -/

/-- The gradient of the activations. -/
def act {n : ℕ} (F : Fin n → Fin 1024 → ℝ) (W : Fin 704 → Fin 1024 → ℝ) (t : Fin n) (k : Fin 704) : ℝ := ∑ d : Fin 1024, F t d * W k d

/-- What a block of columns adds to the sum. -/
def more {n : ℕ} (F : Fin n → Fin 1024 → ℝ) (W : Fin 704 → Fin 1024 → ℝ) (P Q : Fin n → Fin 704 → ℝ) (Z : Fin 2 → Fin 704 → Fin 1024 → ℝ)
    (t : Fin n) (d : Fin 1024) : ℝ :=
  (∑ k : Fin 704, gateGrad (act F W t k) (P t k) (Q t k) * Z 0 k d) + ∑ k : Fin 704, upGrad (act F W t k) (P t k) * Z 1 k d

section
variable {a : Vec Ideal S256x1024 .bf16} {w : Vec Ideal S704x1024 .bf16} {T U : Vec Ideal S1x256x704 .bf16}
  {F : Fin 256 → Fin 1024 → ℝ} {W : Fin 704 → Fin 1024 → ℝ} {P Q : Fin 256 → Fin 704 → ℝ}
  (ha : ∀ t d, a (ix2 t d) = (F t d : EReal)) (hw : ∀ k d, w (ix2 k d) = (W k d : EReal))
  (hT : ∀ t k, T (ix3 0 t k) = (P t k : EReal)) (hU : ∀ t k, U (ix3 0 t k) = (Q t k : EReal))

include ha hw in
theorem act_real (t : Fin 256) (k : Fin 704) : k0_pay11 a w (ix2 t k) = (act F W t k : EReal) :=
  (act_apply a w t k).trans (sum_of _ _ fun d => mul_of (ha t d) (hw k d))

include hT in
theorem saved_real (t : Fin 256) (k : Fin 704) : k0_pay13 T (ix2 t k) = (P t k : EReal) := (saved_apply T t k).trans (hT t k)

include hT in
theorem logistic_real (t : Fin 256) (k : Fin 704) : k0_pay14 T (ix2 t k) = (sg (P t k) : EReal) := logistic_of (saved_real hT t k)

include ha hw hT in
theorem up_real (t : Fin 256) (k : Fin 704) : k0_pay15 a w T (ix2 t k) = (upGrad (act F W t k) (P t k) : EReal) :=
  (rounded_apply _ _ _).trans (mul_of (act_real ha hw t k) (mul_of (saved_real hT t k) (logistic_real hT t k)))

include ha hw hT hU in
theorem gate_real (t : Fin 256) (k : Fin 704) :
    k0_pay18 (k0_pay14 T) (k0_pay16 a w U) (k0_pay17 T) (ix2 t k) = (gateGrad (act F W t k) (P t k) (Q t k) : EReal) :=
  (rounded_apply _ _ _).trans (mul_of (mul_of (act_real ha hw t k) (saved_real hU t k))
    (mul_of (logistic_real hT t k) (add_of unit (mul_of (saved_real hT t k) (sub_of unit (logistic_real hT t k))))))

include ha hw hT hU in
theorem sum_real {o : Vec Ideal S256x1024 .f32} {u v : Vec Ideal S1x1x704x1024 .bf16} {O : Fin 256 → Fin 1024 → ℝ} {Z : Fin 2 → Fin 704 → Fin 1024 → ℝ}
    (ho : ∀ t d, o (ix2 t d) = (O t d : EReal)) (hu : ∀ k d, u (ix4 0 0 k d) = (Z 0 k d : EReal)) (hv : ∀ k d, v (ix4 0 0 k d) = (Z 1 k d : EReal))
    (t : Fin 256) (d : Fin 1024) :
    k0_pay21 (k0_pay14 T) (k0_pay15 a w T) (k0_pay16 a w U) (k0_pay17 T) o u v (ix2 t d) = ((O t d + more F W P Q Z t d : ℝ) : EReal) := by
  unfold k0_pay21
  refine (congrFun (shapeCast_self _ _) _).trans (add_of (ho t d) (add_of ?_ ?_))
  · exact (down_apply _ u t d).trans (sum_of _ _ fun k => mul_of (gate_real ha hw hT hU t k) (hu k d))
  · exact (down_apply _ v t d).trans (sum_of _ _ fun k => mul_of (up_real ha hw hT t k) (hv k d))

end

/-! ### A block -/

/-- Row `t` of half `r` of a block. -/
def at256 (r : Fin 2) (t : Fin 256) : Fin 512 := ⟨256 * r.val + t.val, by omega⟩

theorem top_apply (G : Vec Ideal S1x512x704 .bf16) (t : Fin 256) (k : Fin 704) : top G (ix3 0 t k) = G (ix3 0 (at256 0 t) k) := by
  refine View.ld_unit_apply_of G _ _ _ (ix3 0 t k) (ix3 0 (at256 0 t) k) fun a => ?_
  match a with
  | ⟨0, _⟩ => rfl
  | ⟨1, _⟩ => show 256 * 0 + t.val = 0 + t.val; omega
  | ⟨2, _⟩ => show k.val = 0 + k.val; omega
theorem low_apply (G : Vec Ideal S1x512x704 .bf16) (t : Fin 256) (k : Fin 704) : low G (ix3 0 t k) = G (ix3 0 (at256 1 t) k) := by
  refine View.ld_unit_apply_of G _ _ _ (ix3 0 t k) (ix3 0 (at256 1 t) k) fun a => ?_
  match a with
  | ⟨0, _⟩ => rfl
  | ⟨1, _⟩ => show 256 * 1 + t.val = 256 + t.val; omega
  | ⟨2, _⟩ => show k.val = 0 + k.val; omega

theorem wGate_apply (w : Vec Ideal S2x1x704x1024 .bf16) (f : Fin 704) (d : Fin 1024) : wGate w (ix4 0 0 f d) = w (ix4 0 0 f d) := by
  refine View.ld_unit_apply_of w _ _ _ (ix4 0 0 f d) (ix4 0 0 f d) fun a => ?_
  match a with
  | ⟨0, _⟩ => rfl
  | ⟨1, _⟩ => rfl
  | ⟨2, _⟩ => show f.val = 0 + f.val; omega
  | ⟨3, _⟩ => show d.val = 0 + d.val; omega
theorem wUp_apply (w : Vec Ideal S2x1x704x1024 .bf16) (f : Fin 704) (d : Fin 1024) : wUp w (ix4 0 0 f d) = w (ix4 1 0 f d) := by
  refine View.ld_unit_apply_of w _ _ _ (ix4 0 0 f d) (ix4 1 0 f d) fun a => ?_
  match a with
  | ⟨0, _⟩ => rfl
  | ⟨1, _⟩ => rfl
  | ⟨2, _⟩ => show f.val = 0 + f.val; omega
  | ⟨3, _⟩ => show d.val = 0 + d.val; omega

theorem emb_row (r : Fin 2) {o : Fin 3 → ℕ} (ho : o = ![0, 256 * r.val, 0]) (inb : ∀ a, o a + S1x256x704.size a ≤ S1x512x704.size a)
    (x : S1x256x704.Idx) : (Rect.unit (s := S1x512x704) o S1x256x704.size inb).emb x 1 = at256 r (x 1) := by
  subst ho
  exact Fin.ext (by show 256 * r.val + 1 * (x 1).val = 256 * r.val + (x 1).val; omega)
theorem emb_col {r : ℕ} {o : Fin 3 → ℕ} (ho : o = ![0, r, 0]) (inb : ∀ a, o a + S1x256x704.size a ≤ S1x512x704.size a)
    (x : S1x256x704.Idx) : (Rect.unit (s := S1x512x704) o S1x256x704.size inb).emb x 2 = x 2 := by
  subst ho
  exact Fin.ext (by show 0 + 1 * (x 2).val = (x 2).val; omega)

section
variable {f : Vec Ideal S512x1024 .bf16} {x8 : Vec Ideal S704x1024 .bf16} {x5 x6 : Vec Ideal S1x512x704 .bf16} {x7 : Vec Ideal S2x1x704x1024 .bf16}
  {old : Vec Ideal S512x1024 .f32}
  {F : Fin 512 → Fin 1024 → ℝ} {W : Fin 704 → Fin 1024 → ℝ} {P Q : Fin 512 → Fin 704 → ℝ} {Z : Fin 2 → Fin 704 → Fin 1024 → ℝ} {O : Fin 512 → Fin 1024 → ℝ}
  (hf : ∀ t d, f (ix2 t d) = (F t d : EReal)) (h8 : ∀ k d, x8 (ix2 k d) = (W k d : EReal))
  (h5 : ∀ t k, x5 (ix3 0 t k) = (P t k : EReal)) (h6 : ∀ t k, x6 (ix3 0 t k) = (Q t k : EReal))
  (h7 : ∀ s k d, x7 (ix4 s 0 k d) = (Z s k d : EReal)) (ho : ∀ t d, old (ix2 t d) = (O t d : EReal))

include hf in
theorem rows_real (r : Fin 2) (t : Fin 256) (d : Fin 1024) : rows f r (ix2 t d) = (F (at256 r t) d : EReal) := hf (at256 r t) d
include ho in
theorem rows_old (r : Fin 2) (t : Fin 256) (d : Fin 1024) : rows old r (ix2 t d) = (O (at256 r t) d : EReal) := ho (at256 r t) d
include h5 in
theorem top_real (t : Fin 256) (k : Fin 704) : top x5 (ix3 0 t k) = (P (at256 0 t) k : EReal) := (top_apply x5 t k).trans (h5 _ k)
include h5 in
theorem low_real (t : Fin 256) (k : Fin 704) : low x5 (ix3 0 t k) = (P (at256 1 t) k : EReal) := (low_apply x5 t k).trans (h5 _ k)

include hf h8 h5 h6 in
theorem gate_stored (y : S1x512x704.Idx) :
    View.canon (gateL f x8 x5 x6) y = (gateGrad (act F W (y 1) (y 2)) (P (y 1) (y 2)) (Q (y 1) (y 2)) : EReal) := by
  refine View.canon_apply_of_pieces (Val := Elt Ideal)
    (fun y : S1x512x704.Idx => (gateGrad (act F W (y 1) (y 2)) (P (y 1) (y 2)) (Q (y 1) (y 2)) : EReal)) _ (fun p hp x => ?_) y (gateL_cover f x8 x5 x6 y)
  simp only [gateL, List.mem_cons, List.not_mem_nil, or_false] at hp
  have e : ∀ (t t' : Fin 512) (k k' : Fin 704), t' = t → k' = k →
      (gateGrad (act F W t k) (P t k) (Q t k) : EReal) = (gateGrad (act F W t' k') (P t' k') (Q t' k') : EReal) := by
    rintro _ _ _ _ rfl rfl; rfl
  rcases hp with rfl | rfl
  · exact (stored_apply _ x).trans ((gate_real (rows_real hf 1) h8 (low_real h5) (low_real h6) (x 1) (x 2)).trans
      (e _ _ _ _ (emb_row 1 rfl inb_S1x512x704_S1x256x704_0_256_0 x) (emb_col rfl inb_S1x512x704_S1x256x704_0_256_0 x)))
  · exact (stored_apply _ x).trans ((gate_real (rows_real hf 0) h8 (top_real h5) (top_real h6) (x 1) (x 2)).trans
      (e _ _ _ _ (emb_row 0 rfl inb_S1x512x704_S1x256x704_0_0_0 x) (emb_col rfl inb_S1x512x704_S1x256x704_0_0_0 x)))

include hf h8 h5 in
theorem up_stored (y : S1x512x704.Idx) : View.canon (upL f x8 x5) y = (upGrad (act F W (y 1) (y 2)) (P (y 1) (y 2)) : EReal) := by
  refine View.canon_apply_of_pieces (Val := Elt Ideal)
    (fun y : S1x512x704.Idx => (upGrad (act F W (y 1) (y 2)) (P (y 1) (y 2)) : EReal)) _ (fun p hp x => ?_) y (upL_cover f x8 x5 y)
  simp only [upL, List.mem_cons, List.not_mem_nil, or_false] at hp
  have e : ∀ (t t' : Fin 512) (k k' : Fin 704), t' = t → k' = k →
      (upGrad (act F W t k) (P t k) : EReal) = (upGrad (act F W t' k') (P t' k') : EReal) := by
    rintro _ _ _ _ rfl rfl; rfl
  rcases hp with rfl | rfl
  · exact (stored_apply _ x).trans ((up_real (rows_real hf 1) h8 (low_real h5) (x 1) (x 2)).trans
      (e _ _ _ _ (emb_row 1 rfl inb_S1x512x704_S1x256x704_0_256_0 x) (emb_col rfl inb_S1x512x704_S1x256x704_0_256_0 x)))
  · exact (stored_apply _ x).trans ((up_real (rows_real hf 0) h8 (top_real h5) (x 1) (x 2)).trans
      (e _ _ _ _ (emb_row 0 rfl inb_S1x512x704_S1x256x704_0_0_0 x) (emb_col rfl inb_S1x512x704_S1x256x704_0_0_0 x)))

include hf h8 h5 h6 h7 ho in
theorem next_real (t : Fin 512) (d : Fin 1024) : next f x8 x5 x6 x7 old (ix2 t d) = ((O t d + more F W P Q Z t d : ℝ) : EReal) := by
  have e : ∀ t' : Fin 512, t' = t → ((O t' d + more F W P Q Z t' d : ℝ) : EReal) = ((O t d + more F W P Q Z t d : ℝ) : EReal) := by
    rintro _ rfl; rfl
  have hu : ∀ k d, wGate x7 (ix4 0 0 k d) = (Z 0 k d : EReal) := fun k d => (wGate_apply x7 k d).trans (h7 0 k d)
  have hv : ∀ k d, wUp x7 (ix4 0 0 k d) = (Z 1 k d : EReal) := fun k d => (wUp_apply x7 k d).trans (h7 1 k d)
  unfold next joined
  by_cases h : t.val < 256
  · refine (dif_pos h).trans ((sum_real (rows_real hf 0) h8 (top_real h5) (top_real h6) (rows_old ho 0) hu hv (⟨t.val, h⟩ : Fin 256) d).trans ?_)
    exact e (at256 0 ⟨t.val, h⟩) (Fin.ext (by show 256 * 0 + t.val = t.val; omega))
  · have ht := t.isLt
    refine (dif_neg h).trans ((sum_real (rows_real hf 1) h8 (low_real h5) (low_real h6) (rows_old ho 1) hu hv (⟨t.val - 256, by omega⟩ : Fin 256) d).trans ?_)
    exact e (at256 1 ⟨t.val - 256, by omega⟩) (Fin.ext (by show 256 * 1 + (t.val - 256) = t.val; omega))

end

/-! ### The norm -/

section
variable {x : Vec Ideal S512x1024 .f32} {g : Vec Ideal S1x1024 .f32} {dh dy : Vec Ideal S512x1024 .f32}
  {X D Y : Fin 512 → Fin 1024 → ℝ} {G : Fin 1024 → ℝ}
  (hx : ∀ t d, x (ix2 t d) = (X t d : EReal)) (hg : ∀ d, g (ix2 0 d) = (G d : EReal)) (hd : ∀ t d, dh (ix2 t d) = (D t d : EReal))
  (hy : ∀ t d, dy (ix2 t d) = (Y t d : EReal))

include hy in
theorem half_real (t : Fin 512) (d : Fin 1024) : k0_pay9 dy (ix2 t d) = ((1 / 2 * Y t d : ℝ) : EReal) := by
  unfold k0_pay9
  exact (congrFun (shapeCast_self _ _) _).trans ((rounded_apply _ _ _).trans (mul_of word_half (hy t d)))

include hx in
theorem root_real (t : Fin 512) : k0_pay2 x (ix2 t 0) = (rowR (X t) : EReal) := by
  unfold k0_pay2
  refine rsqrt_of (add_of (div_of ((row_sum _ t).trans (sum_of _ _ fun k => ?_)) word_1024 (by norm_num)) word_eps) (rowMs_pos (X t))
  exact mul_of (hx t k) (hx t k)

include hx hg in
theorem norm_real (t : Fin 512) (d : Fin 1024) : k0_pay8 x g (ix2 t d) = ((X t d * rowR (X t) * G d : ℝ) : EReal) := by
  unfold k0_pay8
  refine (congrFun (shapeCast_self _ _) _).trans ((rounded_apply _ _ _).trans (mul_of (mul_of (hx t d) ?_) ?_))
  · exact (spread_col _ t d).trans (root_real hx t)
  · exact (spread_row g t d).trans (hg d)

include hx hd in
theorem gain_real (d : Fin 1024) : k0_pay3 x dh (ix2 0 d) = ((∑ t : Fin 512, D t d * X t d * rowR (X t) : ℝ) : EReal) := by
  unfold k0_pay3
  refine (col_sum _ d).trans (sum_of _ _ fun t => ?_)
  exact mul_of (mul_of (hd t d) (hx t d)) ((spread_col _ t d).trans (root_real hx t))

include hx hg hd hy in
theorem input_real (t : Fin 512) (d : Fin 1024) : k0_pay4 x g dh dy (ix2 t d)
    = ((Y t d + (rowR (X t) * (D t d * G d) - X t d * (rowR (X t) * rowR (X t) * rowR (X t)) * ((∑ k : Fin 1024, X t k * (D t k * G k)) / 1024)) : ℝ) : EReal) := by
  have hr := root_real hx t
  unfold k0_pay4
  refine (congrFun (shapeCast_self _ _) _).trans (add_of (hy t d) (sub_of (mul_of ?_ (mul_of (hd t d) ?_)) (mul_of (mul_of (hx t d) ?_) ?_)))
  · exact (spread_col _ t d).trans hr
  · exact (spread_row g t d).trans (hg d)
  · exact (spread_col _ t d).trans (mul_of (mul_of hr hr) hr)
  · refine (spread_col _ t d).trans (div_of ((row_sum _ t).trans (sum_of _ _ fun k => ?_)) word_1024 (by norm_num))
    exact mul_of (hx t k) (mul_of (hd t k) ((spread_row g t k).trans (hg k)))

end

end Cert.Kernel5Ideal.Bwd

end
-- ==== Proof.BwdRef.lean ====
/-
  The reference of the feed-forward block's backward pass, read at real arguments: each stage of the reference, at an
  index, is a function of the real matrices.

  The stages are taken in the program's order. A statement is about an index `i` and names its coordinates, and
  the proof reads the stage from the stages before.
-/
module

public import proofs.«01_k».proof.Proof.BwdReals
public import proofs.«01_k».proof.Proof.Gen.Reference5Ideal.Read
public import Idealize.ShloMosaic.Lib.KernelVsHost

@[expose] public section

set_option maxRecDepth 16384

noncomputable section

namespace Cert.Ffn.Ref

open Idealize.ShloMosaic
open Cert.Reference5Ideal Cert.Reference5Ideal.Gen Cert.Reference5Ideal.Read
open Cert.Blocks Cert.Att

/-- The arguments hold real numbers. -/
structure Holds (R : RIn) (x0 : S2048x1024.Idx → EReal) (x1 : S1x1024.Idx → EReal) (x2 : S2048x1024.Idx → EReal) (x3 : S1024x5632.Idx → EReal)
    (x4 : S2816x1024.Idx → EReal) : Prop where
  x : ∀ i, x0 i = (R.x (i 0) (i 1) : EReal)
  g : ∀ i, x1 i = (R.g (i 1) : EReal)
  y : ∀ i, x2 i = (R.y (i 0) (i 1) : EReal)
  w : ∀ i, x3 i = (R.w (i 0) (i 1) : EReal)
  v : ∀ i, x4 i = (R.v (i 0) (i 1) : EReal)

variable {R : RIn} {x0 : S2048x1024.Idx → EReal} {x1 : S1x1024.Idx → EReal} {x2 : S2048x1024.Idx → EReal} {x3 : S1024x5632.Idx → EReal}
  {x4 : S2816x1024.Idx → EReal}
variable (H : Holds R x0 x1 x2 x3 x4)

section
variable {φ : FTy} {a b : EReal} {x y : ℝ}

/-! The operations of the reference at real numbers. -/

theorem mulf_of (ha : a = (x : EReal)) (hb : b = (y : EReal)) : FloatOps.mulf (F := Ideal) (φ := φ) a b = ((x * y : ℝ) : EReal) := mul_of ha hb
theorem addf_of (ha : a = (x : EReal)) (hb : b = (y : EReal)) : FloatOps.addf (F := Ideal) (φ := φ) a b = ((x + y : ℝ) : EReal) := add_of ha hb
theorem subf_of (ha : a = (x : EReal)) (hb : b = (y : EReal)) : FloatOps.subf (F := Ideal) (φ := φ) a b = ((x - y : ℝ) : EReal) := sub_of ha hb
theorem negf_of (ha : a = (x : EReal)) : FloatOps.hostNegf (F := Ideal) (φ := φ) a = ((-x : ℝ) : EReal) := neg_of ha
theorem divf_of (ha : a = (x : EReal)) (hb : b = (y : EReal)) (hy : y ≠ 0) :
    FloatOps.hostDivf (F := Ideal) (φ := φ) a b = ((x / y : ℝ) : EReal) := div_of ha hb hy

end

include H

/-! ### The normalised activations -/

theorem s1 (i : S2048.Idx) : val_main_v1 (F := Ideal) x0 i = ((∑ k : Fin 1024, R.x (i 0) k * R.x (i 0) k : ℝ) : EReal) :=
  (val_main_v1_apply x0 i).trans (zero_add_sum_of Ideal.ofBits_zero_f32 _ _ fun k => (val_main_v0_apply (F := Ideal) x0 _).trans (mulf_of (H.x _) (H.x _)))

theorem s6 (i : S2048x1.Idx) : val_main_v6 (F := Ideal) x0 i = (rowMs (R.x (i 0)) : EReal) := by
  refine (val_main_v6_apply (F := Ideal) x0 i).trans (addf_of (divf_of ?_ ?_ (by norm_num : (1024 : ℝ) ≠ 0)) ?_)
  · exact (val_main_v2_apply (F := Ideal) x0 i).trans (s1 H _)
  · exact (val_main_v3_apply (F := Ideal) i).trans word_1024
  · exact (val_main_v5_apply (F := Ideal) i).trans word_eps

theorem s7 (i : S2048x1.Idx) : val_main_v7 (F := Ideal) x0 i = (R.r (i 0) : EReal) :=
  (val_main_v7_apply (F := Ideal) x0 i).trans (rsqrt_of (s6 H i) (rowMs_pos _))

theorem s10 (i : S2048x1.Idx) : val_main_v10 (F := Ideal) x0 i = ((-(1 / 2) * (R.r (i 0) / rowMs (R.x (i 0))) : ℝ) : EReal) :=
  (val_main_v10_apply (F := Ideal) x0 i).trans (mulf_of ((val_main_v9_apply (F := Ideal) i).trans word_neg_half)
    ((val_main_v8_apply (F := Ideal) x0 i).trans (divf_of (s7 H i) (s6 H i) (rowMs_pos _).ne')))

theorem s12 (i : S2048x1024.Idx) : val_main_v12 (F := Ideal) x0 i = ((R.x (i 0) (i 1) * R.r (i 0) : ℝ) : EReal) :=
  (val_main_v12_apply (F := Ideal) x0 i).trans (mulf_of (H.x i) ((val_main_v11_apply (F := Ideal) x0 i).trans (s7 H _)))

theorem s14 (i : S2048x1024.Idx) : val_main_v14 (F := Ideal) x0 x1 i = (R.h (i 0) (i 1) : EReal) :=
  (val_main_v14_apply (F := Ideal) x0 x1 i).trans (mulf_of (s12 H i) ((val_main_v13_apply (F := Ideal) x1 i).trans (H.g _)))

/-! ### The first product and the logistic of its gate -/

theorem s15 (i : S2048x5632.Idx) : val_main_v15 (F := Ideal) x0 x1 x3 i = (R.z (i 0) (i 1) : EReal) :=
  (val_main_v15_apply x0 x1 x3 i).trans (sum_of _ _ fun k => mul_of (s14 H _) (H.w _))

theorem s16 (i : S2048x2816.Idx) : val_main_v16 (F := Ideal) x0 x1 x3 i = (R.z (i 0) (half 0 (i 1)) : EReal) :=
  ((val_main_v16_apply (F := Ideal) x0 x1 x3 i).trans (s15 H _)).trans (congrArg₂ (fun a b => (R.z a b : EReal)) rfl
    (Fin.ext (by show (i 1).val = 2816 * 0 + (i 1).val; omega)))

theorem s17 (i : S2048x2816.Idx) : val_main_v17 (F := Ideal) x0 x1 x3 i = (R.z (i 0) (half 1 (i 1)) : EReal) :=
  ((val_main_v17_apply (F := Ideal) x0 x1 x3 i).trans (s15 H _)).trans (congrArg₂ (fun a b => (R.z a b : EReal)) rfl
    (Fin.ext (by show 2816 + (i 1).val = 2816 * 1 + (i 1).val; omega)))

theorem s18 (i : S2048x2816.Idx) : val_main_v18_2 (F := Ideal) x0 x1 x3 i = (sg (R.z (i 0) (half 0 (i 1))) : EReal) := by
  refine (val_main_v18_2_apply (F := Ideal) x0 x1 x3 i).trans (divf_of ((val_main_call0_v4_apply (F := Ideal) i).trans unit) ?_ (one_add_exp_ne _))
  refine (val_main_call0_v3_apply (F := Ideal) x0 x1 x3 i).trans (addf_of ((val_main_call0_v2_apply (F := Ideal) i).trans unit) ?_)
  refine (val_main_call0_v1_apply (F := Ideal) x0 x1 x3 i).trans ?_
  show Ideal.exp (val_main_call0_v0 (F := Ideal) x0 x1 x3 i) = _
  rw [(val_main_call0_v0_apply (F := Ideal) x0 x1 x3 i).trans (negf_of (s16 H i))]
  rfl

theorem s18_1 (i : S2048x2816.Idx) : val_main_v18_1 (F := Ideal) x0 x1 x3 i
    = ((sg (R.z (i 0) (half 0 (i 1))) * (1 - sg (R.z (i 0) (half 0 (i 1)))) : ℝ) : EReal) :=
  (val_main_v18_1_apply (F := Ideal) x0 x1 x3 i).trans (mulf_of (s18 H i) ((val_main_call0_v7_apply (F := Ideal) x0 x1 x3 i).trans
    (subf_of ((val_main_call0_v6_apply (F := Ideal) i).trans unit) (s18 H i))))

theorem s18_0 (i : S2048x2816.Idx) : val_main_v18_0 (F := Ideal) x0 x1 x3 i
    = ((R.z (i 0) (half 0 (i 1)) * sg (R.z (i 0) (half 0 (i 1))) : ℝ) : EReal) :=
  (val_main_v18_0_apply (F := Ideal) x0 x1 x3 i).trans (mulf_of (s16 H i) (s18 H i))

/-! ### The gradients of the activation and of the two halves -/

theorem s25 (i : S2048x2816.Idx) : val_main_v25 (F := Ideal) x2 x4 i = (R.da (i 0) (i 1) : EReal) :=
  (val_main_v25_apply x2 x4 i).trans (sum_of _ _ fun k => mul_of
    ((val_main_v24_apply (F := Ideal) x2 _).trans (mulf_of ((val_main_v23_apply (F := Ideal) _).trans word_half) (H.y _))) (H.v _))

theorem s26 (i : S2048x2816.Idx) : val_main_v26 (F := Ideal) x0 x1 x2 x3 x4 i = (R.dq (i 0) (i 1) : EReal) :=
  ((val_main_v26_apply (F := Ideal) x0 x1 x2 x3 x4 i).trans (mulf_of (s18_0 H i) (s25 H i))).trans (congrArg (fun a : ℝ => (a : EReal)) (mul_comm _ _))

theorem s27 (i : S2048x2816.Idx) : val_main_v27 (F := Ideal) x0 x1 x2 x3 x4 i = ((R.da (i 0) (i 1) * R.z (i 0) (half 1 (i 1)) : ℝ) : EReal) :=
  (val_main_v27_apply (F := Ideal) x0 x1 x2 x3 x4 i).trans (mulf_of (s25 H i) (s17 H i))

theorem s28 (i : S2048x2816.Idx) : val_main_v28 (F := Ideal) x0 x1 x2 x3 x4 i = (R.dp (i 0) (i 1) : EReal) := by
  refine ((val_main_v28_apply (F := Ideal) x0 x1 x2 x3 x4 i).trans (addf_of
    ((val_main_call1_v1_apply (F := Ideal) x0 x1 x2 x3 x4 i).trans (mulf_of (s27 H i) (s18 H i)))
    ((val_main_call1_v2_apply (F := Ideal) x0 x1 x2 x3 x4 i).trans (mulf_of ((val_main_call1_v0_apply (F := Ideal) x0 x1 x2 x3 x4 i).trans (mulf_of (s16 H i) (s27 H i)))
      (s18_1 H i))))).trans (congrArg (fun a : ℝ => (a : EReal)) ?_)
  unfold RIn.dp gateGrad
  ring

theorem s29_0 (i : S2048x5632.Idx) (k : Fin 2816) (hk : i 1 = half 0 k) : val_main_v29 (F := Ideal) x0 x1 x2 x3 x4 i = (R.dp (i 0) k : EReal) := by
  unfold val_main_v29
  refine (concatenate_pair_apply_left (t := S2048x5632) (s₁ := S2048x2816) (s₂ := S2048x2816) 1 _ _ _ i rfl (ix2 (i 0) k) fun b => ?_).trans (s28 H _)
  match b with
  | ⟨0, _⟩ => rfl
  | ⟨1, _⟩ => exact (show k.val = (half 0 k).val by show k.val = 2816 * 0 + k.val; omega).trans (congrArg Fin.val hk).symm

theorem s29_1 (i : S2048x5632.Idx) (k : Fin 2816) (hk : i 1 = half 1 k) : val_main_v29 (F := Ideal) x0 x1 x2 x3 x4 i = (R.dq (i 0) k : EReal) := by
  unfold val_main_v29
  refine (concatenate_pair_apply_right (t := S2048x5632) (s₁ := S2048x2816) (s₂ := S2048x2816) 1 _ _ _ i rfl rfl (ix2 (i 0) k) (fun b hb => ?_) ?_).trans (s26 H _)
  · match b with
    | ⟨0, _⟩ => rfl
    | ⟨1, _⟩ => exact absurd rfl hb
  · exact (show k.val + 2816 = (half 1 k).val by show k.val + 2816 = 2816 * 1 + k.val; omega).trans (congrArg Fin.val hk).symm

/-- A matrix entry of the two halves' gradients, as a real number. -/
theorem s29 (i : S2048x5632.Idx) : ∃ a : ℝ, val_main_v29 (F := Ideal) x0 x1 x2 x3 x4 i = (a : EReal) := by
  have hi : (i 1).val < 5632 := (i 1).isLt
  by_cases h : (i 1).val < 2816
  · exact ⟨_, s29_0 H i ⟨(i 1).val, h⟩ (Fin.ext (by show (i 1).val = 2816 * 0 + (i 1).val; omega))⟩
  · exact ⟨_, s29_1 H i ⟨(i 1).val - 2816, by omega⟩ (Fin.ext (by show (i 1).val = 2816 * 1 + ((i 1).val - 2816); omega))⟩

theorem s30 (i : S2048x1024.Idx) : val_main_v30 (F := Ideal) x0 x1 x2 x3 x4 i = (R.dh (i 0) (i 1) : EReal) := by
  choose D hD using fun k : Fin 5632 => s29 H (lidx_main_v30 i k)
  refine ((val_main_v30_apply x0 x1 x2 x3 x4 i).trans (sum_of _ _ fun k => mul_of (hD k) (H.w _))).trans
    (congrArg (fun a : ℝ => (a : EReal)) (dh_eq R (i 0) (i 1) D (fun k => ?_) fun k => ?_))
  · exact EReal.coe_injective ((hD _).symm.trans (s29_0 H (lidx_main_v30 i (half 0 k)) k rfl))
  · exact EReal.coe_injective ((hD _).symm.trans (s29_1 H (lidx_main_v30 i (half 1 k)) k rfl))

/-! ### The gradients of the gain and of the input -/

theorem s32 (i : S1024.Idx) : val_main_v32 (F := Ideal) x0 x1 x2 x3 x4 i = (R.dg (i 0) : EReal) := by
  refine ((val_main_v32_apply x0 x1 x2 x3 x4 i).trans (zero_add_sum_of Ideal.ofBits_zero_f32 _ _ fun k =>
    (val_main_v31_apply (F := Ideal) x0 x1 x2 x3 x4 _).trans (mulf_of (s12 H _) (s30 H _)))).trans (congrArg (fun a : ℝ => (a : EReal)) ?_)
  exact Finset.sum_congr rfl fun t _ => (mul_comm _ _).trans (mul_assoc _ _ _).symm

theorem s33 (i : S1x1024.Idx) : val_main_v33 (F := Ideal) x0 x1 x2 x3 x4 i = (R.dg (i 1) : EReal) :=
  (val_main_v33_apply (F := Ideal) x0 x1 x2 x3 x4 i).trans ((s32 H _).trans (congrArg (fun a => (R.dg a : EReal)) (Fin.ext (by
    have h : (i 0).val < 1 := (i 0).isLt
    have h' : (i 1).val < 1024 := (i 1).isLt
    simp only []
    first | rfl | omega))))

theorem s35 (i : S2048x1024.Idx) : val_main_v35 (F := Ideal) x0 x1 x2 x3 x4 i = ((R.dh (i 0) (i 1) * R.g (i 1) : ℝ) : EReal) :=
  (val_main_v35_apply (F := Ideal) x0 x1 x2 x3 x4 i).trans (mulf_of (s30 H i) ((val_main_v34_apply (F := Ideal) x1 i).trans (H.g _)))

theorem s37 (i : S2048.Idx) : val_main_v37 (F := Ideal) x0 x1 x2 x3 x4 i
    = ((∑ k : Fin 1024, R.x (i 0) k * (R.dh (i 0) k * R.g k) : ℝ) : EReal) :=
  (val_main_v37_apply x0 x1 x2 x3 x4 i).trans (zero_add_sum_of Ideal.ofBits_zero_f32 _ _ fun k =>
    (val_main_v36_apply (F := Ideal) x0 x1 x2 x3 x4 _).trans (mulf_of (H.x _) (s35 H _)))

theorem s38 (i : S2048x1.Idx) : val_main_v38 (F := Ideal) x0 x1 x2 x3 x4 i
    = ((∑ k : Fin 1024, R.x (i 0) k * (R.dh (i 0) k * R.g k) : ℝ) : EReal) := by
  refine (val_main_v38_apply (F := Ideal) x0 x1 x2 x3 x4 i).trans ((s37 H _).trans ?_)
  have e : (idx_main_v38 i) 0 = i 0 := Fin.ext (by
    have h : (i 1).val < 1 := (i 1).isLt
    have h' : (i 0).val < 2048 := (i 0).isLt
    first | rfl | (simp only []; omega))
  rw [e]

theorem s43 (i : S2048x1.Idx) : val_main_v43 (F := Ideal) x0 x1 x2 x3 x4 i
    = (((∑ k : Fin 1024, R.x (i 0) k * (R.dh (i 0) k * R.g k)) * (-(1 / 2) * (R.r (i 0) / rowMs (R.x (i 0)))) / 1024 : ℝ) : EReal) :=
  (val_main_v43_apply (F := Ideal) x0 x1 x2 x3 x4 i).trans (divf_of ((val_main_v41_apply (F := Ideal) x0 x1 x2 x3 x4 i).trans (mulf_of (s38 H i) (s10 H i)))
    ((val_main_v42_apply (F := Ideal) i).trans word_1024) (by norm_num))

theorem s45 (i : S2048x1024.Idx) : val_main_v45 (F := Ideal) x0 x1 x2 x3 x4 i
    = (((∑ k : Fin 1024, R.x (i 0) k * (R.dh (i 0) k * R.g k)) * (-(1 / 2) * (R.r (i 0) / rowMs (R.x (i 0)))) / 1024 : ℝ) : EReal) := by
  refine (val_main_v45_apply (F := Ideal) x0 x1 x2 x3 x4 i).trans ((val_main_v44_apply x0 x1 x2 x3 x4 _).trans
    ((zero_add_sum_of Ideal.ofBits_zero_f32 _ _ fun k => s43 H _).trans ?_))
  rw [Fin.sum_univ_one]
  rfl

theorem s39 (i : S2048x1024.Idx) : val_main_v39 (F := Ideal) x0 i = (R.r (i 0) : EReal) := (val_main_v39_apply (F := Ideal) x0 i).trans (s7 H _)

theorem s50 (i : S2048x1024.Idx) : val_main_v50 (F := Ideal) x0 x1 x2 x3 x4 i = (R.dx (i 0) (i 1) : EReal) := by
  refine ((val_main_v50_apply (F := Ideal) x0 x1 x2 x3 x4 i).trans (addf_of (H.y i) ((val_main_v49_apply (F := Ideal) x0 x1 x2 x3 x4 i).trans (addf_of
    ((val_main_v47_apply (F := Ideal) x0 x1 x2 x3 x4 i).trans (addf_of
      ((val_main_v40_apply (F := Ideal) x0 x1 x2 x3 x4 i).trans (mulf_of (s35 H i) (s39 H i)))
      ((val_main_v46_apply (F := Ideal) x0 x1 x2 x3 x4 i).trans (mulf_of (H.x i) (s45 H i)))))
    ((val_main_v48_apply (F := Ideal) x0 x1 x2 x3 x4 i).trans (mulf_of (s45 H i) (H.x i))))))).trans (congrArg (fun a : ℝ => (a : EReal)) ?_)
  have e : R.r (i 0) / rowMs (R.x (i 0)) = R.r (i 0) * R.r (i 0) * R.r (i 0) := rowR_cube _
  rw [e]
  unfold RIn.dx
  ring

/-! ### The results in the kernel's layout -/

theorem s51 (i : S2048x1024.Idx) : val_main_v51 (F := Ideal) x0 x1 i = (R.h (i 0) (i 1) : EReal) := s14 H i

theorem s55 (i : S4x2048x704.Idx) : val_main_v55 (F := Ideal) x0 x1 x2 x3 x4 i = (R.dp (i 1) (col (i 0) (i 2)) : EReal) := by
  rw [eq_ix3 i]
  refine (blocks_apply _ _ _ (i 0) (i 1) (i 2)).trans ((val_main_v52_apply (F := Ideal) x0 x1 x2 x3 x4 _).trans (s29_0 H _ _ (Fin.ext ?_)))
  show (col (i 0) (i 2)).val = 2816 * 0 + (col (i 0) (i 2)).val
  omega

theorem s59 (i : S4x2048x704.Idx) : val_main_v59 (F := Ideal) x0 x1 x2 x3 x4 i = (R.dq (i 1) (col (i 0) (i 2)) : EReal) := by
  rw [eq_ix3 i]
  refine (blocks_apply _ _ _ (i 0) (i 1) (i 2)).trans ((val_main_v56_apply (F := Ideal) x0 x1 x2 x3 x4 _).trans (s29_1 H _ _ (Fin.ext ?_)))
  show 2816 + (col (i 0) (i 2)).val = 2816 * 1 + (col (i 0) (i 2)).val
  omega

end Cert.Ffn.Ref
-- ==== Proof.BwdDat.lean ====
/-
  The feed-forward block backwards: what the buffers and the scratch memories hold.

  The grid has four blocks of columns, and for each of them four blocks of rows. The gradient of the normalised activations is
  summed over the blocks of columns in scratch memory, one sum for each block of rows.
-/
module

public import Idealize.ShloMosaic.Lib.Claim
public import proofs.«01_k».proof.Proof.BwdFrame

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]
variable (m : (ℓ : Loc nD τ sig) → Buf (Elt F) ℓ) (ρ : Dev nD → PrngReg)

abbrev sumS : Memref sig .tc .vmem S2048x1024 .f32 := Memref.whole cc0_scratch0
abbrev dFS : Memref sig .tc .vmem S2048x1024 .bf16 := Memref.whole cc0_scratch1
abbrev hS : Memref sig .tc .vmem S2048x1024 .bf16 := Memref.whole cc0_scratch2

/-! ### The points -/

theorem cond1_iff : ∀ t : Fin grid0.N, k0_cond1 (grid0.coords t) = 1#1 ↔ t.val < 4 := by decide +kernel
theorem cond2_iff : ∀ t : Fin grid0.N, k0_cond2 (grid0.coords t) = 1#1 ↔ 12 ≤ t.val := by decide +kernel
theorem cond3_iff : ∀ t : Fin grid0.N, k0_cond3 (grid0.coords t) = 1#1 ↔ t.val % 4 = 0 := by decide +kernel
theorem cond4_iff : ∀ t : Fin grid0.N, k0_cond4 (grid0.coords t) = 1#1 ↔ ¬ t.val % 4 = 0 := by decide +kernel
theorem block_of : ∀ t : Fin grid0.N, (grid0.coords t 1).val = t.val % 4 := by decide +kernel
theorem idle_7 : ∀ t : Fin grid0.N, idle0 7 (grid0.coords t) = decide (t.val < 12) := by decide +kernel
theorem idle_8 : ∀ t : Fin grid0.N, idle0 8 (grid0.coords t) = decide (t.val < 12) := by decide +kernel
theorem idle_9 : ∀ t : Fin grid0.N, idle0 9 (grid0.coords t) = decide (4 ≤ t.val) := by decide +kernel
theorem flush_7 : ∀ t : Fin grid0.N, win0_7.flush t = decide (12 ≤ t.val) := by decide +kernel
theorem flush_8 : ∀ t : Fin grid0.N, win0_8.flush t = decide (t.val = 15) := by decide +kernel
theorem flush_9 : ∀ t : Fin grid0.N, win0_9.flush t = decide (t.val < 3 ∨ t.val = 15) := by decide +kernel

theorem lt_points (t : Fin cfg0.N) : t.val < 16 := lt_of_lt_of_eq t.isLt N_0

/-- The point of block `j` of the columns and block `k` of the positions. -/
def pt (j : ℕ) (k : Fin 4) : Fin cfg0.N := ⟨4 * (j % 4) + k.val, lt_of_lt_of_eq (by omega : 4 * (j % 4) + k.val < 16) N_0.symm⟩

/-- The block of positions a point works on. -/
def blockAt (t : Fin cfg0.N) : Fin 4 := ⟨t.val % 4, by omega⟩

theorem pt_eq (t : Fin cfg0.N) : pt (t.val / 4) (blockAt t) = t := Fin.ext (by
  have := lt_points t
  show 4 * (t.val / 4 % 4) + t.val % 4 = t.val
  omega)

/-- The halved gradient of the output of block `k`. -/
def fblk (c : Dev nD) (k : Fin 4) : Vec F S512x1024 .bf16 := k0_pay9 (iblk m c 2 (pt 0 k))

/-- The sum of block `k` after `n` blocks of columns. -/
def acc (c : Dev nD) (k : Fin 4) : ℕ → Vec F S512x1024 .f32
  | 0 => k0_pay10
  | n + 1 => next (fblk m c k) (iblk m c 6 (pt n k)) (iblk m c 3 (pt n k)) (iblk m c 4 (pt n k)) (iblk m c 5 (pt n k)) (acc c k n)

theorem acc_step (c : Dev nD) (t : Fin cfg0.N) :
    acc m c (blockAt t) (t.val / 4 + 1)
      = next (fblk m c (blockAt t)) (iblk m c 6 t) (iblk m c 3 t) (iblk m c 4 t) (iblk m c 5 t) (acc m c (blockAt t) (t.val / 4)) := by
  rw [acc, pt_eq]

/-- The gradient of the gain after block `n`. -/
def dgAt (c : Dev nD) : ℕ → Vec F S1x1024 .f32
  | 0 => k0_pay3 (iblk m c 0 (pt 3 0)) (acc m c 0 4)
  | n + 1 => k0_pay1 (k0_pay3 (iblk m c 0 (pt 3 ⟨(n + 1) % 4, by omega⟩)) (acc m c ⟨(n + 1) % 4, by omega⟩ 4)) (dgAt c n)

/-- The scratch memories before point `n`. -/
def InvS (c : Dev nD) (n : ℕ) (X : Vec F S2048x1024 .f32) : Prop :=
  ∀ (k : Fin 4) (j : ℕ), 4 * j + k.val < n → n ≤ 4 * (j + 1) + k.val → Holds X k (acc m c k (j + 1))
def InvF (c : Dev nD) (n : ℕ) (X : Vec F S2048x1024 .bf16) : Prop := ∀ k : Fin 4, k.val < n → Holds X k (fblk m c k)

def PhiS (c : Dev nD) (n : ℕ) : sProp (Res F) :=
  iprop(((∃ X, ⌜InvS m c n X⌝ ∗ owns (c : Thread nD τ) sumS fullShare X)
    ∗ (∃ X, ⌜InvF m c n X⌝ ∗ owns (c : Thread nD τ) dFS fullShare X)
    ∗ (∃ X, owns (c : Thread nD τ) hS fullShare X)) ∗ (∃ r, prngReg c r))

/-- The point whose normalised block the result's buffer holds. -/
def hpt (t : Fin cfg0.N) : Fin cfg0.N := ⟨min t.val 3, lt_of_le_of_lt (Nat.min_le_left _ _) t.isLt⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (iblk m c 0 t) (iblk m c 1 t) (acc m c (blockAt t) 4) (iblk m c 2 t)
    | ⟨8, _⟩ => dgAt m c (t.val - 12)
    | ⟨9, _⟩ => k0_pay8 (iblk m c 0 (hpt t)) (iblk m c 1 (hpt t))
    | ⟨10, _⟩ => View.canon (gateL (fblk m c (blockAt t)) (iblk m c 6 t) (iblk m c 3 t) (iblk m c 4 t))
    | ⟨11, _⟩ => View.canon (upL (fblk m c (blockAt t)) (iblk m c 6 t) (iblk m c 3 t))
  Φ t := PhiS m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = k0_pay4 (iblk m c 0 t) (iblk m c 1 t) (acc m c (blockAt t) 4) (iblk m c 2 t) := by dsimp only [dats]
theorem after_8 (c : Dev nD) (t : Fin cfg0.N) : (dats m 0 c).after 8 t = dgAt m c (t.val - 12) := by dsimp only [dats]
theorem after_9 (c : Dev nD) (t : Fin cfg0.N) : (dats m 0 c).after 9 t = k0_pay8 (iblk m c 0 (hpt t)) (iblk m c 1 (hpt t)) := by dsimp only [dats]
theorem after_10 (c : Dev nD) (t : Fin cfg0.N) : (dats m 0 c).after 10 t = View.canon (gateL (fblk m c (blockAt t)) (iblk m c 6 t) (iblk m c 3 t) (iblk m c 4 t)) := by dsimp only [dats]
theorem after_11 (c : Dev nD) (t : Fin cfg0.N) : (dats m 0 c).after 11 t = View.canon (upL (fblk m c (blockAt t)) (iblk m c 6 t) (iblk m c 3 t)) := by dsimp only [dats]

end Cert.Kernel5Ideal.Bwd

end
-- ==== Proof.BwdStep.lean ====
/-
  The feed-forward block backwards: what a grid point finds and leaves.

  The lemmas say what the windows' buffers hold before and after a point, and how the contents of the scratch memories
  go over to the next point.
-/
module

public import Idealize.ShloMosaic.Lib.Claim
public import proofs.«01_k».proof.Proof.BwdDat

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]
variable (m : (ℓ : Loc nD τ sig) → Buf (Elt F) ℓ) (ρ : Dev nD → PrngReg)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem hpt_first (t : Fin cfg0.N) (ht : t.val < 4) : hpt t = t := Fin.ext (by show min t.val 3 = t.val; omega)
theorem hpt_later (t t' : Fin cfg0.N) (ht : 3 ≤ t.val) (ht' : 3 ≤ t'.val) : hpt t = hpt t' :=
  Fin.ext (by show min t.val 3 = min t'.val 3; omega)

/-- From the fifth point on the normalised blocks' buffer holds the last of them. -/
theorem before_9 (c : Dev nD) : ∀ (n : ℕ) (t : Fin cfg0.N), t.val = n + 4 → ∀ d, (dats m 0 c).before 9 t d = (dats m 0 c).after 9 t
  | n, t, ht, d => by
    have hl := lt_points t
    have hN : t.val - 1 < cfg0.N := lt_of_le_of_lt (Nat.sub_le _ _) t.isLt
    rw [(dats m 0 c).before_of_pos 9 t (by omega) ((cfg0.win 9).fetch_out rfl t) d,
      if_neg (by
        rw [show (cfg0.win 9).flush ⟨t.val - 1, hN⟩ = _ from flush_9 ⟨t.val - 1, hN⟩]
        simp only [decide_eq_true_eq]; omega)]
    have e : (dats m 0 c).after 9 ⟨t.val - 1, hN⟩ = (dats m 0 c).after 9 t := by
      rw [after_9, after_9, hpt_later ⟨t.val - 1, hN⟩ t (by show 3 ≤ t.val - 1; omega) (by omega)]
    refine Eq.trans ?_ e
    unfold Dat.left
    cases n with
    | zero =>
      rw [show cfg0.idle 9 (cfg0.grid.coords ⟨t.val - 1, hN⟩) = false from
        (idle_9 ⟨t.val - 1, hN⟩).trans (decide_eq_false (by show ¬ 4 ≤ t.val - 1; omega))]
      rfl
    | succ n =>
      rw [show cfg0.idle 9 (cfg0.grid.coords ⟨t.val - 1, hN⟩) = true from
        (idle_9 ⟨t.val - 1, hN⟩).trans (decide_eq_true (by show 4 ≤ t.val - 1; omega))]
      exact before_9 c n ⟨t.val - 1, hN⟩ (by show t.val - 1 = n + 4; omega) d

/-- After the first point of the last block of columns the gain's buffer holds its gradient so far. -/
theorem before_8 (c : Dev nD) (t : Fin cfg0.N) (ht : 13 ≤ t.val) (d) : (dats m 0 c).before 8 t d = dgAt m c (t.val - 13) := by
  have hl := lt_points t
  have hN : t.val - 1 < cfg0.N := lt_of_le_of_lt (Nat.sub_le _ _) t.isLt
  rw [(dats m 0 c).before_of_pos 8 t (by omega) ((cfg0.win 8).fetch_out rfl t) d,
    if_neg (by
      rw [show (cfg0.win 8).flush ⟨t.val - 1, hN⟩ = _ from flush_8 ⟨t.val - 1, hN⟩]
      simp only [decide_eq_true_eq]; omega)]
  have e : (dats m 0 c).after 8 ⟨t.val - 1, hN⟩ = dgAt m c (t.val - 13) := by
    rw [after_8]; exact congrArg _ (by show t.val - 1 - 12 = t.val - 13; omega)
  refine Eq.trans ?_ e
  unfold Dat.left
  rw [show cfg0.idle 8 (cfg0.grid.coords ⟨t.val - 1, hN⟩) = false from
    (idle_8 ⟨t.val - 1, hN⟩).trans (decide_eq_false (by show ¬ t.val - 1 < 12; omega))]
  rfl

/-! ### What a point leaves in each buffer -/

section
variable (c : Dev nD) (t : Fin cfg0.N)

theorem leaves_7_idle (h : t.val < 12) :
    (dats m 0 c).leavesExact 7 t = iprop(∃ d, owns (c : Thread nD τ) (st0_7 t) fullShare ((dats m 0 c).before 7 t d)) :=
  (dats m 0 c).leavesExact_idle 7 t ((idle_7 t).trans (decide_eq_true h)) ((flush_7 t).trans (decide_eq_false (by omega)))
theorem leaves_8_idle (h : t.val < 12) :
    (dats m 0 c).leavesExact 8 t = iprop(∃ d, owns (c : Thread nD τ) (st0_8 t) fullShare ((dats m 0 c).before 8 t d)) :=
  (dats m 0 c).leavesExact_idle 8 t ((idle_8 t).trans (decide_eq_true h)) ((flush_8 t).trans (decide_eq_false (by omega)))
theorem leaves_7 (h : 12 ≤ t.val) :
    (dats m 0 c).leavesExact 7 t = owns (c : Thread nD τ) (st0_7 t) fullShare ((dats m 0 c).after 7 t) := by
  unfold Dat.leavesExact
  rw [show cfg0.idle 7 (cfg0.grid.coords t) = false from (idle_7 t).trans (decide_eq_false (by omega))]
theorem leaves_8 (h : 12 ≤ t.val) :
    (dats m 0 c).leavesExact 8 t = owns (c : Thread nD τ) (st0_8 t) fullShare ((dats m 0 c).after 8 t) := by
  unfold Dat.leavesExact
  rw [show cfg0.idle 8 (cfg0.grid.coords t) = false from (idle_8 t).trans (decide_eq_false (by omega))]
theorem leaves_9 (h : t.val < 4) :
    (dats m 0 c).leavesExact 9 t = owns (c : Thread nD τ) (st0_9 t) fullShare ((dats m 0 c).after 9 t) := by
  unfold Dat.leavesExact
  rw [show cfg0.idle 9 (cfg0.grid.coords t) = false from (idle_9 t).trans (decide_eq_false (by omega))]

/-- A later point hands the normalised blocks' buffer back as it found it. -/
theorem leaves_9_later (h : 4 ≤ t.val) :
    (iprop(∃ d, owns (c : Thread nD τ) (st0_9 t) fullShare ((dats m 0 c).before 9 t d)) : sProp (Res F)) ⊢ (dats m 0 c).leavesExact 9 t := by
  have hi : cfg0.idle 9 (cfg0.grid.coords t) = true := (idle_9 t).trans (decide_eq_true h)
  by_cases hf : t.val = 15
  · have hfl : (cfg0.win 9).flush t = true := (flush_9 t).trans (decide_eq_true (Or.inr hf))
    unfold Dat.leavesExact
    rw [hi, hfl]
    simp only [before_9 m c (t.val - 4) t (by omega)]
    iintro ⟨%d, H⟩
    iexact H
  · rw [(dats m 0 c).leavesExact_idle 9 t hi ((flush_9 t).trans (decide_eq_false (by omega)))]

end

/-! ### One point -/

def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t
    ∗ (dats m 0 c).leavesExact 9 t
    ∗ owns (c : Thread nD τ) (st0_10 t) fullShare ((dats m 0 c).after 10 t)
    ∗ owns (c : Thread nD τ) (st0_11 t) fullShare ((dats m 0 c).after 11 t))

/-- A result's buffer after a covering list of stores. -/
theorem give (c : Dev nD) {S : Shape} {e : EltTy} (a : Memref sig .tc .vmem S e) (L L' : List (View.Piece (Elt F) S e)) (h : L = L')
    (cov : ∀ y, ∃ p ∈ L', y ∈ p.1.set) :
    (iprop(∃ f, a.view.loc (c : Thread nD τ) ↦[a.view.set]{fullShare} a.view.writes (Elt F) f L) : sProp (Res F))
      ⊢ owns (c : Thread nD τ) a fullShare (View.canon L') := by
  subst h
  unfold owns
  iintro ⟨%f, H⟩
  iexists _; isplitr
  swap; · iexact H
  ipureintro; exact left _ _ _ cov

theorem giveB (c : Dev nD) {e : EltTy} (a : Memref sig .tc .vmem S512x1024 e) (L : List (View.Piece (Elt F) S512x1024 e)) (v : Vec F S512x1024 e)
    (h : L = oneB v) :
    (iprop(∃ f, a.view.loc (c : Thread nD τ) ↦[a.view.set]{fullShare} a.view.writes (Elt F) f L) : sProp (Res F))
      ⊢ owns (c : Thread nD τ) a fullShare v :=
  (give c a L (oneB v) h (oneB_cover v)).trans (Entails.of_eq (by rw [oneB_canon]))

theorem giveR (c : Dev nD) (a : Memref sig .tc .vmem S1x1024 .f32) (L : List (View.Piece (Elt F) S1x1024 .f32)) (v : Vec F S1x1024 .f32)
    (h : L = oneR v) :
    (iprop(∃ f, a.view.loc (c : Thread nD τ) ↦[a.view.set]{fullShare} a.view.writes (Elt F) f L) : sProp (Res F))
      ⊢ owns (c : Thread nD τ) a fullShare v :=
  (give c a L (oneR v) h (oneR_cover v)).trans (Entails.of_eq (by rw [oneR_canon]))

/-- Any contents whose reading has the property wanted. -/
theorem giveI (c : Dev nD) {S : Shape} {e : EltTy} (a : Memref sig .tc .vmem S e) (f : a.view.ty.Contents (Elt F)) (P : Vec F S e → Prop)
    (h : P (a.view.read (Elt F) f)) :
    (a.view.loc (c : Thread nD τ) ↦[a.view.set]{fullShare} f : sProp (Res F))
      ⊢ iprop(∃ X, ⌜P X⌝ ∗ owns (c : Thread nD τ) a fullShare X) := by
  iintro H
  iexists _; isplitr
  swap
  · unfold owns; iexists _; isplitr
    swap; · iexact H
    ipureintro; rfl
  ipureintro; exact h

/-! ### The scratch memories from point to point -/

section
variable (c : Dev nD) (t : Fin cfg0.N)

theorem fblk_of (ht : t.val < 4) : k0_pay9 (iblk m c 2 t) = fblk m c (blockAt t) := by
  have e : pt 0 (blockAt t) = t := Fin.ext (by show 4 * (0 % 4) + t.val % 4 = t.val; omega)
  unfold fblk; rw [e]

theorem InvF_keep (hc : k0_cond1 (grid0.coords t) = 1#1) (X : Vec F S2048x1024 .bf16) (hX : InvF m c t.val X) :
    InvF m c (t.val + 1) (dFS.view.read (Elt F) (dFS.view.writes (Elt F) ((Memref.isWhole_whole cc0_scratch1).unread X)
      [⟨whole (grid0.coords t) hc, k0_pay9 (iblk m c 2 t)⟩])) := by
  have ht := (cond1_iff t).mp hc
  have hb := block_of t
  intro k hk
  by_cases h : k.val = t.val
  · have e : blockAt t = k := Fin.ext (by show t.val % 4 = k.val; omega)
    rw [fblk_of m c t ht, e]
    exact keep_holds (grid0.coords t) dFS (Memref.isWhole_whole _) X hc k (by omega) _
  · exact keep_other (grid0.coords t) dFS (Memref.isWhole_whole _) X hc k (by omega) _ _ (hX k (by omega))

theorem InvF_later (ht : 4 ≤ t.val) (X : Vec F S2048x1024 .bf16) (hX : InvF m c t.val X) : InvF m c (t.val + 1) X :=
  fun k _ => hX k (by have := k.isLt; omega)

theorem acc_new (k : Fin 4) (j : ℕ) (e : 4 * j + k.val = t.val) :
    acc m c k (j + 1) = joined
      (sumTop (fblk m c (blockAt t)) (iblk m c 6 t) (iblk m c 3 t) (iblk m c 4 t) (iblk m c 5 t) (acc m c (blockAt t) (t.val / 4)))
      (sumLow (fblk m c (blockAt t)) (iblk m c 6 t) (iblk m c 3 t) (iblk m c 4 t) (iblk m c 5 t) (acc m c (blockAt t) (t.val / 4))) := by
  have hj : j = t.val / 4 := by have := k.isLt; omega
  have hk : k = blockAt t := Fin.ext (by show k.val = t.val % 4; have := k.isLt; omega)
  rw [hj, hk]; exact acc_step m c t

theorem InvS_first (hc : k0_cond1 (grid0.coords t) = 1#1) (z : Vec F S512x1024 .f32) (X : Vec F S2048x1024 .f32) (hX : InvS m c t.val X) :
    InvS m c (t.val + 1) (sumS.view.read (Elt F) (sumS.view.writes (Elt F) ((Memref.isWhole_whole cc0_scratch0).unread X)
      (sumL (grid0.coords t)
        (sumTop (fblk m c (blockAt t)) (iblk m c 6 t) (iblk m c 3 t) (iblk m c 4 t) (iblk m c 5 t) (acc m c (blockAt t) (t.val / 4)))
        (sumLow (fblk m c (blockAt t)) (iblk m c 6 t) (iblk m c 3 t) (iblk m c 4 t) (iblk m c 5 t) (acc m c (blockAt t) (t.val / 4)))
        ++ [⟨whole (grid0.coords t) hc, z⟩]))) := by
  have hb := block_of t
  intro k j h1 h2
  by_cases h : 4 * j + k.val = t.val
  · rw [acc_new m c t k j h]
    exact sum_holds (grid0.coords t) sumS (Memref.isWhole_whole _) X _ _ _ k (by have := k.isLt; omega)
  · exact sum_other_first (grid0.coords t) sumS (Memref.isWhole_whole _) X _ _ hc _ k (by have := k.isLt; omega) _ (hX k j (by omega) (by omega))

theorem InvS_later (X : Vec F S2048x1024 .f32) (hX : InvS m c t.val X) :
    InvS m c (t.val + 1) (sumS.view.read (Elt F) (sumS.view.writes (Elt F) ((Memref.isWhole_whole cc0_scratch0).unread X)
      (sumL (grid0.coords t)
        (sumTop (fblk m c (blockAt t)) (iblk m c 6 t) (iblk m c 3 t) (iblk m c 4 t) (iblk m c 5 t) (acc m c (blockAt t) (t.val / 4)))
        (sumLow (fblk m c (blockAt t)) (iblk m c 6 t) (iblk m c 3 t) (iblk m c 4 t) (iblk m c 5 t) (acc m c (blockAt t) (t.val / 4)))))) := by
  have hb := block_of t
  intro k j h1 h2
  by_cases h : 4 * j + k.val = t.val
  · rw [acc_new m c t k j h]
    exact sum_holds (grid0.coords t) sumS (Memref.isWhole_whole _) X _ _ [] k (by have := k.isLt; omega)
  · exact sum_other (grid0.coords t) sumS (Memref.isWhole_whole _) X _ _ k (by have := k.isLt; omega) _ (hX k j (by omega) (by omega))

/-- What the memories hold of a later point's block. -/
theorem holds_sum (ht : 4 ≤ t.val) (X : Vec F S2048x1024 .f32) (hX : InvS m c t.val X) :
    Holds X (blockAt t) (acc m c (blockAt t) (t.val / 4)) := by
  have := hX (blockAt t) (t.val / 4 - 1) (by show 4 * (t.val / 4 - 1) + t.val % 4 < t.val; omega)
    (by show t.val ≤ 4 * (t.val / 4 - 1 + 1) + t.val % 4; omega)
  rwa [show t.val / 4 - 1 + 1 = t.val / 4 by omega] at this
theorem holds_half (ht : 4 ≤ t.val) (X : Vec F S2048x1024 .bf16) (hX : InvF m c t.val X) : Holds X (blockAt t) (fblk m c (blockAt t)) :=
  hX (blockAt t) (by show t.val % 4 < t.val; omega)

theorem acc_done (ht : 12 ≤ t.val) :
    next (fblk m c (blockAt t)) (iblk m c 6 t) (iblk m c 3 t) (iblk m c 4 t) (iblk m c 5 t) (acc m c (blockAt t) (t.val / 4))
      = acc m c (blockAt t) 4 := by
  have := lt_points t
  rw [← acc_step, show t.val / 4 + 1 = 4 by omega]

theorem dg_end (ht : t.val = 12) : k0_pay3 (iblk m c 0 t) (acc m c (blockAt t) 4) = dgAt m c (t.val - 12) := by
  have e : t = pt 3 0 := Fin.ext ht
  have hb : blockAt t = 0 := Fin.ext (by show t.val % 4 = 0; omega)
  rw [show t.val - 12 = 0 by omega, dgAt, hb, ← e]

theorem dg_last (ht : 13 ≤ t.val) :
    k0_pay1 (k0_pay3 (iblk m c 0 t) (acc m c (blockAt t) 4)) (dgAt m c (t.val - 13)) = dgAt m c (t.val - 12) := by
  have hl := lt_points t
  obtain ⟨n, hn⟩ : ∃ n, t.val = n + 13 := ⟨t.val - 13, by omega⟩
  have hb : blockAt t = ⟨(n + 1) % 4, by omega⟩ := Fin.ext (by show t.val % 4 = (n + 1) % 4; omega)
  have e : t = pt 3 ⟨(n + 1) % 4, by omega⟩ := Fin.ext (by show t.val = 4 * (3 % 4) + (n + 1) % 4; omega)
  rw [show t.val - 12 = n + 1 by omega, show t.val - 13 = n by omega, dgAt, hb, ← e]

end

end Cert.Kernel5Ideal.Bwd

end
-- ==== Proof.BwdFirst.lean ====
/-
  The feed-forward block backwards: a point of the first block of columns.

  It starts the sums, and stores the normalised rows and the halved gradients.
-/
module

public import Idealize.ShloMosaic.Lib.Claim
public import proofs.«01_k».proof.Proof.BwdStep

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]
section
variable (c : Dev nD) (i : grid0.Coords)
  (arg2 : Memref sig .tc .vmem S512x1024 .f32) (harg2 : arg2.IsWhole) (arg3 : Memref sig .tc .vmem S1x1024 .f32) (harg3 : arg3.IsWhole)
  (arg4 : Memref sig .tc .vmem S512x1024 .f32) (harg4 : arg4.IsWhole) (arg5 : Memref sig .tc .vmem S1x512x704 .bf16) (harg5 : arg5.IsWhole)
  (arg6 : Memref sig .tc .vmem S1x512x704 .bf16) (harg6 : arg6.IsWhole) (arg7 : Memref sig .tc .vmem S2x1x704x1024 .bf16) (harg7 : arg7.IsWhole)
  (arg8 : Memref sig .tc .vmem S704x1024 .bf16) (harg8 : arg8.IsWhole) (arg9 : Memref sig .tc .vmem S512x1024 .f32) (harg9 : arg9.IsWhole)
  (arg10 : Memref sig .tc .vmem S1x1024 .f32) (harg10 : arg10.IsWhole) (arg11 : Memref sig .tc .vmem S512x1024 .bf16) (harg11 : arg11.IsWhole)
  (arg12 : Memref sig .tc .vmem S1x512x704 .bf16) (harg12 : arg12.IsWhole) (arg13 : Memref sig .tc .vmem S1x512x704 .bf16) (harg13 : arg13.IsWhole)
  (arg14 : Memref sig .tc .vmem S2048x1024 .f32) (harg14 : arg14.IsWhole) (arg15 : Memref sig .tc .vmem S2048x1024 .bf16) (harg15 : arg15.IsWhole)
  (arg16 : Memref sig .tc .vmem S2048x1024 .bf16) (harg16 : arg16.IsWhole)
  (x2 : Vec F S512x1024 .f32) (x3 : Vec F S1x1024 .f32) (x4 : Vec F S512x1024 .f32) (x5 x6 : Vec F S1x512x704 .bf16)
  (x7 : Vec F S2x1x704x1024 .bf16) (x8 : Vec F S704x1024 .bf16) (x10 : Vec F S1x1024 .f32)
  (xs14 : Vec F S2048x1024 .f32) (xs15 : Vec F S2048x1024 .bf16)

/-- What it stores, of a run that is not spelt out. -/
theorem first_some (h1 : k0_cond1 i = 1#1) (h2 : ¬ k0_cond2 i = 1#1) :
    ∃ R, runFirst c i arg2 harg2 arg3 harg3 arg4 harg4 arg5 harg5 arg6 harg6 arg7 harg7 arg8 harg8 arg9 harg9 arg10 harg10 arg11 harg11
      arg12 harg12 arg13 harg13 arg14 harg14 arg15 harg15 arg16 harg16 x2 x3 x4 x5 x6 x7 x8 xs14 xs15 h1 h2 = R ∧
    R.1 = oneB (k0_pay8 x2 x3) ∧ R.2.1 = gateL (k0_pay9 x4) x8 x5 x6 ∧ R.2.2.1 = upL (k0_pay9 x4) x8 x5
    ∧ R.2.2.2.2.1 = sumL i (sumTop (k0_pay9 x4) x8 x5 x6 x7 k0_pay10) (sumLow (k0_pay9 x4) x8 x5 x6 x7 k0_pay10) ++ [⟨whole i h1, k0_pay10⟩]
    ∧ R.2.2.2.2.2.1 = [⟨whole i h1, k0_pay9 x4⟩] :=
  ⟨_, rfl, first_stores c i arg2 harg2 arg3 harg3 arg4 harg4 arg5 harg5 arg6 harg6 arg7 harg7 arg8 harg8 arg9 harg9 arg10 harg10 arg11 harg11
    arg12 harg12 arg13 harg13 arg14 harg14 arg15 harg15 arg16 harg16 x2 x3 x4 x5 x6 x7 x8 xs14 xs15 h1 h2⟩
end

variable (m : (ℓ : Loc nD τ sig) → Buf (Elt F) ℓ) (ρ : Dev nD → PrngReg)

set_option maxHeartbeats 6400000 in
/-- A point of the first block of columns. -/
theorem sound_first (c : Dev nD) (t : Fin cfg0.N) (h1 : k0_cond1 (grid0.coords t) = 1#1) :
    bodyPre m c t ⊢ wp frame (wpE (defs₀ (F := F)) Variants.none c none) Set.univ (bodyAt0 t) (fun _ => bodyPost m c t) := by
  have ht := (cond1_iff t).mp h1
  have h2 : ¬ k0_cond2 (grid0.coords t) = 1#1 := fun h => by have := (cond2_iff t).mp h; omega
  unfold bodyPre bodyPost bodyAt0
  simp only [before_0, before_1, before_2, before_3, before_4, before_5, before_6]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after_0, after_1, after_2, after_3, after_4, after_5, after_6, after_10, after_11, leaves_7_idle m c t (by omega), leaves_8_idle m c t (by omega), leaves_9 m c t ht, after_9, hpt_first t ht]
  unfold PhiS
  iintro ⟨⟨⟨⟨%X, %hX, HS⟩, ⟨%Y, %hY, HF⟩, ⟨%Z, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨⟨L0, L1, L2, L3, L4, L5, hrun⟩, -, sX⟩ := first_some c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sumS (Memref.isWhole_whole _) dFS (Memref.isWhole_whole _) hS (Memref.isWhole_whole _) (iblk m c 0 t) (iblk m c 1 t) (iblk m c 2 t) (iblk m c 3 t) (iblk m c 4 t) (iblk m c 5 t) (iblk m c 6 t) X Y h1 h2
  dsimp only at sX
  rw [fblk_of m c t ht, show (k0_pay10 : Vec F S512x1024 .f32) = acc m c (blockAt t) (t.val / 4) by
    rw [show t.val / 4 = 0 by omega]; rfl] at sX
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H9]; · iexists _; iexact H9
  isplitl [H10]; · iexists _; iexact H10
  isplitl [H11]; · iexists _; iexact H11
  isplitl [HZ]; · iexists _; iexact HZ
  isplitl [HS]; · iexact HS
  isplitl [HF]; · iexact HF
  iintro ⟨H0, H1, H2, H3, H4, H5, H6, H9, H10, H11, HZ, HS, HF⟩
  isplitl [HS HF HZ Hg]
  · isplitl [HS HF HZ]
    · isplitl [HS]
      · iapply (giveI c sumS _ (InvS m c (t.val + 1)) ?_); swap; · iexact HS
        rw [sX.2.2.2.1]; exact InvS_first m c t h1 _ X hX
      isplitl [HF]
      · iapply (giveI c dFS _ (InvF m c (t.val + 1)) ?_); swap; · iexact HF
        rw [sX.2.2.2.2, ← fblk_of m c t ht]; exact InvF_keep m c t h1 Y hY
      icases HZ with ⟨%fz, HZ⟩
      iexists _; unfold owns; iexists _; isplitr
      swap; · iexact HZ
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iapply (giveB c _ _ _ sX.1); iexact H9
  isplitl [H10]; · iapply (give c _ _ _ sX.2.1 (gateL_cover _ _ _ _)); iexact H10
  iapply (give c _ _ _ sX.2.2.1 (upL_cover _ _ _)); iexact H11

end Cert.Kernel5Ideal.Bwd

end
-- ==== Proof.BwdMid.lean ====
/-
  The feed-forward block backwards: a point of a middle block of columns.

  It adds to the sums.
-/
module

public import Idealize.ShloMosaic.Lib.Claim
public import proofs.«01_k».proof.Proof.BwdStep

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]
variable (m : (ℓ : Loc nD τ sig) → Buf (Elt F) ℓ) (ρ : Dev nD → PrngReg)

set_option maxHeartbeats 6400000 in
/-- A point of a middle block of columns. -/
theorem sound_mid (c : Dev nD) (t : Fin cfg0.N) (h1 : ¬ k0_cond1 (grid0.coords t) = 1#1) (h2 : ¬ k0_cond2 (grid0.coords t) = 1#1) :
    bodyPre m c t ⊢ wp frame (wpE (defs₀ (F := F)) Variants.none c none) Set.univ (bodyAt0 t) (fun _ => bodyPost m c t) := by
  have ht : 4 ≤ t.val := Nat.le_of_not_lt fun h => h1 ((cond1_iff t).mpr h)
  have ht2 : ¬ 12 ≤ t.val := fun h => h2 ((cond2_iff t).mpr h)
  unfold bodyPre bodyPost bodyAt0
  simp only [before_0, before_1, before_2, before_3, before_4, before_5, before_6]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after_0, after_1, after_2, after_3, after_4, after_5, after_6, after_10, after_11, leaves_7_idle m c t (by omega), leaves_8_idle m c t (by omega)]
  unfold PhiS
  iintro ⟨⟨⟨⟨%X, %hX, HS⟩, ⟨%Y, %hY, HF⟩, ⟨%Z, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have sX := mid_stores c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sumS (Memref.isWhole_whole _) dFS (Memref.isWhole_whole _) hS (Memref.isWhole_whole _) (iblk m c 3 t) (iblk m c 4 t) (iblk m c 5 t) (iblk m c 6 t) X Y h1 h2 (blockAt t) (block_of t) (fblk m c (blockAt t)) (holds_half m c t ht Y hY) (acc m c (blockAt t) (t.val / 4)) (holds_sum m c t ht X hX)
  dsimp only at sX
  generalize runMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sumS (Memref.isWhole_whole _) dFS (Memref.isWhole_whole _) hS (Memref.isWhole_whole _) (iblk m c 3 t) (iblk m c 4 t) (iblk m c 5 t) (iblk m c 6 t) X Y h1 h2 = R at sX
  obtain ⟨L0, L1, L2, hrun⟩ := R
  dsimp only at sX
  iapply (hrun _)
  isplitl [H3]; · iexact H3
  isplitl [H4]; · iexact H4
  isplitl [H5]; · iexact H5
  isplitl [H6]; · iexact H6
  isplitl [HF]; · iexact HF
  isplitl [H10]; · iexists _; iexact H10
  isplitl [H11]; · iexists _; iexact H11
  isplitl [HS]; · iexact HS
  iintro ⟨H3, H4, H5, H6, HF, H10, H11, HS⟩
  isplitl [HS HF HZ Hg]
  · isplitl [HS HF HZ]
    · isplitl [HS]
      · iapply (giveI c sumS _ (InvS m c (t.val + 1)) ?_); swap; · iexact HS
        rw [sX.2.2]; exact InvS_later m c t X hX
      isplitl [HF]
      · iexists Y; isplitr; · ipureintro; exact InvF_later m c t ht Y hY
        iexact HF
      iexists Z; iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iapply (leaves_9_later m c t ht); iexists d9; iexact H9
  isplitl [H10]; · iapply (give c _ _ _ sX.1 (gateL_cover _ _ _ _)); iexact H10
  iapply (give c _ _ _ sX.2.1 (upL_cover _ _ _)); iexact H11

end Cert.Kernel5Ideal.Bwd

end
-- ==== Proof.BwdEnd.lean ====
/-
  The feed-forward block backwards: the first point of the last block of columns.

  It finishes a sum, and starts the gradient of the gain.
-/
module

public import Idealize.ShloMosaic.Lib.Claim
public import proofs.«01_k».proof.Proof.BwdStep

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]
variable (m : (ℓ : Loc nD τ sig) → Buf (Elt F) ℓ) (ρ : Dev nD → PrngReg)

set_option maxHeartbeats 6400000 in
/-- The first point of the last block of columns. -/
theorem sound_end (c : Dev nD) (t : Fin cfg0.N) (h1 : ¬ k0_cond1 (grid0.coords t) = 1#1) (h2 : k0_cond2 (grid0.coords t) = 1#1) (h3 : k0_cond3 (grid0.coords t) = 1#1) :
    bodyPre m c t ⊢ wp frame (wpE (defs₀ (F := F)) Variants.none c none) Set.univ (bodyAt0 t) (fun _ => bodyPost m c t) := by
  have ht := (cond2_iff t).mp h2
  have hl := lt_points t
  have he : t.val = 12 := by have := (cond3_iff t).mp h3; omega
  have h4 : ¬ k0_cond4 (grid0.coords t) = 1#1 := fun h => (cond4_iff t).mp h ((cond3_iff t).mp h3)
  unfold bodyPre bodyPost bodyAt0
  simp only [before_0, before_1, before_2, before_3, before_4, before_5, before_6]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after_0, after_1, after_2, after_3, after_4, after_5, after_6, after_10, after_11, leaves_7 m c t ht, leaves_8 m c t ht, after_7, after_8, ← dg_end m c t he]
  unfold PhiS
  iintro ⟨⟨⟨⟨%X, %hX, HS⟩, ⟨%Y, %hY, HF⟩, ⟨%Z, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have sX := end_stores c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sumS (Memref.isWhole_whole _) dFS (Memref.isWhole_whole _) hS (Memref.isWhole_whole _) (iblk m c 0 t) (iblk m c 1 t) (iblk m c 2 t) (iblk m c 3 t) (iblk m c 4 t) (iblk m c 5 t) (iblk m c 6 t) X Y h1 h2 h3 h4 (blockAt t) (block_of t) (fblk m c (blockAt t)) (holds_half m c t (by omega) Y hY) (acc m c (blockAt t) (t.val / 4)) (holds_sum m c t (by omega) X hX)
  dsimp only at sX
  rw [acc_done m c t ht] at sX
  generalize runEnd c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sumS (Memref.isWhole_whole _) dFS (Memref.isWhole_whole _) hS (Memref.isWhole_whole _) (iblk m c 0 t) (iblk m c 1 t) (iblk m c 2 t) (iblk m c 3 t) (iblk m c 4 t) (iblk m c 5 t) (iblk m c 6 t) X Y h1 h2 h3 h4 = R at sX
  obtain ⟨L0, L1, L2, L3, L4, hrun⟩ := R
  dsimp only at sX
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HF]; · iexact HF
  isplitl [H7]; · iexists _; iexact H7
  isplitl [H8]; · iexists _; iexact H8
  isplitl [H10]; · iexists _; iexact H10
  isplitl [H11]; · iexists _; iexact H11
  isplitl [HS]; · iexact HS
  iintro ⟨H0, H1, H2, H3, H4, H5, H6, HF, H7, H8, H10, H11, HS⟩
  isplitl [HS HF HZ Hg]
  · isplitl [HS HF HZ]
    · isplitl [HS]
      · iapply (giveI c sumS _ (InvS m c (t.val + 1)) ?_); swap; · iexact HS
        rw [sX.2.2.2.2]; exact InvS_later m c t X hX
      isplitl [HF]
      · iexists Y; isplitr; · ipureintro; exact InvF_later m c t (by omega) Y hY
        iexact HF
      iexists Z; iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (giveB c _ _ _ sX.1); iexact H7
  isplitl [H8]; · iapply (giveR c _ _ _ sX.2.1); iexact H8
  isplitl [H9]; · iapply (leaves_9_later m c t (by omega)); iexists d9; iexact H9
  isplitl [H10]; · iapply (give c _ _ _ sX.2.2.1 (gateL_cover _ _ _ _)); iexact H10
  iapply (give c _ _ _ sX.2.2.2.1 (upL_cover _ _ _)); iexact H11

end Cert.Kernel5Ideal.Bwd

end
-- ==== Proof.BwdLast.lean ====
/-
  The feed-forward block backwards: the further points of the last block of columns.

  They finish a sum, and add to the gradient of the gain.
-/
module

public import Idealize.ShloMosaic.Lib.Claim
public import proofs.«01_k».proof.Proof.BwdStep

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]
variable (m : (ℓ : Loc nD τ sig) → Buf (Elt F) ℓ) (ρ : Dev nD → PrngReg)

set_option maxHeartbeats 6400000 in
/-- A later point of the last block of columns. -/
theorem sound_last (c : Dev nD) (t : Fin cfg0.N) (h1 : ¬ k0_cond1 (grid0.coords t) = 1#1) (h2 : k0_cond2 (grid0.coords t) = 1#1) (h3 : ¬ k0_cond3 (grid0.coords t) = 1#1) :
    bodyPre m c t ⊢ wp frame (wpE (defs₀ (F := F)) Variants.none c none) Set.univ (bodyAt0 t) (fun _ => bodyPost m c t) := by
  have ht := (cond2_iff t).mp h2
  have h0 : ¬ t.val % 4 = 0 := fun h => h3 ((cond3_iff t).mpr h)
  have he : 13 ≤ t.val := by omega
  have h4 : k0_cond4 (grid0.coords t) = 1#1 := (cond4_iff t).mpr h0
  unfold bodyPre bodyPost bodyAt0
  simp only [before_0, before_1, before_2, before_3, before_4, before_5, before_6]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after_0, after_1, after_2, after_3, after_4, after_5, after_6, after_10, after_11, leaves_7 m c t ht, leaves_8 m c t ht, after_7, after_8, ← dg_last m c t he]
  unfold PhiS
  iintro ⟨⟨⟨⟨%X, %hX, HS⟩, ⟨%Y, %hY, HF⟩, ⟨%Z, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have sX := last_stores c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sumS (Memref.isWhole_whole _) dFS (Memref.isWhole_whole _) hS (Memref.isWhole_whole _) (iblk m c 0 t) (iblk m c 1 t) (iblk m c 2 t) (iblk m c 3 t) (iblk m c 4 t) (iblk m c 5 t) (iblk m c 6 t) (dgAt m c (t.val - 13)) X Y h1 h2 h3 h4 (blockAt t) (block_of t) (fblk m c (blockAt t)) (holds_half m c t (by omega) Y hY) (acc m c (blockAt t) (t.val / 4)) (holds_sum m c t (by omega) X hX)
  dsimp only at sX
  rw [acc_done m c t ht] at sX
  rw [before_8 m c t he]
  generalize runLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sumS (Memref.isWhole_whole _) dFS (Memref.isWhole_whole _) hS (Memref.isWhole_whole _) (iblk m c 0 t) (iblk m c 1 t) (iblk m c 2 t) (iblk m c 3 t) (iblk m c 4 t) (iblk m c 5 t) (iblk m c 6 t) (dgAt m c (t.val - 13)) X Y h1 h2 h3 h4 = R at sX
  obtain ⟨L0, L1, L2, L3, L4, hrun⟩ := R
  dsimp only at sX
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HF]; · iexact HF
  isplitl [H7]; · iexists _; iexact H7
  isplitl [H10]; · iexists _; iexact H10
  isplitl [H11]; · iexists _; iexact H11
  isplitl [H8]; · iexact H8
  isplitl [HS]; · iexact HS
  iintro ⟨H0, H1, H2, H3, H4, H5, H6, HF, H7, H10, H11, H8, HS⟩
  isplitl [HS HF HZ Hg]
  · isplitl [HS HF HZ]
    · isplitl [HS]
      · iapply (giveI c sumS _ (InvS m c (t.val + 1)) ?_); swap; · iexact HS
        rw [sX.2.2.2.2]; exact InvS_later m c t X hX
      isplitl [HF]
      · iexists Y; isplitr; · ipureintro; exact InvF_later m c t (by omega) Y hY
        iexact HF
      iexists Z; iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (giveB c _ _ _ sX.1); iexact H7
  isplitl [H8]; · iapply (giveR c _ _ _ sX.2.2.2.1); iexists _; iexact H8
  isplitl [H9]; · iapply (leaves_9_later m c t (by omega)); iexists d9; iexact H9
  isplitl [H10]; · iapply (give c _ _ _ sX.2.1 (gateL_cover _ _ _ _)); iexact H10
  iapply (give c _ _ _ sX.2.2.1 (upL_cover _ _ _)); iexact H11

end Cert.Kernel5Ideal.Bwd

end
-- ==== Proof.BwdWhole.lean ====
/-
  The feed-forward block backwards: the whole run.

  Between the points one scratch memory holds the halved gradients of the output met so far, and another the sums so far of the
  gradient of the normalised positions. The points of the last block of columns leave the gradient of the block's input, and add up
  the gradient of the gain.
-/
module

public import Idealize.ShloMosaic.Lib.Claim
public import proofs.«01_k».proof.Proof.BwdFirst
public import proofs.«01_k».proof.Proof.BwdMid
public import proofs.«01_k».proof.Proof.BwdEnd
public import proofs.«01_k».proof.Proof.BwdLast

@[expose] public section

set_option maxRecDepth 16384

noncomputable section

namespace Cert.Kernel5Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal.Gen

variable {F : FTy → Type} [FloatOps F]
variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h1 : k0_cond1 (grid0.coords t) = 1#1
  · exact sound_first m c t h1
  by_cases h2 : k0_cond2 (grid0.coords t) = 1#1
  · by_cases h3 : k0_cond3 (grid0.coords t) = 1#1
    · exact sound_end m c t h1 h2 h3
    · exact sound_last m c t h1 h2 h3
  · exact sound_mid m c t h1 h2

theorem body_at (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_at]
  exact triple_restated (sound_body m c t) rfl .rfl fun _ => .rfl

/-! ### The run -/

theorem rest_eq (c : Dev nD) : (Pipeline.ΦA spec0 c : sProp (Res F))
    = iprop(((∃ X, owns (c : Thread nD τ) sumS fullShare X) ∗ (∃ X, owns (c : Thread nD τ) dFS fullShare X)
      ∗ (∃ X, owns (c : Thread nD τ) hS fullShare X)) ∗ (∃ r, prngReg c r)) := by
  unfold Pipeline.ΦA; rw [scopedRest0_eq]; simp only [sumS, dFS, hS, owns_whole]; try rfl

theorem enter (c : Dev nD) : Pipeline.ΦA spec0 c ⊢ (dats m 0 c).Φ 0 := by
  rw [show (dats m 0 c).Φ 0 = PhiS m c 0 from rfl, rest_eq]
  unfold PhiS
  iintro ⟨⟨⟨%X, HS⟩, ⟨%Y, HF⟩, HZ⟩, Hg⟩
  isplitl [HS HF HZ]
  · isplitl [HS]
    · iexists X; isplitr
      · ipureintro; exact fun k j hk => absurd hk (Nat.not_lt_zero _)
      iexact HS
    isplitl [HF]
    · iexists Y; isplitr
      · ipureintro; exact fun k hk => absurd hk (Nat.not_lt_zero _)
      iexact HF
    iexact HZ
  iexact Hg

theorem leave (c : Dev nD) : (dats m 0 c).Φ (Fin.last cfg0.N) ⊢ Pipeline.ΦA spec0 c := by
  rw [show (dats m 0 c).Φ (Fin.last cfg0.N) = PhiS m c cfg0.N from rfl, rest_eq]
  unfold PhiS
  iintro ⟨⟨⟨%X, -, HS⟩, ⟨%Y, -, HF⟩, HZ⟩, Hg⟩
  isplitl [HS HF HZ]
  · isplitl [HS]; · iexists X; iexact HS
    isplitl [HF]; · iexists Y; iexact HF
    iexact HZ
  iexact Hg

set_option backward.isDefEq.respectTransparency.types false in
/-- The program ends with every array at what the stores leave in it and with every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- The program runs to an end, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Kernel5Ideal.Bwd

end
-- ==== Proof.Bwd.lean ====
/-
  The feed-forward block backwards: the results.

  The first product's halves reach the kernel as the reference computes them. At finite arguments every block a grid point reads
  holds real numbers; the sums over the blocks of columns, and over the blocks of rows for the gain, then add up to the
  reference's sums.
-/
module

public import Idealize.ShloMosaic.Lib.Pipeline.ValueKit.Tiles
public import Idealize.ShloMosaic.Lib.IdealHost
public import proofs.«01_k».proof.Defs
public import proofs.«01_k».proof.Proof.Attn
public import proofs.«01_k».proof.Proof.BwdVals
public import proofs.«01_k».proof.Proof.BwdRef
public import proofs.«01_k».proof.Proof.BwdWhole
public import proofs.«01_k».proof.Proof.Gen.Pre_finite5

@[expose] public section

set_option maxRecDepth 16384

noncomputable section

namespace Cert.Kernel5Ideal.Bwd

open Idealize.ShloMosaic Idealize.ShloMosaic.TcCoe Idealize.ShloMosaic.Pipeline Idealize.SL.Sem
open Cert.Kernel5Ideal Cert.Kernel5Ideal.Gen Cert.Blocks
open Cert.Att (add_of)
open Cert.Ffn (RIn rowOf)
open Cert.Proof.Attn (real_array real_of_lt)

variable (m : (ℓ : Loc nD τ sig) → Buf (Elt Ideal) ℓ) (c : Dev nD)

def inp : S2048x1024.Idx → EReal := m ((c : Thread nD τ).loc main_arg0)
def gain : S1x1024.Idx → EReal := m ((c : Thread nD τ).loc main_arg1)
def ct : S2048x1024.Idx → EReal := m ((c : Thread nD τ).loc main_arg2)
def wIn : S1024x5632.Idx → EReal := m ((c : Thread nD τ).loc main_arg3)
def wOut : S2816x1024.Idx → EReal := m ((c : Thread nD τ).loc main_arg4)

/-! ### What the launch finds -/

theorem V_in (s : Fin 2) (j : Fin 4) (f : Fin 704) (d : Fin 1024) : V m c main_v17 (ix4 s j f d) = wIn m c (ix2 d (Ffn.half s (col j f))) := by
  have e : V m c main_v17 = (truncf (F := Ideal) .bf16 (shapeCast S2x4x704x1024 (transpose S5632x1024 [1, 0] (wIn m c)
      transposes_S1024x5632_S5632x1024_1_0) shapeCasts_S5632x1024_S2x4x704x1024) bitsLt_bf16_f32 : FVec Ideal S2x4x704x1024 .bf16) := by
    show StableHlo.after hostOps0 (fun b => m (c, b)) (Proc.devRef .tc main_v17) = _
    after_results
    all_goals rfl
  refine (congrFun e _).trans ((rounded_apply _ _ _).trans ?_)
  refine (shapeCast_apply _ _ (ix4 s j f d) (ix2 (Ffn.half s (col j f)) d) ?_).trans ?_
  · rw [Shape.rowMajor_val_two, Shape.rowMajor_val_four]
    show (2816 * s.val + (704 * j.val + f.val)) * 1024 + d.val = ((s.val * 4 + j.val) * 704 + f.val) * 1024 + d.val
    omega
  · exact transpose_apply _ _ _ (ix2 (Ffn.half s (col j f)) d) (ix2 d (Ffn.half s (col j f))) fun b => by
      match b with | ⟨0, _⟩ => rfl | ⟨1, _⟩ => rfl

theorem V_out (i : S2816x1024.Idx) : V m c main_v24 i = wOut m c i := by
  have e : V m c main_v24 = (truncf (F := Ideal) .bf16 (wOut m c) bitsLt_bf16_f32 : FVec Ideal S2816x1024 .bf16) := by
    show StableHlo.after hostOps0 (fun b => m (c, b)) (Proc.devRef .tc main_v24) = _
    after_results
    all_goals rfl
  exact (congrFun e i).trans (rounded_apply _ _ _)

theorem V_gate (j : Fin 4) (t : Fin 2048) (f : Fin 704) : V m c main_v20 (ix3 j t f)
    = Cert.Reference5Ideal.Read.val_main_v16 (F := Ideal) (inp m c) (gain m c) (wIn m c) (ix2 t (col j f)) := by
  have e : V m c main_v20 = (truncf (F := Ideal) .bf16 (transpose S4x2048x704 [1, 0, 2] (shapeCast S2048x4x704
      (Cert.Reference5Ideal.Read.val_main_v16 (F := Ideal) (inp m c) (gain m c) (wIn m c)) shapeCasts_S2048x2816_S2048x4x704)
      transposes_S2048x4x704_S4x2048x704_1_0_2) bitsLt_bf16_f32 : FVec Ideal S4x2048x704 .bf16) := by
    show StableHlo.after hostOps0 (fun b => m (c, b)) (Proc.devRef .tc main_v20) = _
    after_results
    all_goals rfl
  exact (congrFun e _).trans ((rounded_apply _ _ _).trans (blocks_apply _ _ _ j t f))

theorem V_up (j : Fin 4) (t : Fin 2048) (f : Fin 704) : V m c main_v23 (ix3 j t f)
    = Cert.Reference5Ideal.Read.val_main_v17 (F := Ideal) (inp m c) (gain m c) (wIn m c) (ix2 t (col j f)) := by
  have e : V m c main_v23 = (truncf (F := Ideal) .bf16 (transpose S4x2048x704 [1, 0, 2] (shapeCast S2048x4x704
      (Cert.Reference5Ideal.Read.val_main_v17 (F := Ideal) (inp m c) (gain m c) (wIn m c)) shapeCasts_S2048x2816_S2048x4x704)
      transposes_S2048x4x704_S4x2048x704_1_0_2) bitsLt_bf16_f32 : FVec Ideal S4x2048x704 .bf16) := by
    show StableHlo.after hostOps0 (fun b => m (c, b)) (Proc.devRef .tc main_v23) = _
    after_results
    all_goals rfl
  exact (congrFun e _).trans ((rounded_apply _ _ _).trans (blocks_apply _ _ _ j t f))

/-! ### The windows' blocks -/

/-- The block of columns a point works on. -/
def colsAt (t : Fin cfg0.N) : Fin 4 := ⟨t.val / 4, by have := lt_points t; omega⟩
/-- Block `n` of columns, counted around. -/
def around (n : ℕ) : Fin 4 := ⟨n % 4, by omega⟩

theorem colsAt_pt (n : ℕ) (k : Fin 4) : colsAt (pt n k) = around n := Fin.ext (by show (4 * (n % 4) + k.val) / 4 = n % 4; omega)
theorem blockAt_pt (n : ℕ) (k : Fin 4) : blockAt (pt n k) = k := Fin.ext (by show (4 * (n % 4) + k.val) % 4 = k.val; omega)

theorem index0 (t : Fin cfg0.N) (ht : t.val < 4 ∨ 12 ≤ t.val) : win0_0.index t 0 = t.val % 4 ∧ win0_0.index t 1 = 0 :=
  (by decide +kernel : ∀ t : Fin grid0.N, (t.val < 4 ∨ 12 ≤ t.val) → win0_0.index t 0 = t.val % 4 ∧ win0_0.index t 1 = 0) t ht
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) (ht : t.val < 4 ∨ 12 ≤ t.val) : win0_2.index t 0 = t.val % 4 ∧ win0_2.index t 1 = 0 :=
  (by decide +kernel : ∀ t : Fin grid0.N, (t.val < 4 ∨ 12 ≤ t.val) → win0_2.index t 0 = t.val % 4 ∧ win0_2.index t 1 = 0) t ht
theorem index3 (t : Fin cfg0.N) : win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0) t
theorem index4 (t : Fin cfg0.N) : win0_4.index t 0 = t.val / 4 ∧ win0_4.index t 1 = t.val % 4 ∧ win0_4.index t 2 = 0 :=
  (by decide +kernel : ∀ t : Fin grid0.N, win0_4.index t 0 = t.val / 4 ∧ win0_4.index t 1 = t.val % 4 ∧ win0_4.index t 2 = 0) t
theorem index5 (t : Fin cfg0.N) : win0_5.index t 0 = 0 ∧ win0_5.index t 1 = t.val / 4 ∧ win0_5.index t 2 = 0 ∧ win0_5.index t 3 = 0 :=
  (by decide +kernel : ∀ t : Fin grid0.N, win0_5.index t 0 = 0 ∧ win0_5.index t 1 = t.val / 4 ∧ win0_5.index t 2 = 0 ∧ win0_5.index t 3 = 0) t
theorem index6 (t : Fin cfg0.N) : win0_6.index t 0 = t.val / 4 ∧ win0_6.index t 1 = 0 :=
  (by decide +kernel : ∀ t : Fin grid0.N, win0_6.index t 0 = t.val / 4 ∧ win0_6.index t 1 = 0) t
theorem index7 (t : Fin cfg0.N) (ht : 12 ≤ t.val) : win0_7.index t 0 = t.val % 4 ∧ win0_7.index t 1 = 0 :=
  (by decide +kernel : ∀ t : Fin grid0.N, 12 ≤ t.val → win0_7.index t 0 = t.val % 4 ∧ win0_7.index t 1 = 0) t ht
theorem index8 (t : Fin cfg0.N) : win0_8.index t 0 = 0 ∧ win0_8.index t 1 = 0 :=
  (by decide +kernel : ∀ t : Fin grid0.N, win0_8.index t 0 = 0 ∧ win0_8.index t 1 = 0) t
theorem index9 (t : Fin cfg0.N) : win0_9.index t 0 = min t.val 3 ∧ win0_9.index t 1 = 0 :=
  (by decide +kernel : ∀ t : Fin grid0.N, win0_9.index t 0 = min t.val 3 ∧ win0_9.index t 1 = 0) t
theorem index10 (t : Fin cfg0.N) : win0_10.index t = win0_3.index t :=
  funext ((by decide +kernel : ∀ t : Fin grid0.N, ∀ a, win0_10.index t a = win0_3.index t a) t)
theorem index11 (t : Fin cfg0.N) : win0_11.index t = win0_3.index t :=
  funext ((by decide +kernel : ∀ t : Fin grid0.N, ∀ a, win0_11.index t a = win0_3.index t a) t)

theorem rd0 (A : S2048x1024.Idx → EReal) (t : Fin cfg0.N) (ht : t.val < 4 ∨ 12 ≤ t.val) (a : Fin 512) (d : Fin 1024) :
    ((cfg0.win 0).blk t).view.read (Elt Ideal) A (ix2 a d) = A (ix2 (rowOf (blockAt t) a) d) := by
  rw [View.read_apply]
  show A _ = A _
  refine congrArg _ (funext fun b => Fin.ext ?_)
  match b with
  | ⟨0, _⟩ => show win0_0.index t 0 * 512 + 1 * a.val = 512 * (t.val % 4) + a.val; rw [(index0 t ht).1]; omega
  | ⟨1, _⟩ => show win0_0.index t 1 * 1024 + 1 * d.val = d.val; rw [(index0 t ht).2]; omega
theorem rd1 (A : S1x1024.Idx → EReal) (t : Fin cfg0.N) (d : Fin 1024) :
    ((cfg0.win 1).blk t).view.read (Elt Ideal) A (ix2 0 d) = A (ix2 0 d) := by
  rw [View.read_apply]
  show A _ = A _
  refine congrArg _ (funext fun b => Fin.ext ?_)
  match b with
  | ⟨0, _⟩ => show win0_1.index t 0 * 1 + 1 * 0 = 0; rw [(index1 _).1]
  | ⟨1, _⟩ => show win0_1.index t 1 * 1024 + 1 * d.val = d.val; rw [(index1 _).2]; omega
theorem rd2 (A : S2048x1024.Idx → EReal) (t : Fin cfg0.N) (ht : t.val < 4 ∨ 12 ≤ t.val) (a : Fin 512) (d : Fin 1024) :
    ((cfg0.win 2).blk t).view.read (Elt Ideal) A (ix2 a d) = A (ix2 (rowOf (blockAt t) a) d) := by
  rw [View.read_apply]
  show A _ = A _
  refine congrArg _ (funext fun b => Fin.ext ?_)
  match b with
  | ⟨0, _⟩ => show win0_2.index t 0 * 512 + 1 * a.val = 512 * (t.val % 4) + a.val; rw [(index2 t ht).1]; omega
  | ⟨1, _⟩ => show win0_2.index t 1 * 1024 + 1 * d.val = d.val; rw [(index2 t ht).2]; omega
theorem rd3 (A : S4x2048x704.Idx → EReal) (t : Fin cfg0.N) (a : Fin 512) (f : Fin 704) :
    ((cfg0.win 3).blk t).view.read (Elt Ideal) A (ix3 0 a f) = A (ix3 (colsAt t) (rowOf (blockAt t) a) f) := by
  rw [View.read_apply]
  show A _ = A _
  refine congrArg _ (funext fun b => Fin.ext ?_)
  match b with
  | ⟨0, _⟩ => show win0_3.index t 0 * 1 + 1 * 0 = t.val / 4; rw [(index3 t).1]; omega
  | ⟨1, _⟩ => show win0_3.index t 1 * 512 + 1 * a.val = 512 * (t.val % 4) + a.val; rw [(index3 t).2.1]; omega
  | ⟨2, _⟩ => show win0_3.index t 2 * 704 + 1 * f.val = f.val; rw [(index3 t).2.2]; omega
theorem rd4 (A : S4x2048x704.Idx → EReal) (t : Fin cfg0.N) (a : Fin 512) (f : Fin 704) :
    ((cfg0.win 4).blk t).view.read (Elt Ideal) A (ix3 0 a f) = A (ix3 (colsAt t) (rowOf (blockAt t) a) f) := by
  rw [View.read_apply]
  show A _ = A _
  refine congrArg _ (funext fun b => Fin.ext ?_)
  match b with
  | ⟨0, _⟩ => show win0_4.index t 0 * 1 + 1 * 0 = t.val / 4; rw [(index4 t).1]; omega
  | ⟨1, _⟩ => show win0_4.index t 1 * 512 + 1 * a.val = 512 * (t.val % 4) + a.val; rw [(index4 t).2.1]; omega
  | ⟨2, _⟩ => show win0_4.index t 2 * 704 + 1 * f.val = f.val; rw [(index4 t).2.2]; omega
theorem rd5 (A : S2x4x704x1024.Idx → EReal) (t : Fin cfg0.N) (s : Fin 2) (f : Fin 704) (d : Fin 1024) :
    ((cfg0.win 5).blk t).view.read (Elt Ideal) A (ix4 s 0 f d) = A (ix4 s (colsAt t) f d) := by
  rw [View.read_apply]
  show A _ = A _
  refine congrArg _ (funext fun b => Fin.ext ?_)
  match b with
  | ⟨0, _⟩ => show win0_5.index t 0 * 2 + 1 * s.val = s.val; rw [(index5 _).1]; omega
  | ⟨1, _⟩ => show win0_5.index t 1 * 1 + 1 * 0 = t.val / 4; rw [(index5 _).2.1]; omega
  | ⟨2, _⟩ => show win0_5.index t 2 * 704 + 1 * f.val = f.val; rw [(index5 _).2.2.1]; omega
  | ⟨3, _⟩ => show win0_5.index t 3 * 1024 + 1 * d.val = d.val; rw [(index5 _).2.2.2]; omega
theorem rd6 (A : S2816x1024.Idx → EReal) (t : Fin cfg0.N) (f : Fin 704) (d : Fin 1024) :
    ((cfg0.win 6).blk t).view.read (Elt Ideal) A (ix2 f d) = A (ix2 (col (colsAt t) f) d) := by
  rw [View.read_apply]
  show A _ = A _
  refine congrArg _ (funext fun b => Fin.ext ?_)
  match b with
  | ⟨0, _⟩ => show win0_6.index t 0 * 704 + 1 * f.val = 704 * (t.val / 4) + f.val; rw [(index6 t).1]; omega
  | ⟨1, _⟩ => show win0_6.index t 1 * 1024 + 1 * d.val = d.val; rw [(index6 t).2]; omega

/-! ### The blocks at real arguments -/

variable {m c} {R : RIn} (H : Ffn.Ref.Holds R (inp m c) (gain m c) (ct m c) (wIn m c) (wOut m c))

include H

theorem blk0 (t : Fin cfg0.N) (ht : t.val < 4 ∨ 12 ≤ t.val) (a : Fin 512) (d : Fin 1024) :
    iblk m c 0 t (ix2 a d) = (R.x (rowOf (blockAt t) a) d : EReal) :=
  (rd0 (V m c main_arg0) t ht a d).trans ((congrFun (V_main_arg0 m c) _).trans (H.x (ix2 (rowOf (blockAt t) a) d)))
theorem blk1 (t : Fin cfg0.N) (d : Fin 1024) : iblk m c 1 t (ix2 0 d) = (R.g d : EReal) :=
  (rd1 (V m c main_arg1) t d).trans ((congrFun (V_main_arg1 m c) _).trans (H.g (ix2 0 d)))
theorem blk2 (t : Fin cfg0.N) (ht : t.val < 4 ∨ 12 ≤ t.val) (a : Fin 512) (d : Fin 1024) :
    iblk m c 2 t (ix2 a d) = (R.y (rowOf (blockAt t) a) d : EReal) :=
  (rd2 (V m c main_arg2) t ht a d).trans ((congrFun (V_main_arg2 m c) _).trans (H.y (ix2 (rowOf (blockAt t) a) d)))
theorem blk3 (t : Fin cfg0.N) (a : Fin 512) (f : Fin 704) :
    iblk m c 3 t (ix3 0 a f) = (R.z (rowOf (blockAt t) a) (Ffn.half 0 (col (colsAt t) f)) : EReal) :=
  (rd3 (V m c main_v20) t a f).trans ((V_gate m c _ _ _).trans (Ffn.Ref.s16 H (ix2 (rowOf (blockAt t) a) (col (colsAt t) f))))
theorem blk4 (t : Fin cfg0.N) (a : Fin 512) (f : Fin 704) :
    iblk m c 4 t (ix3 0 a f) = (R.z (rowOf (blockAt t) a) (Ffn.half 1 (col (colsAt t) f)) : EReal) :=
  (rd4 (V m c main_v23) t a f).trans ((V_up m c _ _ _).trans (Ffn.Ref.s17 H (ix2 (rowOf (blockAt t) a) (col (colsAt t) f))))
theorem blk5 (t : Fin cfg0.N) (s : Fin 2) (f : Fin 704) (d : Fin 1024) :
    iblk m c 5 t (ix4 s 0 f d) = (R.w d (Ffn.half s (col (colsAt t) f)) : EReal) :=
  (rd5 (V m c main_v17) t s f d).trans ((V_in m c s _ f d).trans (H.w (ix2 d (Ffn.half s (col (colsAt t) f)))))
theorem blk6 (t : Fin cfg0.N) (f : Fin 704) (d : Fin 1024) : iblk m c 6 t (ix2 f d) = (R.v (col (colsAt t) f) d : EReal) :=
  (rd6 (V m c main_v24) t f d).trans ((V_out m c _).trans (H.v (ix2 (col (colsAt t) f) d)))

theorem fblk_real (k : Fin 4) (a : Fin 512) (d : Fin 1024) : fblk m c k (ix2 a d) = ((1 / 2 * R.y (rowOf k a) d : ℝ) : EReal) := by
  refine (half_real (blk2 H (pt 0 k) (Or.inl ?_)) a d).trans ?_
  · have := k.isLt
    show 4 * (0 % 4) + k.val < 4
    omega
  · rw [blockAt_pt]

omit H in
/-- The sum over the first `n` blocks of columns. -/
def upTo (R : RIn) (t : Fin 2048) (d : Fin 1024) : ℕ → ℝ
  | 0 => 0
  | n + 1 => upTo R t d n + R.part t d (around n)

omit H in
theorem upTo_four (R : RIn) (t : Fin 2048) (d : Fin 1024) : upTo R t d 4 = R.dh t d := by
  have e : R.dh t d = R.part t d 0 + R.part t d 1 + R.part t d 2 + R.part t d 3 := Fin.sum_univ_four _
  rw [e]
  show 0 + R.part t d 0 + R.part t d 1 + R.part t d 2 + R.part t d 3 = _
  rw [zero_add]

theorem acc_real (k : Fin 4) (n : ℕ) (a : Fin 512) (d : Fin 1024) : acc m c k n (ix2 a d) = (upTo R (rowOf k a) d n : EReal) := by
  induction n generalizing a d with
  | zero =>
    show k0_pay10 (F := Ideal) (ix2 a d) = ((0 : ℝ) : EReal)
    unfold k0_pay10
    exact (congrFun (shapeCast_self _ _) _).trans Ideal.ofBits_zero_f32
  | succ n ih =>
    refine (next_real (fblk_real H k) (blk6 H (pt n k)) (blk3 H (pt n k)) (blk4 H (pt n k)) (blk5 H (pt n k)) ih a d).trans ?_
    rw [colsAt_pt, blockAt_pt]
    rfl

theorem acc_four (k : Fin 4) (a : Fin 512) (d : Fin 1024) : acc m c k 4 (ix2 a d) = (R.dh (rowOf k a) d : EReal) :=
  (acc_real H k 4 a d).trans (congrArg _ (upTo_four R (rowOf k a) d))

omit H in
/-- The sum over the first `n + 1` blocks of rows. -/
def gains (R : RIn) (d : Fin 1024) : ℕ → ℝ
  | 0 => ∑ t : Fin 512, R.dh (rowOf 0 t) d * R.x (rowOf 0 t) d * R.r (rowOf 0 t)
  | n + 1 => gains R d n + ∑ t : Fin 512, R.dh (rowOf (around (n + 1)) t) d * R.x (rowOf (around (n + 1)) t) d * R.r (rowOf (around (n + 1)) t)

omit H in
theorem gains_three (R : RIn) (d : Fin 1024) : gains R d 3 = R.dg d := by
  unfold RIn.dg
  rw [Ffn.sum_rows, Fin.sum_univ_four]
  rfl

theorem gain_block (k : Fin 4) (d : Fin 1024) : k0_pay3 (iblk m c 0 (pt 3 k)) (acc m c k 4) (ix2 0 d)
    = ((∑ t : Fin 512, R.dh (rowOf k t) d * R.x (rowOf k t) d * R.r (rowOf k t) : ℝ) : EReal) := by
  refine (gain_real (blk0 H (pt 3 k) (Or.inr ?_)) (acc_four H k) d).trans ?_
  · show 12 ≤ 4 * (3 % 4) + k.val
    omega
  · rw [blockAt_pt]
    rfl

theorem dgAt_real (n : ℕ) (d : Fin 1024) : dgAt m c n (ix2 0 d) = (gains R d n : EReal) := by
  induction n with
  | zero => exact gain_block H 0 d
  | succ n ih =>
    show k0_pay1 (k0_pay3 (iblk m c 0 (pt 3 (around (n + 1)))) (acc m c (around (n + 1)) 4)) (dgAt m c n) (ix2 0 d) = _
    unfold k0_pay1
    exact (congrFun (shapeCast_self _ _) _).trans (add_of ih (gain_block H (around (n + 1)) d))

/-! ### The run -/

omit H in
/-- An entry of a block of rows in the whole array. -/
theorem place_row (ix : Fin 2 → ℕ) (k : Fin 4) (h0 : ix 0 = k.val) (h1 : ix 1 = 0) (y : S512x1024.Idx) (a : Fin 2) :
    ((ix2 (rowOf k (y 0)) (y 1) : S2048x1024.Idx) a).val = ix a * S512x1024.size a + (y a).val := by
  match a with
  | ⟨0, _⟩ => show 512 * k.val + (y 0).val = ix 0 * 512 + (y 0).val; rw [h0]; omega
  | ⟨1, _⟩ => show (y 1).val = ix 1 * 1024 + (y 1).val; rw [h1]; omega

omit H in
/-- The block of rows that holds entry `i`. -/
def rowsOf (i : S2048x1024.Idx) : Fin 4 := ⟨(i 0).val / 512, by have h : (i 0).val < 2048 := (i 0).isLt; omega⟩

omit H in
theorem rowsOf_holds (ix : Fin 2 → ℕ) (i : S2048x1024.Idx) (h0 : ix 0 = (rowsOf i).val) (h1 : ix 1 = 0) (a : Fin 2) :
    ix a * S512x1024.size a ≤ (i a).val ∧ (i a).val < ix a * S512x1024.size a + S512x1024.size a := by
  have b0 : (i 0).val < 2048 := (i 0).isLt
  have b1 : (i 1).val < 1024 := (i 1).isLt
  match a with
  | ⟨0, _⟩ =>
    show ix 0 * 512 ≤ (i 0).val ∧ (i 0).val < ix 0 * 512 + 512
    rw [h0]
    show (i 0).val / 512 * 512 ≤ (i 0).val ∧ (i 0).val < (i 0).val / 512 * 512 + 512
    omega
  | ⟨1, _⟩ =>
    show ix 1 * 1024 ≤ (i 1).val ∧ (i 1).val < ix 1 * 1024 + 1024
    rw [h1]
    omega

omit H in
/-- The five results over the real numbers. -/
def dxAll (R : RIn) : S2048x1024.Idx → EReal := fun i => (R.dx (i 0) (i 1) : EReal)
omit H in
def dgAll (R : RIn) : S1x1024.Idx → EReal := fun i => (R.dg (i 1) : EReal)
omit H in
def hAll (R : RIn) : S2048x1024.Idx → EReal := fun i => (R.h (i 0) (i 1) : EReal)
omit H in
def dpAll (R : RIn) : S4x2048x704.Idx → EReal := fun i => (R.dp (i 1) (col (i 0) (i 2)) : EReal)
omit H in
def dqAll (R : RIn) : S4x2048x704.Idx → EReal := fun i => (R.dq (i 1) (col (i 0) (i 2)) : EReal)

theorem input_block (t : Fin cfg0.N) (ht : 12 ≤ t.val) (y : S512x1024.Idx) :
    k0_pay4 (iblk m c 0 t) (iblk m c 1 t) (acc m c (blockAt t) 4) (iblk m c 2 t) y = dxAll R (ix2 (rowOf (blockAt t) (y 0)) (y 1)) := by
  refine (congrArg _ (eq_ix2 y)).trans ((input_real (blk0 H t (Or.inr ht)) (blk1 H t) (acc_four H (blockAt t)) (blk2 H t (Or.inr ht)) (y 0) (y 1)).trans ?_)
  rfl

theorem final7 : (dats m 0 c).arrAt 7 cfg0.N = dxAll R := by
  refine (dats m 0 c).arrAt_eq_of_cover 7 (dxAll R) (fun t hf => ?_) fun i => ⟨pt 3 (rowsOf i), ?_, ?_⟩
  · have ht : 12 ≤ t.val := of_decide_eq_true ((flush_7 t).symm.trans hf)
    show (cfg0.win 7).cut (grid0.coords t) ((dats m 0 c).after 7 t) = _
    rw [after_7]
    funext y
    rw [View.read_apply]
    refine (input_block H t ht y).trans ?_
    show dxAll R _ = dxAll R _
    exact congrArg (dxAll R) (funext fun a => Fin.ext
      ((place_row (win0_7.index t) (blockAt t) (index7 t ht).1 (index7 t ht).2 y a).trans (win0_7.rect_emb_val t y a).symm))
  · exact (flush_7 _).trans (decide_eq_true (show 12 ≤ 4 * (3 % 4) + (rowsOf i).val by omega))
  · show i ∈ ((View.whole main_v25_0).slice (win0_7.rect (pt 3 (rowsOf i)))).set
    rw [View.set_slice_whole, Rect.mem_set_unit]
    have hp : 12 ≤ (pt 3 (rowsOf i)).val := show 12 ≤ 4 * (3 % 4) + (rowsOf i).val by omega
    exact rowsOf_holds _ i ((index7 _ hp).1.trans (congrArg Fin.val (blockAt_pt 3 (rowsOf i)))) (index7 _ hp).2

theorem dgAt_three (d : Fin 1024) : dgAt m c 3 (ix2 0 d) = dgAll R (ix2 0 d) :=
  (dgAt_real H 3 d).trans (congrArg _ (gains_three R d))

theorem final8 : (dats m 0 c).arrAt 8 cfg0.N = dgAll R := by
  refine (dats m 0 c).arrAt_eq_of_cover 8 (dgAll R) (fun t hf => ?_) fun i => ⟨pt 3 3, ?_, ?_⟩
  · have ht : t.val = 15 := of_decide_eq_true ((flush_8 t).symm.trans hf)
    show (cfg0.win 8).cut (grid0.coords t) ((dats m 0 c).after 8 t) = _
    rw [after_8, show t.val - 12 = 3 by omega]
    funext y
    rw [View.read_apply]
    have h0 : (y 0).val < 1 := (y 0).isLt
    have hy : y = ix2 0 (y 1) := (eq_ix2 y).trans (congrArg (fun a : Fin 1 => (ix2 a (y 1) : S1x1024.Idx)) (Fin.ext (by show (y 0).val = 0; omega)))
    refine (congrArg (dgAt m c 3) hy).trans ((dgAt_three H (y 1)).trans ?_)
    show dgAll R (ix2 0 (y 1)) = dgAll R _
    refine congrArg (dgAll R) (funext fun a => Fin.ext (Eq.trans ?_ (win0_8.rect_emb_val t y a).symm))
    match a with
    | ⟨0, _⟩ => show 0 = win0_8.index t 0 * 1 + (y 0).val; rw [(index8 t).1]; omega
    | ⟨1, _⟩ => show (y 1).val = win0_8.index t 1 * 1024 + (y 1).val; rw [(index8 t).2]; omega
  · exact (flush_8 _).trans (decide_eq_true (show 4 * (3 % 4) + 3 = 15 by omega))
  · show i ∈ ((View.whole main_v25_1).slice (win0_8.rect (pt 3 3))).set
    rw [View.set_slice_whole, Rect.mem_set_unit]
    have b0 : (i 0).val < 1 := (i 0).isLt
    have b1 : (i 1).val < 1024 := (i 1).isLt
    intro a
    match a with
    | ⟨0, _⟩ =>
      show win0_8.index (pt 3 3) 0 * 1 ≤ (i 0).val ∧ (i 0).val < win0_8.index (pt 3 3) 0 * 1 + 1
      rw [(index8 _).1]; omega
    | ⟨1, _⟩ =>
      show win0_8.index (pt 3 3) 1 * 1024 ≤ (i 1).val ∧ (i 1).val < win0_8.index (pt 3 3) 1 * 1024 + 1024
      rw [(index8 _).2]; omega

theorem norm_block (t : Fin cfg0.N) (ht : t.val < 4) (y : S512x1024.Idx) :
    k0_pay8 (iblk m c 0 t) (iblk m c 1 t) y = hAll R (ix2 (rowOf (blockAt t) (y 0)) (y 1)) :=
  (congrArg _ (eq_ix2 y)).trans (norm_real (blk0 H t (Or.inl ht)) (blk1 H t) (y 0) (y 1))

omit H in
/-- The point after which block `k` of the normalised rows is copied out. -/
def outAt (k : Fin 4) : Fin cfg0.N := if k.val < 3 then pt 0 k else pt 3 3
omit H in
theorem outAt_index (k : Fin 4) : min (outAt k).val 3 = k.val := (by decide +kernel : ∀ k : Fin 4, min (outAt k).val 3 = k.val) k
omit H in
theorem outAt_flush (k : Fin 4) : (outAt k).val < 3 ∨ (outAt k).val = 15 :=
  (by decide +kernel : ∀ k : Fin 4, (outAt k).val < 3 ∨ (outAt k).val = 15) k

theorem final9 : (dats m 0 c).arrAt 9 cfg0.N = hAll R := by
  refine (dats m 0 c).arrAt_eq_of_cover 9 (hAll R) (fun t hf => ?_) fun i => ⟨outAt (rowsOf i), ?_, ?_⟩
  · show (cfg0.win 9).cut (grid0.coords t) ((dats m 0 c).after 9 t) = _
    rw [after_9]
    funext y
    rw [View.read_apply]
    have hm : (hpt t).val = min t.val 3 := rfl
    refine (norm_block H (hpt t) (by omega) y).trans ?_
    show hAll R _ = hAll R _
    exact congrArg (hAll R) (funext fun a => Fin.ext
      ((place_row (win0_9.index t) (blockAt (hpt t)) ((index9 t).1.trans (show min t.val 3 = min t.val 3 % 4 by omega)) (index9 t).2 y a).trans
        (win0_9.rect_emb_val t y a).symm))
  · exact (flush_9 _).trans (decide_eq_true (outAt_flush _))
  · show i ∈ ((View.whole main_v25_2).slice (win0_9.rect (outAt (rowsOf i)))).set
    rw [View.set_slice_whole, Rect.mem_set_unit]
    exact rowsOf_holds _ i ((index9 _).1.trans (outAt_index _)) (index9 _).2

omit H in
/-- Entry `y` of a point's block in the whole array. -/
def place (t : Fin cfg0.N) (y : S1x512x704.Idx) : S4x2048x704.Idx := ix3 (colsAt t) (rowOf (blockAt t) (y 1)) (y 2)

omit H in
theorem place_eq (t : Fin cfg0.N) (y : S1x512x704.Idx) (a : Fin 3) :
    (place t y a).val = win0_3.index t a * S1x512x704.size a + (y a).val := by
  have h0 : (y 0).val < 1 := (y 0).isLt
  match a with
  | ⟨0, _⟩ => show t.val / 4 = win0_3.index t 0 * 1 + (y 0).val; rw [(index3 t).1]; omega
  | ⟨1, _⟩ => show 512 * (t.val % 4) + (y 1).val = win0_3.index t 1 * 512 + (y 1).val; rw [(index3 t).2.1]; omega
  | ⟨2, _⟩ => show (y 2).val = win0_3.index t 2 * 704 + (y 2).val; rw [(index3 t).2.2]; omega

omit H in
/-- The point whose block holds entry `i`. -/
def pointOf (i : S4x2048x704.Idx) : Fin cfg0.N :=
  ⟨4 * (i 0).val + (i 1).val / 512, lt_of_lt_of_eq (by
    have h0 : (i 0).val < 4 := (i 0).isLt
    have h1 : (i 1).val < 2048 := (i 1).isLt
    omega : 4 * (i 0).val + (i 1).val / 512 < 16) N_0.symm⟩

omit H in
theorem pointOf_holds (i : S4x2048x704.Idx) (a : Fin 3) :
    win0_3.index (pointOf i) a * S1x512x704.size a ≤ (i a).val
      ∧ (i a).val < win0_3.index (pointOf i) a * S1x512x704.size a + S1x512x704.size a := by
  have h0 : (i 0).val < 4 := (i 0).isLt
  have h1 : (i 1).val < 2048 := (i 1).isLt
  have h2 : (i 2).val < 704 := (i 2).isLt
  match a with
  | ⟨0, _⟩ =>
    show win0_3.index (pointOf i) 0 * 1 ≤ (i 0).val ∧ (i 0).val < win0_3.index (pointOf i) 0 * 1 + 1
    rw [(index3 _).1]
    show (4 * (i 0).val + (i 1).val / 512) / 4 * 1 ≤ (i 0).val ∧ (i 0).val < (4 * (i 0).val + (i 1).val / 512) / 4 * 1 + 1
    omega
  | ⟨1, _⟩ =>
    show win0_3.index (pointOf i) 1 * 512 ≤ (i 1).val ∧ (i 1).val < win0_3.index (pointOf i) 1 * 512 + 512
    rw [(index3 _).2.1]
    show (4 * (i 0).val + (i 1).val / 512) % 4 * 512 ≤ (i 1).val ∧ (i 1).val < (4 * (i 0).val + (i 1).val / 512) % 4 * 512 + 512
    omega
  | ⟨2, _⟩ =>
    show win0_3.index (pointOf i) 2 * 704 ≤ (i 2).val ∧ (i 2).val < win0_3.index (pointOf i) 2 * 704 + 704
    rw [(index3 _).2.2]
    omega

theorem final10 : (dats m 0 c).arrAt 10 cfg0.N = dpAll R := by
  refine (dats m 0 c).arrAt_eq_of_cover 10 (dpAll R) (fun t _ => ?_) fun i => ⟨pointOf i, flush0_10 _, ?_⟩
  · show (cfg0.win 10).cut (grid0.coords t) ((dats m 0 c).after 10 t) = _
    rw [after_10]
    funext y
    rw [View.read_apply]
    refine (gate_stored (fblk_real H (blockAt t)) (blk6 H t) (blk3 H t) (blk4 H t) y).trans ?_
    show dpAll R (place t y) = dpAll R _
    exact congrArg (dpAll R) (funext fun a => Fin.ext (((place_eq t y a).trans (by rw [index10])).trans (win0_10.rect_emb_val t y a).symm))
  · show i ∈ ((View.whole main_v25_3).slice (win0_10.rect (pointOf i))).set
    rw [View.set_slice_whole, Rect.mem_set_unit]
    exact pointOf_holds i

theorem final11 : (dats m 0 c).arrAt 11 cfg0.N = dqAll R := by
  refine (dats m 0 c).arrAt_eq_of_cover 11 (dqAll R) (fun t _ => ?_) fun i => ⟨pointOf i, flush0_11 _, ?_⟩
  · show (cfg0.win 11).cut (grid0.coords t) ((dats m 0 c).after 11 t) = _
    rw [after_11]
    funext y
    rw [View.read_apply]
    refine (up_stored (fblk_real H (blockAt t)) (blk6 H t) (blk3 H t) y).trans ?_
    show dqAll R (place t y) = dqAll R _
    exact congrArg (dqAll R) (funext fun a => Fin.ext (((place_eq t y a).trans (by rw [index11])).trans (win0_11.rect_emb_val t y a).symm))
  · show i ∈ ((View.whole main_v25_4).slice (win0_11.rect (pointOf i))).set
    rw [View.set_slice_whole, Rect.mem_set_unit]
    exact pointOf_holds i

omit H

/-! ### The claims -/

/-- Finite arguments are real matrices. -/
theorem holds (m : (ℓ : Loc nD τ sig) → Buf (Elt Ideal) ℓ) (hp : Cert.Pre_Kernel5Ideal_finite5 m) (c : Dev nD) :
    ∃ R : RIn, Ffn.Ref.Holds R (inp m c) (gain m c) (ct m c) (wIn m c) (wOut m c) := by
  obtain ⟨h0, h1, h2, h3, h4⟩ := hp c
  obtain ⟨x, hx⟩ := real_array (inp m c) fun i => real_of_lt (congrFun h0 i)
  obtain ⟨g, hg⟩ := real_array (gain m c) fun i => real_of_lt (congrFun h1 i)
  obtain ⟨y, hy⟩ := real_array (ct m c) fun i => real_of_lt (congrFun h2 i)
  obtain ⟨w, hw⟩ := real_array (wIn m c) fun i => real_of_lt (congrFun h3 i)
  obtain ⟨v, hv⟩ := real_array (wOut m c) fun i => real_of_lt (congrFun h4 i)
  exact ⟨⟨x, g 0, y, w, v⟩, ⟨hx, fun i => (hg i).trans (congrArg (fun a => (g a (i 1) : EReal)) (Fin.ext (by
    have h : (i 0).val < 1 := (i 0).isLt
    show (i 0).val = 0
    omega))), hy, hw, hv⟩⟩

theorem frame_pi : Cert.quiescent_Kernel5Ideal := fun m ρ _ => frame m ρ
theorem frame_pi_finite : Cert.quiescent_Kernel5Ideal_pre_finite5 := fun m ρ _ => frame m ρ
theorem frame_ri : Cert.quiescent_Reference5Ideal := fun m ρ _ =>
  (θ_run (Cert.Reference5Ideal.defs (F := Ideal)) _ _).mono (fun r h => And.intro (fun c => (h c).2.2.2.2.2)
      (Idealize.ShloMosaic.sem_eq_zero_of_no_sems (by decide) r.2))
    (Cert.Reference5Ideal.Value.run (F := Ideal) m ρ)
theorem frame_ri_finite : Cert.quiescent_Reference5Ideal_pre_finite5 := fun m ρ _ => frame_ri m ρ trivial
theorem preserves : Cert.preserves_Kernel5_Kernel5Ideal := trivial

theorem algebraic : Cert.algebraic_Kernel5Ideal_Reference5Ideal_pre_finite5 := by
  intro m ρ m' ρ' hp hagree
  choose R H using holds m hp
  refine ⟨fun c => dxAll (R c), fun c => dgAll (R c), fun c => hAll (R c), fun c => dpAll (R c), fun c => dqAll (R c),
    (θ_run (defs (F := Ideal)) _ _).mono (fun r h c => ?_) (run_main (F := Ideal) m ρ), ?_⟩
  · refine ⟨((h c).1 7).trans (final7 (H c)), ((h c).1 8).trans (final8 (H c)), ((h c).1 9).trans (final9 (H c)),
      ((h c).1 10).trans (final10 (H c)), ((h c).1 11).trans (final11 (H c)), ?_, ?_, ?_, ?_, ?_⟩
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).2 main_arg3 (Pipeline.mem_restRefs_of main_arg3 (by decide) (by decide))).trans (V_main_arg3 m c)
    · exact ((h c).2 main_arg4 (Pipeline.mem_restRefs_of main_arg4 (by decide) (by decide))).trans (V_main_arg4 m c)
  refine (θ_run (Cert.Reference5Ideal.defs (F := Ideal)) _ _).mono (fun r h c => ?_) (Cert.Reference5Ideal.Value.run (F := Ideal) m' ρ')
  obtain ⟨a0, a1, a2, a3, a4⟩ := hagree c
  refine ⟨(h c).1.trans ((Cert.Reference5Ideal.Read.val_main_v50_eq m' c).trans ?_),
    (h c).2.1.trans ((Cert.Reference5Ideal.Read.val_main_v33_eq m' c).trans ?_),
    (h c).2.2.1.trans ((Cert.Reference5Ideal.Read.val_main_v51_eq _ _).trans ?_),
    (h c).2.2.2.1.trans ((Cert.Reference5Ideal.Read.val_main_v55_eq m' c).trans ?_),
    (h c).2.2.2.2.1.trans ((Cert.Reference5Ideal.Read.val_main_v59_eq m' c).trans ?_), (h c).2.2.2.2.2⟩
  · rw [a0, a1, a2, a3, a4]; exact funext fun y => Ffn.Ref.s50 (H c) y
  · rw [a0, a1, a2, a3, a4]; exact funext fun y => Ffn.Ref.s33 (H c) y
  · rw [a0, a1]; exact funext fun y => Ffn.Ref.s51 (H c) y
  · rw [a0, a1, a2, a3, a4]; exact funext fun y => Ffn.Ref.s55 (H c) y
  · rw [a0, a1, a2, a3, a4]; exact funext fun y => Ffn.Ref.s59 (H c) y

end Cert.Kernel5Ideal.Bwd

end
-- ==== Proof.BwdP.lean ====
/-
  The feed-forward block backwards: the printed program is the idealized one.

  No operation of it is rewritten, so the two texts are the same program, and what is proved of the one at any numbers is true of
  the other at the machine's.
-/
module

public import proofs.«01_k».proof.Defs
public import proofs.«01_k».proof.Proof.BwdWhole
public import proofs.«01_k».proof.Proof.Gen.Kernel5.Frame

@[expose] public section

set_option maxRecDepth 100000

namespace Cert.Kernel5.Bwd

open Idealize.ShloMosaic Idealize.SL.Sem

variable {F : FTy → Type} [FloatOps F]

theorem bodies : Cert.Kernel5.defs₀ (F := F) = Cert.Kernel5Ideal.defs₀ (F := F) := by
  unfold Cert.Kernel5.defs₀ Cert.Kernel5Ideal.defs₀
  refine congrArg Defs.onTc (funext fun l => funext fun x => ?_)
  match l, x with
  | 0, (t, s) => rfl

theorem procedures : Cert.Kernel5.defs (F := F) = Cert.Kernel5Ideal.defs (F := F) := by
  unfold Cert.Kernel5.defs Cert.Kernel5Ideal.defs
  exact congrArg (Pipeline.defs Cert.Kernel5.pcfgs) bodies

theorem program : Cert.Kernel5.main (F := F) = Cert.Kernel5Ideal.main (F := F) := by
  unfold Cert.Kernel5.main Cert.Kernel5Ideal.main
  rfl

theorem frame_p : Cert.quiescent_Kernel5 := fun m ρ _ => by
  have h := Cert.Kernel5Ideal.Bwd.frame (F := Bits) m ρ
  exact (congrArg₂ (fun d p => θ_run d (onTc (τ := Cert.Kernel5.τ) p) ⟨m, fun _ => 0, ρ⟩ _) procedures program).mpr h

end Cert.Kernel5.Bwd

end
-- ==== Proof.lean ====
/-
  The certificate's claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Read
public import proofs.«01_k».proof.Proof.Gen.Pre_finite5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Read
public import proofs.«01_k».proof.Proof.Attn
public import proofs.«01_k».proof.Proof.W13
public import proofs.«01_k».proof.Proof.W2
public import proofs.«01_k».proof.Proof.Down
public import proofs.«01_k».proof.Proof.Up
public import proofs.«01_k».proof.Proof.UpP
public import proofs.«01_k».proof.Proof.Bwd
public import proofs.«01_k».proof.Proof.BwdP

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts,
    Cert.Pre_finite5.Gen.facts,
    Attn.frame_p, Attn.frame_pi, Attn.frame_pi_finite, Attn.frame_ri, Attn.frame_ri_finite,
    Kernel2Ideal.W13.frame_p, Kernel2Ideal.W13.frame_pi, Kernel2Ideal.W13.frame_ri,
    Kernel3Ideal.W2.frame_p, Kernel3Ideal.W2.frame_pi, Kernel3Ideal.W2.frame_ri,
    Kernel4Ideal.Down.frame_p, Kernel4Ideal.Down.frame_pi, Kernel4Ideal.Down.frame_ri,
    Kernel5.Bwd.frame_p, Kernel5Ideal.Bwd.frame_pi, Kernel5Ideal.Bwd.frame_pi_finite, Kernel5Ideal.Bwd.frame_ri, Kernel5Ideal.Bwd.frame_ri_finite,
    Kernel6.Up.frame_p, Kernel6Ideal.Up.frame_pi, Kernel6Ideal.Up.frame_ri,
    Attn.preserves, Attn.algebraic, Kernel2Ideal.W13.preserves, Kernel2Ideal.W13.algebraic,
    Kernel3Ideal.W2.preserves, Kernel3Ideal.W2.algebraic, Kernel4Ideal.Down.preserves, Kernel4Ideal.Down.algebraic,
    Kernel5Ideal.Bwd.preserves, Kernel5Ideal.Bwd.algebraic,
    Kernel6Ideal.Up.preserves, Kernel6Ideal.Up.algebraic⟩

end Cert.Proof

end
